-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite3 [hPre_finite3 : Cert.Pre_finite3.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite3.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite3 [hPre_finite3 : Cert.Pre_finite3.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite3.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite4 [hPre_finite4 : Cert.Pre_finite4.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite4 [hPre_finite4 : Cert.Pre_finite4.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite4.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite6 [hPre_finite6 : Cert.Pre_finite6.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite6.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite6 [hPre_finite6 : Cert.Pre_finite6.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite6.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite5 [hPre_finite5 : Cert.Pre_finite5.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite5.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite5 [hPre_finite5 : Cert.Pre_finite5.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite5.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite7 [hPre_finite7 : Cert.Pre_finite7.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite7.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite7 [hPre_finite7 : Cert.Pre_finite7.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite7.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite8 [hPre_finite8 : Cert.Pre_finite8.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite8.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite8 [hPre_finite8 : Cert.Pre_finite8.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite8.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite3 [hKernel2Ideal : Cert.Kernel2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite3 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite3 [hReference2Ideal : Cert.Reference2Ideal.Facts] [hPre_finite3 : Cert.Pre_finite3.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite3 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite4 [hKernel5Ideal : Cert.Kernel5Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite4 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite4 [hReference5Ideal : Cert.Reference5Ideal.Facts] [hPre_finite4 : Cert.Pre_finite4.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite4 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite6 [hKernel8Ideal : Cert.Kernel8Ideal.Facts] [hPre_finite6 : Cert.Pre_finite6.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite6 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite6 [hReference8Ideal : Cert.Reference8Ideal.Facts] [hPre_finite6 : Cert.Pre_finite6.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite6 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite5 [hKernel9Ideal : Cert.Kernel9Ideal.Facts] [hPre_finite5 : Cert.Pre_finite5.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite5 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite5 [hReference9Ideal : Cert.Reference9Ideal.Facts] [hPre_finite5 : Cert.Pre_finite5.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite5 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite7 [hKernel15Ideal : Cert.Kernel15Ideal.Facts] [hPre_finite7 : Cert.Pre_finite7.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite7 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite7 [hReference15Ideal : Cert.Reference15Ideal.Facts] [hPre_finite7 : Cert.Pre_finite7.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite7 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Kernel26Ideal_pre_finite8 [hKernel26Ideal : Cert.Kernel26Ideal.Facts] [hPre_finite8 : Cert.Pre_finite8.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite8 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Reference26Ideal_pre_finite8 [hReference26Ideal : Cert.Reference26Ideal.Facts] [hPre_finite8 : Cert.Pre_finite8.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite8 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "s" .f32 0x3FB8AA3B#32 (((Real.log 2)⁻¹ : ℝ) : EReal)

def algebraic_Kernel2Ideal_Reference2Ideal_pre_finite3 [hKernel2Ideal : Cert.Kernel2Ideal.Facts] [hReference2Ideal : Cert.Reference2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite3 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite4 [hKernel5Ideal : Cert.Kernel5Ideal.Facts] [hReference5Ideal : Cert.Reference5Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite4 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite6 [hKernel8Ideal : Cert.Kernel8Ideal.Facts] [hReference8Ideal : Cert.Reference8Ideal.Facts] [hPre_finite6 : Cert.Pre_finite6.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite6 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v18_0)) (v1 : (c : Dev Cert.Kernel8Ideal.nD) → Buf (Elt Ideal) ((c.tc : Thread Cert.Kernel8Ideal.nD Cert.Kernel8Ideal.τ).loc Cert.Kernel8Ideal.main_v18_1)) (v2 : (c : Dev Cert.Kernel8Ideal.nD) → Buf (Elt Ideal) ((c.tc : Thread Cert.Kernel8Ideal.nD Cert.Kernel8Ideal.τ).loc Cert.Kernel8Ideal.main_v18_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_0) = v0 c
          ∧ r.2.mem ((c.tc : Thread Cert.Kernel8Ideal.nD Cert.Kernel8Ideal.τ).loc Cert.Kernel8Ideal.main_v18_1) = v1 c
          ∧ r.2.mem ((c.tc : Thread Cert.Kernel8Ideal.nD Cert.Kernel8Ideal.τ).loc Cert.Kernel8Ideal.main_v18_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_v44) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite5 [hKernel9Ideal : Cert.Kernel9Ideal.Facts] [hReference9Ideal : Cert.Reference9Ideal.Facts] [hPre_finite5 : Cert.Pre_finite5.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite5 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v16_0)) (v1 : (c : Dev Cert.Kernel9Ideal.nD) → Buf (Elt Ideal) ((c.tc : Thread Cert.Kernel9Ideal.nD Cert.Kernel9Ideal.τ).loc Cert.Kernel9Ideal.main_v16_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16_0) = v0 c
          ∧ r.2.mem ((c.tc : Thread Cert.Kernel9Ideal.nD Cert.Kernel9Ideal.τ).loc Cert.Kernel9Ideal.main_v16_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_on_rows_hg [hKernel12Ideal : Cert.Kernel12Ideal.Facts] [hReference12Ideal : Cert.Reference12Ideal.Facts] [hOn_rows_hg : Cert.On_rows_hg.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          (∀ i : (⟨2, ![3328, 1024]⟩ : Shape).Idx, (Cert.On_rows_hg.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) i = 1#1 → r.2.mem ((c.tc : Thread Cert.Kernel12Ideal.nD Cert.Kernel12Ideal.τ).loc Cert.Kernel12Ideal.main_v3) i = v0 c i)
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          (∀ i : (⟨2, ![3328, 1024]⟩ : Shape).Idx, (Cert.On_rows_hg.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) i = 1#1 → r.2.mem ((c.tc : Thread Cert.Reference12Ideal.nD Cert.Reference12Ideal.τ).loc Cert.Reference12Ideal.main_v3) i = v0 c i)
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_on_rows_hg2 [hKernel13Ideal : Cert.Kernel13Ideal.Facts] [hReference13Ideal : Cert.Reference13Ideal.Facts] [hOn_rows_hg2 : Cert.On_rows_hg2.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![1024, 1024]⟩ : Shape).Idx, (Cert.On_rows_hg2.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) i = 1#1 → r.2.mem ((c.tc : Thread Cert.Kernel13Ideal.nD Cert.Kernel13Ideal.τ).loc Cert.Kernel13Ideal.main_v3) i = v0 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨2, ![1024, 1024]⟩ : Shape).Idx, (Cert.On_rows_hg2.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) i = 1#1 → r.2.mem ((c.tc : Thread Cert.Reference13Ideal.nD Cert.Reference13Ideal.τ).loc Cert.Reference13Ideal.main_v2) i = v0 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)) (v2 : (c : Dev Cert.Kernel14Ideal.nD) → Buf (Elt Ideal) ((c.tc : Thread Cert.Kernel14Ideal.nD Cert.Kernel14Ideal.τ).loc Cert.Kernel14Ideal.main_v7_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_v7_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite7 [hKernel15Ideal : Cert.Kernel15Ideal.Facts] [hReference15Ideal : Cert.Reference15Ideal.Facts] [hPre_finite7 : Cert.Pre_finite7.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite7 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v53) = v0 c
          ∧ r.2.mem ((c.tc : Thread Cert.Reference15Ideal.nD Cert.Reference15Ideal.τ).loc Cert.Reference15Ideal.main_v52) = v1 c
          ∧ r.2.mem ((c.tc : Thread Cert.Reference15Ideal.nD Cert.Reference15Ideal.τ).loc Cert.Reference15Ideal.main_v54) = v2 c
          ∧ r.2.mem ((c.tc : Thread Cert.Reference15Ideal.nD Cert.Reference15Ideal.τ).loc Cert.Reference15Ideal.main_v55) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_v21) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal_pre_finite8 [hKernel26Ideal : Cert.Kernel26Ideal.Facts] [hReference26Ideal : Cert.Reference26Ideal.Facts] [hPre_finite8 : Cert.Pre_finite8.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite8 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite3 : Cert.Pre_finite3.Facts) (hPre_finite4 : Cert.Pre_finite4.Facts) (hPre_finite6 : Cert.Pre_finite6.Facts) (hPre_finite5 : Cert.Pre_finite5.Facts) (hPre_finite7 : Cert.Pre_finite7.Facts) (hPre_finite8 : Cert.Pre_finite8.Facts) (hOn_rows_hg : Cert.On_rows_hg.Facts) (hOn_rows_hg2 : Cert.On_rows_hg2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite3 (hKernel2Ideal := hKernel2Ideal) (hPre_finite3 := hPre_finite3)
    ∧ quiescent_Reference2Ideal (hReference2Ideal := hReference2Ideal)
    ∧ quiescent_Reference2Ideal_pre_finite3 (hReference2Ideal := hReference2Ideal) (hPre_finite3 := hPre_finite3)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite4 (hKernel5Ideal := hKernel5Ideal) (hPre_finite4 := hPre_finite4)
    ∧ quiescent_Reference5Ideal (hReference5Ideal := hReference5Ideal)
    ∧ quiescent_Reference5Ideal_pre_finite4 (hReference5Ideal := hReference5Ideal) (hPre_finite4 := hPre_finite4)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite6 (hKernel8Ideal := hKernel8Ideal) (hPre_finite6 := hPre_finite6)
    ∧ quiescent_Reference8Ideal (hReference8Ideal := hReference8Ideal)
    ∧ quiescent_Reference8Ideal_pre_finite6 (hReference8Ideal := hReference8Ideal) (hPre_finite6 := hPre_finite6)
    ∧ quiescent_Kernel9 (hKernel9 := hKernel9)
    ∧ quiescent_Kernel9Ideal (hKernel9Ideal := hKernel9Ideal)
    ∧ quiescent_Kernel9Ideal_pre_finite5 (hKernel9Ideal := hKernel9Ideal) (hPre_finite5 := hPre_finite5)
    ∧ quiescent_Reference9Ideal (hReference9Ideal := hReference9Ideal)
    ∧ quiescent_Reference9Ideal_pre_finite5 (hReference9Ideal := hReference9Ideal) (hPre_finite5 := hPre_finite5)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite7 (hKernel15Ideal := hKernel15Ideal) (hPre_finite7 := hPre_finite7)
    ∧ quiescent_Reference15Ideal (hReference15Ideal := hReference15Ideal)
    ∧ quiescent_Reference15Ideal_pre_finite7 (hReference15Ideal := hReference15Ideal) (hPre_finite7 := hPre_finite7)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite8 (hKernel26Ideal := hKernel26Ideal) (hPre_finite8 := hPre_finite8)
    ∧ quiescent_Reference26Ideal (hReference26Ideal := hReference26Ideal)
    ∧ quiescent_Reference26Ideal_pre_finite8 (hReference26Ideal := hReference26Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite3 (hKernel2Ideal := hKernel2Ideal) (hReference2Ideal := hReference2Ideal) (hPre_finite3 := hPre_finite3)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite4 (hKernel5Ideal := hKernel5Ideal) (hReference5Ideal := hReference5Ideal) (hPre_finite4 := hPre_finite4)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite6 (hKernel8Ideal := hKernel8Ideal) (hReference8Ideal := hReference8Ideal) (hPre_finite6 := hPre_finite6)
    ∧ preserves_Kernel9_Kernel9Ideal
    ∧ algebraic_Kernel9Ideal_Reference9Ideal_pre_finite5 (hKernel9Ideal := hKernel9Ideal) (hReference9Ideal := hReference9Ideal) (hPre_finite5 := hPre_finite5)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_on_rows_hg (hKernel12Ideal := hKernel12Ideal) (hReference12Ideal := hReference12Ideal) (hOn_rows_hg := hOn_rows_hg)
    ∧ preserves_Kernel13_Kernel13Ideal
    ∧ algebraic_Kernel13Ideal_Reference13Ideal_on_rows_hg2 (hKernel13Ideal := hKernel13Ideal) (hReference13Ideal := hReference13Ideal) (hOn_rows_hg2 := hOn_rows_hg2)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite7 (hKernel15Ideal := hKernel15Ideal) (hReference15Ideal := hReference15Ideal) (hPre_finite7 := hPre_finite7)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite8 (hKernel26Ideal := hKernel26Ideal) (hReference26Ideal := hReference26Ideal) (hPre_finite8 := hPre_finite8)
-- ==== On_rows_hg.lean ====
abbrev S8192x1024 : Shape := ⟨2, ![8192, 1024]⟩
abbrev S1024x3328 : Shape := ⟨2, ![1024, 3328]⟩
abbrev S8192x3328 : Shape := ⟨2, ![8192, 3328]⟩
abbrev S3328 : Shape := ⟨1, ![3328]⟩
abbrev S3328x1 : Shape := ⟨2, ![3328, 1]⟩
abbrev S_ : Shape := ⟨0, ![]⟩
abbrev S3328x1024 : Shape := ⟨2, ![3328, 1024]⟩

class Facts : Prop where
  bcast_S3328_S3328x1_0 : S3328.BroadcastsInDim S3328x1 (![0] : Fin 1 → Fin S3328x1.rank)
  bcast_S_S3328x1 : S_.BroadcastsInDim S3328x1 (![] : Fin 0 → Fin S3328x1.rank)
  bcast_S3328x1_S3328x1024_0_1 : S3328x1.BroadcastsInDim S3328x1024 (![0, 1] : Fin 2 → Fin S3328x1024.rank)

variable [Facts]

def fn {F : FTy → Type} [FloatOps F] (main_arg0 : FVec F S8192x1024 .f32) (main_arg1 : FVec F S1024x3328 .f32) (main_arg2 : FVec F S8192x3328 .f32) : IVec S3328x1024 1 :=
  let main_v0 : IVec S3328 32 := iotaInDim S3328 32 0
  let main_v1 : IVec S3328x1 32 := broadcastInDim S3328x1 ![0] bcast_S3328_S3328x1_0 main_v0
  let main_c : IVec S_ 32 := constantI S_ 32 2560#32
  let main_v2 : IVec S3328x1 32 := broadcastInDim S3328x1 ![] bcast_S_S3328x1 main_c
  let main_v3 : IVec S3328x1 1 := cmpi .slt main_v1 main_v2
  let main_v4 : IVec S3328x1024 1 := broadcastInDim S3328x1024 ![0, 1] bcast_S3328x1_S3328x1024_0_1 main_v3
  main_v4
-- ==== On_rows_hg2.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)

variable [Facts]

def fn {F : FTy → Type} [FloatOps F] (main_arg0 : FVec F S8192x1024 .f32) (main_arg1 : FVec F S1024x1024 .f32) (main_arg2 : FVec F S8192x1024 .f32) : IVec S1024x1024 1 :=
  let main_v0 : IVec S1024 32 := iotaInDim S1024 32 0
  let main_v1 : IVec S1024x1 32 := broadcastInDim S1024x1 ![0] bcast_S1024_S1024x1_0 main_v0
  let main_c : IVec S_ 32 := constantI S_ 32 512#32
  let main_v2 : IVec S1024x1 32 := broadcastInDim S1024x1 ![] bcast_S_S1024x1 main_c
  let main_v3 : IVec S1024x1 1 := cmpi .slt main_v1 main_v2
  let main_v4 : IVec S1024x1024 1 := broadcastInDim S1024x1024 ![0, 1] bcast_S1024x1_S1024x1024_0_1 main_v3
  main_v4
-- ==== Pre_finite.lean ====
abbrev S8192x8x64 : Shape := ⟨3, ![8192, 8, 64]⟩
abbrev S8192x2x64 : Shape := ⟨3, ![8192, 2, 64]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x64 .f32) (main_arg1 : FVec F S8192x2x64 .f32) (main_arg2 : FVec F S8192x2x64 .f32) (main_arg3 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : IVec S_ 1 := andi main_v3 main_v7
  let main_v9 : FVec F S8192x2x64 .f32 := Host.absf main_arg2
  let main_cst_2 : FVec F S_ .f32 := constant S_ .f32 0x7F800000#32
  let main_v10 : FVec F S8192x2x64 .f32 := broadcastInDim S8192x2x64 ![] bcast_S_S8192x2x64 main_cst_2
  let main_v11 : IVec S8192x2x64 1 := cmpf .olt main_v9 main_v10
  let main_c_3 : IVec S_ 1 := constantI S_ 1 1#1
  let main_v12 : IVec S_ 1 := (fun x v => Host.reduce IntOp.andi x v reducesTo_S8192x2x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite3.lean ====
abbrev S8192x8x64 : Shape := ⟨3, ![8192, 8, 64]⟩
abbrev S8192x2x64 : Shape := ⟨3, ![8192, 2, 64]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_

variable [Facts]

def fn {F : FTy → Type} [FloatOps F] (main_arg0 : FVec F S8192x8x64 .f32) (main_arg1 : FVec F S8192x2x64 .f32) (main_arg2 : FVec F S8192x2x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : IVec S_ 1 := andi main_v3 main_v7
  let main_v9 : FVec F S8192x2x64 .f32 := Host.absf main_arg2
  let main_cst_2 : FVec F S_ .f32 := constant S_ .f32 0x7F800000#32
  let main_v10 : FVec F S8192x2x64 .f32 := broadcastInDim S8192x2x64 ![] bcast_S_S8192x2x64 main_cst_2
  let main_v11 : IVec S8192x2x64 1 := cmpf .olt main_v9 main_v10
  let main_c_3 : IVec S_ 1 := constantI S_ 1 1#1
  let main_v12 : IVec S_ 1 := (fun x v => Host.reduce IntOp.andi x v reducesTo_S8192x2x64_S_d0_1_2 h_S_) main_v11 main_c_3
  let main_v13 : IVec S_ 1 := andi main_v8 main_v12
  main_v13
-- ==== Pre_finite4.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite5.lean ====
abbrev S8192x1024 : Shape := ⟨2, ![8192, 1024]⟩
abbrev S1024 : Shape := ⟨1, ![1024]⟩
abbrev S1024x3328 : Shape := ⟨2, ![1024, 3328]⟩
abbrev S8192x3328 : Shape := ⟨2, ![8192, 3328]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3328 : S_.BroadcastsInDim S1024x3328 (![] : Fin 0 → Fin S1024x3328.rank)
  reducesTo_S1024x3328_S_d0_1 : S1024x3328.ReducesTo [0, 1] S_
  bcast_S_S8192x3328 : S_.BroadcastsInDim S8192x3328 (![] : Fin 0 → Fin S8192x3328.rank)
  reducesTo_S8192x3328_S_d0_1 : S8192x3328.ReducesTo [0, 1] S_

variable [Facts]

def fn_part1 {F : FTy → Type} [FloatOps F] (main_arg4 : FVec F S8192x1024 .f32) (main_v13 : IVec S_ 1) (main_v16 : IVec S8192x3328 1) : IVec S_ 1 :=
  let main_c_5 : IVec S_ 1 := constantI S_ 1 1#1
  let main_v17 : IVec S_ 1 := (fun x v => Host.reduce IntOp.andi x v reducesTo_S8192x3328_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024x3328 .f32) (main_arg3 : FVec F S8192x3328 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3328 .f32 := Host.absf main_arg2
  let main_cst_2 : FVec F S_ .f32 := constant S_ .f32 0x7F800000#32
  let main_v10 : FVec F S1024x3328 .f32 := broadcastInDim S1024x3328 ![] bcast_S_S1024x3328 main_cst_2
  let main_v11 : IVec S1024x3328 1 := cmpf .olt main_v9 main_v10
  let main_c_3 : IVec S_ 1 := constantI S_ 1 1#1
  let main_v12 : IVec S_ 1 := (fun x v => Host.reduce IntOp.andi x v reducesTo_S1024x3328_S_d0_1 h_S_) main_v11 main_c_3
  let main_v13 : IVec S_ 1 := andi main_v8 main_v12
  let main_v14 : FVec F S8192x3328 .f32 := Host.absf main_arg3
  let main_cst_4 : FVec F S_ .f32 := constant S_ .f32 0x7F800000#32
  let main_v15 : FVec F S8192x3328 .f32 := broadcastInDim S8192x3328 ![] bcast_S_S8192x3328 main_cst_4
  let main_v16 : IVec S8192x3328 1 := cmpf .olt main_v14 main_v15
  fn_part1 (F := F) main_arg4 main_v13 main_v16
-- ==== Pre_finite6.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .f32) (main_arg5 : FVec F S8192x1024 .f32) (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  let main_v19 : FVec F S8192x2816 .f32 := Host.absf main_arg4
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x5632 .f32) (main_arg3 : FVec F S8192x2816 .f32) (main_arg4 : FVec F S8192x2816 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S8192x2816 .f32 := Host.absf main_arg3
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_arg4 main_arg5 main_v13 main_v16
-- ==== Pre_finite7.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x2816 .f32) (main_arg2 : FVec F S2816x1024 .f32) (main_arg3 : FVec F S1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite8.lean ====
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512 .f32) (main_arg1 : FVec F S2x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Kernel.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x8 : Shape := ⟨2, ![8192, 8]⟩
abbrev S8192x8x1 : Shape := ⟨3, ![8192, 8, 1]⟩
abbrev S16x512x2x4x64 : Shape := ⟨5, ![16, 512, 2, 4, 64]⟩
abbrev S2x16x64x4x512 : Shape := ⟨5, ![2, 16, 64, 4, 512]⟩
abbrev S2x16x64x2048 : Shape := ⟨4, ![2, 16, 64, 2048]⟩
abbrev S16x512x2x64 : Shape := ⟨4, ![16, 512, 2, 64]⟩
abbrev S2x16x64x512 : Shape := ⟨4, ![2, 16, 64, 512]⟩
abbrev S2x4x16x1x512 : Shape := ⟨5, ![2, 4, 16, 1, 512]⟩
abbrev S2x16x1x4x512 : Shape := ⟨5, ![2, 16, 1, 4, 512]⟩
abbrev S2x16x1x2048 : Shape := ⟨4, ![2, 16, 1, 2048]⟩
abbrev S16x512x2x4x1 : Shape := ⟨5, ![16, 512, 2, 4, 1]⟩
abbrev S1x1x64x2048 : Shape := ⟨4, ![1, 1, 64, 2048]⟩
abbrev S1x16x64x512 : Shape := ⟨4, ![1, 16, 64, 512]⟩
abbrev S1x1x1x2048 : Shape := ⟨4, ![1, 1, 1, 2048]⟩
abbrev S64x2048 : Shape := ⟨2, ![64, 2048]⟩
abbrev S1x2048 : Shape := ⟨2, ![1, 2048]⟩
abbrev S1x1x64x512 : Shape := ⟨4, ![1, 1, 64, 512]⟩
abbrev S64x512 : Shape := ⟨2, ![64, 512]⟩
abbrev S512x2048 : Shape := ⟨2, ![512, 2048]⟩

abbrev nBuf : Space → Nat
  | .hbm => 63
  | .vmem => 19
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8192x2x4x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192x8192, .f32⟩
  | .hbm, ⟨9, _⟩ => ⟨S2x4x8192x8192, .f32⟩
  | .hbm, ⟨10, _⟩ => ⟨S_, .f32⟩
  | .hbm, ⟨11, _⟩ => ⟨S2x4x8192, .f32⟩
  | .hbm, ⟨12, _⟩ => ⟨S2x4x8192x1, .f32⟩
  | .hbm, ⟨13, _⟩ => ⟨S2x4x8192x8192, .f32⟩
  | .hbm, ⟨14, _⟩ => ⟨S2x4x8192x8192, .f32⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S2x4x8192x1, .f32⟩
  | .hbm, ⟨19, _⟩ => ⟨S2x4x8192x8192, .f32⟩
  | .hbm, ⟨20, _⟩ => ⟨S2x4x8192x8192, .f32⟩
  | .hbm, ⟨21, _⟩ => ⟨S2x64x4x8192, .f32⟩
  | .hbm, ⟨22, _⟩ => ⟨S8192x2x4x64, .f32⟩
  | .hbm, ⟨23, _⟩ => ⟨S8192x8x64, .f32⟩
  | .hbm, ⟨24, _⟩ => ⟨S2x4x8192x1, .f32⟩
  | .hbm, ⟨25, _⟩ => ⟨S2x4x8192x1, .f32⟩
  | .hbm, ⟨26, _⟩ => ⟨S8192x8x64, .f32⟩
  | .hbm, ⟨27, _⟩ => ⟨S_, .f32⟩
  | .hbm, ⟨28, _⟩ => ⟨S8192x8, .f32⟩
  | .hbm, ⟨29, _⟩ => ⟨S8192x8x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x8x64, .f32⟩
  | .hbm, ⟨37, _⟩ => ⟨S8192x8x64, .f32⟩
  | .hbm, ⟨38, _⟩ => ⟨S16x512x2x4x64, .f32⟩
  | .hbm, ⟨39, _⟩ => ⟨S2x16x64x4x512, .f32⟩
  | .hbm, ⟨40, _⟩ => ⟨S2x16x64x2048, .f32⟩
  | .hbm, ⟨41, _⟩ => ⟨S2x16x64x2048, .bf16⟩
  | .hbm, ⟨42, _⟩ => ⟨S16x512x2x64, .f32⟩
  | .hbm, ⟨43, _⟩ => ⟨S2x16x64x512, .f32⟩
  | .hbm, ⟨44, _⟩ => ⟨S2x16x64x512, .bf16⟩
  | .hbm, ⟨45, _⟩ => ⟨S16x512x2x64, .f32⟩
  | .hbm, ⟨46, _⟩ => ⟨S2x16x64x512, .f32⟩
  | .hbm, ⟨47, _⟩ => ⟨S2x16x64x512, .bf16⟩
  | .hbm, ⟨48, _⟩ => ⟨S16x512x2x4x64, .f32⟩
  | .hbm, ⟨49, _⟩ => ⟨S2x16x64x4x512, .f32⟩
  | .hbm, ⟨50, _⟩ => ⟨S2x16x64x2048, .f32⟩
  | .hbm, ⟨51, _⟩ => ⟨S2x16x64x2048, .bf16⟩
  | .hbm, ⟨52, _⟩ => ⟨S2x4x8192x1, .f32⟩
  | .hbm, ⟨53, _⟩ => ⟨S2x4x8192x1, .f32⟩
  | .hbm, ⟨54, _⟩ => ⟨S2x4x16x1x512, .f32⟩
  | .hbm, ⟨55, _⟩ => ⟨S2x16x1x4x512, .f32⟩
  | .hbm, ⟨56, _⟩ => ⟨S2x16x1x2048, .f32⟩
  | .hbm, ⟨57, _⟩ => ⟨S16x512x2x4x1, .f32⟩
  | .hbm, ⟨58, _⟩ => ⟨S2x16x1x4x512, .f32⟩
  | .hbm, ⟨59, _⟩ => ⟨S2x16x1x2048, .f32⟩
  | .hbm, ⟨60, _⟩ => ⟨S2x16x64x2048, .f32⟩
  | .hbm, ⟨61, _⟩ => ⟨S2x16x64x512, .f32⟩
  | .hbm, ⟨62, _⟩ => ⟨S2x16x64x512, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x64x512, .bf16⟩
  | .local _ .vmem, ⟨5, _⟩ => ⟨S1x16x64x512, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x16x64x512, .f32⟩
  | .local _ .vmem, ⟨15, _⟩ => ⟨S1x16x64x512, .f32⟩
  | .local _ .vmem, ⟨16, _⟩ => ⟨S1x16x64x512, .f32⟩
  | .local _ .vmem, ⟨17, _⟩ => ⟨S1x16x64x512, .f32⟩
  | .local _ .vmem, ⟨18, _⟩ => ⟨S64x2048, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_18 : BitVec 32 := 0#32
  let c16_i32 : BitVec 32 := 16#32
  let v15 : BitVec 32 := Scalar.addi c0_i32_18 c16_i32
  let c1_i32 : BitVec 32 := 1#32
  ⟨c0_i32_18, v15, c1_i32⟩
def k0_off1 (k0_t1 : Fin k0_t1_loop.trips) : Fin 4 → Nat :=
  let c0_26 : Index := 0#32
  let c0_i32_18 : BitVec 32 := 0#32
  let c1_i32 : BitVec 32 := 1#32
  let arg12 : BitVec 32 := Scf.iv c0_i32_18 c1_i32 k0_t1
  let v20 : Index := Scalar.indexCast arg12
  let c0_27 : Index := 0#32
  let c0_28 : Index := 0#32
  ![0, v20.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩
abbrev S16x512x2x4x64 : Shape := ⟨5, ![16, 512, 2, 4, 64]⟩
abbrev S2x16x64x4x512 : Shape := ⟨5, ![2, 16, 64, 4, 512]⟩
abbrev S16x512x2x64 : Shape := ⟨4, ![16, 512, 2, 64]⟩
abbrev S2x16x64x512 : Shape := ⟨4, ![2, 16, 64, 512]⟩
abbrev S2x16x64x2048 : Shape := ⟨4, ![2, 16, 64, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8192x2x4x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192x8192, .f32⟩
  | .hbm, ⟨9, _⟩ => ⟨S2x4x8192x8192, .f32⟩
  | .hbm, ⟨10, _⟩ => ⟨S_, .f32⟩
  | .hbm, ⟨11, _⟩ => ⟨S2x4x8192, .f32⟩
  | .hbm, ⟨12, _⟩ => ⟨S2x4x8192x1, .f32⟩
  | .hbm, ⟨13, _⟩ => ⟨S2x4x8192x8192, .f32⟩
  | .hbm, ⟨14, _⟩ => ⟨S2x4x8192x8192, .i1⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S_, .f32⟩
  | .hbm, ⟨19, _⟩ => ⟨S2x4x8192, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .i1⟩
  | .hbm, ⟨24, _⟩ => ⟨S_, .f32⟩
  | .hbm, ⟨25, _⟩ => ⟨S2x4x8192, .f32⟩
  | .hbm, ⟨26, _⟩ => ⟨S2x4x8192, .i1⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S2x4x8192, .f32⟩
  | .hbm, ⟨34, _⟩ => ⟨S2x4x8192, .f32⟩
  | .hbm, ⟨35, _⟩ => ⟨S2x4x8192x1, .f32⟩
  | .hbm, ⟨36, _⟩ => ⟨S2x4x8192x8192, .f32⟩
  | .hbm, ⟨37, _⟩ => ⟨S2x4x8192x8192, .f32⟩
  | .hbm, ⟨38, _⟩ => ⟨S2x4x8192x8192, .f32⟩
  | .hbm, ⟨39, _⟩ => ⟨S_, .f32⟩
  | .hbm, ⟨40, _⟩ => ⟨S2x4x8192, .f32⟩
  | .hbm, ⟨41, _⟩ => ⟨S2x4x8192x1, .f32⟩
  | .hbm, ⟨42, _⟩ => ⟨S2x4x8192x8192, .f32⟩
  | .hbm, ⟨43, _⟩ => ⟨S2x4x8192x8192, .f32⟩
  | .hbm, ⟨44, _⟩ => ⟨S2x4x8192x1, .f32⟩
  | .hbm, ⟨45, _⟩ => ⟨S_, .f32⟩
  | .hbm, ⟨46, _⟩ => ⟨S2x4x8192x1, .f32⟩
  | .hbm, ⟨47, _⟩ => ⟨S2x4x8192x1, .f32⟩
  | .hbm, ⟨48, _⟩ => ⟨S2x64x4x8192, .f32⟩
  | .hbm, ⟨49, _⟩ => ⟨S8192x2x4x64, .f32⟩
  | .hbm, ⟨50, _⟩ => ⟨S8192x8x64, .f32⟩
  | .hbm, ⟨51, _⟩ => ⟨S8192x2x4x64, .f32⟩
  | .hbm, ⟨52, _⟩ => ⟨S2x64x4x8192, .f32⟩
  | .hbm, ⟨53, _⟩ => ⟨S2x4x8192x8192, .f32⟩
  | .hbm, ⟨54, _⟩ => ⟨S2x64x8192, .f32⟩
  | .hbm, ⟨55, _⟩ => ⟨S8192x2x64, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x1, .f32⟩
  | .hbm, ⟨62, _⟩ => ⟨S2x4x8192x1, .f32⟩
  | .hbm, ⟨63, _⟩ => ⟨S2x4x8192x8192, .f32⟩
  | .hbm, ⟨64, _⟩ => ⟨S2x4x8192x8192, .f32⟩
  | .hbm, ⟨65, _⟩ => ⟨S_, .f32⟩
  | .hbm, ⟨66, _⟩ => ⟨S2x4x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S_, .f32⟩
  | .hbm, ⟨71, _⟩ => ⟨S2x4x8192x8192, .f32⟩
  | .hbm, ⟨72, _⟩ => ⟨S2x4x8192x8192, .f32⟩
  | .hbm, ⟨73, _⟩ => ⟨S2x8192x8192x4, .f32⟩
  | .hbm, ⟨74, _⟩ => ⟨S2x8192x4x64, .f32⟩
  | .hbm, ⟨75, _⟩ => ⟨S8192x2x4x64, .f32⟩
  | .hbm, ⟨76, _⟩ => ⟨S2x8192x64, .f32⟩
  | .hbm, ⟨77, _⟩ => ⟨S8192x2x64, .f32⟩
  | .hbm, ⟨78, _⟩ => ⟨S8192x8x64, .f32⟩
  | .hbm, ⟨79, _⟩ => ⟨S_, .f32⟩
  | .hbm, ⟨80, _⟩ => ⟨S8192x8x64, .f32⟩
  | .hbm, ⟨81, _⟩ => ⟨S8192x8x64, .f32⟩
  | .hbm, ⟨82, _⟩ => ⟨S16x512x2x4x64, .f32⟩
  | .hbm, ⟨83, _⟩ => ⟨S2x16x64x4x512, .f32⟩
  | .hbm, ⟨84, _⟩ => ⟨S_, .f32⟩
  | .hbm, ⟨85, _⟩ => ⟨S_, .f32⟩
  | .hbm, ⟨86, _⟩ => ⟨S8192x2x64, .f32⟩
  | .hbm, ⟨87, _⟩ => ⟨S8192x2x64, .f32⟩
  | .hbm, ⟨88, _⟩ => ⟨S16x512x2x64, .f32⟩
  | .hbm, ⟨89, _⟩ => ⟨S2x16x64x512, .f32⟩
  | .hbm, ⟨90, _⟩ => ⟨S16x512x2x64, .f32⟩
  | .hbm, ⟨91, _⟩ => ⟨S2x16x64x512, .f32⟩
  | .hbm, ⟨92, _⟩ => ⟨S2x16x64x2048, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel2.lean ====
abbrev S8192x8x64 : Shape := ⟨3, ![8192, 8, 64]⟩
abbrev S8192x2x64 : Shape := ⟨3, ![8192, 2, 64]⟩
abbrev S_ : Shape := ⟨0, ![]⟩
abbrev S16x512x2x4x64 : Shape := ⟨5, ![16, 512, 2, 4, 64]⟩
abbrev S2x16x64x4x512 : Shape := ⟨5, ![2, 16, 64, 4, 512]⟩
abbrev S2x16x64x2048 : Shape := ⟨4, ![2, 16, 64, 2048]⟩
abbrev S16x512x2x64 : Shape := ⟨4, ![16, 512, 2, 64]⟩
abbrev S2x16x64x512 : Shape := ⟨4, ![2, 16, 64, 512]⟩
abbrev S2x16x2048 : Shape := ⟨3, ![2, 16, 2048]⟩
abbrev S2x16x1x2048 : Shape := ⟨4, ![2, 16, 1, 2048]⟩
abbrev S8192x2 : Shape := ⟨2, ![8192, 2]⟩
abbrev S2 : Shape := ⟨1, ![2]⟩
abbrev S2x1x1x1 : Shape := ⟨4, ![2, 1, 1, 1]⟩
abbrev S1x1x64x2048 : Shape := ⟨4, ![1, 1, 64, 2048]⟩
abbrev S1x16x64x512 : Shape := ⟨4, ![1, 16, 64, 512]⟩
abbrev S1x1x1x2048 : Shape := ⟨4, ![1, 1, 1, 2048]⟩
abbrev S64x2048 : Shape := ⟨2, ![64, 2048]⟩
abbrev S1x2048 : Shape := ⟨2, ![1, 2048]⟩
abbrev S8x2048 : Shape := ⟨2, ![8, 2048]⟩
abbrev S1x1x64x512 : Shape := ⟨4, ![1, 1, 64, 512]⟩
abbrev S64x512 : Shape := ⟨2, ![64, 512]⟩
abbrev S512x2048 : Shape := ⟨2, ![512, 2048]⟩
abbrev S64x8x2048 : Shape := ⟨3, ![64, 8, 2048]⟩
abbrev S2048 : Shape := ⟨1, ![2048]⟩

abbrev nBuf : Space → Nat
  | .hbm => 43
  | .vmem => 13
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8x64, .f32⟩
  | .hbm, ⟨10, _⟩ => ⟨S8192x8x64, .f32⟩
  | .hbm, ⟨11, _⟩ => ⟨S16x512x2x4x64, .f32⟩
  | .hbm, ⟨12, _⟩ => ⟨S2x16x64x4x512, .f32⟩
  | .hbm, ⟨13, _⟩ => ⟨S2x16x64x2048, .f32⟩
  | .hbm, ⟨14, _⟩ => ⟨S2x16x64x2048, .bf16⟩
  | .hbm, ⟨15, _⟩ => ⟨S16x512x2x64, .f32⟩
  | .hbm, ⟨16, _⟩ => ⟨S2x16x64x512, .f32⟩
  | .hbm, ⟨17, _⟩ => ⟨S2x16x64x512, .bf16⟩
  | .hbm, ⟨18, _⟩ => ⟨S16x512x2x64, .f32⟩
  | .hbm, ⟨19, _⟩ => ⟨S2x16x64x512, .f32⟩
  | .hbm, ⟨20, _⟩ => ⟨S2x16x64x512, .bf16⟩
  | .hbm, ⟨21, _⟩ => ⟨S2x16x64x2048, .f32⟩
  | .hbm, ⟨22, _⟩ => ⟨S2x16x64x2048, .f32⟩
  | .hbm, ⟨23, _⟩ => ⟨S_, .f32⟩
  | .hbm, ⟨24, _⟩ => ⟨S2x16x2048, .f32⟩
  | .hbm, ⟨25, _⟩ => ⟨S2x16x1x2048, .f32⟩
  | .hbm, ⟨26, _⟩ => ⟨S2x16x1x2048, .f32⟩
  | .hbm, ⟨27, _⟩ => ⟨S8192x2x64, .bf16⟩
  | .hbm, ⟨28, _⟩ => ⟨S8192x2x64, .f32⟩
  | .hbm, ⟨29, _⟩ => ⟨S8192x2x64, .f32⟩
  | .hbm, ⟨30, _⟩ => ⟨S_, .f32⟩
  | .hbm, ⟨31, _⟩ => ⟨S8192x2, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .hbm, ⟨38, _⟩ => ⟨S2x1x1x1, .f32⟩
  | .hbm, ⟨39, _⟩ => ⟨S2x16x1x2048, .f32⟩
  | .hbm, ⟨40, _⟩ => ⟨S2x16x1x2048, .f32⟩
  | .hbm, ⟨41, _⟩ => ⟨S2x16x64x2048, .f32⟩
  | .hbm, ⟨42, _⟩ => ⟨S2x16x1x2048, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x64x512, .bf16⟩
  | .local _ .vmem, ⟨5, _⟩ => ⟨S1x16x64x512, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1x1x64x2048, .f32⟩
  | .local _ .vmem, ⟨9, _⟩ => ⟨S1x1x64x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S64x2048, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32 : BitVec 32 := 2#32
  let v9 : BitVec 32 := Scalar.addi c0_i32 c2_i32
  let c1_i32 : BitVec 32 := 1#32
  ⟨c0_i32, v9, c1_i32⟩
def k0_off1 (k0_t1 : Fin k0_t1_loop.trips) (c0_i32_23 : BitVec 32) : Fin 4 → Nat :=
  let c0_24 : Index := 0#32
  let c8_i32 : BitVec 32 := 8#32
  let c0_i32 : BitVec 32 := 0#32
  let c1_i32 : BitVec 32 := 1#32
  let arg9 : BitVec 32 := Scf.iv c0_i32 c1_i32 k0_t1
  let v26 : BitVec 32 := Scalar.muli c8_i32 arg9
  let v27 : BitVec 32 := Scalar.addi v26 c0_i32_23
  let v28 : Index := Scalar.indexCast v27
  let c0_25 : Index := 0#32
  let c0_26 : Index := 0#32
  ![0, v28.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "s" => some (((Real.log 2)⁻¹ : ℝ) : EReal)
  | _ => none
-- ==== Reference2Ideal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S16x512x2x4x64 : Shape := ⟨5, ![16, 512, 2, 4, 64]⟩
abbrev S2x16x64x4x512 : Shape := ⟨5, ![2, 16, 64, 4, 512]⟩
abbrev S2x16x64x2048 : Shape := ⟨4, ![2, 16, 64, 2048]⟩
abbrev S2x4x16x512 : Shape := ⟨4, ![2, 4, 16, 512]⟩
abbrev S2x16x4x512 : Shape := ⟨4, ![2, 16, 4, 512]⟩
abbrev S2x16x1x2048 : Shape := ⟨4, ![2, 16, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x2x4x64, .f32⟩
  | .hbm, ⟨4, _⟩ => ⟨S2x8192x8192x4, .f32⟩
  | .hbm, ⟨5, _⟩ => ⟨S2x4x8192x8192, .f32⟩
  | .hbm, ⟨6, _⟩ => ⟨S_, .f32⟩
  | .hbm, ⟨7, _⟩ => ⟨S2x4x8192x8192, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8192, .f32⟩
  | .hbm, ⟨22, _⟩ => ⟨S2x4x8192x8192, .f32⟩
  | .hbm, ⟨23, _⟩ => ⟨S2x64x4x8192, .f32⟩
  | .hbm, ⟨24, _⟩ => ⟨S8192x2x4x64, .f32⟩
  | .hbm, ⟨25, _⟩ => ⟨S8192x8x64, .f32⟩
  | .hbm, ⟨26, _⟩ => ⟨S8192x2x4x64, .f32⟩
  | .hbm, ⟨27, _⟩ => ⟨S2x8192x8192x4, .f32⟩
  | .hbm, ⟨28, _⟩ => ⟨S2x4x8192x8192, .f32⟩
  | .hbm, ⟨29, _⟩ => ⟨S_, .f32⟩
  | .hbm, ⟨30, _⟩ => ⟨S2x4x8192x8192, .f32⟩
  | .hbm, ⟨31, _⟩ => ⟨S2x4x8192x8192, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x1, .f32⟩
  | .hbm, ⟨42, _⟩ => ⟨S2x4x8192x1, .f32⟩
  | .hbm, ⟨43, _⟩ => ⟨S_, .f32⟩
  | .hbm, ⟨44, _⟩ => ⟨S_, .f32⟩
  | .hbm, ⟨45, _⟩ => ⟨S2x4x8192x1, .f32⟩
  | .hbm, ⟨46, _⟩ => ⟨S2x4x8192x1, .f32⟩
  | .hbm, ⟨47, _⟩ => ⟨S16x512x2x4x64, .f32⟩
  | .hbm, ⟨48, _⟩ => ⟨S2x16x64x4x512, .f32⟩
  | .hbm, ⟨49, _⟩ => ⟨S2x16x64x2048, .f32⟩
  | .hbm, ⟨50, _⟩ => ⟨S2x4x16x512, .f32⟩
  | .hbm, ⟨51, _⟩ => ⟨S2x16x4x512, .f32⟩
  | .hbm, ⟨52, _⟩ => ⟨S2x16x1x2048, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S5632x1024 : Shape := ⟨2, ![5632, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S5632x1024, .bf16⟩
  | .hbm, ⟨4, _⟩ => ⟨S2x2816x1024, .bf16⟩
  | .hbm, ⟨5, _⟩ => ⟨S8192x1024, .bf16⟩
  | .hbm, ⟨6, _⟩ => ⟨S1x2816x1024, .bf16⟩
  | .hbm, ⟨7, _⟩ => ⟨S2816x1024, .bf16⟩
  | .hbm, ⟨8, _⟩ => ⟨S1x2816x1024, .bf16⟩
  | .hbm, ⟨9, _⟩ => ⟨S2816x1024, .bf16⟩
  | .hbm, ⟨10, _⟩ => ⟨S8192x2816, .bf16⟩
  | .hbm, ⟨11, _⟩ => ⟨S8192x2816, .bf16⟩
  | .hbm, ⟨12, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v8_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel6.lean ====
abbrev S8192x1024 : Shape := ⟨2, ![8192, 1024]⟩
abbrev S1024x3328 : Shape := ⟨2, ![1024, 3328]⟩
abbrev S3328x1024 : Shape := ⟨2, ![3328, 1024]⟩
abbrev S8192x3328 : Shape := ⟨2, ![8192, 3328]⟩
abbrev S512x1024 : Shape := ⟨2, ![512, 1024]⟩
abbrev S512x3328 : Shape := ⟨2, ![512, 3328]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x1024, .bf16⟩
  | .hbm, ⟨3, _⟩ => ⟨S1024x3328, .bf16⟩
  | .hbm, ⟨4, _⟩ => ⟨S3328x1024, .bf16⟩
  | .hbm, ⟨5, _⟩ => ⟨S8192x3328, .f32⟩
  | .local _ .vmem, ⟨0, _⟩ => ⟨S512x1024, .bf16⟩
  | .local _ .vmem, ⟨1, _⟩ => ⟨S512x1024, .bf16⟩
  | .local _ .vmem, ⟨2, _⟩ => ⟨S3328x1024, .bf16⟩
  | .local _ .vmem, ⟨3, _⟩ => ⟨S512x3328, .f32⟩
  | .local _ .vmem, ⟨4, _⟩ => ⟨S512x3328, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3328x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x3328 : Shape := ⟨2, ![1024, 3328]⟩
abbrev S8192x3328 : Shape := ⟨2, ![8192, 3328]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩

abbrev nBuf : Space → Nat
  | .hbm => 30
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S1024x5632, .bf16⟩
  | .hbm, ⟨18, _⟩ => ⟨S5632x1024, .bf16⟩
  | .hbm, ⟨19, _⟩ => ⟨S2x2816x1024, .bf16⟩
  | .hbm, ⟨20, _⟩ => ⟨S8192x2816, .bf16⟩
  | .hbm, ⟨21, _⟩ => ⟨S1x2816x1024, .bf16⟩
  | .hbm, ⟨22, _⟩ => ⟨S2816x1024, .bf16⟩
  | .hbm, ⟨23, _⟩ => ⟨S8192x2816, .bf16⟩
  | .hbm, ⟨24, _⟩ => ⟨S1x2816x1024, .bf16⟩
  | .hbm, ⟨25, _⟩ => ⟨S2816x1024, .bf16⟩
  | .hbm, ⟨26, _⟩ => ⟨S1x1024, .f32⟩
  | .hbm, ⟨27, _⟩ => ⟨S8192x1024, .f32⟩
  | .hbm, ⟨28, _⟩ => ⟨S8192x1024, .bf16⟩
  | .hbm, ⟨29, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference8Ideal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x3328 : Shape := ⟨2, ![1024, 3328]⟩
abbrev S8192x3328 : Shape := ⟨2, ![8192, 3328]⟩
abbrev S_ : Shape := ⟨0, ![]⟩
abbrev S8192 : Shape := ⟨1, ![8192]⟩
abbrev S8192x1 : Shape := ⟨2, ![8192, 1]⟩
abbrev S3328x1024 : Shape := ⟨2, ![3328, 1024]⟩
abbrev S8192x2560 : Shape := ⟨2, ![8192, 2560]⟩
abbrev S2560x1024 : Shape := ⟨2, ![2560, 1024]⟩
abbrev S8192x768 : Shape := ⟨2, ![8192, 768]⟩
abbrev S768x1024 : Shape := ⟨2, ![768, 1024]⟩
abbrev S1x1024 : Shape := ⟨2, ![1, 1024]⟩
abbrev S512x2560 : Shape := ⟨2, ![512, 2560]⟩
abbrev S512x768 : Shape := ⟨2, ![512, 768]⟩
abbrev S512x1024 : Shape := ⟨2, ![512, 1024]⟩
abbrev S512x1 : Shape := ⟨2, ![512, 1]⟩
abbrev S512 : Shape := ⟨1, ![512]⟩

abbrev nBuf : Space → Nat
  | .hbm => 26
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x3328, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S1024x3328, .bf16⟩
  | .hbm, ⟨17, _⟩ => ⟨S3328x1024, .bf16⟩
  | .hbm, ⟨18, _⟩ => ⟨S8192x3328, .bf16⟩
  | .hbm, ⟨19, _⟩ => ⟨S8192x2560, .bf16⟩
  | .hbm, ⟨20, _⟩ => ⟨S2560x1024, .bf16⟩
  | .hbm, ⟨21, _⟩ => ⟨S8192x768, .bf16⟩
  | .hbm, ⟨22, _⟩ => ⟨S768x1024, .bf16⟩
  | .hbm, ⟨23, _⟩ => ⟨S1x1024, .f32⟩
  | .hbm, ⟨24, _⟩ => ⟨S8192x1024, .f32⟩
  | .hbm, ⟨25, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x768, .bf16⟩
  | .local _ .vmem, ⟨4, _⟩ => ⟨S512x768, .bf16⟩
  | .local _ .vmem, ⟨5, _⟩ => ⟨S768x1024, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference9Ideal.lean ====
abbrev S8192x1024 : Shape := ⟨2, ![8192, 1024]⟩
abbrev S1024 : Shape := ⟨1, ![1024]⟩
abbrev S1024x3328 : Shape := ⟨2, ![1024, 3328]⟩
abbrev S8192x3328 : Shape := ⟨2, ![8192, 3328]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S8192x3328, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3328, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x3328 : Shape := ⟨2, ![1024, 3328]⟩
abbrev S8192x3328 : Shape := ⟨2, ![8192, 3328]⟩
abbrev S8192x2560 : Shape := ⟨2, ![8192, 2560]⟩
abbrev S3328x1024 : Shape := ⟨2, ![3328, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | .hbm, ⟨3, _⟩ => ⟨S8192x3328, .bf16⟩
  | .hbm, ⟨4, _⟩ => ⟨S8192x2560, .bf16⟩
  | .hbm, ⟨5, _⟩ => ⟨S8192x1024, .bf16⟩
  | .hbm, ⟨6, _⟩ => ⟨S3328x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x3328 : Shape := ⟨2, ![1024, 3328]⟩
abbrev S8192x3328 : Shape := ⟨2, ![8192, 3328]⟩
abbrev S3328x1024 : Shape := ⟨2, ![3328, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | .hbm, ⟨3, _⟩ => ⟨S8192x3328, .f32⟩
  | .hbm, ⟨4, _⟩ => ⟨S3328x1024, .f32⟩
  | .hbm, ⟨5, _⟩ => ⟨S1024x3328, .f32⟩
  | .hbm, ⟨6, _⟩ => ⟨S3328x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S8192x512 : Shape := ⟨2, ![8192, 512]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x512, .f32⟩
  | .hbm, ⟨4, _⟩ => ⟨S8192x512, .bf16⟩
  | .hbm, ⟨5, _⟩ => ⟨S8192x1024, .bf16⟩
  | .hbm, ⟨6, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1024 : Shape := ⟨1, ![1024]⟩
abbrev S8192x512 : Shape := ⟨2, ![8192, 512]⟩
abbrev S512x1024 : Shape := ⟨2, ![512, 1024]⟩
abbrev S1x1024 : Shape := ⟨2, ![1, 1024]⟩
abbrev S8192x1 : Shape := ⟨2, ![8192, 1]⟩
abbrev S512x512 : Shape := ⟨2, ![512, 512]⟩
abbrev S512x1 : Shape := ⟨2, ![512, 1]⟩
abbrev S512 : Shape := ⟨1, ![512]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S8192x512, .bf16⟩
  | .hbm, ⟨7, _⟩ => ⟨S512x1024, .bf16⟩
  | .hbm, ⟨8, _⟩ => ⟨S8192x512, .bf16⟩
  | .hbm, ⟨9, _⟩ => ⟨S512x1024, .bf16⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference14Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel15.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x1, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference15Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1, .f32⟩
  | .hbm, ⟨76, _⟩ => ⟨S8192x1024, .bf16⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel16.lean ====
abbrev S8192x1024 : Shape := ⟨2, ![8192, 1024]⟩
abbrev S1024x3328 : Shape := ⟨2, ![1024, 3328]⟩
abbrev S8192x3328 : Shape := ⟨2, ![8192, 3328]⟩
abbrev S3328x1024 : Shape := ⟨2, ![3328, 1024]⟩
abbrev S8192x768 : Shape := ⟨2, ![8192, 768]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | .hbm, ⟨3, _⟩ => ⟨S3328x1024, .f32⟩
  | .hbm, ⟨4, _⟩ => ⟨S8192x3328, .bf16⟩
  | .hbm, ⟨5, _⟩ => ⟨S8192x768, .bf16⟩
  | .hbm, ⟨6, _⟩ => ⟨S8192x1024, .bf16⟩
  | .hbm, ⟨7, _⟩ => ⟨S3328x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  ![v0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x3328 : Shape := ⟨2, ![1024, 3328]⟩
abbrev S8192x3328 : Shape := ⟨2, ![8192, 3328]⟩
abbrev S3328x1024 : Shape := ⟨2, ![3328, 1024]⟩
abbrev S2560x1024 : Shape := ⟨2, ![2560, 1024]⟩
abbrev S768x1024 : Shape := ⟨2, ![768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | .hbm, ⟨3, _⟩ => ⟨S3328x1024, .f32⟩
  | .hbm, ⟨4, _⟩ => ⟨S8192x3328, .f32⟩
  | .hbm, ⟨5, _⟩ => ⟨S3328x1024, .f32⟩
  | .hbm, ⟨6, _⟩ => ⟨S1024x3328, .f32⟩
  | .hbm, ⟨7, _⟩ => ⟨S3328x1024, .f32⟩
  | .hbm, ⟨8, _⟩ => ⟨S2560x1024, .f32⟩
  | .hbm, ⟨9, _⟩ => ⟨S768x1024, .f32⟩
  | .hbm, ⟨10, _⟩ => ⟨S3328x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S8192x512 : Shape := ⟨2, ![8192, 512]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .hbm, ⟨4, _⟩ => ⟨S8192x512, .f32⟩
  | .hbm, ⟨5, _⟩ => ⟨S8192x512, .bf16⟩
  | .hbm, ⟨6, _⟩ => ⟨S8192x1024, .bf16⟩
  | .hbm, ⟨7, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel18.lean ====
abbrev S4x1024x416 : Shape := ⟨3, ![4, 1024, 416]⟩
abbrev S1024x416 : Shape := ⟨2, ![1024, 416]⟩
abbrev S4x256x416 : Shape := ⟨3, ![4, 256, 416]⟩
abbrev S256x416 : Shape := ⟨2, ![256, 416]⟩
abbrev S1x256x416 : Shape := ⟨3, ![1, 256, 416]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x416, .f32⟩
  | .hbm, ⟨1, _⟩ => ⟨S1024x416, .f32⟩
  | .hbm, ⟨2, _⟩ => ⟨S1024x416, .f32⟩
  | .hbm, ⟨3, _⟩ => ⟨S1024x416, .f32⟩
  | .hbm, ⟨4, _⟩ => ⟨S4x1024x416, .bf16⟩
  | .hbm, ⟨5, _⟩ => ⟨S1024x416, .f32⟩
  | .hbm, ⟨6, _⟩ => ⟨S1024x416, .f32⟩
  | .hbm, ⟨7, _⟩ => ⟨S1024x416, .f32⟩
  | .hbm, ⟨8, _⟩ => ⟨S1024x416, .f32⟩
  | .local _ .vmem, ⟨0, _⟩ => ⟨S4x256x416, .bf16⟩
  | .local _ .vmem, ⟨1, _⟩ => ⟨S4x256x416, .bf16⟩
  | .local _ .vmem, ⟨2, _⟩ => ⟨S256x416, .f32⟩
  | .local _ .vmem, ⟨3, _⟩ => ⟨S256x416, .f32⟩
  | .local _ .vmem, ⟨4, _⟩ => ⟨S256x416, .f32⟩
  | .local _ .vmem, ⟨5, _⟩ => ⟨S256x416, .f32⟩
  | .local _ .vmem, ⟨6, _⟩ => ⟨S256x416, .f32⟩
  | .local _ .vmem, ⟨7, _⟩ => ⟨S256x416, .f32⟩
  | .local _ .vmem, ⟨8, _⟩ => ⟨S256x416, .f32⟩
  | .local _ .vmem, ⟨9, _⟩ => ⟨S256x416, .f32⟩
  | .local _ .vmem, ⟨10, _⟩ => ⟨S256x416, .f32⟩
  | .local _ .vmem, ⟨11, _⟩ => ⟨S256x416, .f32⟩
  | .local _ .vmem, ⟨12, _⟩ => ⟨S256x416, .f32⟩
  | .local _ .vmem, ⟨13, _⟩ => ⟨S256x416, .f32⟩
  | .local _ .vmem, ⟨14, _⟩ => ⟨S256x416, .f32⟩
  | .local _ .vmem, ⟨15, _⟩ => ⟨S256x416, .f32⟩
  | _, _ => ⟨S4x1024x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x416 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x416 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x416 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x416 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x416 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4x1024x416 : Shape := ⟨3, ![4, 1024, 416]⟩
abbrev S1024x416 : Shape := ⟨2, ![1024, 416]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x416, .f32⟩
  | .hbm, ⟨1, _⟩ => ⟨S1024x416, .f32⟩
  | .hbm, ⟨2, _⟩ => ⟨S1024x416, .f32⟩
  | .hbm, ⟨3, _⟩ => ⟨S1024x416, .f32⟩
  | .hbm, ⟨4, _⟩ => ⟨S_, .f32⟩
  | .hbm, ⟨5, _⟩ => ⟨S1024x416, .f32⟩
  | .hbm, ⟨6, _⟩ => ⟨S_, .f32⟩
  | .hbm, ⟨7, _⟩ => ⟨S1024x416, .f32⟩
  | .hbm, ⟨8, _⟩ => ⟨S1024x416, .f32⟩
  | .hbm, ⟨9, _⟩ => ⟨S_, .f32⟩
  | .hbm, ⟨10, _⟩ => ⟨S1024x416, .f32⟩
  | .hbm, ⟨11, _⟩ => ⟨S1024x416, .f32⟩
  | .hbm, ⟨12, _⟩ => ⟨S1024x416, .f32⟩
  | .hbm, ⟨13, _⟩ => ⟨S_, .f32⟩
  | .hbm, ⟨14, _⟩ => ⟨S1024x416, .f32⟩
  | .hbm, ⟨15, _⟩ => ⟨S1024x416, .f32⟩
  | .hbm, ⟨16, _⟩ => ⟨S1024x416, .f32⟩
  | .hbm, ⟨17, _⟩ => ⟨S_, .f32⟩
  | .hbm, ⟨18, _⟩ => ⟨S1024x416, .f32⟩
  | .hbm, ⟨19, _⟩ => ⟨S1024x416, .f32⟩
  | .hbm, ⟨20, _⟩ => ⟨S1024x416, .f32⟩
  | .hbm, ⟨21, _⟩ => ⟨S_, .f32⟩
  | .hbm, ⟨22, _⟩ => ⟨S1024x416, .f32⟩
  | .hbm, ⟨23, _⟩ => ⟨S1024x416, .f32⟩
  | .hbm, ⟨24, _⟩ => ⟨S_, .f32⟩
  | .hbm, ⟨25, _⟩ => ⟨S1024x416, .f32⟩
  | .hbm, ⟨26, _⟩ => ⟨S1024x416, .f32⟩
  | .hbm, ⟨27, _⟩ => ⟨S1024x416, .f32⟩
  | .hbm, ⟨28, _⟩ => ⟨S_, .f32⟩
  | .hbm, ⟨29, _⟩ => ⟨S1024x416, .f32⟩
  | .hbm, ⟨30, _⟩ => ⟨S1024x416, .f32⟩
  | .hbm, ⟨31, _⟩ => ⟨S1024x416, .f32⟩
  | .hbm, ⟨32, _⟩ => ⟨S_, .f32⟩
  | .hbm, ⟨33, _⟩ => ⟨S1024x416, .f32⟩
  | .hbm, ⟨34, _⟩ => ⟨S1024x416, .f32⟩
  | .hbm, ⟨35, _⟩ => ⟨S1024x416, .f32⟩
  | .hbm, ⟨36, _⟩ => ⟨S_, .f32⟩
  | .hbm, ⟨37, _⟩ => ⟨S1024x416, .f32⟩
  | .hbm, ⟨38, _⟩ => ⟨S1024x416, .f32⟩
  | _, _ => ⟨S4x1024x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4x1024x704 : Shape := ⟨3, ![4, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S1x4x64 : Shape := ⟨3, ![1, 4, 64]⟩
abbrev S4x64 : Shape := ⟨2, ![4, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S4x64, .f32⟩
  | .local _ .vmem, ⟨0, _⟩ => ⟨S1x4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | .local _ .vmem, ⟨7, _⟩ => ⟨S4x64, .f32⟩
  | _, _ => ⟨S1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S1x4x64 : Shape := ⟨3, ![1, 4, 64]⟩
abbrev S4x64 : Shape := ⟨2, ![4, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S_, .f32⟩
  | .hbm, ⟨7, _⟩ => ⟨S4x64, .f32⟩
  | .hbm, ⟨8, _⟩ => ⟨S4x64, .f32⟩
  | .hbm, ⟨9, _⟩ => ⟨S_, .f32⟩
  | .hbm, ⟨10, _⟩ => ⟨S4x64, .f32⟩
  | .hbm, ⟨11, _⟩ => ⟨S4x64, .f32⟩
  | .hbm, ⟨12, _⟩ => ⟨S4x64, .f32⟩
  | .hbm, ⟨13, _⟩ => ⟨S_, .f32⟩
  | .hbm, ⟨14, _⟩ => ⟨S4x64, .f32⟩
  | .hbm, ⟨15, _⟩ => ⟨S4x64, .f32⟩
  | .hbm, ⟨16, _⟩ => ⟨S4x64, .f32⟩
  | .hbm, ⟨17, _⟩ => ⟨S_, .f32⟩
  | .hbm, ⟨18, _⟩ => ⟨S4x64, .f32⟩
  | .hbm, ⟨19, _⟩ => ⟨S4x64, .f32⟩
  | .hbm, ⟨20, _⟩ => ⟨S4x64, .f32⟩
  | .hbm, ⟨21, _⟩ => ⟨S_, .f32⟩
  | .hbm, ⟨22, _⟩ => ⟨S4x64, .f32⟩
  | .hbm, ⟨23, _⟩ => ⟨S4x64, .f32⟩
  | .hbm, ⟨24, _⟩ => ⟨S_, .f32⟩
  | .hbm, ⟨25, _⟩ => ⟨S4x64, .f32⟩
  | .hbm, ⟨26, _⟩ => ⟨S4x64, .f32⟩
  | .hbm, ⟨27, _⟩ => ⟨S4x64, .f32⟩
  | .hbm, ⟨28, _⟩ => ⟨S_, .f32⟩
  | .hbm, ⟨29, _⟩ => ⟨S4x64, .f32⟩
  | .hbm, ⟨30, _⟩ => ⟨S4x64, .f32⟩
  | .hbm, ⟨31, _⟩ => ⟨S4x64, .f32⟩
  | .hbm, ⟨32, _⟩ => ⟨S_, .f32⟩
  | .hbm, ⟨33, _⟩ => ⟨S4x64, .f32⟩
  | .hbm, ⟨34, _⟩ => ⟨S4x64, .f32⟩
  | .hbm, ⟨35, _⟩ => ⟨S4x64, .f32⟩
  | .hbm, ⟨36, _⟩ => ⟨S_, .f32⟩
  | .hbm, ⟨37, _⟩ => ⟨S4x64, .f32⟩
  | .hbm, ⟨38, _⟩ => ⟨S4x64, .f32⟩
  | _, _ => ⟨S1x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .hbm, ⟨4, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel25.lean ====
abbrev S2x2x512 : Shape := ⟨3, ![2, 2, 512]⟩
abbrev S4x512 : Shape := ⟨2, ![4, 512]⟩
abbrev S2x512 : Shape := ⟨2, ![2, 512]⟩
abbrev S1x512 : Shape := ⟨2, ![1, 512]⟩

abbrev nBuf : Space → Nat
  | .hbm => 3
  | .vmem => 2
  | .smem => 0
  | _ => 0

abbrev bufTy : (tb : Table) → Fin (tcTables nBuf tb) → BufTy
  | .hbm, ⟨0, _⟩ => ⟨S2x2x512, .f32⟩
  | .hbm, ⟨1, _⟩ => ⟨S4x512, .f32⟩
  | .hbm, ⟨2, _⟩ => ⟨S2x512, .f32⟩
  | .local _ .vmem, ⟨0, _⟩ => ⟨S4x512, .f32⟩
  | .local _ .vmem, ⟨1, _⟩ => ⟨S2x512, .f32⟩
  | _, _ => ⟨S2x2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference25Ideal.lean ====
abbrev S2x2x512 : Shape := ⟨3, ![2, 2, 512]⟩
abbrev S_ : Shape := ⟨0, ![]⟩
abbrev S2x512 : Shape := ⟨2, ![2, 512]⟩
abbrev S2x1x512 : Shape := ⟨3, ![2, 1, 512]⟩

abbrev nBuf : Space → Nat
  | .hbm => 17
  | .vmem => 0
  | .smem => 0
  | _ => 0

abbrev bufTy : (tb : Table) → Fin (tcTables nBuf tb) → BufTy
  | .hbm, ⟨0, _⟩ => ⟨S2x2x512, .f32⟩
  | .hbm, ⟨1, _⟩ => ⟨S_, .f32⟩
  | .hbm, ⟨2, _⟩ => ⟨S2x512, .f32⟩
  | .hbm, ⟨3, _⟩ => ⟨S_, .f32⟩
  | .hbm, ⟨4, _⟩ => ⟨S2x512, .f32⟩
  | .hbm, ⟨5, _⟩ => ⟨S2x512, .f32⟩
  | .hbm, ⟨6, _⟩ => ⟨S2x1x512, .f32⟩
  | .hbm, ⟨7, _⟩ => ⟨S2x2x512, .f32⟩
  | .hbm, ⟨8, _⟩ => ⟨S2x2x512, .f32⟩
  | .hbm, ⟨9, _⟩ => ⟨S2x2x512, .f32⟩
  | .hbm, ⟨10, _⟩ => ⟨S_, .f32⟩
  | .hbm, ⟨11, _⟩ => ⟨S2x512, .f32⟩
  | .hbm, ⟨12, _⟩ => ⟨S2x1x512, .f32⟩
  | .hbm, ⟨13, _⟩ => ⟨S2x2x512, .f32⟩
  | .hbm, ⟨14, _⟩ => ⟨S2x2x512, .f32⟩
  | .hbm, ⟨15, _⟩ => ⟨S2x1x512, .f32⟩
  | .hbm, ⟨16, _⟩ => ⟨S2x512, .f32⟩
  | _, _ => ⟨S2x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel26.lean ====
abbrev S2x512 : Shape := ⟨2, ![2, 512]⟩
abbrev S4x512 : Shape := ⟨2, ![4, 512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S4x512, .f32⟩
  | .local _ .vmem, ⟨0, _⟩ => ⟨S2x512, .f32⟩
  | .local _ .vmem, ⟨1, _⟩ => ⟨S2x512, .f32⟩
  | .local _ .vmem, ⟨2, _⟩ => ⟨S4x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference26Ideal.lean ====
abbrev S2x512 : Shape := ⟨2, ![2, 512]⟩
abbrev S_ : Shape := ⟨0, ![]⟩
abbrev S2x1x512 : Shape := ⟨3, ![2, 1, 512]⟩
abbrev S2x2x512 : Shape := ⟨3, ![2, 2, 512]⟩
abbrev S4x512 : Shape := ⟨2, ![4, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S_, .f32⟩
  | .hbm, ⟨3, _⟩ => ⟨S2x512, .f32⟩
  | .hbm, ⟨4, _⟩ => ⟨S2x512, .f32⟩
  | .hbm, ⟨5, _⟩ => ⟨S2x1x512, .f32⟩
  | .hbm, ⟨6, _⟩ => ⟨S2x1x512, .f32⟩
  | .hbm, ⟨7, _⟩ => ⟨S2x2x512, .f32⟩
  | .hbm, ⟨8, _⟩ => ⟨S_, .f32⟩
  | .hbm, ⟨9, _⟩ => ⟨S2x512, .f32⟩
  | .hbm, ⟨10, _⟩ => ⟨S2x1x512, .f32⟩
  | .hbm, ⟨11, _⟩ => ⟨S2x1x512, .f32⟩
  | .hbm, ⟨12, _⟩ => ⟨S2x2x512, .f32⟩
  | .hbm, ⟨13, _⟩ => ⟨S2x2x512, .f32⟩
  | .hbm, ⟨14, _⟩ => ⟨S_, .f32⟩
  | .hbm, ⟨15, _⟩ => ⟨S2x512, .f32⟩
  | .hbm, ⟨16, _⟩ => ⟨S2x1x512, .f32⟩
  | .hbm, ⟨17, _⟩ => ⟨S2x2x512, .f32⟩
  | .hbm, ⟨18, _⟩ => ⟨S2x2x512, .f32⟩
  | .hbm, ⟨19, _⟩ => ⟨S2x2x512, .f32⟩
  | .hbm, ⟨20, _⟩ => ⟨S4x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.FlashPay.lean ====
/-
  The values that one trip of the backward kernel's loop computes, read at an index over the extended reals: the
  probabilities of a block of keys, the gradient of their scores, and the three sums that the trip adds to.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe
open Cert.KernelIdeal Cert.KernelIdeal.Gen

namespace Cert.Proof.Flash

/-- The probability of key `a` for query column `r`, from a block of keys, the scaled queries and the logarithms of
    the sums. -/
def prob (K : Fin 64 → Fin 512 → EReal) (Q : Fin 64 → Fin 2048 → EReal) (L : Fin 2048 → EReal) (a : Fin 512) (r : Fin 2048) : EReal :=
  Ideal.exp2 ((∑ d : Fin 64, K d a * Q d r) - L r)

/-- The gradient of the score of key `a` for query column `r`. -/
def dscore (K V : Fin 64 → Fin 512 → EReal) (Q O : Fin 64 → Fin 2048 → EReal) (L D : Fin 2048 → EReal) (a : Fin 512) (r : Fin 2048) : EReal :=
  prob K Q L a r * ((∑ d : Fin 64, V d a * O d r) - D r)

/-- A block of one member and one row of columns, by feature and column. -/
abbrev cols (X : Vec Ideal S1x1x64x2048 .bf16) (d : Fin 64) (r : Fin 2048) : EReal := X (ix4 0 0 d r)
/-- One row of numbers, by column. -/
abbrev row (X : Vec Ideal S1x1x1x2048 .f32) (r : Fin 2048) : EReal := X (ix4 0 0 0 r)
/-- One block of keys or values, by feature and key. -/
abbrev tile (X : Vec Ideal S1x1x64x512 .bf16) (d : Fin 64) (a : Fin 512) : EReal := X (ix4 0 0 d a)

variable (q g' : Vec Ideal S1x1x64x2048 .bf16) (l dl : Vec Ideal S1x1x1x2048 .f32) (k v : Vec Ideal S1x1x64x512 .bf16)

theorem pay10_at (a : Fin 512) (r : Fin 2048) :
    k0_pay10 (F := Ideal) (k0_pay3 q) (k0_pay5 l) k (ix2 a r) = prob (tile k) (cols q) (row l) a r := by
  unfold prob
  pointwise [k0_pay10, k0_pay3, k0_pay5]
  rfl

theorem pay11_at (a : Fin 512) (r : Fin 2048) :
    k0_pay11 (F := Ideal) (k0_pay3 q) (k0_pay4 g') (k0_pay5 l) (k0_pay6 dl) k v (ix2 a r)
      = dscore (tile k) (tile v) (cols q) (cols g') (row l) (row dl) a r := by
  unfold dscore
  rw [← pay10_at]
  pointwise [k0_pay11, k0_pay4, k0_pay6]

theorem pay12_at (g : Vec Ideal S64x2048 .f32) (d : Fin 64) (r : Fin 2048) :
    k0_pay12 (F := Ideal) (k0_pay3 q) (k0_pay4 g') (k0_pay5 l) (k0_pay6 dl) k v g k (ix2 d r)
      = g (ix2 d r) + ∑ a : Fin 512, tile k d a * dscore (tile k) (tile v) (cols q) (cols g') (row l) (row dl) a r := by
  simp only [← pay11_at]
  pointwise [k0_pay12]

theorem pay13_at (g : Vec Ideal S1x1x64x512 .f32) (x y : Fin 1) (d : Fin 64) (a : Fin 512) :
    k0_pay13 (F := Ideal) (k0_pay3 q) (k0_pay4 g') (k0_pay5 l) (k0_pay6 dl) k v g (ix4 x y d a)
      = g (ix4 x y d a) + ∑ r : Fin 2048, cols q d r * dscore (tile k) (tile v) (cols q) (cols g') (row l) (row dl) a r := by
  obtain rfl := Fin.fin_one_eq_zero x
  obtain rfl := Fin.fin_one_eq_zero y
  simp only [← pay11_at]
  pointwise [k0_pay13, k0_pay3]

theorem pay8_at (g : Vec Ideal S1x1x64x512 .f32) (x y : Fin 1) (d : Fin 64) (a : Fin 512) :
    k0_pay8 (F := Ideal) g' (k0_pay10 (F := Ideal) (k0_pay3 q) (k0_pay5 l) k) g (ix4 x y d a)
      = g (ix4 x y d a) + ∑ r : Fin 2048, cols g' d r * prob (tile k) (cols q) (row l) a r := by
  obtain rfl := Fin.fin_one_eq_zero x
  obtain rfl := Fin.fin_one_eq_zero y
  simp only [← pay10_at]
  pointwise [k0_pay8, k0_pay4]

theorem pay9_at (g : Vec Ideal S64x2048 .f32) (x y : Fin 1) (d : Fin 64) (r : Fin 2048) :
    k0_pay9 (F := Ideal) g (ix4 x y d r) = g (ix2 d r) := by
  pointwise [k0_pay9]

end Cert.Proof.Flash
-- ==== Proof.FlashTrip.lean ====
/-
  The loop of the backward kernel read as sums: what its three written buffers hold after any number of trips, from
  what they held before the first. A trip stores three rectangles; the accumulator is stored whole, and the gradients
  of the keys and of the values are stored one block of keys each.
-/
module

public import proofs.«01_k».proof.Proof.Gen.KernelIdeal.Loops
public import proofs.«01_k».proof.Proof.FlashPay
public import Idealize.ShloMosaic.Lib.WritesUnit
public import Idealize.ShloMosaic.Lib.VecWindow

@[expose] public section

set_option maxRecDepth 16384

noncomputable section

open Idealize.ShloMosaic Idealize.ShloMosaic.TcCoe Idealize.ShloMosaic.Tactic
open Cert.KernelIdeal Cert.KernelIdeal.Gen

namespace Cert.Proof.Flash

/-- Block `j` of the sixteen blocks of keys or values, by feature and key. -/
abbrev tileOf (X : Vec Ideal S1x16x64x512 .bf16) (j : Fin 16) (d : Fin 64) (a : Fin 512) : EReal := X (ix4 0 j d a)

section sums
variable (q o : Vec Ideal S1x1x64x2048 .bf16) (l dl : Vec Ideal S1x1x1x2048 .f32) (k v : Vec Ideal S1x16x64x512 .bf16)

/-- What block `j` of keys adds to the gradient of the queries. -/
def addQ (j : Fin 16) (d : Fin 64) (r : Fin 2048) : EReal :=
  ∑ a : Fin 512, tileOf k j d a * dscore (tileOf k j) (tileOf v j) (cols q) (cols o) (row l) (row dl) a r
/-- What this block of queries adds to the gradient of block `j` of the keys. -/
def addK (j : Fin 16) (d : Fin 64) (a : Fin 512) : EReal :=
  ∑ r : Fin 2048, cols q d r * dscore (tileOf k j) (tileOf v j) (cols q) (cols o) (row l) (row dl) a r
/-- What this block of queries adds to the gradient of block `j` of the values. -/
def addV (j : Fin 16) (d : Fin 64) (a : Fin 512) : EReal :=
  ∑ r : Fin 2048, cols o d r * prob (tileOf k j) (cols q) (row l) a r
end sums

/-- A trip's number among sixteen. -/
def tripIx (k : Fin k0_t1_loop.trips) : Fin 16 := ⟨k.val, Nat.lt_of_lt_of_le k.isLt k0_t1_abs.2.1⟩

theorem trips_eq : k0_t1_loop.trips = 16 := by decide +kernel

section trip
variable {F : FTy → Type} [FloatOps F]
variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole)
  (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole)
  (v3 v5 : Vec F S1x1x64x2048 .bf16) (v7 v9 : Vec F S1x1x1x2048 .f32)
  (X3 : BufTy.Contents (Elt F) arg3.view.ty) (X4 : BufTy.Contents (Elt F) arg4.view.ty)
  (k : Fin k0_t1_loop.trips)
  (f9 : BufTy.Contents (Elt F) arg9.view.ty) (f10 : BufTy.Contents (Elt F) arg10.view.ty) (f11 : BufTy.Contents (Elt F) arg11.view.ty)

/-- The rectangle of the trip's block. -/
abbrev blk (k : Fin k0_t1_loop.trips) : Rect S1x16x64x512 := Rect.unit (s := S1x16x64x512) (k0_off1 k) S1x1x64x512.size (k0_off1_inb k)

theorem trip_dk : (trip_k0_t1 (F := F) 𝒱 c bd i arg2 harg2 arg3 harg3 arg4 harg4 arg5 harg5 arg6 harg6 arg7 harg7 arg8 harg8 arg9 harg9 arg10 harg10 arg11 harg11 v3 v5 v7 v9 X3 X4 k).1 f9 f10 f11
    = [⟨blk k, k0_pay13 (k0_pay3 v3) (k0_pay4 v5) (k0_pay5 v7) (k0_pay6 v9) (arg3.view.readAt (Elt F) (blk k).toLoadRect X3)
        (arg4.view.readAt (Elt F) (blk k).toLoadRect X4) (arg9.view.readAt (Elt F) (blk k).toLoadRect f9)⟩] := by
  unfold trip_k0_t1
  dsimp only

theorem trip_dv : (trip_k0_t1 (F := F) 𝒱 c bd i arg2 harg2 arg3 harg3 arg4 harg4 arg5 harg5 arg6 harg6 arg7 harg7 arg8 harg8 arg9 harg9 arg10 harg10 arg11 harg11 v3 v5 v7 v9 X3 X4 k).2.1 f9 f10 f11
    = [⟨blk k, k0_pay8 v5 (k0_pay10 (k0_pay3 v3) (k0_pay5 v7) (arg3.view.readAt (Elt F) (blk k).toLoadRect X3))
        (arg10.view.readAt (Elt F) (blk k).toLoadRect f10)⟩] := by
  unfold trip_k0_t1
  dsimp only
  sl_unfold_words
  rfl

theorem trip_acc : (trip_k0_t1 (F := F) 𝒱 c bd i arg2 harg2 arg3 harg3 arg4 harg4 arg5 harg5 arg6 harg6 arg7 harg7 arg8 harg8 arg9 harg9 arg10 harg10 arg11 harg11 v3 v5 v7 v9 X3 X4 k).2.2.1 f9 f10 f11
    = [⟨Rect.unit (s := S64x2048) ![0, 0] S64x2048.size inb_S64x2048_S64x2048_0_0,
        k0_pay12 (k0_pay3 v3) (k0_pay4 v5) (k0_pay5 v7) (k0_pay6 v9) (arg3.view.readAt (Elt F) (blk k).toLoadRect X3)
        (arg4.view.readAt (Elt F) (blk k).toLoadRect X4)
        (arg11.view.readAt (Elt F) (Rect.unit (s := S64x2048) ![0, 0] S64x2048.size inb_S64x2048_S64x2048_0_0).toLoadRect f11)
        (arg3.view.readAt (Elt F) (blk k).toLoadRect X3)⟩] := by
  unfold trip_k0_t1
  dsimp only
end trip

/-- A load of the trip's block reads the block of what the buffer holds. -/
theorem read_blk {e : EltTy} (m : Memref sig .tc .vmem S1x16x64x512 e) (f : BufTy.Contents (Elt Ideal) m.view.ty)
    (k : Fin k0_t1_loop.trips) (d : Fin 64) (a : Fin 512) :
    m.view.readAt (Elt Ideal) (blk k).toLoadRect f (ix4 0 0 d a) = m.view.read (Elt Ideal) f (ix4 0 (tripIx k) d a) := by
  rw [View.readAt_apply]
  refine congrArg (m.view.read (Elt Ideal) f) (funext fun x => Fin.ext ?_)
  show k0_off1 k x + 1 * ((ix4 (0 : Fin 1) (0 : Fin 1) d a : S1x1x64x512.Idx) x).val = _
  rw [k0_off1_eq]
  match x with
  | ⟨0, _⟩ => rfl
  | ⟨1, _⟩ => exact Nat.add_zero _
  | ⟨2, _⟩ => show 0 + 1 * d.val = d.val; omega
  | ⟨3, _⟩ => show 0 + 1 * a.val = a.val; omega

section loop
variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole)
  (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole)
  (v3 v5 : Vec Ideal S1x1x64x2048 .bf16) (v7 v9 : Vec Ideal S1x1x1x2048 .f32)
  (X3 : BufTy.Contents (Elt Ideal) arg3.view.ty) (X4 : BufTy.Contents (Elt Ideal) arg4.view.ty)
  (G9 : BufTy.Contents (Elt Ideal) arg9.view.ty) (G10 : BufTy.Contents (Elt Ideal) arg10.view.ty) (G11 : BufTy.Contents (Elt Ideal) arg11.view.ty)

/-- What the three written buffers hold after `n` trips. -/
theorem loop_reads (n : ℕ) (hn : n ≤ 16) :
    (∀ (j : Fin 16) (d : Fin 64) (a : Fin 512),
      arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 n).1) (ix4 0 j d a)
        = arg9.view.read (Elt Ideal) G9 (ix4 0 j d a) + if j.val < n then addK v3 v5 v7 v9 (arg3.view.read (Elt Ideal) X3) (arg4.view.read (Elt Ideal) X4) j d a else 0)
    ∧ (∀ (j : Fin 16) (d : Fin 64) (a : Fin 512),
      arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 n).2.1) (ix4 0 j d a)
        = arg10.view.read (Elt Ideal) G10 (ix4 0 j d a) + if j.val < n then addV v3 v5 v7 (arg3.view.read (Elt Ideal) X3) j d a else 0)
    ∧ (∀ (d : Fin 64) (r : Fin 2048),
      arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 n).2.2) (ix2 d r)
        = arg11.view.read (Elt Ideal) G11 (ix2 d r)
          + ∑ j : Fin 16, if j.val < n then addQ v3 v5 v7 v9 (arg3.view.read (Elt Ideal) X3) (arg4.view.read (Elt Ideal) X4) j d r else 0) := by
  induction n with
  | zero =>
    rw [pb_k0_t1.eq_1]
    simp
  | succ n ih =>
    obtain ⟨ih9, ih10, ih11⟩ := ih (Nat.le_of_succ_le hn)
    have hk : n < k0_t1_loop.trips := by rw [trips_eq]; omega
    have hs := pb_k0_t1_succ (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 ⟨n, hk⟩
    have e3 : tile (arg3.view.readAt (Elt Ideal) (blk ⟨n, hk⟩).toLoadRect X3) = tileOf (arg3.view.read (Elt Ideal) X3) ⟨n, hn⟩ := by
      funext d a; exact read_blk arg3 X3 ⟨n, hk⟩ d a
    have e4 : tile (arg4.view.readAt (Elt Ideal) (blk ⟨n, hk⟩).toLoadRect X4) = tileOf (arg4.view.read (Elt Ideal) X4) ⟨n, hn⟩ := by
      funext d a; exact read_blk arg4 X4 ⟨n, hk⟩ d a
    dsimp only [tripL_k0_t1] at hs
    rw [trip_dk, trip_dv, trip_acc] at hs
    dsimp only at hs
    rw [hs]
    dsimp only
    refine ⟨fun j d a => ?_, fun j d a => ?_, fun d r => ?_⟩
    · rw [List.singleton_append]
      by_cases hj : j.val = n
      · obtain rfl : j = ⟨n, hn⟩ := Fin.ext hj
        rw [View.read_writes_cons_unit_of_mem arg9.view G9 (k0_off1_inb ⟨n, hk⟩) _ _ (ix4 0 ⟨n, hn⟩ d a) (ix4 0 0 d a) (k0_off1_eq ⟨n, hk⟩)
          (fun x => by
            match x with
            | ⟨0, _⟩ => rfl
            | ⟨1, _⟩ => rfl
            | ⟨2, _⟩ => exact (Nat.zero_add _).symm
            | ⟨3, _⟩ => exact (Nat.zero_add _).symm)]
        rw [pay13_at, e3, e4, read_blk]
        show arg9.view.read (Elt Ideal) _ (ix4 0 ⟨n, hn⟩ d a) + _ = _
        rw [ih9, if_neg (lt_irrefl n), if_pos (Nat.lt_succ_self n), add_zero]
        rfl
      · rw [View.read_writes_cons_unit_of_not_mem arg9.view G9 (k0_off1_inb ⟨n, hk⟩) _ _ (ix4 0 j d a) (k0_off1_eq ⟨n, hk⟩) (1 : Fin 4)
          (by show j.val < n ∨ n + 1 ≤ j.val; omega), ih9]
        congr 1
        exact if_congr (by omega) rfl rfl
    · rw [List.singleton_append]
      by_cases hj : j.val = n
      · obtain rfl : j = ⟨n, hn⟩ := Fin.ext hj
        rw [View.read_writes_cons_unit_of_mem arg10.view G10 (k0_off1_inb ⟨n, hk⟩) _ _ (ix4 0 ⟨n, hn⟩ d a) (ix4 0 0 d a) (k0_off1_eq ⟨n, hk⟩)
          (fun x => by
            match x with
            | ⟨0, _⟩ => rfl
            | ⟨1, _⟩ => rfl
            | ⟨2, _⟩ => exact (Nat.zero_add _).symm
            | ⟨3, _⟩ => exact (Nat.zero_add _).symm)]
        rw [pay8_at, e3, read_blk]
        show arg10.view.read (Elt Ideal) _ (ix4 0 ⟨n, hn⟩ d a) + _ = _
        rw [ih10, if_neg (lt_irrefl n), if_pos (Nat.lt_succ_self n), add_zero]
        rfl
      · rw [View.read_writes_cons_unit_of_not_mem arg10.view G10 (k0_off1_inb ⟨n, hk⟩) _ _ (ix4 0 j d a) (k0_off1_eq ⟨n, hk⟩) (1 : Fin 4)
          (by show j.val < n ∨ n + 1 ≤ j.val; omega), ih10]
        congr 1
        exact if_congr (by omega) rfl rfl
    · rw [List.singleton_append]
      rw [View.read_writes_cons_unit_of_mem arg11.view G11 inb_S64x2048_S64x2048_0_0 _ _ (ix2 d r) (ix2 d r) rfl
          (fun x => by
            match x with
            | ⟨0, _⟩ => exact (Nat.zero_add _).symm
            | ⟨1, _⟩ => exact (Nat.zero_add _).symm)]
      rw [pay12_at, e3, e4, View.readAt_full, ih11, add_assoc]
      congr 1
      have hsum : (∑ j : Fin 16, if j.val < n + 1 then addQ v3 v5 v7 v9 (arg3.view.read (Elt Ideal) X3) (arg4.view.read (Elt Ideal) X4) j d r else 0)
          = (∑ j : Fin 16, if j.val < n then addQ v3 v5 v7 v9 (arg3.view.read (Elt Ideal) X3) (arg4.view.read (Elt Ideal) X4) j d r else 0)
            + addQ v3 v5 v7 v9 (arg3.view.read (Elt Ideal) X3) (arg4.view.read (Elt Ideal) X4) ⟨n, hn⟩ d r := by
        rw [← Finset.sum_ite_eq' Finset.univ (⟨n, hn⟩ : Fin 16) (fun j => addQ v3 v5 v7 v9 (arg3.view.read (Elt Ideal) X3) (arg4.view.read (Elt Ideal) X4) j d r)
          |>.trans (if_pos (Finset.mem_univ _)), ← Finset.sum_add_distrib]
        refine Finset.sum_congr rfl fun j _ => ?_
        by_cases h1 : j.val < n
        · rw [if_pos h1, if_pos (by omega), if_neg (fun h => by rw [h] at h1; exact lt_irrefl n h1), add_zero]
        · by_cases h2 : j = ⟨n, hn⟩
          · rw [if_neg h1, if_pos h2, if_pos (by rw [h2]; exact Nat.lt_succ_self n), zero_add]
          · rw [if_neg h1, if_neg h2, if_neg (fun h => h2 (Fin.ext (by show j.val = n; omega))), add_zero]
      rw [hsum]
      rfl

/-- What the three written buffers hold after the whole loop. -/
theorem loop_all :
    (∀ (j : Fin 16) (d : Fin 64) (a : Fin 512),
      arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 k0_t1_loop.trips).1) (ix4 0 j d a)
        = arg9.view.read (Elt Ideal) G9 (ix4 0 j d a) + addK v3 v5 v7 v9 (arg3.view.read (Elt Ideal) X3) (arg4.view.read (Elt Ideal) X4) j d a)
    ∧ (∀ (j : Fin 16) (d : Fin 64) (a : Fin 512),
      arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 k0_t1_loop.trips).2.1) (ix4 0 j d a)
        = arg10.view.read (Elt Ideal) G10 (ix4 0 j d a) + addV v3 v5 v7 (arg3.view.read (Elt Ideal) X3) j d a)
    ∧ (∀ (d : Fin 64) (r : Fin 2048),
      arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 v3 v5 v7 v9 X3 X4 G9 G10 G11 k0_t1_loop.trips).2.2) (ix2 d r)
        = arg11.view.read (Elt Ideal) G11 (ix2 d r)
          + ∑ j : Fin 16, addQ v3 v5 v7 v9 (arg3.view.read (Elt Ideal) X3) (arg4.view.read (Elt Ideal) X4) j d r) := by
  rw [trips_eq]
  have h := loop_reads 𝒱 c bd i arg2 harg2 arg3 harg3 arg4 harg4 arg5 harg5 arg6 harg6 arg7 harg7 arg8 harg8 arg9 harg9 arg10 harg10 arg11 harg11 v3 v5 v7 v9 X3 X4 G9 G10 G11 16 le_rfl
  refine ⟨fun j d a => ?_, fun j d a => ?_, fun d r => ?_⟩
  · rw [h.1 j d a, if_pos j.isLt]
  · rw [h.2.1 j d a, if_pos j.isLt]
  · rw [h.2.2 d r]
    exact congrArg _ (Finset.sum_congr rfl fun (j : Fin 16) _ => if_pos j.isLt)
end loop

end Cert.Proof.Flash
-- ==== Proof.FlashOut.lean ====
/-
  What one grid point of the backward kernel leaves in its three output blocks, from the six blocks it reads: the
  block of the queries' gradient is a sum over all keys; the blocks of the keys' and values' gradients are set at the
  first block of queries and added to at the others.
-/
module

public import proofs.«01_k».proof.Proof.Gen.KernelIdeal.Value
public import proofs.«01_k».proof.Proof.FlashTrip

@[expose] public section

set_option maxRecDepth 16384

noncomputable section

open Idealize.ShloMosaic Idealize.ShloMosaic.TcCoe Idealize.ShloMosaic.Tactic
open Cert.KernelIdeal Cert.KernelIdeal.Gen

namespace Cert.Proof.Flash

/-- A load of a whole buffer reads what it holds. -/
theorem load4 {s : Shape} {e : EltTy} (m : Memref sig .tc .vmem s e) (h : m.IsWhole) (x : Vec Ideal s e) {off : Fin s.rank → ℕ}
    {inb : ∀ a, off a + s.size a ≤ s.size a} :
    m.view.readAt (Elt Ideal) (Rect.unit off s.size inb).toLoadRect (h.unread x) = x := by
  rw [View.readAt_full, h.read_unread]

theorem pay1_at (y : S1x16x64x512.Idx) : k0_pay1 (F := Ideal) y = 0 := by
  pointwise [k0_pay1]
theorem pay2_at (y : S1x16x64x512.Idx) : k0_pay2 (F := Ideal) y = 0 := by
  pointwise [k0_pay2]
theorem pay7_at (y : S64x2048.Idx) : k0_pay7 (F := Ideal) y = 0 := by
  pointwise [k0_pay7]

theorem zeros_7 (m : Memref sig .tc .vmem S1x16x64x512 .f32) (f : BufTy.Contents (Elt Ideal) m.view.ty) (j : Fin 16) (d : Fin 64) (a : Fin 512) :
    m.view.read (Elt Ideal) (m.view.writes (Elt Ideal) f
      [⟨Rect.unit ![0, 0, 0, 0] S1x16x64x512.size inb_S1x16x64x512_S1x16x64x512_0_0_0_0, k0_pay1 (F := Ideal)⟩]) (ix4 0 j d a) = 0 := by
  rw [View.read_writes_cons_unit_of_mem m.view f inb_S1x16x64x512_S1x16x64x512_0_0_0_0 _ _ (ix4 0 j d a) (ix4 0 j d a) rfl
    (fun x => by match x with | ⟨0, _⟩ => exact (Nat.zero_add _).symm | ⟨1, _⟩ => exact (Nat.zero_add _).symm | ⟨2, _⟩ => exact (Nat.zero_add _).symm | ⟨3, _⟩ => exact (Nat.zero_add _).symm), pay1_at]
theorem zeros_8 (m : Memref sig .tc .vmem S1x16x64x512 .f32) (f : BufTy.Contents (Elt Ideal) m.view.ty) (j : Fin 16) (d : Fin 64) (a : Fin 512) :
    m.view.read (Elt Ideal) (m.view.writes (Elt Ideal) f
      [⟨Rect.unit ![0, 0, 0, 0] S1x16x64x512.size inb_S1x16x64x512_S1x16x64x512_0_0_0_0, k0_pay2 (F := Ideal)⟩]) (ix4 0 j d a) = 0 := by
  rw [View.read_writes_cons_unit_of_mem m.view f inb_S1x16x64x512_S1x16x64x512_0_0_0_0 _ _ (ix4 0 j d a) (ix4 0 j d a) rfl
    (fun x => by match x with | ⟨0, _⟩ => exact (Nat.zero_add _).symm | ⟨1, _⟩ => exact (Nat.zero_add _).symm | ⟨2, _⟩ => exact (Nat.zero_add _).symm | ⟨3, _⟩ => exact (Nat.zero_add _).symm), pay2_at]
theorem zeros_11 (m : Memref sig .tc .vmem S64x2048 .f32) (f : BufTy.Contents (Elt Ideal) m.view.ty) (d : Fin 64) (r : Fin 2048) :
    m.view.read (Elt Ideal) (m.view.writes (Elt Ideal) f
      [⟨Rect.unit ![0, 0] S64x2048.size inb_S64x2048_S64x2048_0_0, k0_pay7 (F := Ideal)⟩]) (ix2 d r) = 0 := by
  rw [View.read_writes_cons_unit_of_mem m.view f inb_S64x2048_S64x2048_0_0 _ _ (ix2 d r) (ix2 d r) rfl
    (fun x => by match x with | ⟨0, _⟩ => exact (Nat.zero_add _).symm | ⟨1, _⟩ => exact (Nat.zero_add _).symm), pay7_at]

section case_a
variable (c : Dev nD) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole)
  (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole)
  (x0 : Vec Ideal S1x1x64x2048 .bf16) (x1 x2 : Vec Ideal S1x16x64x512 .bf16) (x3 : Vec Ideal S1x1x64x2048 .bf16) (x4 x5 : Vec Ideal S1x1x1x2048 .f32)
  (hc : cond0_0 i)

/-- What a point leaves in the block of the gradient of the keys. -/
theorem out_a_7 (j : Fin 16) (d : Fin 64) (a : Fin 512) : out0_A_7 (F := Ideal) c i arg2 harg2 arg3 harg3 arg4 harg4 arg5 harg5 arg6 harg6 arg7 harg7 arg8 harg8 arg9 harg9 arg10 harg10 arg11 harg11 hc x0 x1 x2 x3 x4 x5 (ix4 0 j d a)
    = addK x0 x3 x4 x5 x1 x2 j d a := by
  have hcov := cover0_A_7 (F := Ideal) c i arg2 harg2 arg3 harg3 arg4 harg4 arg5 harg5 arg6 harg6 arg7 harg7 arg8 harg8 arg9 harg9 arg10 harg10 arg11 harg11 hc x0 x1 x2 x3 x4 x5
  unfold out0_A_7
  rw [View.read_writes_eq_canon _ _ _ hcov, ← View.read_writes_eq_canon arg9.view arg9.view.junk _ hcov]
  unfold kernelRun0_A
  dsimp only
  sl_unfold_words
  rw [load4 arg2 harg2 x0, load4 arg5 harg5 x3, load4 arg6 harg6 x4, load4 arg7 harg7 x5]
  rw [View.writes_append]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).1 j d a).trans ?_
  rw [zeros_7, harg3.read_unread, harg4.read_unread, zero_add]

/-- What a point leaves in the block of the gradient of the values. -/
theorem out_a_8 (j : Fin 16) (d : Fin 64) (a : Fin 512) : out0_A_8 (F := Ideal) c i arg2 harg2 arg3 harg3 arg4 harg4 arg5 harg5 arg6 harg6 arg7 harg7 arg8 harg8 arg9 harg9 arg10 harg10 arg11 harg11 hc x0 x1 x2 x3 x4 x5 (ix4 0 j d a)
    = addV x0 x3 x4 x1 j d a := by
  have hcov := cover0_A_8 (F := Ideal) c i arg2 harg2 arg3 harg3 arg4 harg4 arg5 harg5 arg6 harg6 arg7 harg7 arg8 harg8 arg9 harg9 arg10 harg10 arg11 harg11 hc x0 x1 x2 x3 x4 x5
  unfold out0_A_8
  rw [View.read_writes_eq_canon _ _ _ hcov, ← View.read_writes_eq_canon arg10.view arg10.view.junk _ hcov]
  unfold kernelRun0_A
  dsimp only
  sl_unfold_words
  rw [load4 arg2 harg2 x0, load4 arg5 harg5 x3, load4 arg6 harg6 x4, load4 arg7 harg7 x5]
  rw [View.writes_append]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).2.1 j d a).trans ?_
  rw [zeros_8, harg3.read_unread, zero_add]

/-- What a point leaves in the block of the gradient of the queries. -/
theorem out_a_6 (d : Fin 64) (r : Fin 2048) : out0_A_6 (F := Ideal) c i arg2 harg2 arg3 harg3 arg4 harg4 arg5 harg5 arg6 harg6 arg7 harg7 arg8 harg8 arg9 harg9 arg10 harg10 arg11 harg11 hc x0 x1 x2 x3 x4 x5 (ix4 0 0 d r)
    = ∑ j : Fin 16, addQ x0 x3 x4 x5 x1 x2 j d r := by
  unfold out0_A_6 kernelRun0_A
  dsimp only
  sl_unfold_words
  rw [load4 arg2 harg2 x0, load4 arg5 harg5 x3, load4 arg6 harg6 x4, load4 arg7 harg7 x5]
  rw [View.read_writes_cons_unit_of_mem VO0_6 VO0_6.junk inb_S1x1x64x2048_S1x1x64x2048_0_0_0_0 _ _ (ix4 0 0 d r) (ix4 0 0 d r) rfl
    (fun x => by match x with | ⟨0, _⟩ => exact (Nat.zero_add _).symm | ⟨1, _⟩ => exact (Nat.zero_add _).symm | ⟨2, _⟩ => exact (Nat.zero_add _).symm | ⟨3, _⟩ => exact (Nat.zero_add _).symm)]
  rw [pay9_at, View.readCov, View.readAt_full, View.writes_append]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).2.2 d r).trans ?_
  rw [zeros_11, harg3.read_unread, harg4.read_unread, zero_add]
end case_a

section case_b
variable (c : Dev nD) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole)
  (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole)
  (x0 : Vec Ideal S1x1x64x2048 .bf16) (x1 x2 : Vec Ideal S1x16x64x512 .bf16) (x3 : Vec Ideal S1x1x64x2048 .bf16) (x4 x5 : Vec Ideal S1x1x1x2048 .f32)
  (hc : ¬cond0_0 i) (x7 x8 : Vec Ideal S1x16x64x512 .f32)

/-- What a point leaves in the block of the gradient of the keys. -/
theorem out_b_7 (j : Fin 16) (d : Fin 64) (a : Fin 512) : out0_B_7 (F := Ideal) c i arg2 harg2 arg3 harg3 arg4 harg4 arg5 harg5 arg6 harg6 arg7 harg7 arg8 harg8 arg9 harg9 arg10 harg10 arg11 harg11 hc x0 x1 x2 x3 x4 x5 x7 x8 (ix4 0 j d a)
    = x7 (ix4 0 j d a) + addK x0 x3 x4 x5 x1 x2 j d a := by
  have hcov := cover0_B_7 (F := Ideal) c i arg2 harg2 arg3 harg3 arg4 harg4 arg5 harg5 arg6 harg6 arg7 harg7 arg8 harg8 arg9 harg9 arg10 harg10 arg11 harg11 hc x0 x1 x2 x3 x4 x5 x7 x8
  unfold out0_B_7
  rw [View.read_writes_eq_canon _ _ _ hcov, ← View.read_writes_eq_canon arg9.view (harg9.unread x7) _ hcov]
  unfold kernelRun0_B
  dsimp only
  sl_unfold_words
  rw [load4 arg2 harg2 x0, load4 arg5 harg5 x3, load4 arg6 harg6 x4, load4 arg7 harg7 x5]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).1 j d a).trans ?_
  rw [harg3.read_unread, harg4.read_unread, harg9.read_unread]

/-- What a point leaves in the block of the gradient of the values. -/
theorem out_b_8 (j : Fin 16) (d : Fin 64) (a : Fin 512) : out0_B_8 (F := Ideal) c i arg2 harg2 arg3 harg3 arg4 harg4 arg5 harg5 arg6 harg6 arg7 harg7 arg8 harg8 arg9 harg9 arg10 harg10 arg11 harg11 hc x0 x1 x2 x3 x4 x5 x7 x8 (ix4 0 j d a)
    = x8 (ix4 0 j d a) + addV x0 x3 x4 x1 j d a := by
  have hcov := cover0_B_8 (F := Ideal) c i arg2 harg2 arg3 harg3 arg4 harg4 arg5 harg5 arg6 harg6 arg7 harg7 arg8 harg8 arg9 harg9 arg10 harg10 arg11 harg11 hc x0 x1 x2 x3 x4 x5 x7 x8
  unfold out0_B_8
  rw [View.read_writes_eq_canon _ _ _ hcov, ← View.read_writes_eq_canon arg10.view (harg10.unread x8) _ hcov]
  unfold kernelRun0_B
  dsimp only
  sl_unfold_words
  rw [load4 arg2 harg2 x0, load4 arg5 harg5 x3, load4 arg6 harg6 x4, load4 arg7 harg7 x5]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).2.1 j d a).trans ?_
  rw [harg3.read_unread, harg10.read_unread]

/-- What a point leaves in the block of the gradient of the queries. -/
theorem out_b_6 (d : Fin 64) (r : Fin 2048) : out0_B_6 (F := Ideal) c i arg2 harg2 arg3 harg3 arg4 harg4 arg5 harg5 arg6 harg6 arg7 harg7 arg8 harg8 arg9 harg9 arg10 harg10 arg11 harg11 hc x0 x1 x2 x3 x4 x5 x7 x8 (ix4 0 0 d r)
    = ∑ j : Fin 16, addQ x0 x3 x4 x5 x1 x2 j d r := by
  unfold out0_B_6 kernelRun0_B
  dsimp only
  sl_unfold_words
  rw [load4 arg2 harg2 x0, load4 arg5 harg5 x3, load4 arg6 harg6 x4, load4 arg7 harg7 x5]
  rw [View.read_writes_cons_unit_of_mem VO0_6 VO0_6.junk inb_S1x1x64x2048_S1x1x64x2048_0_0_0_0 _ _ (ix4 0 0 d r) (ix4 0 0 d r) rfl
    (fun x => by match x with | ⟨0, _⟩ => exact (Nat.zero_add _).symm | ⟨1, _⟩ => exact (Nat.zero_add _).symm | ⟨2, _⟩ => exact (Nat.zero_add _).symm | ⟨3, _⟩ => exact (Nat.zero_add _).symm)]
  rw [pay9_at, View.readCov, View.readAt_full, View.writes_append]
  refine ((loop_all Variants.none c none i arg2 harg2 arg3 harg3 arg4 harg4 arg5 harg5 arg6 harg6 arg7 harg7 arg8 harg8 arg9 harg9 arg10 harg10 arg11 harg11 x0 x3 x4 x5 (harg3.unread x1) (harg4.unread x2) _ _ _).2.2 d r).trans ?_
  rw [zeros_11, harg3.read_unread, harg4.read_unread, zero_add]
end case_b

end Cert.Proof.Flash
-- ==== Proof.FlashArr.lean ====
/-
  The three arrays the backward kernel leaves, as sums over the six arrays it is called on. A grid point is a head of
  keys and a block of queries; the gradient of the queries is written once per point, and the gradients of the keys and
  values are summed over the sixteen points of a head and written at the last.
-/
module

public import proofs.«01_k».proof.Proof.Gen.KernelIdeal.Value
public import proofs.«01_k».proof.Proof.FlashOut

@[expose] public section

set_option maxRecDepth 16384

noncomputable section

open Idealize.ShloMosaic Idealize.ShloMosaic.TcCoe Idealize.ShloMosaic.Tactic Idealize.SL.Sem
open Cert.KernelIdeal Cert.KernelIdeal.Gen

namespace Cert.Proof.Flash

/-! ## Sums over the first of sixteen -/

/-- The sum of the first `n` of sixteen terms. -/
def part (f : Fin 16 → EReal) (n : ℕ) : EReal := ∑ i : Fin 16, if i.val < n then f i else 0

theorem part_zero (f : Fin 16 → EReal) : part f 0 = 0 :=
  Finset.sum_eq_zero fun i _ => if_neg (Nat.not_lt_zero _)

theorem part_all (f : Fin 16 → EReal) : part f 16 = ∑ i, f i :=
  Finset.sum_congr rfl fun i _ => if_pos i.isLt

theorem part_succ (f : Fin 16 → EReal) (n : ℕ) (hn : n < 16) : part f (n + 1) = part f n + f ⟨n, hn⟩ := by
  unfold part
  rw [← Finset.sum_ite_eq' Finset.univ (⟨n, hn⟩ : Fin 16) f |>.trans (if_pos (Finset.mem_univ _)), ← Finset.sum_add_distrib]
  refine Finset.sum_congr rfl fun j _ => ?_
  by_cases h1 : j.val < n
  · rw [if_pos h1, if_pos (by omega), if_neg (fun h => by rw [h] at h1; exact lt_irrefl n h1), add_zero]
  · by_cases h2 : j = ⟨n, hn⟩
    · rw [if_neg h1, if_pos h2, if_pos (by rw [h2]; exact Nat.lt_succ_self n), zero_add]
    · rw [if_neg h1, if_neg h2, if_neg (fun h => h2 (Fin.ext (by show j.val = n; omega))), add_zero]

theorem part_first (f : Fin 16 → EReal) (n : ℕ) (i : Fin 16) (hn : n = 0) (hi : i.val = 0) : part f (n + 1) = f i := by
  subst hn
  rw [part_succ f 0 (by decide), part_zero, zero_add]
  exact congrArg f (Fin.ext hi.symm)

/-! ## The sums over the call's arrays -/

section sums
variable (q o : S2x16x64x2048.Idx → EReal) (k v : S2x16x64x512.Idx → EReal) (l dl : S2x16x1x2048.Idx → EReal)
variable (h : Fin 2) (i j : Fin 16)

/-- The probability of key `a` of block `j` for query `r` of block `i`. -/
def probs (a : Fin 512) (r : Fin 2048) : EReal :=
  prob (fun d a => k (ix4 h j d a)) (fun d r => q (ix4 h i d r)) (fun r => l (ix4 h i 0 r)) a r
/-- The gradient of that score. -/
def dscores (a : Fin 512) (r : Fin 2048) : EReal :=
  dscore (fun d a => k (ix4 h j d a)) (fun d a => v (ix4 h j d a)) (fun d r => q (ix4 h i d r)) (fun d r => o (ix4 h i d r))
    (fun r => l (ix4 h i 0 r)) (fun r => dl (ix4 h i 0 r)) a r
/-- The gradient of a query's feature. -/
def sumQ (d : Fin 64) (r : Fin 2048) : EReal := ∑ j : Fin 16, ∑ a : Fin 512, k (ix4 h j d a) * dscores q o k v l dl h i j a r
/-- What block `i` of queries adds to the gradient of a key's feature. -/
def partK (d : Fin 64) (a : Fin 512) : EReal := ∑ r : Fin 2048, q (ix4 h i d r) * dscores q o k v l dl h i j a r
/-- What block `i` of queries adds to the gradient of a value's feature. -/
def partV (d : Fin 64) (a : Fin 512) : EReal := ∑ r : Fin 2048, o (ix4 h i d r) * probs q k l h i j a r
end sums

/-! ## A point's blocks -/

/-- The head of keys of a grid point. -/
def headOf (t : Fin cfg0.N) : Fin 2 := ⟨t.val / 16, by have := t.isLt; have hN : cfg0.N = 32 := N_0; omega⟩
/-- The block of queries of a grid point. -/
def rowOf (t : Fin cfg0.N) : Fin 16 := ⟨t.val % 16, Nat.mod_lt _ (by decide)⟩
/-- The grid point of a head and a block of queries. -/
def pointOf (h : Fin 2) (i : Fin 16) : Fin cfg0.N := ⟨16 * h.val + i.val, by have hN : cfg0.N = 32 := N_0; omega⟩

theorem headOf_pointOf (h : Fin 2) (i : Fin 16) : headOf (pointOf h i) = h := Fin.ext (by show (16 * h.val + i.val) / 16 = h.val; omega)
theorem rowOf_pointOf (h : Fin 2) (i : Fin 16) : rowOf (pointOf h i) = i := Fin.ext (by show (16 * h.val + i.val) % 16 = i.val; omega)

theorem ix_0 : ∀ t : Fin grid0.N, (win0_0.index t 0 = t.val / 16 ∧ win0_0.index t 1 = t.val % 16) ∧ win0_0.index t 2 = 0 ∧ win0_0.index t 3 = 0 := by decide +kernel
theorem ix_1 : ∀ t : Fin grid0.N, (win0_1.index t 0 = t.val / 16 ∧ win0_1.index t 1 = 0) ∧ win0_1.index t 2 = 0 ∧ win0_1.index t 3 = 0 := by decide +kernel
theorem ix_2 : ∀ t : Fin grid0.N, (win0_2.index t 0 = t.val / 16 ∧ win0_2.index t 1 = 0) ∧ win0_2.index t 2 = 0 ∧ win0_2.index t 3 = 0 := by decide +kernel
theorem ix_3 : ∀ t : Fin grid0.N, (win0_3.index t 0 = t.val / 16 ∧ win0_3.index t 1 = t.val % 16) ∧ win0_3.index t 2 = 0 ∧ win0_3.index t 3 = 0 := by decide +kernel
theorem ix_4 : ∀ t : Fin grid0.N, (win0_4.index t 0 = t.val / 16 ∧ win0_4.index t 1 = t.val % 16) ∧ win0_4.index t 2 = 0 ∧ win0_4.index t 3 = 0 := by decide +kernel
theorem ix_5 : ∀ t : Fin grid0.N, (win0_5.index t 0 = t.val / 16 ∧ win0_5.index t 1 = t.val % 16) ∧ win0_5.index t 2 = 0 ∧ win0_5.index t 3 = 0 := by decide +kernel
theorem ix_6 : ∀ t : Fin grid0.N, (win0_6.index t 0 = t.val / 16 ∧ win0_6.index t 1 = t.val % 16) ∧ win0_6.index t 2 = 0 ∧ win0_6.index t 3 = 0 := by decide +kernel
theorem ix_7 : ∀ t : Fin grid0.N, (win0_7.index t 0 = t.val / 16 ∧ win0_7.index t 1 = 0) ∧ win0_7.index t 2 = 0 ∧ win0_7.index t 3 = 0 := by decide +kernel
theorem ix_8 : ∀ t : Fin grid0.N, (win0_8.index t 0 = t.val / 16 ∧ win0_8.index t 1 = 0) ∧ win0_8.index t 2 = 0 ∧ win0_8.index t 3 = 0 := by decide +kernel

section blocks
variable (m : (ℓ : Loc nD τ sig) → Buf (Elt Ideal) ℓ) (c : Dev nD) (t : Fin cfg0.N)

/-- The call's queries, keys, values, incoming gradients, logarithms of sums and row sums. -/
def inQ : S2x16x64x2048.Idx → EReal := V m c main_v30
def inK : S2x16x64x512.Idx → EReal := V m c main_v33
def inV : S2x16x64x512.Idx → EReal := V m c main_v36
def inO : S2x16x64x2048.Idx → EReal := V m c main_v40
def inL : S2x16x1x2048.Idx → EReal := V m c main_v45
def inD : S2x16x1x2048.Idx → EReal := V m c main_v48

theorem read_0 (W : (b : Ref sig .tc) → Buf (Elt Ideal) ((c : Thread nD τ).loc b)) (d : Fin 64) (r : Fin 2048) :
    ((cfg0.win 0).blk t).view.read (Elt Ideal) (W (Pipeline.arrRef spec0 0)) (ix4 0 0 d r) = W main_v30 (ix4 (headOf t) (rowOf t) d r) := by
  rw [View.read_apply]
  refine congrArg (W main_v30) (funext fun a => Fin.ext ?_)
  match a with
  | ⟨0, _⟩ => show win0_0.index t 0 * 1 + 1 * 0 = t.val / 16; rw [(ix_0 t).1.1]; omega
  | ⟨1, _⟩ => show win0_0.index t 1 * 1 + 1 * 0 = t.val % 16; rw [(ix_0 t).1.2]; omega
  | ⟨2, _⟩ => show win0_0.index t 2 * 64 + 1 * d.val = d.val; rw [(ix_0 t).2.1]; omega
  | ⟨3, _⟩ => show win0_0.index t 3 * 2048 + 1 * r.val = r.val; rw [(ix_0 t).2.2]; omega

theorem block_0 : cols (iblk m c 0 t) = fun d r => inQ m c (ix4 (headOf t) (rowOf t) d r) :=
  funext fun d => funext fun r => read_0 c t (V m c) d r

theorem read_3 (W : (b : Ref sig .tc) → Buf (Elt Ideal) ((c : Thread nD τ).loc b)) (d : Fin 64) (r : Fin 2048) :
    ((cfg0.win 3).blk t).view.read (Elt Ideal) (W (Pipeline.arrRef spec0 3)) (ix4 0 0 d r) = W main_v40 (ix4 (headOf t) (rowOf t) d r) := by
  rw [View.read_apply]
  refine congrArg (W main_v40) (funext fun a => Fin.ext ?_)
  match a with
  | ⟨0, _⟩ => show win0_3.index t 0 * 1 + 1 * 0 = t.val / 16; rw [(ix_3 t).1.1]; omega
  | ⟨1, _⟩ => show win0_3.index t 1 * 1 + 1 * 0 = t.val % 16; rw [(ix_3 t).1.2]; omega
  | ⟨2, _⟩ => show win0_3.index t 2 * 64 + 1 * d.val = d.val; rw [(ix_3 t).2.1]; omega
  | ⟨3, _⟩ => show win0_3.index t 3 * 2048 + 1 * r.val = r.val; rw [(ix_3 t).2.2]; omega

theorem block_3 : cols (iblk m c 3 t) = fun d r => inO m c (ix4 (headOf t) (rowOf t) d r) :=
  funext fun d => funext fun r => read_3 c t (V m c) d r

theorem read_4 (W : (b : Ref sig .tc) → Buf (Elt Ideal) ((c : Thread nD τ).loc b)) (r : Fin 2048) :
    ((cfg0.win 4).blk t).view.read (Elt Ideal) (W (Pipeline.arrRef spec0 4)) (ix4 0 0 0 r) = W main_v45 (ix4 (headOf t) (rowOf t) 0 r) := by
  rw [View.read_apply]
  refine congrArg (W main_v45) (funext fun a => Fin.ext ?_)
  match a with
  | ⟨0, _⟩ => show win0_4.index t 0 * 1 + 1 * 0 = t.val / 16; rw [(ix_4 t).1.1]; omega
  | ⟨1, _⟩ => show win0_4.index t 1 * 1 + 1 * 0 = t.val % 16; rw [(ix_4 t).1.2]; omega
  | ⟨2, _⟩ => show win0_4.index t 2 * 1 + 1 * 0 = 0; rw [(ix_4 t).2.1]
  | ⟨3, _⟩ => show win0_4.index t 3 * 2048 + 1 * r.val = r.val; rw [(ix_4 t).2.2]; omega

theorem block_4 : row (iblk m c 4 t) = fun r => inL m c (ix4 (headOf t) (rowOf t) 0 r) :=
  funext fun r => read_4 c t (V m c) r

theorem read_5 (W : (b : Ref sig .tc) → Buf (Elt Ideal) ((c : Thread nD τ).loc b)) (r : Fin 2048) :
    ((cfg0.win 5).blk t).view.read (Elt Ideal) (W (Pipeline.arrRef spec0 5)) (ix4 0 0 0 r) = W main_v48 (ix4 (headOf t) (rowOf t) 0 r) := by
  rw [View.read_apply]
  refine congrArg (W main_v48) (funext fun a => Fin.ext ?_)
  match a with
  | ⟨0, _⟩ => show win0_5.index t 0 * 1 + 1 * 0 = t.val / 16; rw [(ix_5 t).1.1]; omega
  | ⟨1, _⟩ => show win0_5.index t 1 * 1 + 1 * 0 = t.val % 16; rw [(ix_5 t).1.2]; omega
  | ⟨2, _⟩ => show win0_5.index t 2 * 1 + 1 * 0 = 0; rw [(ix_5 t).2.1]
  | ⟨3, _⟩ => show win0_5.index t 3 * 2048 + 1 * r.val = r.val; rw [(ix_5 t).2.2]; omega

theorem block_5 : row (iblk m c 5 t) = fun r => inD m c (ix4 (headOf t) (rowOf t) 0 r) :=
  funext fun r => read_5 c t (V m c) r

theorem read_1 (W : (b : Ref sig .tc) → Buf (Elt Ideal) ((c : Thread nD τ).loc b)) (j : Fin 16) (d : Fin 64) (r : Fin 512) :
    ((cfg0.win 1).blk t).view.read (Elt Ideal) (W (Pipeline.arrRef spec0 1)) (ix4 0 j d r) = W main_v33 (ix4 (headOf t) j d r) := by
  rw [View.read_apply]
  refine congrArg (W main_v33) (funext fun a => Fin.ext ?_)
  match a with
  | ⟨0, _⟩ => show win0_1.index t 0 * 1 + 1 * 0 = t.val / 16; rw [(ix_1 t).1.1]; omega
  | ⟨1, _⟩ => show win0_1.index t 1 * 16 + 1 * j.val = j.val; rw [(ix_1 t).1.2]; omega
  | ⟨2, _⟩ => show win0_1.index t 2 * 64 + 1 * d.val = d.val; rw [(ix_1 t).2.1]; omega
  | ⟨3, _⟩ => show win0_1.index t 3 * 512 + 1 * r.val = r.val; rw [(ix_1 t).2.2]; omega

theorem block_1 (j : Fin 16) : tileOf (iblk m c 1 t) j = fun d a => inK m c (ix4 (headOf t) j d a) :=
  funext fun d => funext fun r => read_1 c t (V m c) j d r

theorem read_2 (W : (b : Ref sig .tc) → Buf (Elt Ideal) ((c : Thread nD τ).loc b)) (j : Fin 16) (d : Fin 64) (r : Fin 512) :
    ((cfg0.win 2).blk t).view.read (Elt Ideal) (W (Pipeline.arrRef spec0 2)) (ix4 0 j d r) = W main_v36 (ix4 (headOf t) j d r) := by
  rw [View.read_apply]
  refine congrArg (W main_v36) (funext fun a => Fin.ext ?_)
  match a with
  | ⟨0, _⟩ => show win0_2.index t 0 * 1 + 1 * 0 = t.val / 16; rw [(ix_2 t).1.1]; omega
  | ⟨1, _⟩ => show win0_2.index t 1 * 16 + 1 * j.val = j.val; rw [(ix_2 t).1.2]; omega
  | ⟨2, _⟩ => show win0_2.index t 2 * 64 + 1 * d.val = d.val; rw [(ix_2 t).2.1]; omega
  | ⟨3, _⟩ => show win0_2.index t 3 * 512 + 1 * r.val = r.val; rw [(ix_2 t).2.2]; omega

theorem block_2 (j : Fin 16) : tileOf (iblk m c 2 t) j = fun d a => inV m c (ix4 (headOf t) j d a) :=
  funext fun d => funext fun r => read_2 c t (V m c) j d r

theorem addQ_blocks (d : Fin 64) (r : Fin 2048) :
    ∑ j : Fin 16, addQ (iblk m c 0 t) (iblk m c 3 t) (iblk m c 4 t) (iblk m c 5 t) (iblk m c 1 t) (iblk m c 2 t) j d r
      = sumQ (inQ m c) (inO m c) (inK m c) (inV m c) (inL m c) (inD m c) (headOf t) (rowOf t) d r := by
  unfold addQ sumQ dscores
  refine Finset.sum_congr rfl fun j _ => ?_
  rw [block_0, block_3, block_4, block_5, block_1, block_2]

theorem addK_blocks (j : Fin 16) (d : Fin 64) (a : Fin 512) :
    addK (iblk m c 0 t) (iblk m c 3 t) (iblk m c 4 t) (iblk m c 5 t) (iblk m c 1 t) (iblk m c 2 t) j d a
      = partK (inQ m c) (inO m c) (inK m c) (inV m c) (inL m c) (inD m c) (headOf t) (rowOf t) j d a := by
  unfold addK partK dscores
  rw [block_0, block_3, block_4, block_5, block_1, block_2]

theorem addV_blocks (j : Fin 16) (d : Fin 64) (a : Fin 512) :
    addV (iblk m c 0 t) (iblk m c 3 t) (iblk m c 4 t) (iblk m c 1 t) j d a
      = partV (inQ m c) (inO m c) (inK m c) (inL m c) (headOf t) (rowOf t) j d a := by
  unfold addV partV probs
  rw [block_0, block_3, block_4, block_1]
end blocks

/-! ## What the output blocks hold after a point -/

section points
variable (m : (ℓ : Loc nD τ sig) → Buf (Elt Ideal) ℓ) (c : Dev nD)

theorem after_q (t : Fin cfg0.N) (d : Fin 64) (r : Fin 2048) : (outsAt0 m c t.val t.isLt).1 (ix4 0 0 d r)
    = sumQ (inQ m c) (inO m c) (inK m c) (inV m c) (inL m c) (inD m c) (headOf t) (rowOf t) d r := by
  by_cases h0 : t.val % 16 = 0
  · rw [outsAt0_A m c t h0]
    dsimp only
    rw [out_a_6, addQ_blocks]
  · rw [outsAt0_B m c t h0]
    dsimp only
    rw [out_b_6, addQ_blocks]

theorem after_kv (n : ℕ) (hn : n < cfg0.N) :
    (∀ (j : Fin 16) (d : Fin 64) (a : Fin 512), (outsAt0 m c n hn).2.1 (ix4 0 j d a)
      = part (fun i => partK (inQ m c) (inO m c) (inK m c) (inV m c) (inL m c) (inD m c) (headOf ⟨n, hn⟩) i j d a) (n % 16 + 1))
    ∧ (∀ (j : Fin 16) (d : Fin 64) (a : Fin 512), (outsAt0 m c n hn).2.2 (ix4 0 j d a)
      = part (fun i => partV (inQ m c) (inO m c) (inK m c) (inL m c) (headOf ⟨n, hn⟩) i j d a) (n % 16 + 1)) := by
  induction n with
  | zero =>
    rw [outsAt0_A m c ⟨0, hn⟩ rfl]
    dsimp only
    refine ⟨fun j d a => ?_, fun j d a => ?_⟩
    · rw [out_a_7, addK_blocks, part_first _ _ (rowOf ⟨0, hn⟩) rfl rfl]
    · rw [out_a_8, addV_blocks, part_first _ _ (rowOf ⟨0, hn⟩) rfl rfl]
  | succ n ih =>
    by_cases h0 : (n + 1) % 16 = 0
    · rw [outsAt0_A m c ⟨n + 1, hn⟩ h0]
      dsimp only
      refine ⟨fun j d a => ?_, fun j d a => ?_⟩
      · rw [out_a_7, addK_blocks, part_first _ _ (rowOf ⟨n + 1, hn⟩) h0 h0]
      · rw [out_a_8, addV_blocks, part_first _ _ (rowOf ⟨n + 1, hn⟩) h0 h0]
    · obtain ⟨ihk, ihv⟩ := ih (Nat.lt_of_succ_lt hn)
      have hh : headOf ⟨n, Nat.lt_of_succ_lt hn⟩ = headOf ⟨n + 1, hn⟩ := Fin.ext (by show n / 16 = (n + 1) / 16; omega)
      have hm : n % 16 + 1 = (n + 1) % 16 := by omega
      rw [hh, hm] at ihk ihv
      rw [outsAt0_B m c ⟨n + 1, hn⟩ h0]
      dsimp only
      refine ⟨fun j d a => ?_, fun j d a => ?_⟩
      · rw [out_b_7, addK_blocks, part_succ _ _ (Nat.mod_lt _ (by decide))]
        exact congrArg₂ (· + ·) (ihk j d a) rfl
      · rw [out_b_8, addV_blocks, part_succ _ _ (Nat.mod_lt _ (by decide))]
        exact congrArg₂ (· + ·) (ihv j d a) rfl

/-! ## The arrays after the run -/

/-- The gradient of the queries. -/
def arrQ : S2x16x64x2048.Idx → EReal := fun x =>
  sumQ (inQ m c) (inO m c) (inK m c) (inV m c) (inL m c) (inD m c) (x 0) (x 1) (x 2) (x 3)
/-- The gradient of the keys. -/
def arrK : S2x16x64x512.Idx → EReal := fun x =>
  ∑ i : Fin 16, partK (inQ m c) (inO m c) (inK m c) (inV m c) (inL m c) (inD m c) (x 0) i (x 1) (x 2) (x 3)
/-- The gradient of the values. -/
def arrV : S2x16x64x512.Idx → EReal := fun x =>
  ∑ i : Fin 16, partV (inQ m c) (inO m c) (inK m c) (inL m c) (x 0) i (x 1) (x 2) (x 3)

theorem cover_6 (x : S2x16x64x2048.Idx) : ∃ t : Fin cfg0.N, (cfg0.win 6).flush t = true ∧ x ∈ ((View.whole main_v49_0).slice (win0_6.rect t)).set := by
  obtain ⟨h, i, d, a, rfl⟩ : ∃ (h : Fin 2) (i : Fin 16) (d : Fin 64) (a : Fin 2048), x = ix4 h i d a := ⟨x 0, x 1, x 2, x 3, funext fun a => by fin_cases a <;> rfl⟩
  refine ⟨pointOf h i, flush0_6 _, ?_⟩
  rw [View.set_slice_whole, Rect.mem_set_unit]
  have hp : (pointOf h i).val = 16 * h.val + i.val := rfl
  have hh := h.isLt
  have hi := i.isLt
  have hd := d.isLt
  have ha := a.isLt
  have e := ix_6 (pointOf h i)
  intro n
  match n with
  | ⟨0, _⟩ => show win0_6.index (pointOf h i) 0 * 1 ≤ h.val ∧ h.val < win0_6.index (pointOf h i) 0 * 1 + 1; rw [e.1.1]; omega
  | ⟨1, _⟩ => show win0_6.index (pointOf h i) 1 * 1 ≤ i.val ∧ i.val < win0_6.index (pointOf h i) 1 * 1 + 1; rw [e.1.2]; omega
  | ⟨2, _⟩ => show win0_6.index (pointOf h i) 2 * 64 ≤ d.val ∧ d.val < win0_6.index (pointOf h i) 2 * 64 + 64; rw [e.2.1]; omega
  | ⟨3, _⟩ => show win0_6.index (pointOf h i) 3 * 2048 ≤ a.val ∧ a.val < win0_6.index (pointOf h i) 3 * 2048 + 2048; rw [e.2.2]; omega

theorem cover_7 (x : S2x16x64x512.Idx) : ∃ t : Fin cfg0.N, (cfg0.win 7).flush t = true ∧ x ∈ ((View.whole main_v49_1).slice (win0_7.rect t)).set := by
  obtain ⟨h, i, d, a, rfl⟩ : ∃ (h : Fin 2) (i : Fin 16) (d : Fin 64) (a : Fin 512), x = ix4 h i d a := ⟨x 0, x 1, x 2, x 3, funext fun a => by fin_cases a <;> rfl⟩
  refine ⟨pointOf h 15, (flush0_7 _).mpr (by show (16 * h.val + 15) % 16 = 15; omega), ?_⟩
  rw [View.set_slice_whole, Rect.mem_set_unit]
  have hp : (pointOf h 15).val = 16 * h.val + 15 := rfl
  have hh := h.isLt
  have hi := i.isLt
  have hd := d.isLt
  have ha := a.isLt
  have e := ix_7 (pointOf h 15)
  intro n
  match n with
  | ⟨0, _⟩ => show win0_7.index (pointOf h 15) 0 * 1 ≤ h.val ∧ h.val < win0_7.index (pointOf h 15) 0 * 1 + 1; rw [e.1.1]; omega
  | ⟨1, _⟩ => show win0_7.index (pointOf h 15) 1 * 16 ≤ i.val ∧ i.val < win0_7.index (pointOf h 15) 1 * 16 + 16; rw [e.1.2]; omega
  | ⟨2, _⟩ => show win0_7.index (pointOf h 15) 2 * 64 ≤ d.val ∧ d.val < win0_7.index (pointOf h 15) 2 * 64 + 64; rw [e.2.1]; omega
  | ⟨3, _⟩ => show win0_7.index (pointOf h 15) 3 * 512 ≤ a.val ∧ a.val < win0_7.index (pointOf h 15) 3 * 512 + 512; rw [e.2.2]; omega

theorem cover_8 (x : S2x16x64x512.Idx) : ∃ t : Fin cfg0.N, (cfg0.win 8).flush t = true ∧ x ∈ ((View.whole main_v49_2).slice (win0_8.rect t)).set := by
  obtain ⟨h, i, d, a, rfl⟩ : ∃ (h : Fin 2) (i : Fin 16) (d : Fin 64) (a : Fin 512), x = ix4 h i d a := ⟨x 0, x 1, x 2, x 3, funext fun a => by fin_cases a <;> rfl⟩
  refine ⟨pointOf h 15, (flush0_8 _).mpr (by show (16 * h.val + 15) % 16 = 15; omega), ?_⟩
  rw [View.set_slice_whole, Rect.mem_set_unit]
  have hp : (pointOf h 15).val = 16 * h.val + 15 := rfl
  have hh := h.isLt
  have hi := i.isLt
  have hd := d.isLt
  have ha := a.isLt
  have e := ix_8 (pointOf h 15)
  intro n
  match n with
  | ⟨0, _⟩ => show win0_8.index (pointOf h 15) 0 * 1 ≤ h.val ∧ h.val < win0_8.index (pointOf h 15) 0 * 1 + 1; rw [e.1.1]; omega
  | ⟨1, _⟩ => show win0_8.index (pointOf h 15) 1 * 16 ≤ i.val ∧ i.val < win0_8.index (pointOf h 15) 1 * 16 + 16; rw [e.1.2]; omega
  | ⟨2, _⟩ => show win0_8.index (pointOf h 15) 2 * 64 ≤ d.val ∧ d.val < win0_8.index (pointOf h 15) 2 * 64 + 64; rw [e.2.1]; omega
  | ⟨3, _⟩ => show win0_8.index (pointOf h 15) 3 * 512 ≤ a.val ∧ a.val < win0_8.index (pointOf h 15) 3 * 512 + 512; rw [e.2.2]; omega

theorem final_q : (dats m 0 c).arrAt 6 cfg0.N = arrQ m c := by
  refine (dats m 0 c).arrAt_eq_of_cover 6 (arrQ m c) (fun t _ => ?_) (fun x => ?_)
  · rw [Value.flushed6]
    funext y
    rw [View.read_apply]
    obtain ⟨y0, y1, d, r, rfl⟩ : ∃ (y0 y1 : Fin 1) (d : Fin 64) (r : Fin 2048), y = ix4 y0 y1 d r := ⟨y 0, y 1, y 2, y 3, funext fun a => by fin_cases a <;> rfl⟩
    obtain rfl := Fin.fin_one_eq_zero y0
    obtain rfl := Fin.fin_one_eq_zero y1
    refine (after_q m c t d r).trans ?_
    unfold arrQ
    congr 1
    · exact Fin.ext (by show t.val / 16 = win0_6.index t 0 * 1 + 1 * 0; rw [(ix_6 t).1.1]; omega)
    · exact Fin.ext (by show t.val % 16 = win0_6.index t 1 * 1 + 1 * 0; rw [(ix_6 t).1.2]; omega)
    · exact Fin.ext (by show d.val = win0_6.index t 2 * 64 + 1 * d.val; rw [(ix_6 t).2.1]; omega)
    · exact Fin.ext (by show r.val = win0_6.index t 3 * 2048 + 1 * r.val; rw [(ix_6 t).2.2]; omega)
  · exact cover_6 x

theorem final_k : (dats m 0 c).arrAt 7 cfg0.N = arrK m c := by
  refine (dats m 0 c).arrAt_eq_of_cover 7 (arrK m c) (fun t ht => ?_) (fun x => ?_)
  · have h15 : t.val % 16 = 15 := (flush0_7 t).mp ht
    rw [Value.flushed7]
    funext y
    rw [View.read_apply]
    obtain ⟨y0, j, d, a, rfl⟩ : ∃ (y0 : Fin 1) (j : Fin 16) (d : Fin 64) (a : Fin 512), y = ix4 y0 j d a := ⟨y 0, y 1, y 2, y 3, funext fun a => by fin_cases a <;> rfl⟩
    obtain rfl := Fin.fin_one_eq_zero y0
    refine ((after_kv m c t.val t.isLt).1 j d a).trans ?_
    rw [h15, part_all]
    unfold arrK
    refine Finset.sum_congr rfl fun i _ => ?_
    congr 1
    · exact Fin.ext (by show t.val / 16 = win0_7.index t 0 * 1 + 1 * 0; rw [(ix_7 t).1.1]; omega)
    · exact Fin.ext (by show j.val = win0_7.index t 1 * 16 + 1 * j.val; rw [(ix_7 t).1.2]; omega)
    · exact Fin.ext (by show d.val = win0_7.index t 2 * 64 + 1 * d.val; rw [(ix_7 t).2.1]; omega)
    · exact Fin.ext (by show a.val = win0_7.index t 3 * 512 + 1 * a.val; rw [(ix_7 t).2.2]; omega)
  · exact cover_7 x

theorem final_v : (dats m 0 c).arrAt 8 cfg0.N = arrV m c := by
  refine (dats m 0 c).arrAt_eq_of_cover 8 (arrV m c) (fun t ht => ?_) (fun x => ?_)
  · have h15 : t.val % 16 = 15 := (flush0_8 t).mp ht
    rw [Value.flushed8]
    funext y
    rw [View.read_apply]
    obtain ⟨y0, j, d, a, rfl⟩ : ∃ (y0 : Fin 1) (j : Fin 16) (d : Fin 64) (a : Fin 512), y = ix4 y0 j d a := ⟨y 0, y 1, y 2, y 3, funext fun a => by fin_cases a <;> rfl⟩
    obtain rfl := Fin.fin_one_eq_zero y0
    refine ((after_kv m c t.val t.isLt).2 j d a).trans ?_
    rw [h15, part_all]
    unfold arrV
    refine Finset.sum_congr rfl fun i _ => ?_
    congr 1
    · exact Fin.ext (by show t.val / 16 = win0_8.index t 0 * 1 + 1 * 0; rw [(ix_8 t).1.1]; omega)
    · exact Fin.ext (by show j.val = win0_8.index t 1 * 16 + 1 * j.val; rw [(ix_8 t).1.2]; omega)
    · exact Fin.ext (by show d.val = win0_8.index t 2 * 64 + 1 * d.val; rw [(ix_8 t).2.1]; omega)
    · exact Fin.ext (by show a.val = win0_8.index t 3 * 512 + 1 * a.val; rw [(ix_8 t).2.2]; omega)
  · exact cover_8 x

end points
end Cert.Proof.Flash
-- ==== Proof.FlashHost.lean ====
/-
  What the host prepares for the backward kernel, read at an index: the scaled queries, the keys, values and incoming
  gradients in the kernel's layout, the logarithm of each row's sum, and each row's sum of output times gradient.
-/
module

public import proofs.«01_k».proof.Proof.FlashArr
public import Idealize.ShloMosaic.Lib.StableHlo.ReadAt
public import Idealize.ShloMosaic.Lib.Claim

@[expose] public section

set_option maxRecDepth 16384

noncomputable section

open Idealize.ShloMosaic Idealize.ShloMosaic.TcCoe Idealize.ShloMosaic.Tactic Idealize.SL.Sem
open Cert.KernelIdeal Cert.KernelIdeal.Gen

namespace Cert.Proof.Flash

/-- Query head `g` of the group of key head `h`. -/
def headAt (h : Fin 2) (g : Fin 4) : Fin 8 := ⟨h.val * 4 + g.val, by omega⟩
/-- Token `b` of block `i`. -/
def tokAt (i : Fin 16) (b : Fin 512) : Fin 8192 := ⟨i.val * 512 + b.val, by omega⟩
/-- The group of a column of a block of queries, and its token inside the block. -/
def grpOf (r : Fin 2048) : Fin 4 := ⟨r.val / 512, by omega⟩
def posOf (r : Fin 2048) : Fin 512 := ⟨r.val % 512, by omega⟩

section stages
variable (x0 : FVec Ideal S8192x8x64 .f32) (x1 x2 : FVec Ideal S8192x2x64 .f32) (x3 : FVec Ideal S8192x8x64 .f32)

/-- The scores. -/
def hostS : FVec Ideal S2x4x8192x8192 .f32 :=
  mulf (transpose S2x4x8192x8192 [0, 3, 2, 1]
      (Host.dotGeneral (φ₁ := .f32) (φ₂ := .f32) dot_S8192x2x64_S8192x2x4x64_S2x8192x8192x4_2_3_0_02_1_1 none x1 (shapeCast S8192x2x4x64 x0 shapeCasts_S8192x8x64_S8192x2x4x64))
      transposes_S2x8192x8192x4_S2x4x8192x8192_0_3_2_1)
    (broadcastInDim S2x4x8192x8192 ![] bcast_S_S2x4x8192x8192 (constant (F := Ideal) S_ .f32 1040187392#32))
/-- Each row's maximum. -/
def hostM : FVec Ideal S2x4x8192x1 .f32 :=
  broadcastInDim S2x4x8192x1 ![0, 1, 2] bcast_S2x4x8192_S2x4x8192x1_0_1_2
    (Host.reduce (FloatOps.maximumf (F := Ideal) (φ := .f32)) (hostS x0 x1) (constant (F := Ideal) S_ .f32 4286578688#32) reducesTo_S2x4x8192x8192_S2x4x8192_d3 h_S_)
/-- The exponentials. -/
def hostE : FVec Ideal S2x4x8192x8192 .f32 :=
  Host.exp (subf (hostS x0 x1) (broadcastInDim S2x4x8192x8192 ![0, 1, 2, 3] bcast_S2x4x8192x1_S2x4x8192x8192_0_1_2_3 (hostM x0 x1)))
/-- Each row's sum. -/
def hostL : FVec Ideal S2x4x8192x1 .f32 :=
  broadcastInDim S2x4x8192x1 ![0, 1, 2] bcast_S2x4x8192_S2x4x8192x1_0_1_2
    (Host.reduceAdd (hostE x0 x1) (constant (F := Ideal) S_ .f32 0#32) reducesTo_S2x4x8192x8192_S2x4x8192_d3 h_S_)
/-- The probabilities. -/
def hostP : FVec Ideal S2x4x8192x8192 .f32 :=
  Host.divf (hostE x0 x1) (broadcastInDim S2x4x8192x8192 ![0, 1, 2, 3] bcast_S2x4x8192x1_S2x4x8192x8192_0_1_2_3 (hostL x0 x1))
/-- The attention's output. -/
def hostO : FVec Ideal S8192x8x64 .f32 :=
  shapeCast S8192x8x64 (transpose S8192x2x4x64 [3, 0, 2, 1]
    (Host.dotGeneral (φ₁ := .f32) (φ₂ := .f32) dot_S8192x2x64_S2x4x8192x8192_S2x64x4x8192_0_3_2_12_1_0 none x2 (hostP x0 x1))
    transposes_S2x64x4x8192_S8192x2x4x64_3_0_2_1) shapeCasts_S8192x2x4x64_S8192x8x64

theorem hostS_at (h : Fin 2) (g : Fin 4) (n t : Fin 8192) :
    hostS x0 x1 (ix4 h g n t) = (∑ d : Fin 64, x1 (ix3 t h d) * x0 (ix3 n (headAt h g) d)) * Ideal.ofBits .f32 1040187392#32 := by
  pointwise [hostS]
  rfl
theorem hostM_at (h : Fin 2) (g : Fin 4) (n : Fin 8192) :
    hostM x0 x1 (ix4 h g n 0) = Finset.fold max (Ideal.ofBits .f32 4286578688#32) (fun t : Fin 8192 => hostS x0 x1 (ix4 h g n t)) Finset.univ := by
  pointwise [hostM]
theorem hostE_at (h : Fin 2) (g : Fin 4) (n t : Fin 8192) :
    hostE x0 x1 (ix4 h g n t) = Ideal.exp (hostS x0 x1 (ix4 h g n t) - hostM x0 x1 (ix4 h g n 0)) := by
  pointwise [hostE]
theorem hostL_at (h : Fin 2) (g : Fin 4) (n : Fin 8192) :
    hostL x0 x1 (ix4 h g n 0) = ∑ t : Fin 8192, hostE x0 x1 (ix4 h g n t) := by
  pointwise [hostL]
theorem hostP_at (h : Fin 2) (g : Fin 4) (n t : Fin 8192) :
    hostP x0 x1 (ix4 h g n t) = Ideal.div (hostE x0 x1 (ix4 h g n t)) (hostL x0 x1 (ix4 h g n 0)) := by
  pointwise [hostP]
theorem hostO_at (h : Fin 2) (g : Fin 4) (n : Fin 8192) (d : Fin 64) :
    hostO x0 x1 x2 (ix3 n (headAt h g) d) = ∑ t : Fin 8192, x2 (ix3 t h d) * hostP x0 x1 (ix4 h g n t) := by
  pointwise [hostO, headAt]
end stages

section inputs
variable (m : (ℓ : Loc nD τ sig) → Buf (Elt Ideal) ℓ) (c : Dev nD)

/-- The arguments. -/
abbrev argQ : FVec Ideal S8192x8x64 .f32 := m (c, Proc.tc.devRef main_arg0)
abbrev argK : FVec Ideal S8192x2x64 .f32 := m (c, Proc.tc.devRef main_arg1)
abbrev argV : FVec Ideal S8192x2x64 .f32 := m (c, Proc.tc.devRef main_arg2)
abbrev argG : FVec Ideal S8192x8x64 .f32 := m (c, Proc.tc.devRef main_arg3)

theorem inK_at (h : Fin 2) (j : Fin 16) (d : Fin 64) (a : Fin 512) : inK m c (ix4 h j d a) = argK m c (ix3 (tokAt j a) h d) := by
  unfold inK V
  after_reads_at
  rfl
theorem inV_at (h : Fin 2) (j : Fin 16) (d : Fin 64) (a : Fin 512) : inV m c (ix4 h j d a) = argV m c (ix3 (tokAt j a) h d) := by
  unfold inV V
  after_reads_at
  rfl
theorem inQ_at (h : Fin 2) (i : Fin 16) (d : Fin 64) (r : Fin 2048) :
    inQ m c (ix4 h i d r) = argQ m c (ix3 (tokAt i (posOf r)) (headAt h (grpOf r)) d)
      * (Ideal.ofBits .f32 1040187392#32 * Ideal.div 1 (Ideal.log (Ideal.ofBits .f32 1073741824#32))) := by
  unfold inQ V
  after_reads_at
  rfl
theorem inO_at (h : Fin 2) (i : Fin 16) (d : Fin 64) (r : Fin 2048) :
    inO m c (ix4 h i d r) = argG m c (ix3 (tokAt i (posOf r)) (headAt h (grpOf r)) d) := by
  unfold inO V
  after_reads_at
  rfl

theorem inL_eq : inL m c = shapeCast S2x16x1x2048 (transpose S2x16x1x4x512 [0, 2, 3, 1, 4]
    (shapeCast S2x4x16x1x512 (mulf (addf (hostM (argQ m c) (argK m c)) (Host.log (hostL (argQ m c) (argK m c))))
      (broadcastInDim S2x4x8192x1 ![] bcast_S_S2x4x8192x1
        (Host.divf (constant (F := Ideal) S_ .f32 1065353216#32) (Host.log (constant (F := Ideal) S_ .f32 1073741824#32)))))
      shapeCasts_S2x4x8192x1_S2x4x16x1x512) transposes_S2x4x16x1x512_S2x16x1x4x512_0_2_3_1_4)
    shapeCasts_S2x16x1x4x512_S2x16x1x2048 := by
  unfold inL V
  after_reads_simp
  clean_types
  rfl
theorem inD_eq : inD m c = shapeCast S2x16x1x2048 (transpose S2x16x1x4x512 [2, 0, 4, 3, 1]
    (shapeCast S16x512x2x4x1 (broadcastInDim S8192x8x1 ![0, 1] bcast_S8192x8_S8192x8x1_0_1
      (Host.reduceAdd (mulf (hostO (argQ m c) (argK m c) (argV m c)) (argG m c)) (constant (F := Ideal) S_ .f32 0#32)
        reducesTo_S8192x8x64_S8192x8_d2 h_S_)) shapeCasts_S8192x8x1_S16x512x2x4x1) transposes_S16x512x2x4x1_S2x16x1x4x512_2_0_4_3_1)
    shapeCasts_S2x16x1x4x512_S2x16x1x2048 := by
  unfold inD V
  after_reads_simp
  clean_types
  rfl

/-- A number per row, in the kernel's layout. -/
theorem rows_at (z : FVec Ideal S2x4x8192x1 .f32) (h : Fin 2) (i : Fin 16) (r : Fin 2048) :
    shapeCast S2x16x1x2048 (transpose S2x16x1x4x512 [0, 2, 3, 1, 4]
      (shapeCast S2x4x16x1x512 z shapeCasts_S2x4x8192x1_S2x4x16x1x512) transposes_S2x4x16x1x512_S2x16x1x4x512_0_2_3_1_4)
      shapeCasts_S2x16x1x4x512_S2x16x1x2048 (ix4 h i 0 r) = z (ix4 h (grpOf r) (tokAt i (posOf r)) 0) := by
  pointwise
  rfl
theorem logs_at (x y : FVec Ideal S2x4x8192x1 .f32) (h : Fin 2) (g : Fin 4) (n : Fin 8192) :
    mulf (addf x (Host.log y)) (broadcastInDim S2x4x8192x1 ![] bcast_S_S2x4x8192x1
        (Host.divf (constant (F := Ideal) S_ .f32 1065353216#32) (Host.log (constant (F := Ideal) S_ .f32 1073741824#32)))) (ix4 h g n 0)
      = (x (ix4 h g n 0) + Ideal.log (y (ix4 h g n 0))) * Ideal.div 1 (Ideal.log (Ideal.ofBits .f32 1073741824#32)) := by
  pointwise
theorem inL_at (h : Fin 2) (i : Fin 16) (r : Fin 2048) :
    inL m c (ix4 h i 0 r) = (hostM (argQ m c) (argK m c) (ix4 h (grpOf r) (tokAt i (posOf r)) 0)
        + Ideal.log (hostL (argQ m c) (argK m c) (ix4 h (grpOf r) (tokAt i (posOf r)) 0)))
      * Ideal.div 1 (Ideal.log (Ideal.ofBits .f32 1073741824#32)) := by
  rw [inL_eq, rows_at, logs_at]
theorem inD_at (h : Fin 2) (i : Fin 16) (r : Fin 2048) :
    inD m c (ix4 h i 0 r) = ∑ d : Fin 64, hostO (argQ m c) (argK m c) (argV m c) (ix3 (tokAt i (posOf r)) (headAt h (grpOf r)) d)
      * argG m c (ix3 (tokAt i (posOf r)) (headAt h (grpOf r)) d) := by
  rw [inD_eq]
  generalize hostO (argQ m c) (argK m c) (argV m c) = x
  pointwise
  rfl
end inputs
end Cert.Proof.Flash
-- ==== Proof.FlashRef.lean ====
/-
  The reference's gradients read at an index: the scores, the exponentials and their sums, the gradient of the scores
  and the three products, each over the extended reals.
-/
module

public import proofs.«01_k».proof.Proof.Gen.ReferenceIdeal.Read
public import proofs.«01_k».proof.Proof.FlashHost
public import Idealize.ShloMosaic.Lib.Pointwise

@[expose] public section

set_option maxRecDepth 16384

noncomputable section

open Idealize.ShloMosaic Idealize.ShloMosaic.TcCoe Idealize.ShloMosaic.Tactic
open Cert.ReferenceIdeal Cert.ReferenceIdeal.Gen Cert.ReferenceIdeal.Read
open Cert.Proof.Flash (headAt tokAt grpOf posOf)

namespace Cert.Proof.FlashRef

variable (x0 : FVec Ideal S8192x8x64 .f32) (x1 x2 : FVec Ideal S8192x2x64 .f32) (x3 : FVec Ideal S8192x8x64 .f32)

theorem score_at (h : Fin 2) (g : Fin 4) (n t : Fin 8192) :
    val_main_v4 (F := Ideal) x0 x1 (ix4 h g n t) = (∑ d : Fin 64, x1 (ix3 t h d) * x0 (ix3 n (headAt h g) d)) * Ideal.ofBits .f32 1040187392#32 := by
  pointwise [val_main_v4, val_main_v3, val_main_v2, val_main_v1, val_main_v0, val_main_cst]
  rfl
theorem max_at (z : FVec Ideal S2x4x8192x8192 .f32) (h : Fin 2) (g : Fin 4) (n : Fin 8192) :
    Host.reduce (FloatOps.maximumf (F := Ideal) (φ := .f32)) z (val_main_cst_0 (F := Ideal)) reducesTo_S2x4x8192x8192_S2x4x8192_d3 h_S_ (ix3 h g n)
      = Finset.fold max (Ideal.ofBits .f32 4286578688#32) (fun t : Fin 8192 => z (ix4 h g n t)) Finset.univ := by
  pointwise [val_main_cst_0]
theorem top_at (h : Fin 2) (g : Fin 4) (n : Fin 8192) :
    val_main_v12 (F := Ideal) x0 x1 (ix3 h g n) = max (Ideal.ofBits .f32 4286578688#32)
      (Finset.fold max (Ideal.ofBits .f32 4286578688#32) (fun t : Fin 8192 => val_main_v4 (F := Ideal) x0 x1 (ix4 h g n t)) Finset.univ) := by
  rw [val_main_v12_apply, show val_main_v11 (F := Ideal) (ix3 h g n) = Ideal.ofBits .f32 4286578688#32 from by pointwise [val_main_v11, val_main_cst_2],
    show val_main_v5 (F := Ideal) x0 x1 (ix3 h g n) = Finset.fold max (Ideal.ofBits .f32 4286578688#32) (fun t : Fin 8192 => val_main_v4 (F := Ideal) x0 x1 (ix4 h g n t)) Finset.univ
      from by unfold val_main_v5; exact max_at _ h g n]
  rfl
theorem exp_at (h : Fin 2) (g : Fin 4) (n t : Fin 8192) :
    val_main_v25 (F := Ideal) x0 x1 (ix4 h g n t) = Ideal.exp (val_main_v4 (F := Ideal) x0 x1 (ix4 h g n t) - val_main_v12 (F := Ideal) x0 x1 (ix3 h g n)) := by
  pointwise [val_main_v25, val_main_v24, val_main_v23, val_main_v22]
theorem sum_at (h : Fin 2) (g : Fin 4) (n : Fin 8192) :
    val_main_v27 (F := Ideal) x0 x1 (ix4 h g n 0) = ∑ t : Fin 8192, val_main_v25 (F := Ideal) x0 x1 (ix4 h g n t) := by
  pointwise [val_main_v27, val_main_v26, val_main_cst_8]
theorem prob_at (h : Fin 2) (g : Fin 4) (n t : Fin 8192) :
    val_main_v29 (F := Ideal) x0 x1 (ix4 h g n t) = Ideal.div (val_main_v25 (F := Ideal) x0 x1 (ix4 h g n t)) (val_main_v27 (F := Ideal) x0 x1 (ix4 h g n 0)) := by
  pointwise [val_main_v29, val_main_v28]
theorem inv_at (h : Fin 2) (g : Fin 4) (n : Fin 8192) :
    val_main_v32 (F := Ideal) x0 x1 (ix4 h g n 0) = Ideal.div 1 (val_main_v27 (F := Ideal) x0 x1 (ix4 h g n 0) * val_main_v27 (F := Ideal) x0 x1 (ix4 h g n 0)) := by
  pointwise [val_main_v32, val_main_v31, val_main_v30, val_main_cst_9]
theorem dprob_at (h : Fin 2) (g : Fin 4) (n t : Fin 8192) :
    val_main_v38 (F := Ideal) x2 x3 (ix4 h g n t) = ∑ d : Fin 64, x3 (ix3 n (headAt h g) d) * x2 (ix3 t h d) := by
  pointwise [val_main_v38, val_main_v37, val_main_v36]
  rfl
theorem corr_at (h : Fin 2) (g : Fin 4) (n : Fin 8192) :
    val_main_v45 (F := Ideal) x0 x1 x2 x3 (ix4 h g n 0) = ∑ t : Fin 8192, val_main_v38 (F := Ideal) x2 x3 (ix4 h g n t)
      * val_main_v32 (F := Ideal) x0 x1 (ix4 h g n 0) * val_main_v25 (F := Ideal) x0 x1 (ix4 h g n t) := by
  pointwise [val_main_v45, val_main_v44, val_main_v43, val_main_v42, val_main_v41, val_main_cst_10]
theorem dscore_at (h : Fin 2) (g : Fin 4) (n t : Fin 8192) :
    val_main_v54 (F := Ideal) x0 x1 x2 x3 (ix4 h g n t) =
      (Ideal.div (val_main_v38 (F := Ideal) x2 x3 (ix4 h g n t)) (val_main_v27 (F := Ideal) x0 x1 (ix4 h g n 0))
        + -(val_main_v45 (F := Ideal) x0 x1 x2 x3 (ix4 h g n 0)))
      * val_main_v25 (F := Ideal) x0 x1 (ix4 h g n t) * Ideal.ofBits .f32 1040187392#32 := by
  pointwise [val_main_v54, val_main_v53, val_main_v52, val_main_v51, val_main_v50, val_main_v49, val_main_v48, val_main_v47, val_main_v46, val_main_cst_11, val_main_cst_12]
  rw [Fin.sum_univ_one]
theorem scaled_at (h : Fin 2) (g : Fin 4) (n : Fin 8192) (d : Fin 64) :
    val_main_v62 (F := Ideal) x0 x1 x2 x3 (ix3 n (headAt h g) d) =
      (∑ t : Fin 8192, val_main_v54 (F := Ideal) x0 x1 x2 x3 (ix4 h g n t) * x1 (ix3 t h d)) * Ideal.ofBits .f32 1090519040#32 := by
  pointwise [val_main_v62, val_main_v61, val_main_v60, val_main_v57, val_main_v56, val_main_v55, val_main_cst_13, headAt]
theorem resQ_at (h : Fin 2) (i : Fin 16) (d : Fin 64) (r : Fin 2048) :
    val_main_v72 (F := Ideal) x0 x1 x2 x3 (ix4 h i d r) =
      (∑ t : Fin 8192, val_main_v54 (F := Ideal) x0 x1 x2 x3 (ix4 h (grpOf r) (tokAt i (posOf r)) t) * x1 (ix3 t h d))
        * Ideal.ofBits .f32 1090519040#32 := by
  rw [← scaled_at]
  pointwise [val_main_v72, val_main_v64, val_main_v63]
  rfl
theorem resK_at (h : Fin 2) (j : Fin 16) (d : Fin 64) (a : Fin 512) :
    val_main_v69 (F := Ideal) x0 x1 x2 x3 (ix4 h j d a) =
      Ideal.div (∑ n : Fin 8192, ∑ g : Fin 4, val_main_v54 (F := Ideal) x0 x1 x2 x3 (ix4 h g n (tokAt j a)) * x0 (ix3 n (headAt h g) d))
        (Ideal.log (Ideal.ofBits .f32 1073741824#32)) := by
  pointwise [val_main_v69, val_main_v68, val_main_v67, val_main_v66, val_main_v65, val_main_v59, val_main_v58, val_main_v55, val_main_v0, val_main_cst_14]
  rfl
theorem resV_at (h : Fin 2) (j : Fin 16) (d : Fin 64) (a : Fin 512) :
    val_main_v71 (F := Ideal) x0 x1 x3 (ix4 h j d a) =
      ∑ g : Fin 4, ∑ n : Fin 8192, x3 (ix3 n (headAt h g) d) * val_main_v29 (F := Ideal) x0 x1 (ix4 h g n (tokAt j a)) := by
  pointwise [val_main_v71, val_main_v70, val_main_v40, val_main_v39, val_main_v37, val_main_v36]
  rfl
end Cert.Proof.FlashRef
-- ==== Proof.FlashMath.lean ====
/-
  The arithmetic of a softmax's gradient over the reals: the probability from the exponential to base two and the
  saved logarithm is the softmax, and the reference's gradient of a score is the kernel's.
-/
module

public import proofs.«01_k».proof.Proof.Gen.KernelIdeal.Skeleton
public import Idealize.ShloMosaic.Lib.Pointwise

@[expose] public section

noncomputable section

open Idealize.ShloMosaic

namespace Cert.Proof.FlashMath

theorem eighth : Ideal.ofBits .f32 1040187392#32 = ((1 / 8 : ℝ) : EReal) := by
  simp [Ideal.ofBits, Ideal.ieee, -EReal.coe_mul]; norm_num
theorem eight : Ideal.ofBits .f32 1090519040#32 = ((8 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem bottom : Ideal.ofBits .f32 4286578688#32 = (⊥ : EReal) := by
  simp [Ideal.ofBits, Ideal.ieee]

theorem log2_pos : 0 < Real.log 2 := Real.log_pos (by norm_num)
theorem log_two : Ideal.log (Ideal.ofBits .f32 1073741824#32) = ((Real.log 2 : ℝ) : EReal) := by
  rw [two, Ideal.log_coe, if_neg (by norm_num)]
theorem inv_log_two : Ideal.div 1 (Ideal.log (Ideal.ofBits .f32 1073741824#32)) = ((1 / Real.log 2 : ℝ) : EReal) := by
  rw [log_two, Ideal.div_coe (ne_of_gt log2_pos), one_mul]

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem fold_real {ι : Type} [Fintype ι] [Nonempty ι] (f : ι → ℝ) :
    ∃ M : ℝ, Finset.fold max (⊥ : EReal) (fun i => (f i : EReal)) Finset.univ = (M : EReal) := by
  have h1 : Finset.fold max (⊥ : EReal) (fun i => (f i : EReal)) Finset.univ ≠ ⊤ :=
    ne_of_lt ((Finset.fold_max_lt _).mpr ⟨bot_lt_top, fun i _ => EReal.coe_lt_top _⟩)
  have h2 : Finset.fold max (⊥ : EReal) (fun i => (f i : EReal)) Finset.univ ≠ ⊥ :=
    ne_of_gt ((Finset.lt_fold_max _).mpr (Or.inr ⟨Classical.arbitrary ι, Finset.mem_univ _, EReal.bot_lt_coe _⟩))
  exact ⟨_, (EReal.coe_toReal h1 h2).symm⟩

section soft
variable (s dp : Fin 8192 → ℝ) (M : ℝ)

/-- A row's softmax. -/
def soft (t : Fin 8192) : ℝ := Real.exp (s t) / ∑ u, Real.exp (s u)
/-- A row's sum of exponentials below `M`. -/
def mass : ℝ := ∑ u, Real.exp (s u - M)

theorem mass_pos : 0 < mass s M := Finset.sum_pos (fun u _ => Real.exp_pos _) ⟨0, Finset.mem_univ _⟩

theorem soft_shift (t : Fin 8192) : Real.exp (s t - M) / mass s M = soft s t := by
  have h : mass s M = (∑ u, Real.exp (s u)) * Real.exp (-M) := by
    unfold mass
    rw [Finset.sum_mul]
    exact Finset.sum_congr rfl fun u _ => by rw [← Real.exp_add, sub_eq_add_neg]
  rw [h, sub_eq_add_neg, Real.exp_add, soft, mul_div_mul_right _ _ (Real.exp_pos _).ne']

theorem exp2_soft (t : Fin 8192) :
    Real.rpow 2 (s t * (1 / Real.log 2) - (M + Real.log (mass s M)) * (1 / Real.log 2)) = soft s t := by
  have hl := log2_pos.ne'
  show (2 : ℝ) ^ (s t * (1 / Real.log 2) - (M + Real.log (mass s M)) * (1 / Real.log 2)) = soft s t
  rw [Real.rpow_def_of_pos (by norm_num), ← soft_shift s M]
  have : Real.log 2 * (s t * (1 / Real.log 2) - (M + Real.log (mass s M)) * (1 / Real.log 2)) = (s t - M) - Real.log (mass s M) := by
    field_simp
    ring
  rw [this, Real.exp_sub, Real.exp_log (mass_pos s M)]

/-- The gradient of a row's scores. -/
def grad (t : Fin 8192) : ℝ := soft s t * (dp t - ∑ u, soft s u * dp u)

theorem grad_ref (t : Fin 8192) :
    (dp t * (1 / mass s M) + -∑ u, dp u * (1 / (mass s M * mass s M)) * Real.exp (s u - M)) * Real.exp (s t - M) * (1 / 8)
      = grad s dp t * (1 / 8) := by
  have hm := (mass_pos s M).ne'
  have h : ∑ u, dp u * (1 / (mass s M * mass s M)) * Real.exp (s u - M) = (∑ u, soft s u * dp u) * (1 / mass s M) := by
    rw [Finset.sum_mul]
    refine Finset.sum_congr rfl fun u _ => ?_
    rw [← soft_shift s M]
    field_simp
  rw [h, grad, ← soft_shift s M t]
  field_simp
  ring
end soft
end Cert.Proof.FlashMath
-- ==== Proof.FlashReal.lean ====
/-
  Both sides over arguments that are real numbers: the kernel's probabilities and gradients of scores, the reference's,
  and their equality.
-/
module

public import proofs.«01_k».proof.Proof.FlashHost
public import proofs.«01_k».proof.Proof.FlashRef
public import proofs.«01_k».proof.Proof.FlashMath

@[expose] public section

set_option maxRecDepth 16384

noncomputable section

open Idealize.ShloMosaic
open Cert.KernelIdeal (S8192x8x64 S8192x2x64)
open Cert.Proof.FlashMath Cert.Proof.Flash

namespace Cert.Proof.FlashReal

/-- Arrays of real numbers. -/
def arr8 (f : Fin 8192 → Fin 8 → Fin 64 → ℝ) : FVec Ideal S8192x8x64 .f32 := fun x => ((f (x 0) (x 1) (x 2) : ℝ) : EReal)
def arr2 (f : Fin 8192 → Fin 2 → Fin 64 → ℝ) : FVec Ideal S8192x2x64 .f32 := fun x => ((f (x 0) (x 1) (x 2) : ℝ) : EReal)

variable (q g : Fin 8192 → Fin 8 → Fin 64 → ℝ) (k v : Fin 8192 → Fin 2 → Fin 64 → ℝ)

theorem arr8_at (n : Fin 8192) (a : Fin 8) (d : Fin 64) : arr8 q (ix3 n a d) = ((q n a d : ℝ) : EReal) := rfl
theorem arr2_at (n : Fin 8192) (a : Fin 2) (d : Fin 64) : arr2 k (ix3 n a d) = ((k n a d : ℝ) : EReal) := rfl

/-- The score of a key for a query. -/
def sc (h : Fin 2) (p : Fin 4) (n t : Fin 8192) : ℝ := (∑ d : Fin 64, k t h d * q n (headAt h p) d) * (1 / 8)
/-- The gradient of a probability. -/
def dpr (h : Fin 2) (p : Fin 4) (n t : Fin 8192) : ℝ := ∑ d : Fin 64, v t h d * g n (headAt h p) d

/-! ## The kernel -/

theorem hostS_real (h : Fin 2) (p : Fin 4) (n t : Fin 8192) :
    hostS (arr8 q) (arr2 k) (ix4 h p n t) = ((sc q k h p n t : ℝ) : EReal) := by
  rw [hostS_at, eighth]
  simp only [arr8_at, arr2_at, ← EReal.coe_mul, ← coe_sum, sc]

theorem hostM_real (h : Fin 2) (p : Fin 4) (n : Fin 8192) :
    ∃ M : ℝ, hostM (arr8 q) (arr2 k) (ix4 h p n 0) = (M : EReal) := by
  rw [hostM_at, bottom]
  simp only [hostS_real]
  exact fold_real _

section row
variable (h : Fin 2) (p : Fin 4) (n : Fin 8192) (M : ℝ) (hM : hostM (arr8 q) (arr2 k) (ix4 h p n 0) = (M : EReal))
include hM

theorem hostE_real (t : Fin 8192) : hostE (arr8 q) (arr2 k) (ix4 h p n t) = ((Real.exp (sc q k h p n t - M) : ℝ) : EReal) := by
  rw [hostE_at, hostS_real, hM, ← EReal.coe_sub, Ideal.exp_coe]

theorem hostL_real : hostL (arr8 q) (arr2 k) (ix4 h p n 0) = ((mass (sc q k h p n) M : ℝ) : EReal) := by
  rw [hostL_at]
  simp only [hostE_real q k h p n M hM, ← coe_sum, mass]
end row

theorem hostP_real (h : Fin 2) (p : Fin 4) (n t : Fin 8192) :
    hostP (arr8 q) (arr2 k) (ix4 h p n t) = ((soft (sc q k h p n) t : ℝ) : EReal) := by
  obtain ⟨M, hM⟩ := hostM_real q k h p n
  rw [hostP_at, hostE_real q k h p n M hM, hostL_real q k h p n M hM, Ideal.div_coe (mass_pos _ M).ne', ← EReal.coe_mul,
    ← soft_shift _ M, mul_one_div]

theorem delta_real (h : Fin 2) (p : Fin 4) (n : Fin 8192) :
    ∑ d : Fin 64, hostO (arr8 q) (arr2 k) (arr2 v) (ix3 n (headAt h p) d) * arr8 g (ix3 n (headAt h p) d)
      = ((∑ t, soft (sc q k h p n) t * dpr g v h p n t : ℝ) : EReal) := by
  simp only [hostO_at, hostP_real, arr8_at, arr2_at, ← EReal.coe_mul, ← coe_sum]
  refine congrArg _ ?_
  simp only [dpr, Finset.sum_mul, Finset.mul_sum]
  rw [Finset.sum_comm]
  exact Finset.sum_congr rfl fun t _ => Finset.sum_congr rfl fun d _ => by ring

section call
variable (m : (ℓ : Loc Cert.KernelIdeal.nD Cert.KernelIdeal.τ Cert.KernelIdeal.sig) → Buf (Elt Ideal) ℓ) (c : Dev Cert.KernelIdeal.nD)
variable (hq : argQ m c = arr8 q) (hk : argK m c = arr2 k) (hv : argV m c = arr2 v) (hg : argG m c = arr8 g)
variable (h : Fin 2) (i j : Fin 16)

section
include hq hk
theorem probs_real (a : Fin 512) (r : Fin 2048) : probs (inQ m c) (inK m c) (inL m c) h i j a r
    = ((soft (sc q k h (grpOf r) (tokAt i (posOf r))) (tokAt j a) : ℝ) : EReal) := by
  obtain ⟨M, hM⟩ := hostM_real q k h (grpOf r) (tokAt i (posOf r))
  unfold probs prob
  simp only [inK_at, inQ_at, inL_at, hq, hk, hM, hostL_real q k _ _ _ M hM, arr8_at, arr2_at, eighth, inv_log_two, Ideal.log_coe]
  rw [if_neg (not_le.mpr (mass_pos _ M))]
  simp only [← EReal.coe_mul, ← EReal.coe_add, ← coe_sum, ← EReal.coe_sub]
  rw [Ideal.exp2_coe, ← exp2_soft _ M]
  refine congrArg (fun x : ℝ => ((Real.rpow 2 x : ℝ) : EReal)) (congrArg₂ (· - ·) ?_ rfl)
  rw [sc, Finset.sum_mul, Finset.sum_mul]
  exact Finset.sum_congr rfl fun d _ => by ring
end

include hq hk hv hg
theorem dscores_real (a : Fin 512) (r : Fin 2048) : dscores (inQ m c) (inO m c) (inK m c) (inV m c) (inL m c) (inD m c) h i j a r
    = ((grad (sc q k h (grpOf r) (tokAt i (posOf r))) (dpr g v h (grpOf r) (tokAt i (posOf r))) (tokAt j a) : ℝ) : EReal) := by
  have hp := probs_real q k m c hq hk h i j a r
  unfold probs at hp
  unfold dscores dscore
  rw [hp]
  simp only [inV_at, inO_at, inD_at, hq, hk, hv, hg, delta_real]
  simp only [arr8_at, arr2_at, ← EReal.coe_mul, ← coe_sum, ← EReal.coe_sub]
  rfl
end call

/-! ## The reference -/

section reference
open Cert.ReferenceIdeal.Read Cert.Proof.FlashRef

theorem score_real (h : Fin 2) (p : Fin 4) (n t : Fin 8192) :
    val_main_v4 (F := Ideal) (arr8 q) (arr2 k) (ix4 h p n t) = ((sc q k h p n t : ℝ) : EReal) := by
  rw [score_at, eighth]
  simp only [arr8_at, arr2_at, ← EReal.coe_mul, ← coe_sum, sc]
theorem top_real (h : Fin 2) (p : Fin 4) (n : Fin 8192) :
    ∃ M : ℝ, val_main_v12 (F := Ideal) (arr8 q) (arr2 k) (ix3 h p n) = (M : EReal) := by
  rw [top_at, bottom, max_eq_right bot_le]
  simp only [score_real]
  exact fold_real _

section row
variable (h : Fin 2) (p : Fin 4) (n : Fin 8192) (M : ℝ) (hM : val_main_v12 (F := Ideal) (arr8 q) (arr2 k) (ix3 h p n) = (M : EReal))
include hM
theorem exp_real (t : Fin 8192) : val_main_v25 (F := Ideal) (arr8 q) (arr2 k) (ix4 h p n t) = ((Real.exp (sc q k h p n t - M) : ℝ) : EReal) := by
  rw [exp_at, score_real, hM, ← EReal.coe_sub, Ideal.exp_coe]
theorem sum_real : val_main_v27 (F := Ideal) (arr8 q) (arr2 k) (ix4 h p n 0) = ((mass (sc q k h p n) M : ℝ) : EReal) := by
  rw [sum_at]
  simp only [exp_real q k h p n M hM, ← coe_sum, mass]
end row

theorem prob_real (h : Fin 2) (p : Fin 4) (n t : Fin 8192) :
    val_main_v29 (F := Ideal) (arr8 q) (arr2 k) (ix4 h p n t) = ((soft (sc q k h p n) t : ℝ) : EReal) := by
  obtain ⟨M, hM⟩ := top_real q k h p n
  rw [prob_at, exp_real q k h p n M hM, sum_real q k h p n M hM, Ideal.div_coe (mass_pos _ M).ne', ← EReal.coe_mul,
    ← soft_shift _ M, mul_one_div]
theorem dprob_real (h : Fin 2) (p : Fin 4) (n t : Fin 8192) :
    val_main_v38 (F := Ideal) (arr2 v) (arr8 g) (ix4 h p n t) = ((dpr g v h p n t : ℝ) : EReal) := by
  rw [dprob_at]
  simp only [arr8_at, arr2_at, ← EReal.coe_mul, ← coe_sum, dpr]
  exact congrArg _ (Finset.sum_congr rfl fun d _ => mul_comm _ _)
theorem dscore_real (h : Fin 2) (p : Fin 4) (n t : Fin 8192) :
    val_main_v54 (F := Ideal) (arr8 q) (arr2 k) (arr2 v) (arr8 g) (ix4 h p n t)
      = ((grad (sc q k h p n) (dpr g v h p n) t * (1 / 8) : ℝ) : EReal) := by
  obtain ⟨M, hM⟩ := top_real q k h p n
  have hm := (mass_pos (sc q k h p n) M).ne'
  rw [dscore_at, corr_at, inv_at, eighth, ← grad_ref _ _ M]
  simp only [dprob_real, exp_real q k h p n M hM, sum_real q k h p n M hM, ← EReal.coe_mul]
  rw [Ideal.div_coe hm, Ideal.div_coe (mul_ne_zero hm hm), one_mul]
  simp only [← EReal.coe_mul, ← coe_sum, ← EReal.coe_neg, ← EReal.coe_add]
end reference

/-! ## The sums over tokens -/

/-- A token is a place of a block. -/
def tokEquiv : Fin 16 × Fin 512 ≃ Fin 8192 where
  toFun x := tokAt x.1 x.2
  invFun n := (⟨n.val / 512, by omega⟩, ⟨n.val % 512, by omega⟩)
  left_inv x := by
    obtain ⟨i, b⟩ := x
    exact Prod.ext (Fin.ext (by show (i.val * 512 + b.val) / 512 = i.val; omega)) (Fin.ext (by show (i.val * 512 + b.val) % 512 = b.val; omega))
  right_inv n := Fin.ext (by show n.val / 512 * 512 + n.val % 512 = n.val; omega)

theorem sum_tokens (f : Fin 8192 → ℝ) : ∑ j : Fin 16, ∑ a : Fin 512, f (tokAt j a) = ∑ t : Fin 8192, f t := by
  rw [← Fintype.sum_prod_type' (fun j a => f (tokAt j a))]
  exact Equiv.sum_comp tokEquiv f

/-- A column of a block of queries is a place of the block and a head of the group. -/
def colEquiv : Fin 4 × Fin 512 ≃ Fin 2048 where
  toFun x := ⟨x.1.val * 512 + x.2.val, by omega⟩
  invFun r := (grpOf r, posOf r)
  left_inv x := by
    obtain ⟨i, b⟩ := x
    exact Prod.ext (Fin.ext (by show (i.val * 512 + b.val) / 512 = i.val; omega)) (Fin.ext (by show (i.val * 512 + b.val) % 512 = b.val; omega))
  right_inv r := Fin.ext (by show r.val / 512 * 512 + r.val % 512 = r.val; omega)

theorem sum_columns (f : Fin 4 → Fin 8192 → ℝ) :
    ∑ i : Fin 16, ∑ r : Fin 2048, f (grpOf r) (tokAt i (posOf r)) = ∑ p : Fin 4, ∑ n : Fin 8192, f p n := by
  have h : ∀ i : Fin 16, ∑ r : Fin 2048, f (grpOf r) (tokAt i (posOf r)) = ∑ p : Fin 4, ∑ b : Fin 512, f p (tokAt i b) := fun i => by
    rw [← Fintype.sum_prod_type' (fun p b => f p (tokAt i b))]
    exact (Equiv.sum_comp colEquiv.symm (fun x => f x.1 (tokAt i x.2)))
  simp only [h]
  rw [Finset.sum_comm]
  exact Finset.sum_congr rfl fun p _ => sum_tokens (f p)

end Cert.Proof.FlashReal
-- ==== Proof.FlashFinal.lean ====
/-
  From the precondition to real arguments, and the three results of the two programs.
-/
module

public import proofs.«01_k».proof.Defs
public import proofs.«01_k».proof.Proof.Gen.Pre_finite
public import proofs.«01_k».proof.Proof.FlashReal
public import Idealize.ShloMosaic.Lib.ReduceAll

@[expose] public section

set_option maxRecDepth 16384

noncomputable section

open Idealize.ShloMosaic
open Cert.KernelIdeal (S8192x8x64 S8192x2x64)
open Cert.Proof.FlashMath Cert.Proof.Flash Cert.Proof.FlashReal

namespace Cert.Proof.FlashFinal

/-! ## The precondition -/

theorem infinity : Ideal.ofBits .f32 0x7F800000#32 = (⊤ : EReal) := by simp [Ideal.ofBits, Ideal.ieee]

/-- A number whose absolute value is below infinity is a real. -/
theorem real_of_below (x : EReal) (h : Ideal.cmp .olt (max x (-x)) (Ideal.ofBits .f32 0x7F800000#32) = 1#1) : x = ((x.toReal : ℝ) : EReal) := by
  rw [infinity] at h
  change BitVec.ofBool (decide (max x (-x) < (⊤ : EReal))) = 1#1 at h
  have h' : max x (-x) < ⊤ := by
    by_contra hn
    rw [decide_eq_false hn] at h
    exact absurd h (by decide)
  have h1 : x ≠ ⊤ := ne_of_lt (lt_of_le_of_lt (le_max_left _ _) h')
  have h2 : x ≠ ⊥ := fun e => by
    rw [e] at h'
    exact absurd h' (by simp)
  exact (EReal.coe_toReal h1 h2).symm

section pre
variable (x0 : FVec Ideal S8192x8x64 .f32) (x1 x2 : FVec Ideal S8192x2x64 .f32) (x3 : FVec Ideal S8192x8x64 .f32)

theorem real8 (x : FVec Ideal S8192x8x64 .f32) (h : ∀ i, Ideal.cmp .olt (max (x i) (-(x i))) (Ideal.ofBits .f32 0x7F800000#32) = 1#1) :
    x = arr8 (fun n a d => (x (ix3 n a d)).toReal) := by
  funext i
  obtain ⟨n, a, d, rfl⟩ : ∃ (n : Fin 8192) (a : Fin 8) (d : Fin 64), i = ix3 n a d := ⟨i 0, i 1, i 2, funext fun a => by fin_cases a <;> rfl⟩
  exact real_of_below _ (h _)
theorem real2 (x : FVec Ideal S8192x2x64 .f32) (h : ∀ i, Ideal.cmp .olt (max (x i) (-(x i))) (Ideal.ofBits .f32 0x7F800000#32) = 1#1) :
    x = arr2 (fun n a d => (x (ix3 n a d)).toReal) := by
  funext i
  obtain ⟨n, a, d, rfl⟩ : ∃ (n : Fin 8192) (a : Fin 2) (d : Fin 64), i = ix3 n a d := ⟨i 0, i 1, i 2, funext fun a => by fin_cases a <;> rfl⟩
  exact real_of_below _ (h _)

instance : Subsingleton Cert.Pre_finite.S_.Idx := ⟨fun a b => funext fun i => i.elim0⟩

attribute [local instance] Cert.Pre_finite.Gen.facts

theorem reals (h : Cert.Pre_finite.fn (F := Ideal) x0 x1 x2 x3 = fun _ => 1#1) :
    ∃ (q g : Fin 8192 → Fin 8 → Fin 64 → ℝ) (k v : Fin 8192 → Fin 2 → Fin 64 → ℝ), x0 = arr8 q ∧ x1 = arr2 k ∧ x2 = arr2 v ∧ x3 = arr8 g := by
  have h' := congrFun h ix0
  unfold Cert.Pre_finite.fn Cert.Pre_finite.fn_part1 at h'
  dsimp only at h'
  obtain ⟨h012, h3⟩ := IntOp.andi_eq_one.1 h'
  obtain ⟨h01, h2⟩ := IntOp.andi_eq_one.1 h012
  obtain ⟨h0, h1⟩ := IntOp.andi_eq_one.1 h01
  exact ⟨_, _, _, _, real8 x0 fun i => Host.reduce_andi_all _ _ _ _ _ h0 i, real2 x1 fun i => Host.reduce_andi_all _ _ _ _ _ h1 i,
    real2 x2 fun i => Host.reduce_andi_all _ _ _ _ _ h2 i, real8 x3 fun i => Host.reduce_andi_all _ _ _ _ _ h3 i⟩
end pre

/-! ## The results -/

/-- An index of a result is its four coordinates. -/
theorem coords {n0 n1 n2 n3 : ℕ} (x : (⟨4, ![n0, n1, n2, n3]⟩ : Shape).Idx) : ∃ (a : Fin n0) (b : Fin n1) (d : Fin n2) (e : Fin n3), x = ix4 a b d e :=
  ⟨x 0, x 1, x 2, x 3, funext fun a => by fin_cases a <;> rfl⟩

section results
open Cert.ReferenceIdeal.Read Cert.Proof.FlashRef
variable (m : (ℓ : Loc Cert.KernelIdeal.nD Cert.KernelIdeal.τ Cert.KernelIdeal.sig) → Buf (Elt Ideal) ℓ) (c : Dev Cert.KernelIdeal.nD)
variable (q g : Fin 8192 → Fin 8 → Fin 64 → ℝ) (k v : Fin 8192 → Fin 2 → Fin 64 → ℝ)
variable (hq : argQ m c = arr8 q) (hk : argK m c = arr2 k) (hv : argV m c = arr2 v) (hg : argG m c = arr8 g)
include hq hk

theorem res_v (h : Fin 2) (j : Fin 16) (d : Fin 64) (a : Fin 512) (hg : argG m c = arr8 g) :
    arrV m c (ix4 h j d a) = val_main_v71 (F := Ideal) (arr8 q) (arr2 k) (arr8 g) (ix4 h j d a) := by
  rw [resV_at]
  show ∑ i : Fin 16, partV (inQ m c) (inO m c) (inK m c) (inL m c) h i j d a = _
  simp only [partV, probs_real q k m c hq hk, inO_at, hg, prob_real, arr8_at, ← EReal.coe_mul, ← coe_sum]
  exact congrArg _ (sum_columns (fun p n => g n (headAt h p) d * soft (sc q k h p n) (tokAt j a)))

include hv hg
theorem res_q (h : Fin 2) (i : Fin 16) (d : Fin 64) (r : Fin 2048) :
    arrQ m c (ix4 h i d r) = val_main_v72 (F := Ideal) (arr8 q) (arr2 k) (arr2 v) (arr8 g) (ix4 h i d r) := by
  rw [resQ_at, eight]
  show sumQ (inQ m c) (inO m c) (inK m c) (inV m c) (inL m c) (inD m c) h i d r = _
  simp only [sumQ, dscores_real q g k v m c hq hk hv hg, inK_at, hk, dscore_real, arr2_at, ← EReal.coe_mul, ← coe_sum]
  refine congrArg _ ?_
  rw [sum_tokens (fun t => k t h d * grad (sc q k h (grpOf r) (tokAt i (posOf r))) (dpr g v h (grpOf r) (tokAt i (posOf r))) t), Finset.sum_mul]
  exact Finset.sum_congr rfl fun t _ => by ring

theorem res_k (h : Fin 2) (j : Fin 16) (d : Fin 64) (a : Fin 512) :
    arrK m c (ix4 h j d a) = val_main_v69 (F := Ideal) (arr8 q) (arr2 k) (arr2 v) (arr8 g) (ix4 h j d a) := by
  rw [resK_at, log_two, Ideal.div_coe (ne_of_gt log2_pos)]
  show ∑ i : Fin 16, partK (inQ m c) (inO m c) (inK m c) (inV m c) (inL m c) (inD m c) h i j d a = _
  simp only [partK, dscores_real q g k v m c hq hk hv hg, inQ_at, hq, dscore_real, arr8_at, eighth, inv_log_two, ← EReal.coe_mul, ← coe_sum]
  refine congrArg _ ?_
  rw [sum_columns (fun p n => q n (headAt h p) d * (1 / 8 * (1 / Real.log 2)) * grad (sc q k h p n) (dpr g v h p n) (tokAt j a)),
    Finset.sum_comm, Finset.sum_mul]
  refine Finset.sum_congr rfl fun n _ => ?_
  rw [Finset.sum_mul]
  exact Finset.sum_congr rfl fun p _ => by ring

omit hv hg in
theorem res_v_all (hg : argG m c = arr8 g) : arrV m c = val_main_v71 (F := Ideal) (arr8 q) (arr2 k) (arr8 g) := by
  funext x
  obtain ⟨h, j, d, a, rfl⟩ := coords x
  exact res_v m c q g k hq hk h j d a hg
theorem res_q_all : arrQ m c = val_main_v72 (F := Ideal) (arr8 q) (arr2 k) (arr2 v) (arr8 g) := by
  funext x
  obtain ⟨h, i, d, r, rfl⟩ := coords x
  exact res_q m c q g k v hq hk hv hg h i d r
theorem res_k_all : arrK m c = val_main_v69 (F := Ideal) (arr8 q) (arr2 k) (arr2 v) (arr8 g) := by
  funext x
  obtain ⟨h, j, d, a, rfl⟩ := coords x
  exact res_k m c q g k v hq hk hv hg h j d a
end results

end Cert.Proof.FlashFinal
-- ==== Proof.Sums.lean ====
/-
  Sums and windows shared by the proofs of the calls: a long sum taken a block at a time, a block written last, a block
  loaded whole, and congruence of a function of four coordinates.
-/
module

public import proofs.«01_k».proof.Defs
public import Idealize.ShloMosaic.Lib.WritesUnit
public import Idealize.ShloMosaic.Lib.VecWindow
public import Idealize.ShloMosaic.Lib.Pipeline.FrameBody
public import Idealize.ShloMosaic.Lib.Pointwise

@[expose] public section

noncomputable section

open Idealize.ShloMosaic Idealize.ShloMosaic.TcCoe Idealize.ShloMosaic.Tactic

namespace Cert.Proof.Sums

theorem block_lt {a b n : ℕ} (h : a * b = n) (i : Fin a) (j : Fin b) : i.val * b + j.val < n := by
  have h1 : (i.val + 1) * b ≤ a * b := Nat.mul_le_mul_right b i.isLt
  have h2 := j.isLt
  have h3 : (i.val + 1) * b = i.val * b + b := Nat.succ_mul _ _
  omega

/-- A sum over `a · b` things is the sum over `a` blocks of `b`. -/
theorem sum_blocks {M : Type} [AddCommMonoid M] (a b n : ℕ) (h : a * b = n) (g : Fin n → M) :
    ∑ i : Fin a, ∑ j : Fin b, g ⟨i.val * b + j.val, block_lt h i j⟩ = ∑ k : Fin n, g k := by
  subst h
  rw [← Fintype.sum_prod_type' (fun i j => g ⟨i.val * b + j.val, block_lt rfl i j⟩), ← Equiv.sum_comp finProdFinEquiv g]
  refine Finset.sum_congr rfl fun x _ => congrArg g (Fin.ext ?_)
  show x.1.val * b + x.2.val = x.2.val + b * x.1.val
  rw [Nat.mul_comm, Nat.add_comm]

theorem congr4 {A B C D E : Type} (G : A → B → C → D → E) {a a' : A} {b b' : B} {c c' : C} {d d' : D} (ha : a = a') (hb : b = b') (hc : c = c')
    (hd : d = d') : G a b c d = G a' b' c' d' := by
  rw [ha, hb, hc, hd]

section windows
variable {sig : RefSig}

/-- A load of a whole buffer reads what it holds. -/
theorem load {s : Shape} {e : EltTy} (m : Memref sig .tc .vmem s e) (h : m.IsWhole) (x : Vec Ideal s e) {off : Fin s.rank → ℕ}
    {inb : ∀ a, off a + s.size a ≤ s.size a} :
    m.view.readAt (Elt Ideal) (Rect.unit off s.size inb).toLoadRect (h.unread x) = x := by
  rw [View.readAt_full, h.read_unread]

/-- What is written over a whole buffer last is what the buffer holds. -/
theorem read_last {κ : Kind} {sp : Space} {s : Shape} {e : EltTy} (v : View sig κ sp s e) (g : BufTy.Contents (Elt Ideal) v.ty) {off : Fin s.rank → ℕ}
    (inb : ∀ a, off a + s.size a ≤ s.size a) (p : Vec Ideal s e) (L : List (View.Piece (Elt Ideal) s e)) (y : s.Idx) :
    v.read (Elt Ideal) (v.writes (Elt Ideal) g (⟨Rect.unit off s.size inb, p⟩ :: L)) y = p y := by
  rw [View.read_writes_cons_unit_of_mem v g inb _ _ y y rfl (fun x => by have := inb x; omega)]

/-- A load of a whole buffer written just before reads what was written. -/
theorem load_last {κ : Kind} {sp : Space} {s : Shape} {e : EltTy} (v : View sig κ sp s e) {off : Fin s.rank → ℕ} (inb : ∀ a, off a + s.size a ≤ s.size a)
    (p : Vec Ideal s e) (L : List (View.Piece (Elt Ideal) s e)) :
    v.readCov (⟨Rect.unit off s.size inb, p⟩ :: L) (Rect.unit off s.size inb).toLoadRect = p :=
  View.readCov_cons_toLoadRect _ _ _ _
end windows

end Cert.Proof.Sums
-- ==== Proof.FwdTrip.lean ====
/-
The loop of the forward attention kernel read as sums. Each trip takes eight blocks of keys: it adds the sums of
  their exponentials to the eight carried rows and adds the values they weigh to the accumulator. After the two trips
  every key of the head has been counted once.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2Ideal.Loops
public import proofs.«01_k».proof.Proof.Sums
public import Idealize.ShloMosaic.Lib.WritesUnit
public import Idealize.ShloMosaic.Lib.VecWindow
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Kernel2Ideal Cert.Kernel2Ideal.Gen

open Cert.Proof.Sums (load sum_blocks)

namespace Cert.Proof.FlashFwd

/-- The exponential of key `a`'s score for query column `r`, below the column's bound. -/
def prob (K : Fin 64 → Fin 512 → EReal) (Q : Fin 64 → Fin 2048 → EReal) (M : Fin 2048 → EReal) (a : Fin 512) (r : Fin 2048) : EReal :=
  Ideal.exp2 ((∑ d : Fin 64, K d a * Q d r) - M r)

/-- A block of queries by feature and column, a row of bounds, a block of keys or values by feature and key. -/
abbrev cols (X : Vec Ideal S1x1x64x2048 .bf16) (d : Fin 64) (r : Fin 2048) : EReal := X (ix4 0 0 d r)
abbrev row (X : Vec Ideal S1x1x1x2048 .f32) (r : Fin 2048) : EReal := X (ix4 0 0 0 r)
abbrev tile (X : Vec Ideal S1x1x64x512 .bf16) (d : Fin 64) (a : Fin 512) : EReal := X (ix4 0 0 d a)
abbrev tileOf (X : Vec Ideal S1x16x64x512 .bf16) (j : Fin 16) (d : Fin 64) (a : Fin 512) : EReal := X (ix4 0 j d a)

/-- Key `u` of group `g` of eight. -/
def keyAt (g : Fin 64) (u : Fin 8) : Fin 512 := ⟨g.val * 8 + u.val, by omega⟩

/-- What a block of keys adds to the carried row `u`. -/
def rowSum (K : Fin 64 → Fin 512 → EReal) (Q : Fin 64 → Fin 2048 → EReal) (M : Fin 2048 → EReal) (u : Fin 8) (r : Fin 2048) : EReal :=
  ∑ g : Fin 64, prob K Q M (keyAt g u) r
/-- What a block of keys and values adds to the accumulator. -/
def valSum (K W : Fin 64 → Fin 512 → EReal) (Q : Fin 64 → Fin 2048 → EReal) (M : Fin 2048 → EReal) (d : Fin 64) (r : Fin 2048) : EReal :=
  ∑ a : Fin 512, W d a * prob K Q M a r

section pays
variable (q : Vec Ideal S1x1x64x2048 .bf16) (b : Vec Ideal S1x1x1x2048 .f32) (k k' v v' : Vec Ideal S1x1x64x512 .bf16)

theorem pay9_at (a : Fin 512) (r : Fin 2048) :
    k0_pay9 (F := Ideal) (k0_pay1 q) (k0_pay2 b) k (ix2 a r) = prob (tile k) (cols q) (row b) a r := by
  unfold prob
  pointwise [k0_pay9, k0_pay1, k0_pay2]
  rfl

theorem pay10_eq : k0_pay10 (F := Ideal) = k0_pay9 (F := Ideal) := rfl
theorem pay13_eq : k0_pay13 (F := Ideal) = k0_pay9 (F := Ideal) := rfl
theorem pay14_eq : k0_pay14 (F := Ideal) = k0_pay9 (F := Ideal) := rfl
theorem pay17_eq : k0_pay17 (F := Ideal) = k0_pay9 (F := Ideal) := rfl
theorem pay18_eq : k0_pay18 (F := Ideal) = k0_pay9 (F := Ideal) := rfl
theorem pay21_eq : k0_pay21 (F := Ideal) = k0_pay9 (F := Ideal) := rfl
theorem pay22_eq : k0_pay22 (F := Ideal) = k0_pay9 (F := Ideal) := rfl
theorem pay15_eq : k0_pay15 (F := Ideal) = k0_pay11 (F := Ideal) := rfl
theorem pay19_eq : k0_pay19 (F := Ideal) = k0_pay11 (F := Ideal) := rfl
theorem pay23_eq : k0_pay23 (F := Ideal) = k0_pay11 (F := Ideal) := rfl
theorem pay20_eq : k0_pay20 (F := Ideal) = k0_pay16 (F := Ideal) := rfl

theorem pay11_at (acc : FVec Ideal S8x2048 .f32) (u : Fin 8) (r : Fin 2048) :
    k0_pay11 (F := Ideal) (k0_pay1 q) (k0_pay2 b) acc k k' (ix2 u r)
      = acc (ix2 u r) + rowSum (tile k) (cols q) (row b) u r + rowSum (tile k') (cols q) (row b) u r := by
  unfold rowSum
  simp only [← pay9_at]
  unfold k0_pay11
  rw [pay10_eq]
  generalize k0_pay9 (F := Ideal) (k0_pay1 q) (k0_pay2 b) k = p
  generalize k0_pay9 (F := Ideal) (k0_pay1 q) (k0_pay2 b) k' = p'
  pointwise []
  rfl

theorem pay12_at (d : Fin 64) (r : Fin 2048) :
    k0_pay12 (F := Ideal) (k0_pay1 q) (k0_pay2 b) k v k' v' (ix2 d r)
      = valSum (tile k) (tile v) (cols q) (row b) d r + valSum (tile k') (tile v') (cols q) (row b) d r := by
  unfold valSum
  simp only [← pay9_at]
  unfold k0_pay12
  rw [pay10_eq]
  generalize k0_pay9 (F := Ideal) (k0_pay1 q) (k0_pay2 b) k = p
  generalize k0_pay9 (F := Ideal) (k0_pay1 q) (k0_pay2 b) k' = p'
  pointwise []

theorem pay16_at (acc : FVec Ideal S64x2048 .f32) (d : Fin 64) (r : Fin 2048) :
    k0_pay16 (F := Ideal) (k0_pay1 q) (k0_pay2 b) acc k v k' v' (ix2 d r)
      = acc (ix2 d r) + valSum (tile k) (tile v) (cols q) (row b) d r + valSum (tile k') (tile v') (cols q) (row b) d r := by
  unfold valSum
  simp only [← pay9_at]
  unfold k0_pay16
  rw [pay13_eq, pay14_eq]
  generalize k0_pay9 (F := Ideal) (k0_pay1 q) (k0_pay2 b) k = p
  generalize k0_pay9 (F := Ideal) (k0_pay1 q) (k0_pay2 b) k' = p'
  pointwise []

theorem pay24_at (acc g : FVec Ideal S64x2048 .f32) (d : Fin 64) (r : Fin 2048) :
    k0_pay5 (F := Ideal) (k0_pay24 (F := Ideal) (k0_pay1 q) (k0_pay2 b) acc k v k' v' g) (ix2 d r)
      = g (ix2 d r) + (acc (ix2 d r) + valSum (tile k) (tile v) (cols q) (row b) d r + valSum (tile k') (tile v') (cols q) (row b) d r) := by
  unfold valSum
  simp only [← pay9_at]
  unfold k0_pay5 k0_pay24
  rw [pay21_eq, pay22_eq]
  generalize k0_pay9 (F := Ideal) (k0_pay1 q) (k0_pay2 b) k = p
  generalize k0_pay9 (F := Ideal) (k0_pay1 q) (k0_pay2 b) k' = p'
  pointwise []

theorem pay3_at (y : S64x2048.Idx) : k0_pay3 (F := Ideal) y = 0 := by
  pointwise [k0_pay3]
theorem pay4_at (y : S8x2048.Idx) : k0_pay4 (F := Ideal) y = 0 := by
  pointwise [k0_pay4]
theorem pay6_at (l : FVec Ideal S8x2048 .f32) (z : Fin 1) (r : Fin 2048) : k0_pay6 (F := Ideal) l (ix2 z r) = ∑ u : Fin 8, l (ix2 u r) := by
  obtain rfl := Fin.fin_one_eq_zero z
  pointwise [k0_pay6]
theorem pay7_at (g : FVec Ideal S64x2048 .f32) (l : FVec Ideal S8x2048 .f32) (x y : Fin 1) (d : Fin 64) (r : Fin 2048) :
    k0_pay7 (F := Ideal) l g (ix4 x y d r) = Ideal.div (g (ix2 d r)) (∑ u : Fin 8, l (ix2 u r)) := by
  obtain rfl := Fin.fin_one_eq_zero x
  obtain rfl := Fin.fin_one_eq_zero y
  rw [← pay6_at l 0 r]
  unfold k0_pay7
  generalize k0_pay6 (F := Ideal) l = s
  pointwise []
theorem pay8_at (l : FVec Ideal S8x2048 .f32) (x y z : Fin 1) (r : Fin 2048) :
    k0_pay8 (F := Ideal) b l (ix4 x y z r) = row b r + Ideal.log (∑ u : Fin 8, l (ix2 u r)) * (((Real.log 2)⁻¹ : ℝ) : EReal) := by
  obtain rfl := Fin.fin_one_eq_zero x
  obtain rfl := Fin.fin_one_eq_zero y
  obtain rfl := Fin.fin_one_eq_zero z
  rw [← pay6_at l 0 r]
  unfold k0_pay8
  generalize k0_pay6 (F := Ideal) l = s
  have hs : Named.named (F := Ideal) κ "s" (φ := .f32) 0x3FB8AA3B#32 = (((Real.log 2)⁻¹ : ℝ) : EReal) := by
    simp [Named.named, κ]
  pointwise [k0_pay2]
  rw [hs]
end pays

theorem trips_eq : k0_t1_loop.trips = 2 := by decide +kernel

/-- Block `j` of trip `k` among sixteen. -/
def jAt (k : Fin k0_t1_loop.trips) (j : Fin 8) : Fin 16 := ⟨8 * k.val + j.val, by have := k.isLt; have h := trips_eq; omega⟩

/-- The rectangle of block `j` of trip `k`. -/
abbrev blk (k : Fin k0_t1_loop.trips) (j : Fin 8) : Rect S1x16x64x512 :=
  Rect.unit (s := S1x16x64x512) (k0_off1 k (BitVec.ofNat 32 j.val)) S1x1x64x512.size (k0_off1_inb k j)

section trip
variable {F : FTy → Type} [FloatOps F] [Named F]
variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x1x2048 .f32) (harg5 : arg5.IsWhole) (arg6 : Memref sig .tc .vmem S1x1x64x2048 .f32) (harg6 : arg6.IsWhole) (arg7 : Memref sig .tc .vmem S1x1x1x2048 .f32) (harg7 : arg7.IsWhole) (arg8 : Memref sig .tc .vmem S64x2048 .f32) (harg8 : arg8.IsWhole)
  (v0 : Vec F S1x1x64x2048 .bf16) (v2 : Vec F S1x1x1x2048 .f32) (X3 : BufTy.Contents (Elt F) arg3.view.ty) (X4 : BufTy.Contents (Elt F) arg4.view.ty)
  (k : Fin k0_t1_loop.trips) (acc : FVec F S8x2048 .f32) (f8 : BufTy.Contents (Elt F) arg8.view.ty)

theorem trip_rows : tripR_k0_t1 (F := F) 𝒱 c bd i arg2 harg2 arg3 harg3 arg4 harg4 arg5 harg5 arg6 harg6 arg7 harg7 arg8 harg8 v0 v2 X3 X4 k acc f8
    = k0_pay23 (k0_pay1 v0) (k0_pay2 v2) (k0_pay19 (k0_pay1 v0) (k0_pay2 v2) (k0_pay15 (k0_pay1 v0) (k0_pay2 v2) (k0_pay11 (k0_pay1 v0) (k0_pay2 v2) acc (arg3.view.readAt (Elt F) (blk k 0).toLoadRect X3) (arg3.view.readAt (Elt F) (blk k 1).toLoadRect X3)) (arg3.view.readAt (Elt F) (blk k 2).toLoadRect X3) (arg3.view.readAt (Elt F) (blk k 3).toLoadRect X3)) (arg3.view.readAt (Elt F) (blk k 4).toLoadRect X3) (arg3.view.readAt (Elt F) (blk k 5).toLoadRect X3)) (arg3.view.readAt (Elt F) (blk k 6).toLoadRect X3) (arg3.view.readAt (Elt F) (blk k 7).toLoadRect X3) := by
  unfold tripR_k0_t1 trip_k0_t1
  dsimp only
  sl_unfold_words
  rfl

theorem trip_acc : tripL_k0_t1 (F := F) 𝒱 c bd i arg2 harg2 arg3 harg3 arg4 harg4 arg5 harg5 arg6 harg6 arg7 harg7 arg8 harg8 v0 v2 X3 X4 k acc f8
    = [⟨Rect.unit (s := S64x2048) ![0, 0] S64x2048.size inb_S64x2048_S64x2048_0_0,
        k0_pay5 (k0_pay24 (k0_pay1 v0) (k0_pay2 v2) (k0_pay20 (k0_pay1 v0) (k0_pay2 v2) (k0_pay16 (k0_pay1 v0) (k0_pay2 v2) (k0_pay12 (k0_pay1 v0) (k0_pay2 v2) (arg3.view.readAt (Elt F) (blk k 0).toLoadRect X3) (arg4.view.readAt (Elt F) (blk k 0).toLoadRect X4) (arg3.view.readAt (Elt F) (blk k 1).toLoadRect X3) (arg4.view.readAt (Elt F) (blk k 1).toLoadRect X4)) (arg3.view.readAt (Elt F) (blk k 2).toLoadRect X3) (arg4.view.readAt (Elt F) (blk k 2).toLoadRect X4) (arg3.view.readAt (Elt F) (blk k 3).toLoadRect X3) (arg4.view.readAt (Elt F) (blk k 3).toLoadRect X4)) (arg3.view.readAt (Elt F) (blk k 4).toLoadRect X3) (arg4.view.readAt (Elt F) (blk k 4).toLoadRect X4) (arg3.view.readAt (Elt F) (blk k 5).toLoadRect X3) (arg4.view.readAt (Elt F) (blk k 5).toLoadRect X4)) (arg3.view.readAt (Elt F) (blk k 6).toLoadRect X3) (arg4.view.readAt (Elt F) (blk k 6).toLoadRect X4) (arg3.view.readAt (Elt F) (blk k 7).toLoadRect X3) (arg4.view.readAt (Elt F) (blk k 7).toLoadRect X4) (arg8.view.readAt (Elt F) (Rect.unit (s := S64x2048) ![0, 0] S64x2048.size inb_S64x2048_S64x2048_0_0).toLoadRect f8))⟩] := by
  unfold tripL_k0_t1 trip_k0_t1
  dsimp only
  sl_unfold_words
  rfl
end trip

/-- A load of a trip's block reads the block of what the buffer holds. -/
theorem read_blk (m : Memref sig .tc .vmem S1x16x64x512 .bf16) (f : BufTy.Contents (Elt Ideal) m.view.ty)
    (k : Fin k0_t1_loop.trips) (j : Fin 8) : tile (m.view.readAt (Elt Ideal) (blk k j).toLoadRect f) = tileOf (m.view.read (Elt Ideal) f) (jAt k j) := by
  funext d a
  show m.view.readAt (Elt Ideal) (blk k j).toLoadRect f (ix4 0 0 d a) = m.view.read (Elt Ideal) f (ix4 0 (jAt k j) d a)
  rw [View.readAt_apply]
  refine congrArg (m.view.read (Elt Ideal) f) (funext fun x => Fin.ext ?_)
  show k0_off1 k (BitVec.ofNat 32 j.val) x + 1 * ((ix4 (0 : Fin 1) (0 : Fin 1) d a : S1x1x64x512.Idx) x).val = _
  rw [k0_off1_eq]
  match x with
  | ⟨0, _⟩ => rfl
  | ⟨1, _⟩ => exact Nat.add_zero _
  | ⟨2, _⟩ => show 0 + 1 * d.val = d.val; omega
  | ⟨3, _⟩ => show 0 + 1 * a.val = a.val; omega

/-- The sum over sixteen blocks, eight by eight. -/
theorem sum_two (f : Fin 16 → EReal) (h0 : 0 < k0_t1_loop.trips) (h1 : 1 < k0_t1_loop.trips) :
    (∑ j : Fin 8, f (jAt ⟨0, h0⟩ j)) + ∑ j : Fin 8, f (jAt ⟨1, h1⟩ j) = ∑ j : Fin 16, f j := by
  rw [Fin.sum_univ_eight, Fin.sum_univ_eight]
  simp only [Fin.sum_univ_succ, Fin.sum_univ_zero, add_zero, add_assoc]
  rfl

section loop
variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x1x2048 .f32) (harg5 : arg5.IsWhole) (arg6 : Memref sig .tc .vmem S1x1x64x2048 .f32) (harg6 : arg6.IsWhole) (arg7 : Memref sig .tc .vmem S1x1x1x2048 .f32) (harg7 : arg7.IsWhole) (arg8 : Memref sig .tc .vmem S64x2048 .f32) (harg8 : arg8.IsWhole)
  (v0 : Vec Ideal S1x1x64x2048 .bf16) (v2 : Vec Ideal S1x1x1x2048 .f32) (X3 : BufTy.Contents (Elt Ideal) arg3.view.ty) (X4 : BufTy.Contents (Elt Ideal) arg4.view.ty)
  (G8 : BufTy.Contents (Elt Ideal) arg8.view.ty) (init : FVec Ideal S8x2048 .f32)

/-- One trip adds its eight blocks to the carried rows, -/
theorem step_rows (k : Fin k0_t1_loop.trips) (acc : FVec Ideal S8x2048 .f32) (f8 : BufTy.Contents (Elt Ideal) arg8.view.ty) (u : Fin 8) (r : Fin 2048) :
    tripR_k0_t1 (F := Ideal) 𝒱 c bd i arg2 harg2 arg3 harg3 arg4 harg4 arg5 harg5 arg6 harg6 arg7 harg7 arg8 harg8 v0 v2 X3 X4 k acc f8 (ix2 u r)
      = acc (ix2 u r) + ∑ j : Fin 8, rowSum (tileOf (arg3.view.read (Elt Ideal) X3) (jAt k j)) (cols v0) (row v2) u r := by
  rw [trip_rows, pay23_eq, pay11_at, pay19_eq, pay11_at, pay15_eq, pay11_at, pay11_at, Fin.sum_univ_eight]
  simp only [read_blk, add_assoc]

/-- and to the accumulator. -/
theorem step_acc (k : Fin k0_t1_loop.trips) (acc : FVec Ideal S8x2048 .f32) (f8 : BufTy.Contents (Elt Ideal) arg8.view.ty)
    (L : List (View.Piece (Elt Ideal) S64x2048 .f32)) (d : Fin 64) (r : Fin 2048) :
    arg8.view.read (Elt Ideal) (arg8.view.writes (Elt Ideal) G8 (tripL_k0_t1 (F := Ideal) 𝒱 c bd i arg2 harg2 arg3 harg3 arg4 harg4 arg5 harg5 arg6 harg6 arg7 harg7 arg8 harg8 v0 v2 X3 X4 k acc f8 ++ L)) (ix2 d r)
      = arg8.view.read (Elt Ideal) f8 (ix2 d r)
        + ∑ j : Fin 8, valSum (tileOf (arg3.view.read (Elt Ideal) X3) (jAt k j)) (tileOf (arg4.view.read (Elt Ideal) X4) (jAt k j)) (cols v0) (row v2) d r := by
  rw [trip_acc, List.singleton_append, Cert.Proof.Sums.read_last, pay24_at, pay20_eq, pay16_at, pay16_at, pay12_at, View.readAt_full, Fin.sum_univ_eight]
  simp only [read_blk]

/-- The carried rows after the loop, -/
theorem loop_rows (u : Fin 8) (r : Fin 2048) :
    (st_k0_t1 (F := Ideal) 𝒱 c bd i arg2 harg2 arg3 harg3 arg4 harg4 arg5 harg5 arg6 harg6 arg7 harg7 arg8 harg8 v0 v2 X3 X4 G8 init k0_t1_loop.trips).1 (ix2 u r)
      = init (ix2 u r) + ∑ j : Fin 16, rowSum (tileOf (arg3.view.read (Elt Ideal) X3) j) (cols v0) (row v2) u r := by
  have h0 : 0 < k0_t1_loop.trips := by rw [trips_eq]; decide
  have h1 : 1 < k0_t1_loop.trips := by rw [trips_eq]; decide
  have s0 := st_k0_t1_succ (F := Ideal) 𝒱 c bd i arg2 harg2 arg3 harg3 arg4 harg4 arg5 harg5 arg6 harg6 arg7 harg7 arg8 harg8 v0 v2 X3 X4 G8 init ⟨0, h0⟩
  have s1 := st_k0_t1_succ (F := Ideal) 𝒱 c bd i arg2 harg2 arg3 harg3 arg4 harg4 arg5 harg5 arg6 harg6 arg7 harg7 arg8 harg8 v0 v2 X3 X4 G8 init ⟨1, h1⟩
  have hz := st_k0_t1_zero (F := Ideal) 𝒱 c bd i arg2 harg2 arg3 harg3 arg4 harg4 arg5 harg5 arg6 harg6 arg7 harg7 arg8 harg8 v0 v2 X3 X4 G8 init
  rw [trips_eq]
  refine (congrArg (fun p => p.1 (ix2 u r)) s1).trans ?_
  dsimp only
  rw [step_rows]
  refine (congrArg (· + _) ((congrArg (fun p => p.1 (ix2 u r)) s0).trans ?_)).trans (add_assoc _ (∑ j : Fin 8, _) _ |>.trans (congrArg _ (sum_two (fun j => rowSum (tileOf (arg3.view.read (Elt Ideal) X3) j) (cols v0) (row v2) u r) h0 h1)))
  dsimp only
  rw [step_rows, hz]

/-- and the accumulator. -/
theorem loop_acc (d : Fin 64) (r : Fin 2048) :
    arg8.view.read (Elt Ideal) (arg8.view.writes (Elt Ideal) G8 (st_k0_t1 (F := Ideal) 𝒱 c bd i arg2 harg2 arg3 harg3 arg4 harg4 arg5 harg5 arg6 harg6 arg7 harg7 arg8 harg8 v0 v2 X3 X4 G8 init k0_t1_loop.trips).2) (ix2 d r)
      = arg8.view.read (Elt Ideal) G8 (ix2 d r)
        + ∑ j : Fin 16, valSum (tileOf (arg3.view.read (Elt Ideal) X3) j) (tileOf (arg4.view.read (Elt Ideal) X4) j) (cols v0) (row v2) d r := by
  have h0 : 0 < k0_t1_loop.trips := by rw [trips_eq]; decide
  have h1 : 1 < k0_t1_loop.trips := by rw [trips_eq]; decide
  have s0 := st_k0_t1_succ (F := Ideal) 𝒱 c bd i arg2 harg2 arg3 harg3 arg4 harg4 arg5 harg5 arg6 harg6 arg7 harg7 arg8 harg8 v0 v2 X3 X4 G8 init ⟨0, h0⟩
  have s1 := st_k0_t1_succ (F := Ideal) 𝒱 c bd i arg2 harg2 arg3 harg3 arg4 harg4 arg5 harg5 arg6 harg6 arg7 harg7 arg8 harg8 v0 v2 X3 X4 G8 init ⟨1, h1⟩
  have hz := st_k0_t1.eq_1 (F := Ideal) 𝒱 c bd i arg2 harg2 arg3 harg3 arg4 harg4 arg5 harg5 arg6 harg6 arg7 harg7 arg8 harg8 v0 v2 X3 X4 G8 init
  rw [trips_eq]
  refine (congrArg (fun p => arg8.view.read (Elt Ideal) (arg8.view.writes (Elt Ideal) G8 p.2) (ix2 d r)) s1).trans ?_
  dsimp only
  rw [step_acc]
  refine (congrArg (· + _) ((congrArg (fun p => arg8.view.read (Elt Ideal) (arg8.view.writes (Elt Ideal) G8 p.2) (ix2 d r)) s0).trans ?_)).trans
    (add_assoc _ (∑ j : Fin 8, _) _ |>.trans (congrArg _ (sum_two (fun j => valSum (tileOf (arg3.view.read (Elt Ideal) X3) j) (tileOf (arg4.view.read (Elt Ideal) X4) j) (cols v0) (row v2) d r) h0 h1)))
  dsimp only
  rw [step_acc, hz]
  rfl
end loop

/-! ## What a grid point leaves -/

section outs
variable (c : Dev nD) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole)
  (arg5 : Memref sig .tc .vmem S1x1x1x2048 .f32) (harg5 : arg5.IsWhole) (arg6 : Memref sig .tc .vmem S1x1x64x2048 .f32) (harg6 : arg6.IsWhole) (arg7 : Memref sig .tc .vmem S1x1x1x2048 .f32) (harg7 : arg7.IsWhole) (arg8 : Memref sig .tc .vmem S64x2048 .f32) (harg8 : arg8.IsWhole)
  (x0 : Vec Ideal S1x1x64x2048 .bf16) (x1 x2 : Vec Ideal S1x16x64x512 .bf16) (x3 : Vec Ideal S1x1x1x2048 .f32)

/-- The sum of the exponentials of a column, as the eight rows hold it. -/
def den (K : Fin 16 → Fin 64 → Fin 512 → EReal) (Q : Fin 64 → Fin 2048 → EReal) (M : Fin 2048 → EReal) (r : Fin 2048) : EReal :=
  ∑ u : Fin 8, ∑ j : Fin 16, rowSum (K j) Q M u r
/-- The sum of the values weighed by them. -/
def num (K W : Fin 16 → Fin 64 → Fin 512 → EReal) (Q : Fin 64 → Fin 2048 → EReal) (M : Fin 2048 → EReal) (d : Fin 64) (r : Fin 2048) : EReal :=
  ∑ j : Fin 16, valSum (K j) (W j) Q M d r

theorem out_4 (x y : Fin 1) (d : Fin 64) (r : Fin 2048) : out0_A_4 (F := Ideal) c i arg2 harg2 arg3 harg3 arg4 harg4 arg5 harg5 arg6 harg6 arg7 harg7 arg8 harg8 x0 x1 x2 x3 (ix4 x y d r)
    = Ideal.div (num (tileOf x1) (tileOf x2) (cols x0) (row x3) d r) (den (tileOf x1) (cols x0) (row x3) r) := by
  unfold out0_A_4 num den
  unfold kernelRun0_A
  dsimp only
  sl_unfold_words
  rw [Cert.Proof.Sums.read_last, pay7_at]
  rw [load arg2 harg2 x0, load arg5 harg5 x3]
  refine congrArg₂ Ideal.div ?_ (Finset.sum_congr rfl fun u _ => ?_)
  · rw [View.readCov, View.readAt_full, View.writes_append]
    refine (loop_acc Variants.none c none i arg2 harg2 arg3 harg3 arg4 harg4 arg5 harg5 arg6 harg6 arg7 harg7 arg8 harg8 x0 x3 (harg3.unread x1) (harg4.unread x2) _ _ d r).trans ?_
    rw [Cert.Proof.Sums.read_last, pay3_at, zero_add, harg3.read_unread, harg4.read_unread]
  · rw [loop_rows, pay4_at, zero_add, harg3.read_unread]

theorem out_5 (x y z : Fin 1) (r : Fin 2048) : out0_A_5 (F := Ideal) c i arg2 harg2 arg3 harg3 arg4 harg4 arg5 harg5 arg6 harg6 arg7 harg7 arg8 harg8 x0 x1 x2 x3 (ix4 x y z r)
    = row x3 r + Ideal.log (den (tileOf x1) (cols x0) (row x3) r) * (((Real.log 2)⁻¹ : ℝ) : EReal) := by
  unfold out0_A_5 den
  unfold kernelRun0_A
  dsimp only
  sl_unfold_words
  rw [Cert.Proof.Sums.read_last, pay8_at]
  rw [load arg2 harg2 x0, load arg5 harg5 x3]
  refine congrArg (fun l => row x3 r + Ideal.log l * (((Real.log 2)⁻¹ : ℝ) : EReal)) (Finset.sum_congr rfl fun u _ => ?_)
  rw [loop_rows, pay4_at, zero_add, harg3.read_unread]
end outs

end Cert.Proof.FlashFwd
-- ==== Proof.Reals.lean ====
/-
  Arrays of real numbers among arrays of extended reals: what the preconditions say, sums, and the activation.
-/
module

public import Idealize.ShloMosaic.Lib.ReduceAll
public import Idealize.ShloMosaic.Lib.Pointwise

@[expose] public section

noncomputable section

open Idealize.ShloMosaic

namespace Cert.Proof.Reals

theorem infinity : Ideal.ofBits .f32 0x7F800000#32 = (⊤ : EReal) := by simp [Ideal.ofBits, Ideal.ieee]
theorem one_bits : Ideal.ofBits .f32 0x3F800000#32 = ((1 : ℝ) : EReal) := by
  simp [Ideal.ofBits, Ideal.ieee, -EReal.coe_mul]
  norm_num

/-- A number whose absolute value is below infinity is a real. -/
theorem real_of_below (x : EReal) (h : Ideal.cmp .olt (max x (-x)) (Ideal.ofBits .f32 0x7F800000#32) = 1#1) : x = ((x.toReal : ℝ) : EReal) := by
  rw [infinity] at h
  change BitVec.ofBool (decide (max x (-x) < (⊤ : EReal))) = 1#1 at h
  have h' : max x (-x) < ⊤ := by
    by_contra hn
    rw [decide_eq_false hn] at h
    exact absurd h (by decide)
  have h1 : x ≠ ⊤ := ne_of_lt (lt_of_le_of_lt (le_max_left _ _) h')
  have h2 : x ≠ ⊥ := fun e => by
    rw [e] at h'
    exact absurd h' (by simp)
  exact (EReal.coe_toReal h1 h2).symm

/-- A matrix of reals, and a row of reals. -/
def mat {a b : ℕ} (r : Fin a → Fin b → ℝ) : FVec Ideal (⟨2, ![a, b]⟩ : Shape) .f32 := fun i => ((r (i 0) (i 1) : ℝ) : EReal)
def row {a : ℕ} (r : Fin a → ℝ) : FVec Ideal (⟨1, ![a]⟩ : Shape) .f32 := fun i => ((r (i 0) : ℝ) : EReal)
theorem mat_at {a b : ℕ} (r : Fin a → Fin b → ℝ) (i : Fin a) (j : Fin b) : mat r (ix2 i j) = ((r i j : ℝ) : EReal) := rfl
theorem row_at {a : ℕ} (r : Fin a → ℝ) (i : Fin a) : row r (ix1 i) = ((r i : ℝ) : EReal) := rfl
theorem mat_of {a b : ℕ} (x : FVec Ideal (⟨2, ![a, b]⟩ : Shape) .f32) (h : ∀ i, Ideal.cmp .olt (max (x i) (-(x i))) (Ideal.ofBits .f32 0x7F800000#32) = 1#1) :
    ∃ r : Fin a → Fin b → ℝ, x = mat r := by
  refine ⟨fun i j => (x (ix2 i j)).toReal, ?_⟩
  funext i
  obtain ⟨n, d, rfl⟩ : ∃ (n : Fin a) (d : Fin b), i = ix2 n d := ⟨i 0, i 1, funext fun a => by fin_cases a <;> rfl⟩
  exact real_of_below _ (h _)
theorem row_of {a : ℕ} (x : FVec Ideal (⟨1, ![a]⟩ : Shape) .f32) (h : ∀ i, Ideal.cmp .olt (max (x i) (-(x i))) (Ideal.ofBits .f32 0x7F800000#32) = 1#1) :
    ∃ r : Fin a → ℝ, x = row r := by
  refine ⟨fun i => (x (ix1 i)).toReal, ?_⟩
  funext i
  obtain ⟨n, rfl⟩ : ∃ (n : Fin a), i = ix1 n := ⟨i 0, funext fun a => by fin_cases a; rfl⟩
  exact real_of_below _ (h _)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- One over one plus the exponential of the negated number. -/
def sig1 (x : EReal) : EReal := Ideal.div (Ideal.ofBits .f32 0x3F800000#32) (Ideal.ofBits .f32 0x3F800000#32 + Ideal.exp (-x))
def sig (x : ℝ) : ℝ := 1 / (1 + Real.exp (-x))
theorem sig1_coe (x : ℝ) : sig1 (x : EReal) = ((sig x : ℝ) : EReal) := by
  unfold sig1 sig
  rw [one_bits, ← EReal.coe_neg, Ideal.exp_coe, ← EReal.coe_add, Ideal.div_coe (ne_of_gt (by positivity))]
  norm_cast
  ring_nf

end Cert.Proof.Reals
-- ==== Proof.FlashFwd.lean ====
/-
The forward attention: the output and the logarithm of every row's sum of exponentials, over the reals, are the
  reference's. The kernel bounds the scores of a column by a product of two lengths and subtracts the bound before it
  takes powers of two; the reference subtracts the largest score. Both bounds cancel.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.FwdTrip
public import proofs.«01_k».proof.Proof.Reals
public import proofs.«01_k».proof.Proof.FlashReal
public import proofs.«01_k».proof.Proof.Gen.Pre_finite3
public import Idealize.ShloMosaic.Lib.ReduceAll
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Kernel2Ideal Cert.Kernel2Ideal.Gen

open Cert.Proof.Sums (sum_blocks congr4)
open Cert.Proof.Flash (headAt tokAt grpOf posOf)
open Cert.Proof.FlashMath
open Cert.Proof.FlashReal (sc sum_tokens)

namespace Cert.Proof.FlashFwd

theorem preserves : Cert.preserves_Kernel2_Kernel2Ideal :=
  IdealRules.named_const.statement Cert.Kernel2Ideal.κ "s" .f32 0x3FB8AA3B#32 (((Real.log 2)⁻¹ : ℝ) : EReal) (by simp [Cert.Kernel2Ideal.κ])

/-! ## A point's blocks -/

/-- The head of keys and the block of queries of a grid point. -/
def hd (t : Fin cfg0.N) (x : Fin 1) : Fin 2 := ⟨t.val / 16 * 1 + x.val, by have := t.isLt; have hN : cfg0.N = 32 := N_0; omega⟩
def rw' (t : Fin cfg0.N) (y : Fin 1) : Fin 16 := ⟨t.val % 16 * 1 + y.val, by omega⟩
/-- The grid point of a head and a block of queries. -/
def pointOf (h : Fin 2) (i : Fin 16) : Fin cfg0.N := ⟨16 * h.val + i.val, by have hN : cfg0.N = 32 := N_0; omega⟩

theorem ix_0 : ∀ t : Fin grid0.N, win0_0.index t 0 = t.val / 16 ∧ win0_0.index t 1 = t.val % 16 ∧ win0_0.index t 2 = 0 ∧ win0_0.index t 3 = 0 := by decide +kernel
theorem ix_3 : ∀ t : Fin grid0.N, win0_3.index t 0 = t.val / 16 ∧ win0_3.index t 1 = t.val % 16 ∧ win0_3.index t 2 = 0 ∧ win0_3.index t 3 = 0 := by decide +kernel
theorem ix_4 : ∀ t : Fin grid0.N, win0_4.index t 0 = t.val / 16 ∧ win0_4.index t 1 = t.val % 16 ∧ win0_4.index t 2 = 0 ∧ win0_4.index t 3 = 0 := by decide +kernel
theorem ix_5 : ∀ t : Fin grid0.N, win0_5.index t 0 = t.val / 16 ∧ win0_5.index t 1 = t.val % 16 ∧ win0_5.index t 2 = 0 ∧ win0_5.index t 3 = 0 := by decide +kernel
theorem ix_1 : ∀ t : Fin grid0.N, win0_1.index t 0 = t.val / 16 ∧ win0_1.index t 1 = 0 ∧ win0_1.index t 2 = 0 ∧ win0_1.index t 3 = 0 := by decide +kernel
theorem ix_2 : ∀ t : Fin grid0.N, win0_2.index t 0 = t.val / 16 ∧ win0_2.index t 1 = 0 ∧ win0_2.index t 2 = 0 ∧ win0_2.index t 3 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)

section windows
variable (m : (ℓ : Loc nD τ sig) → Buf (Elt Ideal) ℓ) (c : Dev nD) (t : Fin cfg0.N)

theorem read_0 (W : (b : Ref sig .tc) → Buf (Elt Ideal) ((c : Thread nD τ).loc b)) (p0 : Fin 1) (p1 : Fin 1) (d : Fin 64) (r : Fin 2048) :
    ((cfg0.win 0).blk t).view.read (Elt Ideal) (W (Pipeline.arrRef spec0 0)) (ix4 p0 p1 d r) = W main_v8 (ix4 (hd t p0) (rw' t p1) d r) := by
  rw [View.read_apply]
  refine congrArg (W main_v8) (funext fun a => Fin.ext ?_)
  match a with
  | ⟨0, _⟩ => show win0_0.index t 0 * 1 + 1 * p0.val = t.val / 16 * 1 + p0.val; rw [(ix_0 t).1]; omega
  | ⟨1, _⟩ => show win0_0.index t 1 * 1 + 1 * p1.val = t.val % 16 * 1 + p1.val; rw [(ix_0 t).2.1]; omega
  | ⟨2, _⟩ => show win0_0.index t 2 * 64 + 1 * d.val = d.val; rw [(ix_0 t).2.2.1]; omega
  | ⟨3, _⟩ => show win0_0.index t 3 * 2048 + 1 * r.val = r.val; rw [(ix_0 t).2.2.2]; omega
theorem read_1 (W : (b : Ref sig .tc) → Buf (Elt Ideal) ((c : Thread nD τ).loc b)) (p0 : Fin 1) (j : Fin 16) (d : Fin 64) (e : Fin 512) :
    ((cfg0.win 1).blk t).view.read (Elt Ideal) (W (Pipeline.arrRef spec0 1)) (ix4 p0 j d e) = W main_v11 (ix4 (hd t p0) j d e) := by
  rw [View.read_apply]
  refine congrArg (W main_v11) (funext fun a => Fin.ext ?_)
  match a with
  | ⟨0, _⟩ => show win0_1.index t 0 * 1 + 1 * p0.val = t.val / 16 * 1 + p0.val; rw [(ix_1 t).1]; omega
  | ⟨1, _⟩ => show win0_1.index t 1 * 16 + 1 * j.val = j.val; rw [(ix_1 t).2.1]; omega
  | ⟨2, _⟩ => show win0_1.index t 2 * 64 + 1 * d.val = d.val; rw [(ix_1 t).2.2.1]; omega
  | ⟨3, _⟩ => show win0_1.index t 3 * 512 + 1 * e.val = e.val; rw [(ix_1 t).2.2.2]; omega
theorem read_2 (W : (b : Ref sig .tc) → Buf (Elt Ideal) ((c : Thread nD τ).loc b)) (p0 : Fin 1) (j : Fin 16) (d : Fin 64) (e : Fin 512) :
    ((cfg0.win 2).blk t).view.read (Elt Ideal) (W (Pipeline.arrRef spec0 2)) (ix4 p0 j d e) = W main_v14 (ix4 (hd t p0) j d e) := by
  rw [View.read_apply]
  refine congrArg (W main_v14) (funext fun a => Fin.ext ?_)
  match a with
  | ⟨0, _⟩ => show win0_2.index t 0 * 1 + 1 * p0.val = t.val / 16 * 1 + p0.val; rw [(ix_2 t).1]; omega
  | ⟨1, _⟩ => show win0_2.index t 1 * 16 + 1 * j.val = j.val; rw [(ix_2 t).2.1]; omega
  | ⟨2, _⟩ => show win0_2.index t 2 * 64 + 1 * d.val = d.val; rw [(ix_2 t).2.2.1]; omega
  | ⟨3, _⟩ => show win0_2.index t 3 * 512 + 1 * e.val = e.val; rw [(ix_2 t).2.2.2]; omega
theorem read_3 (W : (b : Ref sig .tc) → Buf (Elt Ideal) ((c : Thread nD τ).loc b)) (p0 : Fin 1) (p1 : Fin 1) (z : Fin 1) (r : Fin 2048) :
    ((cfg0.win 3).blk t).view.read (Elt Ideal) (W (Pipeline.arrRef spec0 3)) (ix4 p0 p1 z r) = W main_v30 (ix4 (hd t p0) (rw' t p1) z r) := by
  rw [View.read_apply]
  refine congrArg (W main_v30) (funext fun a => Fin.ext ?_)
  match a with
  | ⟨0, _⟩ => show win0_3.index t 0 * 1 + 1 * p0.val = t.val / 16 * 1 + p0.val; rw [(ix_3 t).1]; omega
  | ⟨1, _⟩ => show win0_3.index t 1 * 1 + 1 * p1.val = t.val % 16 * 1 + p1.val; rw [(ix_3 t).2.1]; omega
  | ⟨2, _⟩ => show win0_3.index t 2 * 1 + 1 * z.val = z.val; rw [(ix_3 t).2.2.1]; omega
  | ⟨3, _⟩ => show win0_3.index t 3 * 2048 + 1 * r.val = r.val; rw [(ix_3 t).2.2.2]; omega
theorem cover_4 (x : S2x16x64x2048.Idx) : ∃ t : Fin cfg0.N, (cfg0.win 4).flush t = true ∧ x ∈ ((View.whole main_v31_0).slice (win0_4.rect t)).set := by
  obtain ⟨h, i, d, r, rfl⟩ : ∃ (h : Fin 2) (i : Fin 16) (d : Fin 64) (r : Fin 2048), x = ix4 h i d r := ⟨x 0, x 1, x 2, x 3, funext fun a => by fin_cases a <;> rfl⟩
  refine ⟨pointOf h i, flush_4 _, ?_⟩
  rw [View.set_slice_whole, Rect.mem_set_unit]
  have hp : (pointOf h i).val = 16 * h.val + i.val := rfl
  have hh := h.isLt
  have hi := i.isLt
  have hd := d.isLt
  have hr := r.isLt
  have e0 := ix_4 (pointOf h i)
  intro a
  match a with
  | ⟨0, _⟩ => show win0_4.index (pointOf h i) 0 * 1 ≤ h.val ∧ h.val < win0_4.index (pointOf h i) 0 * 1 + 1; rw [e0.1]; omega
  | ⟨1, _⟩ => show win0_4.index (pointOf h i) 1 * 1 ≤ i.val ∧ i.val < win0_4.index (pointOf h i) 1 * 1 + 1; rw [e0.2.1]; omega
  | ⟨2, _⟩ => show win0_4.index (pointOf h i) 2 * 64 ≤ d.val ∧ d.val < win0_4.index (pointOf h i) 2 * 64 + 64; rw [e0.2.2.1]; omega
  | ⟨3, _⟩ => show win0_4.index (pointOf h i) 3 * 2048 ≤ r.val ∧ r.val < win0_4.index (pointOf h i) 3 * 2048 + 2048; rw [e0.2.2.2]; omega
theorem cover_5 (x : S2x16x1x2048.Idx) : ∃ t : Fin cfg0.N, (cfg0.win 5).flush t = true ∧ x ∈ ((View.whole main_v31_1).slice (win0_5.rect t)).set := by
  obtain ⟨h, i, z, r, rfl⟩ : ∃ (h : Fin 2) (i : Fin 16) (z : Fin 1) (r : Fin 2048), x = ix4 h i z r := ⟨x 0, x 1, x 2, x 3, funext fun a => by fin_cases a <;> rfl⟩
  refine ⟨pointOf h i, flush_5 _, ?_⟩
  rw [View.set_slice_whole, Rect.mem_set_unit]
  have hp : (pointOf h i).val = 16 * h.val + i.val := rfl
  have hh := h.isLt
  have hi := i.isLt
  have hz := z.isLt
  have hr := r.isLt
  have e0 := ix_5 (pointOf h i)
  intro a
  match a with
  | ⟨0, _⟩ => show win0_5.index (pointOf h i) 0 * 1 ≤ h.val ∧ h.val < win0_5.index (pointOf h i) 0 * 1 + 1; rw [e0.1]; omega
  | ⟨1, _⟩ => show win0_5.index (pointOf h i) 1 * 1 ≤ i.val ∧ i.val < win0_5.index (pointOf h i) 1 * 1 + 1; rw [e0.2.1]; omega
  | ⟨2, _⟩ => show win0_5.index (pointOf h i) 2 * 1 ≤ z.val ∧ z.val < win0_5.index (pointOf h i) 2 * 1 + 1; rw [e0.2.2.1]; omega
  | ⟨3, _⟩ => show win0_5.index (pointOf h i) 3 * 2048 ≤ r.val ∧ r.val < win0_5.index (pointOf h i) 3 * 2048 + 2048; rw [e0.2.2.2]; omega
theorem final_4 (O : Fin cfg0.N → Vec Ideal S1x1x64x2048 .f32) (ho : ∀ t : Fin cfg0.N, (dats m 0 c).after 4 t = O t) (G : Fin 2 → Fin 16 → Fin 64 → Fin 2048 → EReal)
    (h : ∀ (t : Fin cfg0.N) (p0 : Fin 1) (p1 : Fin 1) (d : Fin 64) (r : Fin 2048), O t (ix4 p0 p1 d r) = G (hd t p0) (rw' t p1) (d) (r)) :
    (dats m 0 c).arrAt 4 cfg0.N = fun x : S2x16x64x2048.Idx => G (x 0) (x 1) (x 2) (x 3) := by
  refine (dats m 0 c).arrAt_eq_of_cover 4 (fun x : S2x16x64x2048.Idx => G (x 0) (x 1) (x 2) (x 3)) (fun t ht => ?_) (fun x => cover_4 x)
  show (cfg0.win 4).cut (grid0.coords t) ((dats m 0 c).after 4 t) = _
  rw [ho]
  funext y
  rw [View.read_apply]
  obtain ⟨p0, p1, d, r, rfl⟩ : ∃ (p0 : Fin 1) (p1 : Fin 1) (d : Fin 64) (r : Fin 2048), y = ix4 p0 p1 d r := ⟨y 0, y 1, y 2, y 3, funext fun a => by fin_cases a <;> rfl⟩
  refine (h t p0 p1 d r).trans (congr4 G (Fin.ext ?_) (Fin.ext ?_) (Fin.ext ?_) (Fin.ext ?_))
  · show t.val / 16 * 1 + p0.val = win0_4.index t 0 * 1 + 1 * p0.val; rw [(ix_4 t).1]; omega
  · show t.val % 16 * 1 + p1.val = win0_4.index t 1 * 1 + 1 * p1.val; rw [(ix_4 t).2.1]; omega
  · show d.val = win0_4.index t 2 * 64 + 1 * d.val; rw [(ix_4 t).2.2.1]; omega
  · show r.val = win0_4.index t 3 * 2048 + 1 * r.val; rw [(ix_4 t).2.2.2]; omega
theorem final_5 (O : Fin cfg0.N → Vec Ideal S1x1x1x2048 .f32) (ho : ∀ t : Fin cfg0.N, (dats m 0 c).after 5 t = O t) (G : Fin 2 → Fin 16 → Fin 1 → Fin 2048 → EReal)
    (h : ∀ (t : Fin cfg0.N) (p0 : Fin 1) (p1 : Fin 1) (z : Fin 1) (r : Fin 2048), O t (ix4 p0 p1 z r) = G (hd t p0) (rw' t p1) (z) (r)) :
    (dats m 0 c).arrAt 5 cfg0.N = fun x : S2x16x1x2048.Idx => G (x 0) (x 1) (x 2) (x 3) := by
  refine (dats m 0 c).arrAt_eq_of_cover 5 (fun x : S2x16x1x2048.Idx => G (x 0) (x 1) (x 2) (x 3)) (fun t ht => ?_) (fun x => cover_5 x)
  show (cfg0.win 5).cut (grid0.coords t) ((dats m 0 c).after 5 t) = _
  rw [ho]
  funext y
  rw [View.read_apply]
  obtain ⟨p0, p1, z, r, rfl⟩ : ∃ (p0 : Fin 1) (p1 : Fin 1) (z : Fin 1) (r : Fin 2048), y = ix4 p0 p1 z r := ⟨y 0, y 1, y 2, y 3, funext fun a => by fin_cases a <;> rfl⟩
  refine (h t p0 p1 z r).trans (congr4 G (Fin.ext ?_) (Fin.ext ?_) (Fin.ext ?_) (Fin.ext ?_))
  · show t.val / 16 * 1 + p0.val = win0_5.index t 0 * 1 + 1 * p0.val; rw [(ix_5 t).1]; omega
  · show t.val % 16 * 1 + p1.val = win0_5.index t 1 * 1 + 1 * p1.val; rw [(ix_5 t).2.1]; omega
  · show z.val = win0_5.index t 2 * 1 + 1 * z.val; rw [(ix_5 t).2.2.1]; omega
  · show r.val = win0_5.index t 3 * 2048 + 1 * r.val; rw [(ix_5 t).2.2.2]; omega

/-! ## What the call leaves -/

def inQ : FVec Ideal S2x16x64x2048 .bf16 := V m c main_v8
def inK : FVec Ideal S2x16x64x512 .bf16 := V m c main_v11
def inV : FVec Ideal S2x16x64x512 .bf16 := V m c main_v14
def inM : FVec Ideal S2x16x1x2048 .f32 := V m c main_v30

/-- The sum of the exponentials of a column of block `i` of queries, and the values they weigh. -/
def dens (h : Fin 2) (i : Fin 16) (r : Fin 2048) : EReal :=
  den (fun j d a => inK m c (ix4 h j d a)) (fun d r => inQ m c (ix4 h i d r)) (fun r => inM m c (ix4 h i 0 r)) r
def nums (h : Fin 2) (i : Fin 16) (d : Fin 64) (r : Fin 2048) : EReal :=
  num (fun j d a => inK m c (ix4 h j d a)) (fun j d a => inV m c (ix4 h j d a)) (fun d r => inQ m c (ix4 h i d r)) (fun r => inM m c (ix4 h i 0 r)) d r
/-- The two results. -/
def outO (h : Fin 2) (i : Fin 16) (d : Fin 64) (r : Fin 2048) : EReal := Ideal.div (nums m c h i d r) (dens m c h i r)
def outL (h : Fin 2) (i : Fin 16) (z : Fin 1) (r : Fin 2048) : EReal :=
  inM m c (ix4 h i 0 r) + Ideal.log (dens m c h i r) * (((Real.log 2)⁻¹ : ℝ) : EReal)

abbrev blk0 : Vec Ideal S1x1x64x2048 .bf16 := iblk m c 0 t
abbrev blk1 : Vec Ideal S1x16x64x512 .bf16 := iblk m c 1 t
abbrev blk2 : Vec Ideal S1x16x64x512 .bf16 := iblk m c 2 t
abbrev blk3 : Vec Ideal S1x1x1x2048 .f32 := iblk m c 3 t

theorem cols_0 : cols (blk0 m c t) = fun d r => inQ m c (ix4 (hd t 0) (rw' t 0) d r) := by
  funext d r
  exact read_0 c t (V m c) 0 0 d r
theorem tiles_1 : tileOf (blk1 m c t) = fun j d a => inK m c (ix4 (hd t 0) j d a) := by
  funext j d a
  exact read_1 c t (V m c) 0 j d a
theorem tiles_2 : tileOf (blk2 m c t) = fun j d a => inV m c (ix4 (hd t 0) j d a) := by
  funext j d a
  exact read_2 c t (V m c) 0 j d a
theorem row_3 : row (blk3 m c t) = fun r => inM m c (ix4 (hd t 0) (rw' t 0) 0 r) := by
  funext r
  exact read_3 c t (V m c) 0 0 0 r

theorem elt_4 (x y : Fin 1) (d : Fin 64) (r : Fin 2048) : (outsAt0 m c t).1 (ix4 x y d r) = outO m c (hd t x) (rw' t y) d r := by
  obtain rfl := Fin.fin_one_eq_zero x
  obtain rfl := Fin.fin_one_eq_zero y
  unfold outsAt0
  dsimp only
  rw [out_4]
  show Ideal.div (num (tileOf (blk1 m c t)) (tileOf (blk2 m c t)) (cols (blk0 m c t)) (row (blk3 m c t)) d r)
    (den (tileOf (blk1 m c t)) (cols (blk0 m c t)) (row (blk3 m c t)) r) = _
  rw [cols_0, tiles_1, tiles_2, row_3]
  rfl
theorem elt_5 (x y z : Fin 1) (r : Fin 2048) : (outsAt0 m c t).2 (ix4 x y z r) = outL m c (hd t x) (rw' t y) z r := by
  obtain rfl := Fin.fin_one_eq_zero x
  obtain rfl := Fin.fin_one_eq_zero y
  unfold outsAt0
  dsimp only
  rw [out_5]
  show row (blk3 m c t) r + Ideal.log (den (tileOf (blk1 m c t)) (cols (blk0 m c t)) (row (blk3 m c t)) r) * (((Real.log 2)⁻¹ : ℝ) : EReal) = _
  rw [cols_0, tiles_1, row_3]
  rfl

theorem last_4 : (dats m 0 c).arrAt 4 cfg0.N = fun x : S2x16x64x2048.Idx => outO m c (x 0) (x 1) (x 2) (x 3) :=
  final_4 m c _ (after0_4 m c) (outO m c) fun t x y d r => elt_4 m c t x y d r
theorem last_5 : (dats m 0 c).arrAt 5 cfg0.N = fun x : S2x16x1x2048.Idx => outL m c (x 0) (x 1) (x 2) (x 3) :=
  final_5 m c _ (after0_5 m c) (outL m c) fun t x y z r => elt_5 m c t x y z r

/-! ## The call's arrays -/

abbrev argQ : FVec Ideal S8192x8x64 .f32 := m (c, Proc.tc.devRef main_arg0)
abbrev argK : FVec Ideal S8192x2x64 .f32 := m (c, Proc.tc.devRef main_arg1)
abbrev argV : FVec Ideal S8192x2x64 .f32 := m (c, Proc.tc.devRef main_arg2)

theorem inK_at (h : Fin 2) (j : Fin 16) (d : Fin 64) (a : Fin 512) : inK m c (ix4 h j d a) = argK m c (ix3 (tokAt j a) h d) := by
  unfold inK V
  after_reads_at
  rfl
theorem inV_at (h : Fin 2) (j : Fin 16) (d : Fin 64) (a : Fin 512) : inV m c (ix4 h j d a) = argV m c (ix3 (tokAt j a) h d) := by
  unfold inV V
  after_reads_at
  rfl
theorem inQ_at (h : Fin 2) (i : Fin 16) (d : Fin 64) (r : Fin 2048) :
    inQ m c (ix4 h i d r) = argQ m c (ix3 (tokAt i (posOf r)) (headAt h (grpOf r)) d)
      * (Ideal.ofBits .f32 1040187392#32 * Ideal.div 1 (Ideal.log (Ideal.ofBits .f32 1073741824#32))) := by
  unfold inQ V
  after_reads_at
  rfl
/-- The length of the longest key of a head, squared. -/
def longest (h : Fin 2) : EReal :=
  Finset.fold max (Ideal.ofBits .f32 4286578688#32) (fun t : Fin 8192 => ∑ d : Fin 64, argK m c (ix3 t h d) * argK m c (ix3 t h d)) Finset.univ
theorem inM_at (h : Fin 2) (i : Fin 16) (z : Fin 1) (r : Fin 2048) :
    inM m c (ix4 h i z r) = Ideal.sqrt (∑ d : Fin 64, inQ m c (ix4 h i d r) * inQ m c (ix4 h i d r))
      * (Ideal.sqrt (longest m c h) * Ideal.ofBits .f32 1065361605#32) := by
  obtain rfl := Fin.fin_one_eq_zero z
  simp only [inQ_at]
  unfold longest inM V
  after_reads_at
  rfl
end windows

/-! ## Over the reals -/

/-- An array of queries, and one of keys or values, of reals. -/
def arr8 (f : Fin 8192 → Fin 8 → Fin 64 → ℝ) : FVec Ideal S8192x8x64 .f32 := fun x => ((f (x 0) (x 1) (x 2) : ℝ) : EReal)
def arr2 (f : Fin 8192 → Fin 2 → Fin 64 → ℝ) : FVec Ideal S8192x2x64 .f32 := fun x => ((f (x 0) (x 1) (x 2) : ℝ) : EReal)
section at'
variable (q : Fin 8192 → Fin 8 → Fin 64 → ℝ) (k v : Fin 8192 → Fin 2 → Fin 64 → ℝ)
theorem arr8_at (n : Fin 8192) (a : Fin 8) (d : Fin 64) : arr8 q (ix3 n a d) = ((q n a d : ℝ) : EReal) := rfl
theorem arr2_at (n : Fin 8192) (a : Fin 2) (d : Fin 64) : arr2 k (ix3 n a d) = ((k n a d : ℝ) : EReal) := rfl
end at'

theorem slack : Ideal.ofBits .f32 1065361605#32 = ((8396997 / 8388608 : ℝ) : EReal) := by
  simp [Ideal.ofBits, Ideal.ieee, -EReal.coe_mul]
  norm_num

/-- The largest of real squares is a real, not negative. -/
theorem fold_square {ι : Type} [Fintype ι] [Nonempty ι] (f : ι → ℝ) (hf : ∀ i, 0 ≤ f i) :
    ∃ M : ℝ, 0 ≤ M ∧ Finset.fold max (⊥ : EReal) (fun i => (f i : EReal)) Finset.univ = (M : EReal) := by
  obtain ⟨M, hM⟩ := fold_real f
  refine ⟨M, ?_, hM⟩
  have h : ((0 : ℝ) : EReal) ≤ Finset.fold max (⊥ : EReal) (fun i => (f i : EReal)) Finset.univ :=
    (Finset.le_fold_max _).mpr (Or.inr ⟨Classical.arbitrary ι, Finset.mem_univ _, EReal.coe_le_coe_iff.mpr (hf _)⟩)
  rw [hM] at h
  exact EReal.coe_le_coe_iff.mp h

theorem sqrt_of {x : ℝ} (h : 0 ≤ x) : Ideal.sqrt (x : EReal) = ((Real.sqrt x : ℝ) : EReal) := by
  rw [Ideal.sqrt_coe, if_neg (not_lt.mpr h)]

theorem exp2_bound (s M : ℝ) : Real.rpow 2 (s * (1 / Real.log 2) - M) = Real.exp (s - M * Real.log 2) := by
  have hl := log2_pos.ne'
  show (2 : ℝ) ^ (s * (1 / Real.log 2) - M) = _
  rw [Real.rpow_def_of_pos (by norm_num)]
  refine congrArg Real.exp ?_
  field_simp

theorem log_mass (s : Fin 8192 → ℝ) (M : ℝ) : Real.log (mass s M) = Real.log (∑ u, Real.exp (s u)) - M := by
  have h : mass s M = (∑ u, Real.exp (s u)) * Real.exp (-M) := by
    unfold mass
    rw [Finset.sum_mul]
    exact Finset.sum_congr rfl fun u _ => by rw [← Real.exp_add, sub_eq_add_neg]
  rw [h, Real.log_mul (Finset.sum_pos (fun u _ => Real.exp_pos _) ⟨0, Finset.mem_univ _⟩).ne' (Real.exp_pos _).ne', Real.log_exp, sub_eq_add_neg]

/-- The eight carried rows together count every key once. -/
theorem rows_all (f : Fin 16 → Fin 512 → EReal) :
    ∑ u : Fin 8, ∑ j : Fin 16, ∑ g : Fin 64, f j (keyAt g u) = ∑ j : Fin 16, ∑ a : Fin 512, f j a := by
  rw [Finset.sum_comm]
  refine Finset.sum_congr rfl fun j _ => ?_
  rw [Finset.sum_comm]
  exact sum_blocks 64 8 512 rfl (f j)

section reals
variable (m : (ℓ : Loc nD τ sig) → Buf (Elt Ideal) ℓ) (c : Dev nD)
variable (q : Fin 8192 → Fin 8 → Fin 64 → ℝ) (k v : Fin 8192 → Fin 2 → Fin 64 → ℝ)
variable (hq : argQ m c = arr8 q) (hk : argK m c = arr2 k) (hv : argV m c = arr2 v)
variable (h : Fin 2) (i : Fin 16) (r : Fin 2048)
include hq hk

theorem bound_real : ∃ M : ℝ, inM m c (ix4 h i 0 r) = (M : EReal) := by
  rw [inM_at]
  unfold longest
  simp only [inQ_at, hq, hk, arr8_at, arr2_at, eighth, inv_log_two, bottom, slack, ← EReal.coe_mul, ← coe_sum]
  obtain ⟨M, h0, hM⟩ := fold_square (fun t : Fin 8192 => ∑ d : Fin 64, k t h d * k t h d) fun t => Finset.sum_nonneg fun d _ => mul_self_nonneg _
  rw [hM, sqrt_of h0, sqrt_of (Finset.sum_nonneg fun d _ => mul_self_nonneg _)]
  simp only [← EReal.coe_mul]
  exact ⟨_, rfl⟩

section bound
variable (M : ℝ) (hM : inM m c (ix4 h i 0 r) = (M : EReal))
include hM

theorem prob_real (j : Fin 16) (a : Fin 512) :
    prob (fun d a => inK m c (ix4 h j d a)) (fun d r => inQ m c (ix4 h i d r)) (fun r => inM m c (ix4 h i 0 r)) a r
      = ((Real.exp (sc q k h (grpOf r) (tokAt i (posOf r)) (tokAt j a) - M * Real.log 2) : ℝ) : EReal) := by
  show Ideal.exp2 ((∑ d : Fin 64, inK m c (ix4 h j d a) * inQ m c (ix4 h i d r)) - inM m c (ix4 h i 0 r)) = _
  rw [hM]
  simp only [inK_at, inQ_at, hq, hk, arr8_at, arr2_at, eighth, inv_log_two, ← EReal.coe_mul, ← coe_sum, ← EReal.coe_sub]
  rw [Ideal.exp2_coe, ← exp2_bound]
  refine congrArg (fun x : ℝ => ((Real.rpow 2 x : ℝ) : EReal)) (congrArg₂ (· - ·) ?_ rfl)
  rw [sc, Finset.sum_mul, Finset.sum_mul]
  exact Finset.sum_congr rfl fun d _ => by ring

theorem dens_real : dens m c h i r = ((mass (sc q k h (grpOf r) (tokAt i (posOf r))) (M * Real.log 2) : ℝ) : EReal) := by
  unfold dens den rowSum
  simp only [prob_real m c q k hq hk h i r M hM]
  refine (rows_all fun j a => ((Real.exp (sc q k h (grpOf r) (tokAt i (posOf r)) (tokAt j a) - M * Real.log 2) : ℝ) : EReal)).trans ?_
  simp only [← coe_sum]
  exact congrArg _ (sum_tokens fun t => Real.exp (sc q k h (grpOf r) (tokAt i (posOf r)) t - M * Real.log 2))

theorem outL_real : outL m c h i 0 r
    = ((Real.log (∑ u, Real.exp (sc q k h (grpOf r) (tokAt i (posOf r)) u)) * (1 / Real.log 2) : ℝ) : EReal) := by
  have hp := mass_pos (sc q k h (grpOf r) (tokAt i (posOf r))) (M * Real.log 2)
  have hl := log2_pos.ne'
  unfold outL
  rw [hM, dens_real m c q k hq hk h i r M hM, Ideal.log_coe, if_neg (not_le.mpr hp), ← EReal.coe_mul, ← EReal.coe_add, log_mass]
  refine congrArg _ ?_
  field_simp
  ring

include hv
theorem outO_real (d : Fin 64) : outO m c h i d r
    = ((∑ t, v t h d * soft (sc q k h (grpOf r) (tokAt i (posOf r))) t : ℝ) : EReal) := by
  have hp := mass_pos (sc q k h (grpOf r) (tokAt i (posOf r))) (M * Real.log 2)
  unfold outO
  rw [dens_real m c q k hq hk h i r M hM, Ideal.div_coe hp.ne']
  unfold nums num valSum
  simp only [prob_real m c q k hq hk h i r M hM, inV_at, hv, arr2_at, ← EReal.coe_mul, ← coe_sum]
  refine congrArg _ ?_
  rw [sum_tokens fun t => v t h d * Real.exp (sc q k h (grpOf r) (tokAt i (posOf r)) t - M * Real.log 2), Finset.sum_mul]
  refine Finset.sum_congr rfl fun t _ => ?_
  rw [← soft_shift _ (M * Real.log 2), mul_assoc, mul_one_div]
end bound
end reals

/-! ## The reference -/

section reference
open Cert.Reference2Ideal Cert.Reference2Ideal.Gen Cert.Reference2Ideal.Read
variable (x0 : FVec Ideal Cert.Reference2Ideal.S8192x8x64 .f32) (x1 x2 : FVec Ideal Cert.Reference2Ideal.S8192x2x64 .f32)

theorem score_at (h : Fin 2) (g : Fin 4) (n t : Fin 8192) :
    val_main_v4 (F := Ideal) x0 x1 (ix4 h g n t) = (∑ d : Fin 64, x1 (ix3 t h d) * x0 (ix3 n (headAt h g) d)) * Ideal.ofBits .f32 1040187392#32 := by
  pointwise [val_main_v4, val_main_v3, val_main_v2, val_main_v1, val_main_v0, val_main_cst]
  rfl
theorem score_again : val_main_v23 (F := Ideal) x0 x1 = val_main_v4 (F := Ideal) x0 x1 := rfl
theorem max_at (z : FVec Ideal Cert.Reference2Ideal.S2x4x8192x8192 .f32) (h : Fin 2) (g : Fin 4) (n : Fin 8192) :
    Host.reduce (FloatOps.maximumf (F := Ideal) (φ := .f32)) z (val_main_cst_0 (F := Ideal)) reducesTo_S2x4x8192x8192_S2x4x8192_d3 Cert.Reference2Ideal.Gen.h_S_ (ix3 h g n)
      = Finset.fold max (Ideal.ofBits .f32 4286578688#32) (fun t : Fin 8192 => z (ix4 h g n t)) Finset.univ := by
  pointwise [val_main_cst_0]
theorem first_at (h : Fin 2) (g : Fin 4) (n : Fin 8192) : val_main_v5 (F := Ideal) x0 x1 (ix3 h g n)
    = Finset.fold max (Ideal.ofBits .f32 4286578688#32) (fun t : Fin 8192 => val_main_v4 (F := Ideal) x0 x1 (ix4 h g n t)) Finset.univ := by
  unfold val_main_v5
  exact max_at _ h g n
theorem again_at (h : Fin 2) (g : Fin 4) (n : Fin 8192) : val_main_v24 (F := Ideal) x0 x1 (ix3 h g n) = val_main_v5 (F := Ideal) x0 x1 (ix3 h g n) := rfl
theorem top_at (h : Fin 2) (g : Fin 4) (n : Fin 8192) :
    val_main_v7 (F := Ideal) x0 x1 (ix3 h g n) = max (Ideal.ofBits .f32 4286578688#32) (val_main_v5 (F := Ideal) x0 x1 (ix3 h g n)) := by
  rw [val_main_v7_apply, show val_main_v6 (F := Ideal) (ix3 h g n) = Ideal.ofBits .f32 4286578688#32 from by pointwise [val_main_v6, val_main_cst_1]]
  rfl
theorem exp_at (h : Fin 2) (g : Fin 4) (n t : Fin 8192) :
    val_main_v11 (F := Ideal) x0 x1 (ix4 h g n t) = Ideal.exp (val_main_v4 (F := Ideal) x0 x1 (ix4 h g n t) - val_main_v7 (F := Ideal) x0 x1 (ix3 h g n)) := by
  pointwise [val_main_v11, val_main_v10, val_main_v9, val_main_v8]
theorem sum_at (h : Fin 2) (g : Fin 4) (n : Fin 8192) :
    val_main_v13 (F := Ideal) x0 x1 (ix4 h g n 0) = ∑ t : Fin 8192, val_main_v11 (F := Ideal) x0 x1 (ix4 h g n t) := by
  unfold val_main_v13 val_main_v12
  generalize val_main_v11 (F := Ideal) x0 x1 = p
  pointwise [val_main_cst_2]
theorem soft_at (h : Fin 2) (g : Fin 4) (n t : Fin 8192) :
    val_main_v15 (F := Ideal) x0 x1 (ix4 h g n t) = Ideal.div (val_main_v11 (F := Ideal) x0 x1 (ix4 h g n t)) (val_main_v13 (F := Ideal) x0 x1 (ix4 h g n 0)) := by
  pointwise [val_main_v15, val_main_v14]
theorem resO_at (h : Fin 2) (i : Fin 16) (d : Fin 64) (r : Fin 2048) : val_main_v38 (F := Ideal) x0 x1 x2 (ix4 h i d r)
    = ∑ t : Fin 8192, x2 (ix3 t h d) * val_main_v15 (F := Ideal) x0 x1 (ix4 h (grpOf r) (tokAt i (posOf r)) t) := by
  unfold val_main_v38 val_main_v37 val_main_v36 val_main_v18 val_main_v17 val_main_v16
  generalize val_main_v15 (F := Ideal) x0 x1 = p
  pointwise []
  rfl
theorem exps_at (h : Fin 2) (g : Fin 4) (n t : Fin 8192) :
    val_main_v28 (F := Ideal) x0 x1 (ix4 h g n t) = Ideal.exp (val_main_v23 (F := Ideal) x0 x1 (ix4 h g n t) - val_main_v24 (F := Ideal) x0 x1 (ix3 h g n)) := by
  unfold val_main_v28 val_main_v27 val_main_v26 val_main_v25
  generalize val_main_v23 (F := Ideal) x0 x1 = p
  generalize val_main_v24 (F := Ideal) x0 x1 = p'
  pointwise []
theorem sums_at (h : Fin 2) (g : Fin 4) (n : Fin 8192) :
    val_main_v29 (F := Ideal) x0 x1 (ix3 h g n) = ∑ t : Fin 8192, val_main_v28 (F := Ideal) x0 x1 (ix4 h g n t) := by
  unfold val_main_v29
  generalize val_main_v28 (F := Ideal) x0 x1 = p
  pointwise [val_main_cst_5]
theorem logs_at (p p' : FVec Ideal Cert.Reference2Ideal.S2x4x8192 .f32) (h : Fin 2) (g : Fin 4) (n : Fin 8192) :
    addf (F := Ideal) (φ := .f32) (broadcastInDim Cert.Reference2Ideal.S2x4x8192x1 ![0, 1, 2] Cert.Reference2Ideal.Gen.bcast_S2x4x8192_S2x4x8192x1_0_1_2 p)
      (Host.log (F := Ideal) (φ := .f32) (broadcastInDim Cert.Reference2Ideal.S2x4x8192x1 ![0, 1, 2] Cert.Reference2Ideal.Gen.bcast_S2x4x8192_S2x4x8192x1_0_1_2 p')) (ix4 h g n 0)
      = p (ix3 h g n) + Ideal.log (p' (ix3 h g n)) := by
  pointwise []
theorem two_at (y : Cert.Reference2Ideal.S2x4x8192x1.Idx) : val_main_v34 (F := Ideal) y = Ideal.log (Ideal.ofBits .f32 1073741824#32) := by
  pointwise [val_main_v34, val_main_v33, val_main_cst_6]
theorem lse_at (h : Fin 2) (g : Fin 4) (n : Fin 8192) : val_main_v35 (F := Ideal) x0 x1 (ix4 h g n 0)
    = Ideal.div (val_main_v24 (F := Ideal) x0 x1 (ix3 h g n) + Ideal.log (val_main_v29 (F := Ideal) x0 x1 (ix3 h g n))) (Ideal.log (Ideal.ofBits .f32 1073741824#32)) := by
  rw [← logs_at (val_main_v24 (F := Ideal) x0 x1) (val_main_v29 (F := Ideal) x0 x1), ← two_at (ix4 h g n 0)]
  rfl
theorem rows_at (z : FVec Ideal Cert.Reference2Ideal.S2x4x8192x1 .f32) (h : Fin 2) (i : Fin 16) (r : Fin 2048) :
    shapeCast Cert.Reference2Ideal.S2x16x1x2048 (transpose Cert.Reference2Ideal.S2x16x4x512 [0, 2, 1, 3]
      (shapeCast Cert.Reference2Ideal.S2x4x16x512 z Cert.Reference2Ideal.Gen.shapeCasts_S2x4x8192x1_S2x4x16x512)
        Cert.Reference2Ideal.Gen.transposes_S2x4x16x512_S2x16x4x512_0_2_1_3) Cert.Reference2Ideal.Gen.shapeCasts_S2x16x4x512_S2x16x1x2048 (ix4 h i 0 r)
      = z (ix4 h (grpOf r) (tokAt i (posOf r)) 0) := by
  pointwise []
  rfl
theorem resL_at (h : Fin 2) (i : Fin 16) (r : Fin 2048) : val_main_v41 (F := Ideal) x0 x1 (ix4 h i 0 r)
    = Ideal.div (val_main_v24 (F := Ideal) x0 x1 (ix3 h (grpOf r) (tokAt i (posOf r)))
        + Ideal.log (val_main_v29 (F := Ideal) x0 x1 (ix3 h (grpOf r) (tokAt i (posOf r))))) (Ideal.log (Ideal.ofBits .f32 1073741824#32)) := by
  rw [← lse_at]
  exact rows_at (val_main_v35 (F := Ideal) x0 x1) h i r

variable (q : Fin 8192 → Fin 8 → Fin 64 → ℝ) (k v : Fin 8192 → Fin 2 → Fin 64 → ℝ)
theorem score_real (h : Fin 2) (p : Fin 4) (n t : Fin 8192) :
    val_main_v4 (F := Ideal) (arr8 q) (arr2 k) (ix4 h p n t) = ((sc q k h p n t : ℝ) : EReal) := by
  rw [score_at, eighth]
  simp only [arr8_at, arr2_at, ← EReal.coe_mul, ← coe_sum, sc]
theorem first_real (h : Fin 2) (p : Fin 4) (n : Fin 8192) :
    ∃ M : ℝ, val_main_v5 (F := Ideal) (arr8 q) (arr2 k) (ix3 h p n) = (M : EReal) := by
  rw [first_at, bottom]
  simp only [score_real]
  exact fold_real _

theorem refO_real (h : Fin 2) (i : Fin 16) (d : Fin 64) (r : Fin 2048) : val_main_v38 (F := Ideal) (arr8 q) (arr2 k) (arr2 v) (ix4 h i d r)
    = ((∑ t, v t h d * soft (sc q k h (grpOf r) (tokAt i (posOf r))) t : ℝ) : EReal) := by
  obtain ⟨M, hM⟩ := first_real q k h (grpOf r) (tokAt i (posOf r))
  have hT : val_main_v7 (F := Ideal) (arr8 q) (arr2 k) (ix3 h (grpOf r) (tokAt i (posOf r))) = (M : EReal) := by
    rw [top_at, hM, bottom, max_eq_right bot_le]
  have he : ∀ t, val_main_v11 (F := Ideal) (arr8 q) (arr2 k) (ix4 h (grpOf r) (tokAt i (posOf r)) t)
      = ((Real.exp (sc q k h (grpOf r) (tokAt i (posOf r)) t - M) : ℝ) : EReal) := fun t => by
    rw [exp_at, score_real, hT, ← EReal.coe_sub, Ideal.exp_coe]
  have hs : val_main_v13 (F := Ideal) (arr8 q) (arr2 k) (ix4 h (grpOf r) (tokAt i (posOf r)) 0)
      = ((mass (sc q k h (grpOf r) (tokAt i (posOf r))) M : ℝ) : EReal) := by
    rw [sum_at]
    simp only [he, ← coe_sum, mass]
  have hp := mass_pos (sc q k h (grpOf r) (tokAt i (posOf r))) M
  rw [resO_at]
  simp only [soft_at, he, hs, arr2_at, Ideal.div_coe hp.ne', ← EReal.coe_mul, ← coe_sum, mul_one_div, soft_shift]

theorem refL_real (h : Fin 2) (i : Fin 16) (r : Fin 2048) : val_main_v41 (F := Ideal) (arr8 q) (arr2 k) (ix4 h i 0 r)
    = ((Real.log (∑ u, Real.exp (sc q k h (grpOf r) (tokAt i (posOf r)) u)) * (1 / Real.log 2) : ℝ) : EReal) := by
  obtain ⟨M, hM⟩ := first_real q k h (grpOf r) (tokAt i (posOf r))
  have he : ∀ t, val_main_v28 (F := Ideal) (arr8 q) (arr2 k) (ix4 h (grpOf r) (tokAt i (posOf r)) t)
      = ((Real.exp (sc q k h (grpOf r) (tokAt i (posOf r)) t - M) : ℝ) : EReal) := fun t => by
    rw [exps_at, score_again, score_real, again_at, hM, ← EReal.coe_sub, Ideal.exp_coe]
  have hs : val_main_v29 (F := Ideal) (arr8 q) (arr2 k) (ix3 h (grpOf r) (tokAt i (posOf r)))
      = ((mass (sc q k h (grpOf r) (tokAt i (posOf r))) M : ℝ) : EReal) := by
    rw [sums_at]
    simp only [he, ← coe_sum, mass]
  have hp := mass_pos (sc q k h (grpOf r) (tokAt i (posOf r))) M
  rw [resL_at, again_at, hM, hs, log_two, Ideal.log_coe, if_neg (not_le.mpr hp), ← EReal.coe_add, Ideal.div_coe log2_pos.ne', ← EReal.coe_mul, log_mass]
  refine congrArg _ ?_
  ring
end reference

/-! ## The precondition -/

section pre
theorem real8 (x : FVec Ideal S8192x8x64 .f32) (h : ∀ i, Ideal.cmp .olt (max (x i) (-(x i))) (Ideal.ofBits .f32 0x7F800000#32) = 1#1) :
    x = arr8 (fun n a d => (x (ix3 n a d)).toReal) := by
  funext i
  obtain ⟨n, a, d, rfl⟩ : ∃ (n : Fin 8192) (a : Fin 8) (d : Fin 64), i = ix3 n a d := ⟨i 0, i 1, i 2, funext fun a => by fin_cases a <;> rfl⟩
  exact Cert.Proof.Reals.real_of_below _ (h _)
theorem real2 (x : FVec Ideal S8192x2x64 .f32) (h : ∀ i, Ideal.cmp .olt (max (x i) (-(x i))) (Ideal.ofBits .f32 0x7F800000#32) = 1#1) :
    x = arr2 (fun n a d => (x (ix3 n a d)).toReal) := by
  funext i
  obtain ⟨n, a, d, rfl⟩ : ∃ (n : Fin 8192) (a : Fin 2) (d : Fin 64), i = ix3 n a d := ⟨i 0, i 1, i 2, funext fun a => by fin_cases a <;> rfl⟩
  exact Cert.Proof.Reals.real_of_below _ (h _)

instance : Subsingleton Cert.Pre_finite3.S_.Idx := ⟨fun a b => funext fun i => i.elim0⟩

attribute [local instance] Cert.Pre_finite3.Gen.facts

theorem reals (x0 : FVec Ideal S8192x8x64 .f32) (x1 x2 : FVec Ideal S8192x2x64 .f32) (h : Cert.Pre_finite3.fn (F := Ideal) x0 x1 x2 = fun _ => 1#1) :
    ∃ (q : Fin 8192 → Fin 8 → Fin 64 → ℝ) (k v : Fin 8192 → Fin 2 → Fin 64 → ℝ), x0 = arr8 q ∧ x1 = arr2 k ∧ x2 = arr2 v := by
  have h' := congrFun h ix0
  unfold Cert.Pre_finite3.fn at h'
  dsimp only at h'
  obtain ⟨h01, h2⟩ := IntOp.andi_eq_one.1 h'
  obtain ⟨h0, h1⟩ := IntOp.andi_eq_one.1 h01
  exact ⟨_, _, _, real8 x0 fun i => Host.reduce_andi_all _ _ _ _ _ h0 i, real2 x1 fun i => Host.reduce_andi_all _ _ _ _ _ h1 i,
    real2 x2 fun i => Host.reduce_andi_all _ _ _ _ _ h2 i⟩
end pre

/-! ## The claims -/

theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run m ρ)

theorem coords {n0 n1 n2 n3 : ℕ} (x : (⟨4, ![n0, n1, n2, n3]⟩ : Shape).Idx) : ∃ (a : Fin n0) (b : Fin n1) (d : Fin n2) (e : Fin n3), x = ix4 a b d e :=
  ⟨x 0, x 1, x 2, x 3, funext fun a => by fin_cases a <;> rfl⟩

theorem value : Cert.algebraic_Kernel2Ideal_Reference2Ideal_pre_finite3 := by
  intro m g m' g' hpre hargs
  refine ⟨fun c => fun x : S2x16x64x2048.Idx => outO m c (x 0) (x 1) (x 2) (x 3), fun c => fun x : S2x16x1x2048.Idx => outL m c (x 0) (x 1) (x 2) (x 3), ?_, ?_⟩
  · refine (θ_run Cert.Kernel2Ideal.defs _ _).mono (fun r h c => ?_) (Cert.Kernel2Ideal.Value.run_blocks m g)
    obtain ⟨h4, h5, ha⟩ := h c
    exact ⟨h4.trans (last_4 m c), h5.trans (last_5 m c), ha⟩
  · refine (θ_run Cert.Reference2Ideal.defs _ _).mono (fun r h c => ?_) (Cert.Reference2Ideal.Value.run m' g')
    obtain ⟨a0, a1, a2⟩ := hargs c
    obtain ⟨h4, h5, ha⟩ := h c
    obtain ⟨q, k, v, hq, hk, hv⟩ := reals (argQ m c) (argK m c) (argV m c) (hpre c)
    refine ⟨h4.trans ?_, h5.trans ?_, ha⟩
    · refine (Cert.Reference2Ideal.Read.val_main_v38_eq _ _ _).trans ?_
      rw [a0, a1, a2]
      funext x
      obtain ⟨h, i, d, r, rfl⟩ := coords x
      obtain ⟨M, hM⟩ := bound_real m c q k hq hk h i r
      refine Eq.trans ?_ (outO_real m c q k v hq hk hv h i r M hM d).symm
      refine Eq.trans ?_ (refO_real q k v h i d r)
      rw [← hq, ← hk, ← hv]
    · refine (Cert.Reference2Ideal.Read.val_main_v41_eq _ _).trans ?_
      rw [a0, a1]
      funext x
      obtain ⟨h, i, z, r, rfl⟩ := coords x
      obtain rfl := Fin.fin_one_eq_zero z
      obtain ⟨M, hM⟩ := bound_real m c q k hq hk h i r
      refine Eq.trans ?_ (outL_real m c q k hq hk h i r M hM).symm
      refine Eq.trans ?_ (refL_real q k h i r)
      rw [← hq, ← hk]

end Cert.Proof.FlashFwd
-- ==== Proof.Index.lean ====
/-
  Indices of arrays, and offsets that are zero.
-/
module

public import Idealize.ShloMosaic.Lib.Pointwise

@[expose] public section

noncomputable section

open Idealize.ShloMosaic

namespace Cert.Proof.Index

/-- An index of a two-dimensional array is its two coordinates. -/
theorem pair {a b : ℕ} (x : (⟨2, ![a, b]⟩ : Shape).Idx) : ∃ (n : Fin a) (f : Fin b), x = ix2 n f := ⟨x 0, x 1, funext fun i => by fin_cases i <;> rfl⟩
theorem zero2 : (![0, 0] : Fin 2 → ℕ) = fun _ => 0 := by funext a; fin_cases a <;> rfl
theorem zero3 : (![0, 0, 0] : Fin 3 → ℕ) = fun _ => 0 := by funext a; fin_cases a <;> rfl

end Cert.Proof.Index
-- ==== Proof.DwDown.lean ====
/-
  The gradient of a weight: a sum over the tokens, taken 2048 tokens at a time into a scratch that is written out at the
  last of the four blocks of tokens. A grid point is a block of 1408 rows of the gradient and a block of tokens.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Sums
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel3Ideal Cert.Kernel3Ideal.Gen

namespace Cert.Proof.DwDown

open Cert.Proof.Sums

theorem zero_at (y : S1408x1024.Idx) : k0_pay1 (F := Ideal) y = 0 := by
  pointwise [k0_pay1]
theorem pay_at (z : Vec Ideal S1408x1024 .f32) (x : Vec Ideal S2048x1408 .bf16) (y : Vec Ideal S2048x1024 .bf16) (f : Fin 1408) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32) (f : Fin 1408) (d : Fin 1024)

/-- What the scratch holds after a first, a middle and what is written at a last block of tokens. -/
theorem scratch_a (h0 : cond0_0 i) (h1 : ¬cond0_1 i) : sout0_A_0 (F := Ideal) c i arg3 harg3 arg4 harg4 arg5 harg5 arg6 harg6 h0 h1 x0 x1 (ix2 f d)
    = ∑ r : Fin 2048, x0 (ix2 r f) * x1 (ix2 r d) := by
  unfold sout0_A_0 kernelRun0_A
  dsimp only
  sl_unfold_words
  refine (read_last VS0_0 _ inb_S1408x1024_S1408x1024_0_0 _ _ (ix2 f d)).trans ((pay_at _ _ _ f d).trans ?_)
  rw [load_last arg6.view inb_S1408x1024_S1408x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg5 harg5 arg6 harg6 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S1408x1024_S1408x1024_0_0 _ _ (ix2 f d)).trans ((pay_at _ _ _ f d).trans ?_)
  exact congrArg₂ (· + ·) (congrFun (load arg6 harg6 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg5 harg5 arg6 harg6 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S1408x1024_S1408x1024_0_0 _ _ (ix2 f d)).trans ?_
  rw [load_last arg6.view inb_S1408x1024_S1408x1024_0_0]
  refine (pay_at _ _ _ f d).trans ?_
  exact congrArg₂ (· + ·) (congrFun (load arg6 harg6 xs) _)
    (Finset.sum_congr rfl fun r _ => congrArg₂ (· * ·) (congrFun (load arg3 harg3 x0) _) (congrFun (load arg4 harg4 x1) _))
end cases

/-- Token `r` of block `k`, row `f` of a grid point's block, and the point that writes a row. -/
def tokAt (k : ℕ) (r : Fin 2048) : Fin 8192 := ⟨k % 4 * 2048 + r.val, by omega⟩
def rowAt (q : ℕ) (f : Fin 1408) : Fin 2816 := ⟨q % 2 * 1408 + f.val, by omega⟩
def pointOf (f : Fin 2816) : Fin cfg0.N := ⟨4 * (f.val / 1408) + 3, by have hN : cfg0.N = 8 := N_0; omega⟩

theorem ix_0 : ∀ t : Fin grid0.N, win0_0.index t 0 = t.val % 4 ∧ win0_0.index t 1 = t.val / 4 % 2 := by decide +kernel
theorem ix_1 : ∀ t : Fin grid0.N, win0_1.index t 0 = t.val % 4 ∧ win0_1.index t 1 = 0 := by decide +kernel
theorem ix_2 : ∀ t : Fin grid0.N, win0_2.index t 0 = t.val / 4 % 2 ∧ win0_2.index t 1 = 0 := by decide +kernel
theorem flush_2 : ∀ f : Fin 2816, (cfg0.win 2).flush (pointOf f) = true := fun f =>
  (by decide +kernel : ∀ t : Fin grid0.N, t.val % 4 = 3 → win0_2.flush t = true) (pointOf f) (by show (4 * (f.val / 1408) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 1408) :
    ((cfg0.win 0).blk t).view.read (Elt Ideal) (W (Pipeline.arrRef spec0 0)) (ix2 r f) = W main_v0 (ix2 (tokAt t.val r) (rowAt (t.val / 4) f)) := by
  rw [View.read_apply]
  refine congrArg (W main_v0) (funext fun a => Fin.ext ?_)
  match a with
  | ⟨0, _⟩ => show win0_0.index t 0 * 2048 + 1 * r.val = t.val % 4 * 2048 + r.val; rw [(ix_0 t).1]; omega
  | ⟨1, _⟩ => show win0_0.index t 1 * 1408 + 1 * f.val = t.val / 4 % 2 * 1408 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v1 (ix2 (tokAt t.val r) d) := by
  rw [View.read_apply]
  refine congrArg (W main_v1) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (x : S2816x1024.Idx) : ∃ t : Fin cfg0.N, (cfg0.win 2).flush t = true ∧ x ∈ ((View.whole main_v2).slice (win0_2.rect t)).set := by
  obtain ⟨f, d, rfl⟩ := pair (a := 2816) (b := 1024) x
  refine ⟨pointOf f, flush_2 f, ?_⟩
  rw [View.set_slice_whole, Rect.mem_set_unit]
  have hp : (pointOf f).val = 4 * (f.val / 1408) + 3 := rfl
  have hf := f.isLt
  have hd := d.isLt
  have e0 := ix_2 (pointOf f)
  intro a
  match a with
  | ⟨0, _⟩ => show win0_2.index (pointOf f) 0 * 1408 ≤ f.val ∧ f.val < win0_2.index (pointOf f) 0 * 1408 + 1408; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S1408x1024 .f32) (ho : ∀ t : Fin cfg0.N, (dats m 0 c).after 2 t = O t) (G : Fin 2816 → Fin 1024 → EReal)
    (h : ∀ (t : Fin cfg0.N) (hf : (cfg0.win 2).flush t = true) (f : Fin 1408) (d : Fin 1024), O t (ix2 f d) = G (rowAt (t.val / 4) f) (d)) :
    (dats m 0 c).arrAt 2 cfg0.N = fun x : S2816x1024.Idx => G (x 0) (x 1) := by
  refine (dats m 0 c).arrAt_eq_of_cover 2 (fun x : S2816x1024.Idx => G (x 0) (x 1)) (fun t ht => ?_) (fun x => cover_2 x)
  show (cfg0.win 2).cut (grid0.coords t) ((dats m 0 c).after 2 t) = _
  rw [ho]
  funext y
  rw [View.read_apply]
  obtain ⟨f, d, rfl⟩ := pair (a := 1408) (b := 1024) y
  refine (h t ht f d).trans (congrArg₂ G (Fin.ext ?_) (Fin.ext ?_))
  · show t.val / 4 % 2 * 1408 + f.val = win0_2.index t 0 * 1408 + 1 * f.val; rw [(ix_2 t).1]; omega
  · show d.val = win0_2.index t 1 * 1024 + 1 * d.val; rw [(ix_2 t).2]; omega

/-- What the weight multiplied, and the gradient of the product. -/
abbrev argA : FVec Ideal S8192x2816 .f32 := m (c, Proc.tc.devRef main_arg0)
abbrev argG : FVec Ideal S8192x1024 .f32 := m (c, Proc.tc.devRef main_arg2)

theorem in_0 (n : Fin 8192) (f : Fin 2816) : V m c main_v0 (ix2 n f) = argA m c (ix2 n f) := by
  unfold V
  after_reads_at
theorem in_1 (n : Fin 8192) (d : Fin 1024) : V m c main_v1 (ix2 n d) = argG m c (ix2 n d) := by
  unfold V
  after_reads_at

/-- Block `k` of tokens of an entry of the gradient, and the entry. -/
def part (k : ℕ) (f : Fin 2816) (d : Fin 1024) : EReal := ∑ r : Fin 2048, argA m c (ix2 (tokAt k r) f) * argG m c (ix2 (tokAt k r) d)
def grad (f : Fin 2816) (d : Fin 1024) : EReal := ∑ n : Fin 8192, argA m c (ix2 n f) * argG m c (ix2 n d)

omit t in
theorem parts (f : Fin 2816) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of what the weight multiplied, and of the gradient of the product. -/
abbrev blk0 : Vec Ideal S2048x1408 .bf16 := iblk m c 0 t
abbrev blk1 : Vec Ideal S2048x1024 .bf16 := iblk m c 1 t

theorem part_block (f : Fin 1408) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _)) ((read_1 c t (V m c) r d).trans (in_1 m c _ _))

theorem part_mod (k : ℕ) (f : Fin 2816) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 1408) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 1408) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 1408) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 1408) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 1408) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 : (dats m 0 c).arrAt 2 cfg0.N = fun x : S2816x1024.Idx => grad m c (x 0) (x 1) :=
  final_2 m c _ (after0_2 m c) (grad m c) fun t hf f d => written m c t (last_of_flush t hf) f d
end points

theorem ref_at (x0 : FVec Ideal S8192x2816 .f32) (x2 : FVec Ideal S8192x1024 .f32) (f : Fin 2816) (d : Fin 1024) :
    Cert.Reference3Ideal.Read.val_main_v2 (F := Ideal) x0 x2 (ix2 f d) = ∑ n : Fin 8192, x2 (ix2 n d) * x0 (ix2 n f) := by
  pointwise [Cert.Reference3Ideal.Read.val_main_v2, Cert.Reference3Ideal.Read.val_main_v1]

/-! ## The claims -/

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

theorem value : Cert.algebraic_Kernel3Ideal_Reference3Ideal := by
  intro m g m' g' _ hargs
  refine ⟨fun c => fun x : S2816x1024.Idx => grad m c (x 0) (x 1), ?_, ?_⟩
  · refine (θ_run Cert.Kernel3Ideal.defs _ _).mono (fun r h c => ?_) (Cert.Kernel3Ideal.Value.run_blocks m g)
    obtain ⟨h2, ha⟩ := h c
    exact ⟨h2.trans (last_2 m c), ha⟩
  · refine (θ_run Cert.Reference3Ideal.defs _ _).mono (fun r h c => ?_) (Cert.Reference3Ideal.Value.run m' g')
    obtain ⟨a0, a1, a2⟩ := hargs c
    obtain ⟨h2, ha⟩ := h c
    refine ⟨h2.trans ?_, ha⟩
    refine (Cert.Reference3Ideal.Read.val_main_v2_eq _ _).trans ?_
    rw [a0, a2]
    funext x
    obtain ⟨f, d, rfl⟩ := pair (a := 2816) (b := 1024) x
    exact (ref_at _ _ f d).trans (Finset.sum_congr rfl fun n _ => mul_comm _ _)

end Cert.Proof.DwDown
-- ==== Proof.FfnUp.lean ====
/-
  The first half of the feed-forward: the gate, what it multiplies, and the product of the gate's activation with it. A
  grid point is a block of 512 tokens and one of the two halves of the features.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel4Ideal Cert.Kernel4Ideal.Gen

namespace Cert.Proof.FfnUp

section pays
variable (x : Vec Ideal S512x1024 .bf16) (w u : Vec Ideal S1408x1024 .bf16) (r : Fin 512) (f : Fin 1408)

/-- One over one plus the exponential of the negated number. -/
def sig1 (x : EReal) : EReal := Ideal.div (Ideal.ofBits .f32 0x3F800000#32) (Ideal.ofBits .f32 0x3F800000#32 + Ideal.exp (-x))

theorem gate_at : k0_pay2 (F := Ideal) x w (ix2 r f) = ∑ d : Fin 1024, x (ix2 r d) * w (ix2 f d) := by
  pointwise [k0_pay2, k0_pay1]
theorem up_at : k0_pay3 (F := Ideal) x w (ix2 r f) = ∑ d : Fin 1024, x (ix2 r d) * w (ix2 f d) := by
  pointwise [k0_pay3, k0_pay1]
theorem act_at : k0_pay6 (F := Ideal) x w u (ix2 r f)
    = (∑ d : Fin 1024, x (ix2 r d) * w (ix2 f d)) * sig1 (∑ d : Fin 1024, x (ix2 r d) * w (ix2 f d)) * (∑ d : Fin 1024, x (ix2 r d) * u (ix2 f d)) := by
  rw [← gate_at, ← up_at]
  unfold sig1
  pointwise [k0_pay6]
  simp only [Ideal.ofBits_zero, zero_sub]

theorem out3_at : out0_3 (F := Ideal) x w u (ix2 r f) = ∑ d : Fin 1024, x (ix2 r d) * w (ix2 f d) := by
  unfold out0_3
  rw [View.canon_unit_zero zero2, View.ld_unit_zero (S := S512x1024) zero2,
    View.ld_unit_zero (S := S1408x1024) zero2]
  exact gate_at x w r f
theorem out4_at : out0_4 (F := Ideal) x w u (ix2 r f) = ∑ d : Fin 1024, x (ix2 r d) * u (ix2 f d) := by
  unfold out0_4
  rw [View.canon_unit_zero zero2, View.ld_unit_zero (S := S512x1024) zero2,
    View.ld_unit_zero (S := S1408x1024) zero2]
  exact up_at x u r f
theorem out5_at : out0_5 (F := Ideal) x w u (ix2 r f)
    = (∑ d : Fin 1024, x (ix2 r d) * w (ix2 f d)) * sig1 (∑ d : Fin 1024, x (ix2 r d) * w (ix2 f d)) * (∑ d : Fin 1024, x (ix2 r d) * u (ix2 f d)) := by
  unfold out0_5
  rw [View.canon_unit_zero zero2, View.ld_unit_zero (S := S512x1024) zero2,
    View.ld_unit_zero (S := S1408x1024) zero2, View.ld_unit_zero (S := S1408x1024) zero2]
  exact act_at x w u r f
end pays

/-- Token `r` and feature `f` of a grid point's block, and the point of a token and a feature. -/
def rowAt (t : Fin cfg0.N) (r : Fin 512) : Fin 8192 := ⟨t.val / 2 * 512 + r.val, by have := t.isLt; have hN : cfg0.N = 32 := N_0; omega⟩
def colAt (t : Fin cfg0.N) (f : Fin 1408) : Fin 2816 := ⟨t.val % 2 * 1408 + f.val, by omega⟩
def pointOf (n : Fin 8192) (f : Fin 2816) : Fin cfg0.N := ⟨2 * (n.val / 512) + f.val / 1408, by have hN : cfg0.N = 32 := N_0; omega⟩

theorem ix_0 : ∀ t : Fin grid0.N, win0_0.index t 0 = t.val / 2 ∧ win0_0.index t 1 = 0 := by decide +kernel
theorem ix_1 : ∀ t : Fin grid0.N, win0_1.index t 0 = t.val % 2 ∧ win0_1.index t 1 = 0 := by decide +kernel
theorem ix_2 : ∀ t : Fin grid0.N, win0_2.index t 0 = t.val % 2 ∧ win0_2.index t 1 = 0 := by decide +kernel
theorem ix_3 : ∀ t : Fin grid0.N, win0_3.index t 0 = t.val / 2 ∧ win0_3.index t 1 = t.val % 2 := by decide +kernel
theorem ix_4 : ∀ t : Fin grid0.N, win0_4.index t 0 = t.val / 2 ∧ win0_4.index t 1 = t.val % 2 := by decide +kernel
theorem ix_5 : ∀ t : Fin grid0.N, win0_5.index t 0 = t.val / 2 ∧ win0_5.index t 1 = t.val % 2 := by decide +kernel
theorem flush_3 : ∀ t : Fin cfg0.N, (cfg0.win 3).flush t = true := (by decide +kernel : ∀ t : Fin grid0.N, win0_3.flush t = true)
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (d : Fin 1024) :
    ((cfg0.win 0).blk t).view.read (Elt Ideal) (W (Pipeline.arrRef spec0 0)) (ix2 r d) = W main_v3 (ix2 (rowAt t r) d) := by
  rw [View.read_apply]
  refine congrArg (W main_v3) (funext fun a => Fin.ext ?_)
  match a with
  | ⟨0, _⟩ => show win0_0.index t 0 * 512 + 1 * r.val = t.val / 2 * 512 + r.val; rw [(ix_0 t).1]; omega
  | ⟨1, _⟩ => show win0_0.index t 1 * 1024 + 1 * d.val = d.val; rw [(ix_0 t).2]; omega
theorem read_1 (W : (b : Ref sig .tc) → Buf (Elt Ideal) ((c : Thread nD τ).loc b)) (f : Fin 1408) (d : Fin 1024) :
    ((cfg0.win 1).blk t).view.read (Elt Ideal) (W (Pipeline.arrRef spec0 1)) (ix2 f d) = W main_v5 (ix2 (colAt t f) d) := by
  rw [View.read_apply]
  refine congrArg (W main_v5) (funext fun a => Fin.ext ?_)
  match a with
  | ⟨0, _⟩ => show win0_1.index t 0 * 1408 + 1 * f.val = t.val % 2 * 1408 + f.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (f : Fin 1408) (d : Fin 1024) :
    ((cfg0.win 2).blk t).view.read (Elt Ideal) (W (Pipeline.arrRef spec0 2)) (ix2 f d) = W main_v7 (ix2 (colAt t f) d) := by
  rw [View.read_apply]
  refine congrArg (W main_v7) (funext fun a => Fin.ext ?_)
  match a with
  | ⟨0, _⟩ => show win0_2.index t 0 * 1408 + 1 * f.val = t.val % 2 * 1408 + f.val; rw [(ix_2 t).1]; omega
  | ⟨1, _⟩ => show win0_2.index t 1 * 1024 + 1 * d.val = d.val; rw [(ix_2 t).2]; omega
theorem cover_3 (x : S8192x2816.Idx) : ∃ t : Fin cfg0.N, (cfg0.win 3).flush t = true ∧ x ∈ ((View.whole main_v8_0).slice (win0_3.rect t)).set := by
  obtain ⟨n, f, rfl⟩ := pair (a := 8192) (b := 2816) x
  refine ⟨pointOf n f, flush_3 _, ?_⟩
  rw [View.set_slice_whole, Rect.mem_set_unit]
  have hp : (pointOf n f).val = 2 * (n.val / 512) + f.val / 1408 := rfl
  have hn := n.isLt
  have hf := f.isLt
  have e0 := ix_3 (pointOf n f)
  intro a
  match a with
  | ⟨0, _⟩ => show win0_3.index (pointOf n f) 0 * 512 ≤ n.val ∧ n.val < win0_3.index (pointOf n f) 0 * 512 + 512; rw [e0.1]; omega
  | ⟨1, _⟩ => show win0_3.index (pointOf n f) 1 * 1408 ≤ f.val ∧ f.val < win0_3.index (pointOf n f) 1 * 1408 + 1408; rw [e0.2]; omega
theorem cover_4 (x : S8192x2816.Idx) : ∃ t : Fin cfg0.N, (cfg0.win 4).flush t = true ∧ x ∈ ((View.whole main_v8_1).slice (win0_4.rect t)).set := by
  obtain ⟨n, f, rfl⟩ := pair (a := 8192) (b := 2816) x
  refine ⟨pointOf n f, flush_4 _, ?_⟩
  rw [View.set_slice_whole, Rect.mem_set_unit]
  have hp : (pointOf n f).val = 2 * (n.val / 512) + f.val / 1408 := rfl
  have hn := n.isLt
  have hf := f.isLt
  have e0 := ix_4 (pointOf n f)
  intro a
  match a with
  | ⟨0, _⟩ => show win0_4.index (pointOf n f) 0 * 512 ≤ n.val ∧ n.val < win0_4.index (pointOf n f) 0 * 512 + 512; rw [e0.1]; omega
  | ⟨1, _⟩ => show win0_4.index (pointOf n f) 1 * 1408 ≤ f.val ∧ f.val < win0_4.index (pointOf n f) 1 * 1408 + 1408; rw [e0.2]; omega
theorem cover_5 (x : S8192x2816.Idx) : ∃ t : Fin cfg0.N, (cfg0.win 5).flush t = true ∧ x ∈ ((View.whole main_v8_2).slice (win0_5.rect t)).set := by
  obtain ⟨n, f, rfl⟩ := pair (a := 8192) (b := 2816) x
  refine ⟨pointOf n f, flush_5 _, ?_⟩
  rw [View.set_slice_whole, Rect.mem_set_unit]
  have hp : (pointOf n f).val = 2 * (n.val / 512) + f.val / 1408 := rfl
  have hn := n.isLt
  have hf := f.isLt
  have e0 := ix_5 (pointOf n f)
  intro a
  match a with
  | ⟨0, _⟩ => show win0_5.index (pointOf n f) 0 * 512 ≤ n.val ∧ n.val < win0_5.index (pointOf n f) 0 * 512 + 512; rw [e0.1]; omega
  | ⟨1, _⟩ => show win0_5.index (pointOf n f) 1 * 1408 ≤ f.val ∧ f.val < win0_5.index (pointOf n f) 1 * 1408 + 1408; rw [e0.2]; omega

omit t in
theorem final_3 (O : Fin cfg0.N → Vec Ideal S512x1408 .bf16) (ho : ∀ t : Fin cfg0.N, (dats m 0 c).after 3 t = O t) (G : Fin 8192 → Fin 2816 → EReal)
    (h : ∀ (t : Fin cfg0.N) (r : Fin 512) (f : Fin 1408), O t (ix2 r f) = G (rowAt t r) (colAt t f)) :
    (dats m 0 c).arrAt 3 cfg0.N = fun x : S8192x2816.Idx => G (x 0) (x 1) := by
  refine (dats m 0 c).arrAt_eq_of_cover 3 (fun x : S8192x2816.Idx => G (x 0) (x 1)) (fun t ht => ?_) (fun x => cover_3 x)
  show (cfg0.win 3).cut (grid0.coords t) ((dats m 0 c).after 3 t) = _
  rw [ho]
  funext y
  rw [View.read_apply]
  obtain ⟨r, f, rfl⟩ := pair (a := 512) (b := 1408) y
  refine (h t r f).trans (congrArg₂ G (Fin.ext ?_) (Fin.ext ?_))
  · show t.val / 2 * 512 + r.val = win0_3.index t 0 * 512 + 1 * r.val; rw [(ix_3 t).1]; omega
  · show t.val % 2 * 1408 + f.val = win0_3.index t 1 * 1408 + 1 * f.val; rw [(ix_3 t).2]; omega

omit t in
theorem final_4 (O : Fin cfg0.N → Vec Ideal S512x1408 .bf16) (ho : ∀ t : Fin cfg0.N, (dats m 0 c).after 4 t = O t) (G : Fin 8192 → Fin 2816 → EReal)
    (h : ∀ (t : Fin cfg0.N) (r : Fin 512) (f : Fin 1408), O t (ix2 r f) = G (rowAt t r) (colAt t f)) :
    (dats m 0 c).arrAt 4 cfg0.N = fun x : S8192x2816.Idx => G (x 0) (x 1) := by
  refine (dats m 0 c).arrAt_eq_of_cover 4 (fun x : S8192x2816.Idx => G (x 0) (x 1)) (fun t ht => ?_) (fun x => cover_4 x)
  show (cfg0.win 4).cut (grid0.coords t) ((dats m 0 c).after 4 t) = _
  rw [ho]
  funext y
  rw [View.read_apply]
  obtain ⟨r, f, rfl⟩ := pair (a := 512) (b := 1408) y
  refine (h t r f).trans (congrArg₂ G (Fin.ext ?_) (Fin.ext ?_))
  · show t.val / 2 * 512 + r.val = win0_4.index t 0 * 512 + 1 * r.val; rw [(ix_4 t).1]; omega
  · show t.val % 2 * 1408 + f.val = win0_4.index t 1 * 1408 + 1 * f.val; rw [(ix_4 t).2]; omega

omit t in
theorem final_5 (O : Fin cfg0.N → Vec Ideal S512x1408 .bf16) (ho : ∀ t : Fin cfg0.N, (dats m 0 c).after 5 t = O t) (G : Fin 8192 → Fin 2816 → EReal)
    (h : ∀ (t : Fin cfg0.N) (r : Fin 512) (f : Fin 1408), O t (ix2 r f) = G (rowAt t r) (colAt t f)) :
    (dats m 0 c).arrAt 5 cfg0.N = fun x : S8192x2816.Idx => G (x 0) (x 1) := by
  refine (dats m 0 c).arrAt_eq_of_cover 5 (fun x : S8192x2816.Idx => G (x 0) (x 1)) (fun t ht => ?_) (fun x => cover_5 x)
  show (cfg0.win 5).cut (grid0.coords t) ((dats m 0 c).after 5 t) = _
  rw [ho]
  funext y
  rw [View.read_apply]
  obtain ⟨r, f, rfl⟩ := pair (a := 512) (b := 1408) y
  refine (h t r f).trans (congrArg₂ G (Fin.ext ?_) (Fin.ext ?_))
  · show t.val / 2 * 512 + r.val = win0_5.index t 0 * 512 + 1 * r.val; rw [(ix_5 t).1]; omega
  · show t.val % 2 * 1408 + f.val = win0_5.index t 1 * 1408 + 1 * f.val; rw [(ix_5 t).2]; omega

/-- The tokens and the weights. -/
abbrev argH : FVec Ideal S8192x1024 .f32 := m (c, Proc.tc.devRef main_arg0)
abbrev argW : FVec Ideal S1024x5632 .f32 := m (c, Proc.tc.devRef main_arg1)
/-- Feature `f` of the gate, and of what it multiplies. -/
def gateCol (f : Fin 2816) : Fin 5632 := ⟨f.val, by omega⟩
def upCol (f : Fin 2816) : Fin 5632 := ⟨2816 + f.val, by omega⟩

theorem in_0 (n : Fin 8192) (d : Fin 1024) : V m c main_v3 (ix2 n d) = argH m c (ix2 n d) := by
  unfold V
  after_reads_at
theorem in_1 (f : Fin 2816) (d : Fin 1024) : V m c main_v5 (ix2 f d) = argW m c (ix2 d (gateCol f)) := by
  unfold V
  after_reads_at
  rfl
theorem in_2 (f : Fin 2816) (d : Fin 1024) : V m c main_v7 (ix2 f d) = argW m c (ix2 d (upCol f)) := by
  unfold V
  after_reads_at
  rfl

/-- The gate of a token, and what it multiplies. -/
def gate (n : Fin 8192) (f : Fin 2816) : EReal := ∑ d : Fin 1024, argH m c (ix2 n d) * argW m c (ix2 d (gateCol f))
def up (n : Fin 8192) (f : Fin 2816) : EReal := ∑ d : Fin 1024, argH m c (ix2 n d) * argW m c (ix2 d (upCol f))

/-- A grid point's blocks of the tokens and of the two halves of the weights. -/
abbrev blk0 : Vec Ideal S512x1024 .bf16 := iblk m c 0 t
abbrev blk1 : Vec Ideal S1408x1024 .bf16 := iblk m c 1 t
abbrev blk2 : Vec Ideal S1408x1024 .bf16 := iblk m c 2 t

theorem gate_block (r : Fin 512) (f : Fin 1408) :
    ∑ d : Fin 1024, blk0 m c t (ix2 r d) * blk1 m c t (ix2 f d) = gate m c (rowAt t r) (colAt t f) :=
  Finset.sum_congr rfl fun d _ => congrArg₂ (· * ·) ((read_0 c t (V m c) r d).trans (in_0 m c _ d)) ((read_1 c t (V m c) f d).trans (in_1 m c _ d))
theorem up_block (r : Fin 512) (f : Fin 1408) :
    ∑ d : Fin 1024, blk0 m c t (ix2 r d) * blk2 m c t (ix2 f d) = up m c (rowAt t r) (colAt t f) :=
  Finset.sum_congr rfl fun d _ => congrArg₂ (· * ·) ((read_0 c t (V m c) r d).trans (in_0 m c _ d)) ((read_2 c t (V m c) f d).trans (in_2 m c _ d))

omit t in
theorem last_3 : (dats m 0 c).arrAt 3 cfg0.N = fun x : S8192x2816.Idx => gate m c (x 0) (x 1) :=
  final_3 m c _ (after0_3 m c) (gate m c) fun t r f => (out3_at _ _ _ r f).trans (gate_block m c t r f)
omit t in
theorem last_4 : (dats m 0 c).arrAt 4 cfg0.N = fun x : S8192x2816.Idx => up m c (x 0) (x 1) :=
  final_4 m c _ (after0_4 m c) (up m c) fun t r f => (out4_at _ _ _ r f).trans (up_block m c t r f)
omit t in
theorem last_5 : (dats m 0 c).arrAt 5 cfg0.N = fun x : S8192x2816.Idx => gate m c (x 0) (x 1) * sig1 (gate m c (x 0) (x 1)) * up m c (x 0) (x 1) :=
  final_5 m c _ (after0_5 m c) (fun n f => gate m c n f * sig1 (gate m c n f) * up m c n f) fun t r f => by
    exact (out5_at _ _ _ r f).trans (congrArg₂ (fun g u => g * sig1 g * u) (gate_block m c t r f) (up_block m c t r f))
end points

/-! ## The reference -/

section ref
open Cert.Reference4Ideal.Read
variable (x0 : FVec Ideal S8192x1024 .f32) (x1 : FVec Ideal S1024x5632 .f32) (n : Fin 8192) (f : Fin 2816)

theorem ref_gate : val_main_v1 (F := Ideal) x0 x1 (ix2 n f) = ∑ d : Fin 1024, x0 (ix2 n d) * x1 (ix2 d (gateCol f)) := by
  pointwise [val_main_v1, val_main_v0]
  rfl
theorem ref_up : val_main_v2 (F := Ideal) x0 x1 (ix2 n f) = ∑ d : Fin 1024, x0 (ix2 n d) * x1 (ix2 d (upCol f)) := by
  pointwise [val_main_v2, val_main_v0]
  rfl
theorem ref_act : val_main_v7 (F := Ideal) x0 x1 (ix2 n f)
    = val_main_v1 (F := Ideal) x0 x1 (ix2 n f) * sig1 (val_main_v1 (F := Ideal) x0 x1 (ix2 n f)) * val_main_v2 (F := Ideal) x0 x1 (ix2 n f) := by
  unfold sig1
  generalize hg : val_main_v1 (F := Ideal) x0 x1 = g
  generalize hu : val_main_v2 (F := Ideal) x0 x1 = u
  pointwise [val_main_v7, val_main_v6, val_main_v5, val_main_call0_v5, val_main_call0_v4, val_main_call0_v3, val_main_call0_v2, val_main_call0_v1,
    val_main_call0_v0, val_main_call0_cst, val_main_call0_cst_0, hg, hu]
end ref

/-! ## The claims -/

theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run m ρ)

theorem value : Cert.algebraic_Kernel4Ideal_Reference4Ideal := by
  intro m g m' g' _ hargs
  refine ⟨fun c => fun x : S8192x2816.Idx => gate m c (x 0) (x 1), fun c => fun x : S8192x2816.Idx => up m c (x 0) (x 1),
    fun c => fun x : S8192x2816.Idx => gate m c (x 0) (x 1) * sig1 (gate m c (x 0) (x 1)) * up m c (x 0) (x 1), ?_, ?_⟩
  · refine (θ_run Cert.Kernel4Ideal.defs _ _).mono (fun r h c => ?_) (Cert.Kernel4Ideal.Value.run_blocks m g)
    obtain ⟨h3, h4, h5, ha⟩ := h c
    exact ⟨h3.trans (last_3 m c), h4.trans (last_4 m c), h5.trans (last_5 m c), ha⟩
  · refine (θ_run Cert.Reference4Ideal.defs _ _).mono (fun r h c => ?_) (Cert.Reference4Ideal.Value.run m' g')
    obtain ⟨a0, a1⟩ := hargs c
    obtain ⟨h3, h4, h5, ha⟩ := h c
    refine ⟨h3.trans ?_, h4.trans ?_, h5.trans ?_, ha⟩
    · refine (Cert.Reference4Ideal.Read.val_main_v3_eq _ _).trans ?_
      rw [a0, a1]
      funext x
      obtain ⟨n, f, rfl⟩ := pair (a := 8192) (b := 2816) x
      exact ref_gate _ _ n f
    · refine (Cert.Reference4Ideal.Read.val_main_v4_eq _ _).trans ?_
      rw [a0, a1]
      funext x
      obtain ⟨n, f, rfl⟩ := pair (a := 8192) (b := 2816) x
      exact ref_up _ _ n f
    · refine (Cert.Reference4Ideal.Read.val_main_v7_eq _ _).trans ?_
      rw [a0, a1]
      funext x
      obtain ⟨n, f, rfl⟩ := pair (a := 8192) (b := 2816) x
      refine (ref_act _ _ n f).trans ?_
      rw [ref_gate, ref_up]
      rfl

end Cert.Proof.FfnUp
-- ==== Proof.FfnActBwd.lean ====
/-
  The gradients of the gate and of what it multiplies, from the gradient of the feed-forward's result. A grid point is a
  block of 512 tokens and one of the two halves of the features.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite4
public import proofs.«01_k».proof.Proof.Reals
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel5Ideal Cert.Kernel5Ideal.Gen

namespace Cert.Proof.FfnActBwd

open Cert.Proof.Reals

section pays
variable (x : Vec Ideal S512x1024 .bf16) (w : Vec Ideal S1408x1024 .bf16) (g u : Vec Ideal S512x1408 .bf16) (r : Fin 512) (f : Fin 1408)

/-- The gradients of the gate and of what it multiplies, from the gradient of the product, the gate and what it multiplies. -/
def dgate (y g u : EReal) : EReal := y * u * (sig1 g * (Ideal.ofBits .f32 0x3F800000#32 + g * (Ideal.ofBits .f32 0x3F800000#32 - sig1 g)))
def dup (y g : EReal) : EReal := y * (g * sig1 g)

theorem dot_at : k0_pay1 (F := Ideal) x w (ix2 r f) = ∑ d : Fin 1024, x (ix2 r d) * w (ix2 f d) := by
  pointwise [k0_pay1]
theorem gate_at : k0_pay4 (F := Ideal) x w g u (ix2 r f) = dgate (∑ d : Fin 1024, x (ix2 r d) * w (ix2 f d)) (g (ix2 r f)) (u (ix2 r f)) := by
  rw [← dot_at]
  unfold dgate sig1
  pointwise [k0_pay4, k0_pay3, k0_pay2]
  simp only [Ideal.ofBits_zero, zero_sub]
theorem up_at : k0_pay5 (F := Ideal) x w g (ix2 r f) = dup (∑ d : Fin 1024, x (ix2 r d) * w (ix2 f d)) (g (ix2 r f)) := by
  rw [← dot_at]
  unfold dup sig1
  pointwise [k0_pay5, k0_pay3, k0_pay2]
  simp only [Ideal.ofBits_zero, zero_sub]

theorem out4_at : out0_4 (F := Ideal) x w g u (ix2 r f) = dgate (∑ d : Fin 1024, x (ix2 r d) * w (ix2 f d)) (g (ix2 r f)) (u (ix2 r f)) := by
  unfold out0_4
  rw [View.canon_unit_zero zero2, View.ld_unit_zero (S := S512x1024) zero2,
    View.ld_unit_zero (S := S1408x1024) zero2, View.ld_unit_zero (S := S512x1408) zero2,
    View.ld_unit_zero (S := S512x1408) zero2]
  exact gate_at x w g u r f
theorem out5_at : out0_5 (F := Ideal) x w g u (ix2 r f) = dup (∑ d : Fin 1024, x (ix2 r d) * w (ix2 f d)) (g (ix2 r f)) := by
  unfold out0_5
  rw [View.canon_unit_zero zero2, View.ld_unit_zero (S := S512x1024) zero2,
    View.ld_unit_zero (S := S1408x1024) zero2, View.ld_unit_zero (S := S512x1408) zero2]
  exact up_at x w g r f
end pays

/-- Token `r` and feature `f` of a grid point's block, and the point of a token and a feature. -/
def rowAt (t : Fin cfg0.N) (r : Fin 512) : Fin 8192 := ⟨t.val / 2 * 512 + r.val, by have := t.isLt; have hN : cfg0.N = 32 := N_0; omega⟩
def colAt (t : Fin cfg0.N) (f : Fin 1408) : Fin 2816 := ⟨t.val % 2 * 1408 + f.val, by omega⟩
def pointOf (n : Fin 8192) (f : Fin 2816) : Fin cfg0.N := ⟨2 * (n.val / 512) + f.val / 1408, by have hN : cfg0.N = 32 := N_0; omega⟩

theorem ix_0 : ∀ t : Fin grid0.N, win0_0.index t 0 = t.val / 2 ∧ win0_0.index t 1 = 0 := by decide +kernel
theorem ix_1 : ∀ t : Fin grid0.N, win0_1.index t 0 = t.val % 2 ∧ win0_1.index t 1 = 0 := by decide +kernel
theorem ix_2 : ∀ t : Fin grid0.N, win0_2.index t 0 = t.val / 2 ∧ win0_2.index t 1 = t.val % 2 := by decide +kernel
theorem ix_3 : ∀ t : Fin grid0.N, win0_3.index t 0 = t.val / 2 ∧ win0_3.index t 1 = t.val % 2 := by decide +kernel
theorem ix_4 : ∀ t : Fin grid0.N, win0_4.index t 0 = t.val / 2 ∧ win0_4.index t 1 = t.val % 2 := by decide +kernel
theorem ix_5 : ∀ t : Fin grid0.N, win0_5.index t 0 = t.val / 2 ∧ win0_5.index t 1 = t.val % 2 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (d : Fin 1024) :
    ((cfg0.win 0).blk t).view.read (Elt Ideal) (W (Pipeline.arrRef spec0 0)) (ix2 r d) = W main_v0 (ix2 (rowAt t r) d) := by
  rw [View.read_apply]
  refine congrArg (W main_v0) (funext fun a => Fin.ext ?_)
  match a with
  | ⟨0, _⟩ => show win0_0.index t 0 * 512 + 1 * r.val = t.val / 2 * 512 + r.val; rw [(ix_0 t).1]; omega
  | ⟨1, _⟩ => show win0_0.index t 1 * 1024 + 1 * d.val = d.val; rw [(ix_0 t).2]; omega
theorem read_1 (W : (b : Ref sig .tc) → Buf (Elt Ideal) ((c : Thread nD τ).loc b)) (f : Fin 1408) (d : Fin 1024) :
    ((cfg0.win 1).blk t).view.read (Elt Ideal) (W (Pipeline.arrRef spec0 1)) (ix2 f d) = W main_v1 (ix2 (colAt t f) d) := by
  rw [View.read_apply]
  refine congrArg (W main_v1) (funext fun a => Fin.ext ?_)
  match a with
  | ⟨0, _⟩ => show win0_1.index t 0 * 1408 + 1 * f.val = t.val % 2 * 1408 + f.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (r : Fin 512) (f : Fin 1408) :
    ((cfg0.win 2).blk t).view.read (Elt Ideal) (W (Pipeline.arrRef spec0 2)) (ix2 r f) = W main_v2 (ix2 (rowAt t r) (colAt t f)) := by
  rw [View.read_apply]
  refine congrArg (W main_v2) (funext fun a => Fin.ext ?_)
  match a with
  | ⟨0, _⟩ => show win0_2.index t 0 * 512 + 1 * r.val = t.val / 2 * 512 + r.val; rw [(ix_2 t).1]; omega
  | ⟨1, _⟩ => show win0_2.index t 1 * 1408 + 1 * f.val = t.val % 2 * 1408 + f.val; rw [(ix_2 t).2]; omega
theorem read_3 (W : (b : Ref sig .tc) → Buf (Elt Ideal) ((c : Thread nD τ).loc b)) (r : Fin 512) (f : Fin 1408) :
    ((cfg0.win 3).blk t).view.read (Elt Ideal) (W (Pipeline.arrRef spec0 3)) (ix2 r f) = W main_v3 (ix2 (rowAt t r) (colAt t f)) := by
  rw [View.read_apply]
  refine congrArg (W main_v3) (funext fun a => Fin.ext ?_)
  match a with
  | ⟨0, _⟩ => show win0_3.index t 0 * 512 + 1 * r.val = t.val / 2 * 512 + r.val; rw [(ix_3 t).1]; omega
  | ⟨1, _⟩ => show win0_3.index t 1 * 1408 + 1 * f.val = t.val % 2 * 1408 + f.val; rw [(ix_3 t).2]; omega
theorem cover_4 (x : S8192x2816.Idx) : ∃ t : Fin cfg0.N, (cfg0.win 4).flush t = true ∧ x ∈ ((View.whole main_v4_0).slice (win0_4.rect t)).set := by
  obtain ⟨n, f, rfl⟩ := pair (a := 8192) (b := 2816) x
  refine ⟨pointOf n f, flush_4 _, ?_⟩
  rw [View.set_slice_whole, Rect.mem_set_unit]
  have hp : (pointOf n f).val = 2 * (n.val / 512) + f.val / 1408 := rfl
  have hn := n.isLt
  have hf := f.isLt
  have e0 := ix_4 (pointOf n f)
  intro a
  match a with
  | ⟨0, _⟩ => show win0_4.index (pointOf n f) 0 * 512 ≤ n.val ∧ n.val < win0_4.index (pointOf n f) 0 * 512 + 512; rw [e0.1]; omega
  | ⟨1, _⟩ => show win0_4.index (pointOf n f) 1 * 1408 ≤ f.val ∧ f.val < win0_4.index (pointOf n f) 1 * 1408 + 1408; rw [e0.2]; omega
theorem cover_5 (x : S8192x2816.Idx) : ∃ t : Fin cfg0.N, (cfg0.win 5).flush t = true ∧ x ∈ ((View.whole main_v4_1).slice (win0_5.rect t)).set := by
  obtain ⟨n, f, rfl⟩ := pair (a := 8192) (b := 2816) x
  refine ⟨pointOf n f, flush_5 _, ?_⟩
  rw [View.set_slice_whole, Rect.mem_set_unit]
  have hp : (pointOf n f).val = 2 * (n.val / 512) + f.val / 1408 := rfl
  have hn := n.isLt
  have hf := f.isLt
  have e0 := ix_5 (pointOf n f)
  intro a
  match a with
  | ⟨0, _⟩ => show win0_5.index (pointOf n f) 0 * 512 ≤ n.val ∧ n.val < win0_5.index (pointOf n f) 0 * 512 + 512; rw [e0.1]; omega
  | ⟨1, _⟩ => show win0_5.index (pointOf n f) 1 * 1408 ≤ f.val ∧ f.val < win0_5.index (pointOf n f) 1 * 1408 + 1408; rw [e0.2]; omega

omit t in
theorem final_4 (O : Fin cfg0.N → Vec Ideal S512x1408 .bf16) (ho : ∀ t : Fin cfg0.N, (dats m 0 c).after 4 t = O t) (G : Fin 8192 → Fin 2816 → EReal)
    (h : ∀ (t : Fin cfg0.N) (r : Fin 512) (f : Fin 1408), O t (ix2 r f) = G (rowAt t r) (colAt t f)) :
    (dats m 0 c).arrAt 4 cfg0.N = fun x : S8192x2816.Idx => G (x 0) (x 1) := by
  refine (dats m 0 c).arrAt_eq_of_cover 4 (fun x : S8192x2816.Idx => G (x 0) (x 1)) (fun t ht => ?_) (fun x => cover_4 x)
  show (cfg0.win 4).cut (grid0.coords t) ((dats m 0 c).after 4 t) = _
  rw [ho]
  funext y
  rw [View.read_apply]
  obtain ⟨r, f, rfl⟩ := pair (a := 512) (b := 1408) y
  refine (h t r f).trans (congrArg₂ G (Fin.ext ?_) (Fin.ext ?_))
  · show t.val / 2 * 512 + r.val = win0_4.index t 0 * 512 + 1 * r.val; rw [(ix_4 t).1]; omega
  · show t.val % 2 * 1408 + f.val = win0_4.index t 1 * 1408 + 1 * f.val; rw [(ix_4 t).2]; omega

omit t in
theorem final_5 (O : Fin cfg0.N → Vec Ideal S512x1408 .bf16) (ho : ∀ t : Fin cfg0.N, (dats m 0 c).after 5 t = O t) (G : Fin 8192 → Fin 2816 → EReal)
    (h : ∀ (t : Fin cfg0.N) (r : Fin 512) (f : Fin 1408), O t (ix2 r f) = G (rowAt t r) (colAt t f)) :
    (dats m 0 c).arrAt 5 cfg0.N = fun x : S8192x2816.Idx => G (x 0) (x 1) := by
  refine (dats m 0 c).arrAt_eq_of_cover 5 (fun x : S8192x2816.Idx => G (x 0) (x 1)) (fun t ht => ?_) (fun x => cover_5 x)
  show (cfg0.win 5).cut (grid0.coords t) ((dats m 0 c).after 5 t) = _
  rw [ho]
  funext y
  rw [View.read_apply]
  obtain ⟨r, f, rfl⟩ := pair (a := 512) (b := 1408) y
  refine (h t r f).trans (congrArg₂ G (Fin.ext ?_) (Fin.ext ?_))
  · show t.val / 2 * 512 + r.val = win0_5.index t 0 * 512 + 1 * r.val; rw [(ix_5 t).1]; omega
  · show t.val % 2 * 1408 + f.val = win0_5.index t 1 * 1408 + 1 * f.val; rw [(ix_5 t).2]; omega

/-- The gate, what it multiplies, the weight, and the gradient of the result. -/
abbrev argG : FVec Ideal S8192x2816 .f32 := m (c, Proc.tc.devRef main_arg0)
abbrev argU : FVec Ideal S8192x2816 .f32 := m (c, Proc.tc.devRef main_arg1)
abbrev argW : FVec Ideal S2816x1024 .f32 := m (c, Proc.tc.devRef main_arg2)
abbrev argY : FVec Ideal S8192x1024 .f32 := m (c, Proc.tc.devRef main_arg3)

theorem in_0 (n : Fin 8192) (d : Fin 1024) : V m c main_v0 (ix2 n d) = argY m c (ix2 n d) := by
  unfold V
  after_reads_at
theorem in_1 (f : Fin 2816) (d : Fin 1024) : V m c main_v1 (ix2 f d) = argW m c (ix2 f d) := by
  unfold V
  after_reads_at
theorem in_2 (n : Fin 8192) (f : Fin 2816) : V m c main_v2 (ix2 n f) = argG m c (ix2 n f) := by
  unfold V
  after_reads_at
theorem in_3 (n : Fin 8192) (f : Fin 2816) : V m c main_v3 (ix2 n f) = argU m c (ix2 n f) := by
  unfold V
  after_reads_at

/-- The gradient of what the weight multiplied. -/
def prod (n : Fin 8192) (f : Fin 2816) : EReal := ∑ d : Fin 1024, argY m c (ix2 n d) * argW m c (ix2 f d)

/-- A grid point's blocks. -/
abbrev blk0 : Vec Ideal S512x1024 .bf16 := iblk m c 0 t
abbrev blk1 : Vec Ideal S1408x1024 .bf16 := iblk m c 1 t
abbrev blk2 : Vec Ideal S512x1408 .bf16 := iblk m c 2 t
abbrev blk3 : Vec Ideal S512x1408 .bf16 := iblk m c 3 t

theorem prod_block (r : Fin 512) (f : Fin 1408) :
    ∑ d : Fin 1024, blk0 m c t (ix2 r d) * blk1 m c t (ix2 f d) = prod m c (rowAt t r) (colAt t f) :=
  Finset.sum_congr rfl fun d _ => congrArg₂ (· * ·) ((read_0 c t (V m c) r d).trans (in_0 m c _ d)) ((read_1 c t (V m c) f d).trans (in_1 m c _ d))
theorem gate_block (r : Fin 512) (f : Fin 1408) : blk2 m c t (ix2 r f) = argG m c (ix2 (rowAt t r) (colAt t f)) :=
  (read_2 c t (V m c) r f).trans (in_2 m c _ _)
theorem up_block (r : Fin 512) (f : Fin 1408) : blk3 m c t (ix2 r f) = argU m c (ix2 (rowAt t r) (colAt t f)) :=
  (read_3 c t (V m c) r f).trans (in_3 m c _ _)

/-- The two results. -/
def resG (n : Fin 8192) (f : Fin 2816) : EReal := dgate (prod m c n f) (argG m c (ix2 n f)) (argU m c (ix2 n f))
def resU (n : Fin 8192) (f : Fin 2816) : EReal := dup (prod m c n f) (argG m c (ix2 n f))

omit t in
theorem last_4 : (dats m 0 c).arrAt 4 cfg0.N = fun x : S8192x2816.Idx => resG m c (x 0) (x 1) :=
  final_4 m c _ (after0_4 m c) (resG m c) fun t r f => (out4_at _ _ _ _ r f).trans (by
    show dgate (∑ d : Fin 1024, blk0 m c t (ix2 r d) * blk1 m c t (ix2 f d)) (blk2 m c t (ix2 r f)) (blk3 m c t (ix2 r f)) = _
    rw [prod_block, gate_block, up_block]
    rfl)
omit t in
theorem last_5 : (dats m 0 c).arrAt 5 cfg0.N = fun x : S8192x2816.Idx => resU m c (x 0) (x 1) :=
  final_5 m c _ (after0_5 m c) (resU m c) fun t r f => (out5_at _ _ _ _ r f).trans (by
    show dup (∑ d : Fin 1024, blk0 m c t (ix2 r d) * blk1 m c t (ix2 f d)) (blk2 m c t (ix2 r f)) = _
    rw [prod_block, gate_block]
    rfl)
end points

/-! ## The reference -/

section ref
open Cert.Reference5Ideal.Read
variable (x0 x1 : FVec Ideal S8192x2816 .f32) (x2 : FVec Ideal S2816x1024 .f32) (x3 : FVec Ideal S8192x1024 .f32) (n : Fin 8192) (f : Fin 2816)

theorem ref_prod : val_main_v3 (F := Ideal) x2 x3 (ix2 n f) = ∑ d : Fin 1024, x3 (ix2 n d) * x2 (ix2 f d) := by
  pointwise [val_main_v3]
theorem ref_sig : val_main_v0_2 (F := Ideal) x0 (ix2 n f) = sig1 (x0 (ix2 n f)) := by
  unfold sig1
  pointwise [val_main_v0_2, val_main_call0_v4, val_main_call0_v3, val_main_call0_v2, val_main_call0_v1, val_main_call0_v0, val_main_call0_cst, val_main_call0_cst_0]
theorem ref_up : val_main_v8 (F := Ideal) x0 x2 x3 (ix2 n f) = x0 (ix2 n f) * sig1 (x0 (ix2 n f)) * ∑ d : Fin 1024, x3 (ix2 n d) * x2 (ix2 f d) := by
  rw [← ref_sig, ← ref_prod]
  generalize hs : val_main_v0_2 (F := Ideal) x0 = s
  generalize hp : val_main_v3 (F := Ideal) x2 x3 = p
  pointwise [val_main_v8, val_main_v4, val_main_v0_0, hs, hp]
theorem ref_gate : val_main_v7 (F := Ideal) x0 x1 x2 x3 (ix2 n f)
    = (∑ d : Fin 1024, x3 (ix2 n d) * x2 (ix2 f d)) * x1 (ix2 n f) * sig1 (x0 (ix2 n f))
      + x0 (ix2 n f) * ((∑ d : Fin 1024, x3 (ix2 n d) * x2 (ix2 f d)) * x1 (ix2 n f)) * (sig1 (x0 (ix2 n f)) * (Ideal.ofBits .f32 0x3F800000#32 - sig1 (x0 (ix2 n f)))) := by
  rw [← ref_sig, ← ref_prod]
  generalize hs : val_main_v0_2 (F := Ideal) x0 = s
  generalize hp : val_main_v3 (F := Ideal) x2 x3 = p
  pointwise [val_main_v7, val_main_v6, val_main_call1_v2, val_main_call1_v1, val_main_call1_v0, val_main_v5, val_main_v0_1, val_main_call0_v7, val_main_call0_v6, val_main_call0_cst_1, hs, hp]
end ref

/-! ## The precondition -/

section pre
variable (x0 x1 : FVec Ideal S8192x2816 .f32) (x2 : FVec Ideal S2816x1024 .f32) (x3 : FVec Ideal S8192x1024 .f32)

instance : Subsingleton Cert.Pre_finite4.S_.Idx := ⟨fun a b => funext fun i => i.elim0⟩

attribute [local instance] Cert.Pre_finite4.Gen.facts

theorem reals (h : Cert.Pre_finite4.fn (F := Ideal) x0 x1 x2 x3 = fun _ => 1#1) :
    ∃ (g u : Fin 8192 → Fin 2816 → ℝ) (w : Fin 2816 → Fin 1024 → ℝ) (y : Fin 8192 → Fin 1024 → ℝ), x0 = mat g ∧ x1 = mat u ∧ x2 = mat w ∧ x3 = mat y := by
  have h' := congrFun h ix0
  unfold Cert.Pre_finite4.fn Cert.Pre_finite4.fn_part1 at h'
  dsimp only at h'
  obtain ⟨h012, h3⟩ := IntOp.andi_eq_one.1 h'
  obtain ⟨h01, h2⟩ := IntOp.andi_eq_one.1 h012
  obtain ⟨h0, h1⟩ := IntOp.andi_eq_one.1 h01
  obtain ⟨g, hg⟩ := mat_of x0 fun i => Host.reduce_andi_all _ _ _ _ _ h0 i
  obtain ⟨u, hu⟩ := mat_of x1 fun i => Host.reduce_andi_all _ _ _ _ _ h1 i
  obtain ⟨w, hw⟩ := mat_of x2 fun i => Host.reduce_andi_all _ _ _ _ _ h2 i
  obtain ⟨y, hy⟩ := mat_of x3 fun i => Host.reduce_andi_all _ _ _ _ _ h3 i
  exact ⟨g, u, w, y, hg, hu, hw, hy⟩
end pre

theorem same_gate (y g u : ℝ) : dgate (y : EReal) (g : EReal) (u : EReal)
    = (y : EReal) * u * sig1 g + (g : EReal) * ((y : EReal) * u) * (sig1 g * (Ideal.ofBits .f32 0x3F800000#32 - sig1 g)) := by
  unfold dgate
  rw [sig1_coe, one_bits]
  norm_cast
  ring

/-! ## The claims -/

theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run m ρ)

theorem value : Cert.algebraic_Kernel5Ideal_Reference5Ideal_pre_finite4 := by
  intro m g m' g' hpre hargs
  refine ⟨fun c => fun x : S8192x2816.Idx => resG m c (x 0) (x 1), fun c => fun x : S8192x2816.Idx => resU m c (x 0) (x 1), ?_, ?_⟩
  · refine (θ_run Cert.Kernel5Ideal.defs _ _).mono (fun r h c => ?_) (Cert.Kernel5Ideal.Value.run_blocks m g)
    obtain ⟨h4, h5, ha⟩ := h c
    exact ⟨h4.trans (last_4 m c), h5.trans (last_5 m c), ha⟩
  · refine (θ_run Cert.Reference5Ideal.defs _ _).mono (fun r h c => ?_) (Cert.Reference5Ideal.Value.run m' g')
    obtain ⟨a0, a1, a2, a3⟩ := hargs c
    obtain ⟨h4, h5, ha⟩ := h c
    obtain ⟨gr, ur, wr, yr, eg, eu, ew, ey⟩ := reals (argG m c) (argU m c) (argW m c) (argY m c) (hpre c)
    refine ⟨h4.trans ?_, h5.trans ?_, ha⟩
    · refine (Cert.Reference5Ideal.Read.val_main_v7_eq _ _ _ _).trans ?_
      rw [a0, a1, a2, a3]
      funext x
      obtain ⟨n, f, rfl⟩ := pair (a := 8192) (b := 2816) x
      refine (ref_gate (argG m c) (argU m c) (argW m c) (argY m c) n f).trans ?_
      show _ = dgate (prod m c n f) (argG m c (ix2 n f)) (argU m c (ix2 n f))
      unfold prod
      rw [eg, eu, ew, ey]
      simp only [mat_at, ← EReal.coe_mul, ← coe_sum]
      rw [same_gate]
      simp only [← EReal.coe_mul]
    · refine (Cert.Reference5Ideal.Read.val_main_v8_eq _ _ _).trans ?_
      rw [a0, a2, a3]
      funext x
      obtain ⟨n, f, rfl⟩ := pair (a := 8192) (b := 2816) x
      exact (ref_up (argG m c) (argW m c) (argY m c) n f).trans (mul_comm _ _)

end Cert.Proof.FfnActBwd
-- ==== Proof.InProj.lean ====
/-
  The input projection: a block of 512 rows of the normalised tokens times the weights, stored transposed, at each of
  sixteen points.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel6Ideal Cert.Kernel6Ideal.Gen

namespace Cert.Proof.InProj

theorem pay_at (x : Vec Ideal S512x1024 .bf16) (w : Vec Ideal S3328x1024 .bf16) (r : Fin 512) (e : Fin 3328) :
    k0_pay1 (F := Ideal) x w (ix2 r e) = ∑ d : Fin 1024, x (ix2 r d) * w (ix2 e d) := by
  pointwise [k0_pay1]

theorem out_at (x : Vec Ideal S512x1024 .bf16) (w : Vec Ideal S3328x1024 .bf16) (r : Fin 512) (e : Fin 3328) :
    out0_2 (F := Ideal) x w (ix2 r e) = ∑ d : Fin 1024, x (ix2 r d) * w (ix2 e d) := by
  unfold out0_2
  rw [View.canon_unit_zero zero2, View.ld_unit_zero (S := S512x1024) zero2,
    View.ld_unit_zero (S := S3328x1024) zero2]
  exact pay_at x w r e

/-- Row `r` of the block of a grid point, and the point of a row. -/
def rowAt (t : Fin cfg0.N) (r : Fin 512) : Fin 8192 := ⟨t.val * 512 + r.val, by have := t.isLt; have hN : cfg0.N = 16 := N_0; omega⟩
def pointOf (n : Fin 8192) : Fin cfg0.N := ⟨n.val / 512, by have hN : cfg0.N = 16 := N_0; omega⟩

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem flush_2 : ∀ t : Fin cfg0.N, (cfg0.win 2).flush t = true := (by decide +kernel : ∀ t : Fin grid0.N, win0_2.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (d : Fin 1024) :
    ((cfg0.win 0).blk t).view.read (Elt Ideal) (W (Pipeline.arrRef spec0 0)) (ix2 r d) = W main_v0 (ix2 (rowAt t r) d) := by
  rw [View.read_apply]
  refine congrArg (W main_v0) (funext fun a => Fin.ext ?_)
  match a with
  | ⟨0, _⟩ => show win0_0.index t 0 * 512 + 1 * r.val = t.val * 512 + r.val; rw [(ix_0 t).1]; omega
  | ⟨1, _⟩ => show win0_0.index t 1 * 1024 + 1 * d.val = d.val; rw [(ix_0 t).2]; omega
theorem read_1 (W : (b : Ref sig .tc) → Buf (Elt Ideal) ((c : Thread nD τ).loc b)) (e : Fin 3328) (d : Fin 1024) :
    ((cfg0.win 1).blk t).view.read (Elt Ideal) (W (Pipeline.arrRef spec0 1)) (ix2 e d) = W main_v2 (ix2 e d) := by
  rw [View.read_apply]
  refine congrArg (W main_v2) (funext fun a => Fin.ext ?_)
  match a with
  | ⟨0, _⟩ => show win0_1.index t 0 * 3328 + 1 * e.val = e.val; rw [(ix_1 t).1]; omega
  | ⟨1, _⟩ => show win0_1.index t 1 * 1024 + 1 * d.val = d.val; rw [(ix_1 t).2]; omega

/-- The tokens and the weights. -/
abbrev argH : FVec Ideal S8192x1024 .f32 := m (c, Proc.tc.devRef main_arg0)
abbrev argW : FVec Ideal S1024x3328 .f32 := m (c, Proc.tc.devRef main_arg1)

theorem in_0 (n : Fin 8192) (d : Fin 1024) : V m c main_v0 (ix2 n d) = argH m c (ix2 n d) := by
  unfold V
  after_reads_at
theorem in_1 (e : Fin 3328) (d : Fin 1024) : V m c main_v2 (ix2 e d) = argW m c (ix2 d e) := by
  unfold V
  after_reads_at

/-- The product. -/
def arr : S8192x3328.Idx → EReal := fun x => ∑ d : Fin 1024, argH m c (ix2 (x 0) d) * argW m c (ix2 d (x 1))

theorem cover_2 (x : S8192x3328.Idx) : ∃ t : Fin cfg0.N, (cfg0.win 2).flush t = true ∧ x ∈ ((View.whole main_v3).slice (win0_2.rect t)).set := by
  obtain ⟨n, e, rfl⟩ := pair (a := 8192) (b := 3328) x
  refine ⟨pointOf n, flush_2 _, ?_⟩
  rw [View.set_slice_whole, Rect.mem_set_unit]
  have hp : (pointOf n).val = n.val / 512 := rfl
  have hn := n.isLt
  have he := e.isLt
  have i2 := ix_2 (pointOf n)
  intro a
  match a with
  | ⟨0, _⟩ => show win0_2.index (pointOf n) 0 * 512 ≤ n.val ∧ n.val < win0_2.index (pointOf n) 0 * 512 + 512; rw [i2.1]; omega
  | ⟨1, _⟩ => show win0_2.index (pointOf n) 1 * 3328 ≤ e.val ∧ e.val < win0_2.index (pointOf n) 1 * 3328 + 3328; rw [i2.2]; omega

theorem final : (dats m 0 c).arrAt 2 cfg0.N = arr m c := by
  refine (dats m 0 c).arrAt_eq_of_cover 2 (arr m c) (fun t _ => ?_) (fun x => cover_2 x)
  rw [Value.flushed2]
  funext y
  rw [View.read_apply]
  obtain ⟨r, e, rfl⟩ := pair (a := 512) (b := 3328) y
  refine (out_at _ _ r e).trans ?_
  unfold arr
  refine Finset.sum_congr rfl fun d _ => congrArg₂ (· * ·) ?_ ?_
  · refine (read_0 c t (V m c) r d).trans ((in_0 m c _ d).trans (congrArg _ (congrArg₂ ix2 (Fin.ext ?_) rfl)))
    show t.val * 512 + r.val = win0_2.index t 0 * 512 + 1 * r.val
    rw [(ix_2 t).1]; omega
  · refine (read_1 c t (V m c) e d).trans ((in_1 m c e d).trans (congrArg _ (congrArg₂ ix2 rfl (Fin.ext ?_))))
    show e.val = win0_2.index t 1 * 3328 + 1 * e.val
    rw [(ix_2 t).2]; omega
end points

theorem ref_at (x0 : FVec Ideal S8192x1024 .f32) (x1 : FVec Ideal S1024x3328 .f32) (n : Fin 8192) (e : Fin 3328) :
    Cert.Reference6Ideal.Read.val_main_v0 (F := Ideal) x0 x1 (ix2 n e) = ∑ d : Fin 1024, x0 (ix2 n d) * x1 (ix2 d e) := by
  pointwise [Cert.Reference6Ideal.Read.val_main_v0]

theorem res (m : (ℓ : Loc nD τ sig) → Buf (Elt Ideal) ℓ) (c : Dev nD) :
    arr m c = Cert.Reference6Ideal.Read.val_main_v0 (F := Ideal) (argH m c) (argW m c) := by
  funext x
  obtain ⟨n, e, rfl⟩ := pair (a := 8192) (b := 3328) x
  exact (ref_at _ _ n e).symm

/-! ## The claims -/

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run m ρ)

theorem value : Cert.algebraic_Kernel6Ideal_Reference6Ideal := by
  intro m g m' g' _ hargs
  refine ⟨fun c => arr m c, ?_, ?_⟩
  · refine (θ_run Cert.Kernel6Ideal.defs _ _).mono (fun r h c => ?_) (Cert.Kernel6Ideal.Value.run_blocks m g)
    exact ⟨(h c).1.trans (final m c), (h c).2⟩
  · refine (θ_run Cert.Reference6Ideal.defs _ _).mono (fun r h c => ?_) (Cert.Reference6Ideal.Value.run m' g')
    obtain ⟨a0, a1⟩ := hargs c
    refine ⟨(h c).1.trans ?_, (h c).2⟩
    refine (Cert.Reference6Ideal.Read.val_main_v0_eq _ _).trans ?_
    rw [a0, a1]
    exact (res m c).symm

end Cert.Proof.InProj
-- ==== Proof.OutProjBwd.lean ====
/-
  The gradient of what the output projection reads: a block of 512 rows of the incoming gradient times the transposed
  weights, at each of sixteen points.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel7Ideal Cert.Kernel7Ideal.Gen

namespace Cert.Proof.OutProjBwd

theorem pay_at (x : Vec Ideal S512x1024 .bf16) (w : Vec Ideal S1024x1024 .bf16) (r : Fin 512) (e : Fin 1024) :
    k0_pay1 (F := Ideal) x w (ix2 r e) = ∑ d : Fin 1024, x (ix2 r d) * w (ix2 e d) := by
  pointwise [k0_pay1]

theorem out_at (x : Vec Ideal S512x1024 .bf16) (w : Vec Ideal S1024x1024 .bf16) (r : Fin 512) (e : Fin 1024) :
    out0_2 (F := Ideal) x w (ix2 r e) = ∑ d : Fin 1024, x (ix2 r d) * w (ix2 e d) := by
  unfold out0_2
  rw [View.canon_unit_zero zero2, View.ld_unit_zero (S := S512x1024) zero2,
    View.ld_unit_zero (S := S1024x1024) zero2]
  exact pay_at x w r e

/-- Row `r` of the block of a grid point, and the point of a row. -/
def rowAt (t : Fin cfg0.N) (r : Fin 512) : Fin 8192 := ⟨t.val * 512 + r.val, by have := t.isLt; have hN : cfg0.N = 16 := N_0; omega⟩
def pointOf (n : Fin 8192) : Fin cfg0.N := ⟨n.val / 512, by have hN : cfg0.N = 16 := N_0; omega⟩

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem flush_2 : ∀ t : Fin cfg0.N, (cfg0.win 2).flush t = true := (by decide +kernel : ∀ t : Fin grid0.N, win0_2.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (d : Fin 1024) :
    ((cfg0.win 0).blk t).view.read (Elt Ideal) (W (Pipeline.arrRef spec0 0)) (ix2 r d) = W main_v0 (ix2 (rowAt t r) d) := by
  rw [View.read_apply]
  refine congrArg (W main_v0) (funext fun a => Fin.ext ?_)
  match a with
  | ⟨0, _⟩ => show win0_0.index t 0 * 512 + 1 * r.val = t.val * 512 + r.val; rw [(ix_0 t).1]; omega
  | ⟨1, _⟩ => show win0_0.index t 1 * 1024 + 1 * d.val = d.val; rw [(ix_0 t).2]; omega
theorem read_1 (W : (b : Ref sig .tc) → Buf (Elt Ideal) ((c : Thread nD τ).loc b)) (e d : Fin 1024) :
    ((cfg0.win 1).blk t).view.read (Elt Ideal) (W (Pipeline.arrRef spec0 1)) (ix2 e d) = W main_v1 (ix2 e d) := by
  rw [View.read_apply]
  refine congrArg (W main_v1) (funext fun a => Fin.ext ?_)
  match a with
  | ⟨0, _⟩ => show win0_1.index t 0 * 1024 + 1 * e.val = e.val; rw [(ix_1 t).1]; omega
  | ⟨1, _⟩ => show win0_1.index t 1 * 1024 + 1 * d.val = d.val; rw [(ix_1 t).2]; omega

/-- The incoming gradient and the weights. -/
abbrev argG : FVec Ideal S8192x1024 .f32 := m (c, Proc.tc.devRef main_arg2)
abbrev argW : FVec Ideal S1024x1024 .f32 := m (c, Proc.tc.devRef main_arg1)

theorem in_0 (n : Fin 8192) (d : Fin 1024) : V m c main_v0 (ix2 n d) = argG m c (ix2 n d) := by
  unfold V
  after_reads_at
theorem in_1 (e d : Fin 1024) : V m c main_v1 (ix2 e d) = argW m c (ix2 e d) := by
  unfold V
  after_reads_at

/-- The gradient. -/
def arr : S8192x1024.Idx → EReal := fun x => ∑ d : Fin 1024, argG m c (ix2 (x 0) d) * argW m c (ix2 (x 1) d)

theorem cover_2 (x : S8192x1024.Idx) : ∃ t : Fin cfg0.N, (cfg0.win 2).flush t = true ∧ x ∈ ((View.whole main_v2).slice (win0_2.rect t)).set := by
  obtain ⟨n, e, rfl⟩ := pair (a := 8192) (b := 1024) x
  refine ⟨pointOf n, flush_2 _, ?_⟩
  rw [View.set_slice_whole, Rect.mem_set_unit]
  have hp : (pointOf n).val = n.val / 512 := rfl
  have hn := n.isLt
  have he := e.isLt
  have i2 := ix_2 (pointOf n)
  intro a
  match a with
  | ⟨0, _⟩ => show win0_2.index (pointOf n) 0 * 512 ≤ n.val ∧ n.val < win0_2.index (pointOf n) 0 * 512 + 512; rw [i2.1]; omega
  | ⟨1, _⟩ => show win0_2.index (pointOf n) 1 * 1024 ≤ e.val ∧ e.val < win0_2.index (pointOf n) 1 * 1024 + 1024; rw [i2.2]; omega

theorem final : (dats m 0 c).arrAt 2 cfg0.N = arr m c := by
  refine (dats m 0 c).arrAt_eq_of_cover 2 (arr m c) (fun t _ => ?_) (fun x => cover_2 x)
  rw [Value.flushed2]
  funext y
  rw [View.read_apply]
  obtain ⟨r, e, rfl⟩ := pair (a := 512) (b := 1024) y
  refine (out_at _ _ r e).trans ?_
  unfold arr
  refine Finset.sum_congr rfl fun d _ => congrArg₂ (· * ·) ?_ ?_
  · refine (read_0 c t (V m c) r d).trans ((in_0 m c _ d).trans (congrArg _ (congrArg₂ ix2 (Fin.ext ?_) rfl)))
    show t.val * 512 + r.val = win0_2.index t 0 * 512 + 1 * r.val
    rw [(ix_2 t).1]; omega
  · refine (read_1 c t (V m c) e d).trans ((in_1 m c e d).trans (congrArg _ (congrArg₂ ix2 (Fin.ext ?_) rfl)))
    show e.val = win0_2.index t 1 * 1024 + 1 * e.val
    rw [(ix_2 t).2]; omega
end points

theorem ref_at (x1 : FVec Ideal S1024x1024 .f32) (x2 : FVec Ideal S8192x1024 .f32) (n : Fin 8192) (e : Fin 1024) :
    Cert.Reference7Ideal.Read.val_main_v1 (F := Ideal) x1 x2 (ix2 n e) = ∑ d : Fin 1024, x2 (ix2 n d) * x1 (ix2 e d) := by
  pointwise [Cert.Reference7Ideal.Read.val_main_v1]

theorem res (m : (ℓ : Loc nD τ sig) → Buf (Elt Ideal) ℓ) (c : Dev nD) :
    arr m c = Cert.Reference7Ideal.Read.val_main_v1 (F := Ideal) (argW m c) (argG m c) := by
  funext x
  obtain ⟨n, e, rfl⟩ := pair (a := 8192) (b := 1024) x
  exact (ref_at _ _ n e).symm

/-! ## The claims -/

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

theorem value : Cert.algebraic_Kernel7Ideal_Reference7Ideal := by
  intro m g m' g' _ hargs
  refine ⟨fun c => arr m c, ?_, ?_⟩
  · refine (θ_run Cert.Kernel7Ideal.defs _ _).mono (fun r h c => ?_) (Cert.Kernel7Ideal.Value.run_blocks m g)
    exact ⟨(h c).1.trans (final m c), (h c).2⟩
  · refine (θ_run Cert.Reference7Ideal.defs _ _).mono (fun r h c => ?_) (Cert.Reference7Ideal.Value.run m' g')
    obtain ⟨a0, a1, a2⟩ := hargs c
    refine ⟨(h c).1.trans ?_, (h c).2⟩
    refine (Cert.Reference7Ideal.Read.val_main_v1_eq _ _).trans ?_
    rw [a1, a2]
    exact (res m c).symm

end Cert.Proof.OutProjBwd
-- ==== Proof.Norm.lean ====
/-
  The norm of a row of 1024 numbers, and its gradient written the two ways: with the mean of the normalised products taken
  once, and as the sum of the terms of the chain rule.
-/
module

public import Idealize.ShloMosaic.Lib.Pointwise
public import proofs.«01_k».proof.Proof.Reals

@[expose] public section

noncomputable section

open Idealize.ShloMosaic Cert.Proof.Reals

namespace Cert.Proof.Norm

/-- The constants: the width of a row, what is added to the mean square, and minus one half. -/
def eps : ℝ := 8796093 / 8796093022208
theorem eps_pos : 0 < eps := by unfold eps; norm_num
theorem eps_bits : Ideal.ofBits .f32 0x358637BD#32 = ((eps : ℝ) : EReal) := by
  unfold eps
  simp [Ideal.ofBits, Ideal.ieee, -EReal.coe_mul]
  norm_num
theorem width_bits : Ideal.ofBits .f32 0x44800000#32 = ((1024 : ℝ) : EReal) := by
  simp [Ideal.ofBits, Ideal.ieee, -EReal.coe_mul]
  norm_num
theorem minus_half_bits : Ideal.ofBits .f32 0xBF000000#32 = ((-(1 / 2) : ℝ) : EReal) := by
  simp [Ideal.ofBits, Ideal.ieee, -EReal.coe_mul]
  norm_num

/-- The mean square of a row plus a small constant, and one over its root. -/
def msq (v : Fin 1024 → EReal) : EReal := Ideal.div (∑ d : Fin 1024, v d * v d) (Ideal.ofBits .f32 0x44800000#32) + Ideal.ofBits .f32 0x358637BD#32
def rs (v : Fin 1024 → EReal) : EReal := Ideal.rsqrt (msq v)

def rmsq (x : Fin 1024 → ℝ) : ℝ := (∑ d : Fin 1024, x d * x d) * (1 / 1024) + eps
theorem rmsq_pos (x : Fin 1024 → ℝ) : 0 < rmsq x :=
  add_pos_of_nonneg_of_pos (mul_nonneg (Finset.sum_nonneg fun d _ => mul_self_nonneg _) (by norm_num)) eps_pos
def rrs (x : Fin 1024 → ℝ) : ℝ := (Real.sqrt (rmsq x))⁻¹

theorem msq_coe (x : Fin 1024 → ℝ) : msq (fun d => ((x d : ℝ) : EReal)) = ((rmsq x : ℝ) : EReal) := by
  unfold msq rmsq
  rw [eps_bits, width_bits, Ideal.div_coe (by norm_num)]
  simp only [← EReal.coe_mul, ← coe_sum, ← EReal.coe_add]
theorem rs_coe (x : Fin 1024 → ℝ) : rs (fun d => ((x d : ℝ) : EReal)) = ((rrs x : ℝ) : EReal) := by
  unfold rs rrs
  rw [msq_coe, Ideal.rsqrt_coe, if_neg (not_lt.2 (rmsq_pos x).le), if_neg (rmsq_pos x).ne']
theorem rrs_sq (x : Fin 1024 → ℝ) : rrs x * rrs x = 1 / rmsq x := by
  unfold rrs
  rw [← mul_inv, Real.mul_self_sqrt (rmsq_pos x).le, one_div]

/-- A row of the gradient, from the row, the gradient of the normalised row, the norm's weight, the row's factor and what is added. -/
def back (x g w : Fin 1024 → EReal) (r : EReal) (y : Fin 1024 → EReal) (d : Fin 1024) : EReal :=
  y d + r * (g d * w d - x d * r * Ideal.div (∑ e : Fin 1024, g e * w e * (x e * r)) (Ideal.ofBits .f32 0x44800000#32))
/-- What multiplies the row in the chain rule's terms, and the sum of the terms. -/
def coef (x g w : Fin 1024 → EReal) : EReal :=
  Ideal.div ((∑ e : Fin 1024, x e * (g e * w e)) * (Ideal.ofBits .f32 0xBF000000#32 * Ideal.div (rs x) (msq x))) (Ideal.ofBits .f32 0x44800000#32)
def chain (x g w y : Fin 1024 → EReal) (d : Fin 1024) : EReal :=
  g d * w d * rs x + x d * coef x g w + coef x g w * x d + y d

theorem real_terms (x g w : Fin 1024 → ℝ) (d : Fin 1024) :
    rrs x * (g d * w d - x d * rrs x * ((∑ e : Fin 1024, g e * w e * (x e * rrs x)) * (1 / 1024)))
      = g d * w d * rrs x + x d * ((∑ e : Fin 1024, x e * (g e * w e)) * (-(1 / 2) * (rrs x * (1 / rmsq x))) * (1 / 1024))
        + (∑ e : Fin 1024, x e * (g e * w e)) * (-(1 / 2) * (rrs x * (1 / rmsq x))) * (1 / 1024) * x d := by
  have h : ∑ e : Fin 1024, g e * w e * (x e * rrs x) = (∑ e : Fin 1024, x e * (g e * w e)) * rrs x := by
    rw [Finset.sum_mul]
    exact Finset.sum_congr rfl fun e _ => by ring
  rw [h, ← rrs_sq]
  ring

theorem back_eq (x g w y : Fin 1024 → ℝ) (d : Fin 1024) :
    back (fun d => ((x d : ℝ) : EReal)) (fun d => ((g d : ℝ) : EReal)) (fun d => ((w d : ℝ) : EReal)) (rs fun d => ((x d : ℝ) : EReal)) (fun d => ((y d : ℝ) : EReal)) d
      = chain (fun d => ((x d : ℝ) : EReal)) (fun d => ((g d : ℝ) : EReal)) (fun d => ((w d : ℝ) : EReal)) (fun d => ((y d : ℝ) : EReal)) d := by
  unfold back chain coef
  rw [rs_coe, msq_coe, width_bits, minus_half_bits]
  simp only [Ideal.div_coe (show (1024 : ℝ) ≠ 0 by norm_num), Ideal.div_coe (rmsq_pos x).ne', ← EReal.coe_mul, ← coe_sum, ← EReal.coe_sub, ← EReal.coe_add]
  rw [real_terms, add_comm]

end Cert.Proof.Norm
-- ==== Proof.FfnUpBwd.lean ====
/-
  The gradient of the norm and of the first product of the feed-forward after it: of the tokens, with the gradient of the residual added,
  and of the norm's weight. A grid point is a block of 256 tokens; the gradient of the weight is added up over the grid.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite6
public import proofs.«01_k».proof.Proof.Sums
public import proofs.«01_k».proof.Proof.Norm
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel8Ideal Cert.Kernel8Ideal.Gen

namespace Cert.Proof.FfnUpBwd

open Cert.Proof.Reals Cert.Proof.Norm Cert.Proof.Sums

section pays
variable {a : Vec Ideal S256x2816 .bf16} {wa : Vec Ideal S2816x1024 .bf16} {b : Vec Ideal S256x2816 .bf16} {wb : Vec Ideal S2816x1024 .bf16}
  {x : Vec Ideal S256x1024 .f32} {q : Vec Ideal S256x1 .f32} {w : Vec Ideal S1x1024 .f32} {y : Vec Ideal S256x1024 .f32} {z : Vec Ideal S1x1024 .f32}
  {a' : Vec Ideal S256x2816 .bf16} {wa' : Vec Ideal S2816x1024 .bf16} {b' : Vec Ideal S256x2816 .bf16} {wb' : Vec Ideal S2816x1024 .bf16}
  {x' : Vec Ideal S256x1024 .f32} {q' : Vec Ideal S256x1 .f32} {w' : Vec Ideal S1x1024 .f32} {y' : Vec Ideal S256x1024 .f32} {z' : Vec Ideal S1x1024 .f32}

/-- The gradient of a normalised row of the block. -/
def gr (a : Vec Ideal S256x2816 .bf16) (wa : Vec Ideal S2816x1024 .bf16) (b : Vec Ideal S256x2816 .bf16) (wb : Vec Ideal S2816x1024 .bf16) (r : Fin 256) :
    Fin 1024 → EReal := fun d => (∑ e : Fin 2816, a (ix2 r e) * wa (ix2 e d)) + ∑ e : Fin 2816, b (ix2 r e) * wb (ix2 e d)

theorem gr_at (r : Fin 256) (d : Fin 1024) : k0_pay3 (F := Ideal) a wa b wb (ix2 r d) = gr a wa b wb r d := by
  unfold gr
  pointwise [k0_pay3]
theorem norm_at (r : Fin 256) (d : Fin 1024) : k0_pay6 (F := Ideal) q x (ix2 r d) = x (ix2 r d) * q (ix2 r 0) := by
  pointwise [k0_pay6, k0_pay5]
theorem zero_at (d : Fin 1024) : k0_pay4 (F := Ideal) (ix2 0 d) = 0 := by
  pointwise [k0_pay4]
theorem dx_at (r : Fin 256) (d : Fin 1024) : k0_pay7 (F := Ideal) a wa b wb q x w y (ix2 r d)
    = back (fun d => x (ix2 r d)) (gr a wa b wb r) (fun d => w (ix2 0 d)) (q (ix2 r 0)) (fun d => y (ix2 r d)) d := by
  have h : gr a wa b wb r = fun d => k0_pay3 (F := Ideal) a wa b wb (ix2 r d) := funext fun d => (gr_at r d).symm
  rw [h]
  unfold back k0_pay7
  generalize k0_pay3 (F := Ideal) a wa b wb = p
  pointwise [k0_pay6, k0_pay5]
theorem dw_at (d : Fin 1024) : k0_pay2 (F := Ideal) (k0_pay3 a wa b wb) (k0_pay6 q x) z (ix2 0 d)
    = z (ix2 0 d) + ∑ r : Fin 256, gr a wa b wb r d * (x (ix2 r d) * q (ix2 r 0)) := by
  have h : ∀ r : Fin 256, gr a wa b wb r d * (x (ix2 r d) * q (ix2 r 0)) = k0_pay3 (F := Ideal) a wa b wb (ix2 r d) * k0_pay6 (F := Ideal) q x (ix2 r d) :=
    fun r => by rw [gr_at, norm_at]
  rw [Finset.sum_congr rfl fun r _ => h r]
  generalize k0_pay3 (F := Ideal) a wa b wb = p
  generalize k0_pay6 (F := Ideal) q x = p'
  pointwise [k0_pay2]
theorem narrow_at (p : FVec Ideal S256x1024 .f32) (r : Fin 256) (d : Fin 1024) : k0_pay1 (F := Ideal) p (ix2 r d) = p (ix2 r d) := by
  pointwise [k0_pay1]
theorem dx_of (h0 : a = a') (h1 : wa = wa') (h2 : b = b') (h3 : wb = wb') (h4 : x = x') (h5 : q = q') (h6 : w = w') (h7 : y = y') (r : Fin 256) (d : Fin 1024) :
    k0_pay7 (F := Ideal) a wa b wb q x w y (ix2 r d)
      = back (fun d => x' (ix2 r d)) (gr a' wa' b' wb' r) (fun d => w' (ix2 0 d)) (q' (ix2 r 0)) (fun d => y' (ix2 r d)) d := by
  subst h0 h1 h2 h3 h4 h5 h6 h7
  exact dx_at r d
theorem dw_of (h0 : a = a') (h1 : wa = wa') (h2 : b = b') (h3 : wb = wb') (h4 : x = x') (h5 : q = q') (hz : z = z') (d : Fin 1024) :
    k0_pay2 (F := Ideal) (k0_pay3 a wa b wb) (k0_pay6 q x) z (ix2 0 d) = z' (ix2 0 d) + ∑ r : Fin 256, gr a' wa' b' wb' r d * (x' (ix2 r d) * q' (ix2 r 0)) := by
  subst h0 h1 h2 h3 h4 h5 hz
  exact dw_at d
end pays

section cases
variable (c : Dev nD) (i : grid0.Coords) (arg2 : Memref sig .tc .vmem S256x2816 .bf16) (harg2 : arg2.IsWhole) (arg3 : Memref sig .tc .vmem S2816x1024 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S256x1024 .f32) (harg6 : arg6.IsWhole) (arg7 : Memref sig .tc .vmem S256x1 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S1x1024 .f32) (harg12 : arg12.IsWhole)
  (x0 : Vec Ideal S256x2816 .bf16) (x1 : Vec Ideal S2816x1024 .bf16) (x2 : Vec Ideal S256x2816 .bf16) (x3 : Vec Ideal S2816x1024 .bf16) (x4 : Vec Ideal S256x1024 .f32) (x5 : Vec Ideal S256x1 .f32) (x6 : Vec Ideal S1x1024 .f32) (x7 : Vec Ideal S256x1024 .f32) (xo : Vec Ideal S1x1024 .f32)

/-- What a first and a later point leave. -/
theorem out8_a (h0 : cond0_0 i) (r : Fin 256) (d : Fin 1024) : out0_A_8 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 (ix2 r d) = back (fun d => x4 (ix2 r d)) (gr x0 x1 x2 x3 r) (fun d => x6 (ix2 0 d)) (x5 (ix2 r 0)) (fun d => x7 (ix2 r d)) d := by
  unfold out0_A_8 kernelRun0_A
  dsimp only
  sl_unfold_words
  exact (read_last VO0_8 _ inb_S256x1024_S256x1024_0_0 _ _ (ix2 r d)).trans (dx_of (load arg2 harg2 x0) (load arg3 harg3 x1) (load arg4 harg4 x2) (load arg5 harg5 x3) (load arg6 harg6 x4) (load arg7 harg7 x5) (load arg8 harg8 x6) (load arg9 harg9 x7) r d)
theorem out9_a (h0 : cond0_0 i) (r : Fin 256) (d : Fin 1024) : out0_A_9 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 (ix2 r d) = back (fun d => x4 (ix2 r d)) (gr x0 x1 x2 x3 r) (fun d => x6 (ix2 0 d)) (x5 (ix2 r 0)) (fun d => x7 (ix2 r d)) d := by
  unfold out0_A_9 kernelRun0_A
  dsimp only
  sl_unfold_words
  exact (read_last VO0_9 _ inb_S256x1024_S256x1024_0_0 _ _ (ix2 r d)).trans ((narrow_at _ r d).trans (dx_of (load arg2 harg2 x0) (load arg3 harg3 x1) (load arg4 harg4 x2) (load arg5 harg5 x3) (load arg6 harg6 x4) (load arg7 harg7 x5) (load arg8 harg8 x6) (load arg9 harg9 x7) r d))
theorem out10_a (h0 : cond0_0 i) (d : Fin 1024) : out0_A_10 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 (ix2 0 d) = ∑ r : Fin 256, gr x0 x1 x2 x3 r d * (x4 (ix2 r d) * x5 (ix2 r 0)) := by
  unfold out0_A_10 kernelRun0_A
  dsimp only
  sl_unfold_words
  exact (read_last VO0_10 _ inb_S1x1024_S1x1024_0_0 _ _ (ix2 0 d)).trans ((dw_of (load arg2 harg2 x0) (load arg3 harg3 x1) (load arg4 harg4 x2) (load arg5 harg5 x3) (load arg6 harg6 x4) (load arg7 harg7 x5) (load_last arg12.view inb_S1x1024_S1x1024_0_0 _ _) d).trans (by rw [zero_at, zero_add]))
theorem out8_b (h0 : ¬cond0_0 i) (r : Fin 256) (d : Fin 1024) : out0_B_8 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 xo (ix2 r d) = back (fun d => x4 (ix2 r d)) (gr x0 x1 x2 x3 r) (fun d => x6 (ix2 0 d)) (x5 (ix2 r 0)) (fun d => x7 (ix2 r d)) d := by
  unfold out0_B_8 kernelRun0_B
  dsimp only
  sl_unfold_words
  exact (read_last VO0_8 _ inb_S256x1024_S256x1024_0_0 _ _ (ix2 r d)).trans (dx_of (load arg2 harg2 x0) (load arg3 harg3 x1) (load arg4 harg4 x2) (load arg5 harg5 x3) (load arg6 harg6 x4) (load arg7 harg7 x5) (load arg8 harg8 x6) (load arg9 harg9 x7) r d)
theorem out9_b (h0 : ¬cond0_0 i) (r : Fin 256) (d : Fin 1024) : out0_B_9 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 xo (ix2 r d) = back (fun d => x4 (ix2 r d)) (gr x0 x1 x2 x3 r) (fun d => x6 (ix2 0 d)) (x5 (ix2 r 0)) (fun d => x7 (ix2 r d)) d := by
  unfold out0_B_9 kernelRun0_B
  dsimp only
  sl_unfold_words
  exact (read_last VO0_9 _ inb_S256x1024_S256x1024_0_0 _ _ (ix2 r d)).trans ((narrow_at _ r d).trans (dx_of (load arg2 harg2 x0) (load arg3 harg3 x1) (load arg4 harg4 x2) (load arg5 harg5 x3) (load arg6 harg6 x4) (load arg7 harg7 x5) (load arg8 harg8 x6) (load arg9 harg9 x7) r d))
theorem out10_b (h0 : ¬cond0_0 i) (d : Fin 1024) : out0_B_10 (F := Ideal) c i arg2 harg2 arg3 harg3 arg4 harg4 arg5 harg5 arg6 harg6 arg7 harg7 arg8 harg8 arg9 harg9 arg10 harg10 arg11 harg11 arg12 harg12 h0 x0 x1 x2 x3 x4 x5 x6 x7 xo (ix2 0 d) = xo (ix2 0 d) + ∑ r : Fin 256, gr x0 x1 x2 x3 r d * (x4 (ix2 r d) * x5 (ix2 r 0)) := by
  unfold out0_B_10 kernelRun0_B
  dsimp only
  sl_unfold_words
  exact (read_last VO0_10 _ inb_S1x1024_S1x1024_0_0 _ _ (ix2 0 d)).trans ((dw_of (load arg2 harg2 x0) (load arg3 harg3 x1) (load arg4 harg4 x2) (load arg5 harg5 x3) (load arg6 harg6 x4) (load arg7 harg7 x5) (load arg12 harg12 xo) d))
end cases

/-- Token `r` of block `k`, the point of a token, the last point, and the two ranges of the projected features. -/
def tokAt (k : ℕ) (r : Fin 256) : Fin 8192 := ⟨k % 32 * 256 + r.val, by omega⟩
def pointOf (n : Fin 8192) : Fin cfg0.N := ⟨n.val / 256, by have hN : cfg0.N = 32 := N_0; omega⟩
def lastPt : Fin cfg0.N := ⟨31, by have hN : cfg0.N = 32 := N_0; omega⟩
def lo (e : Fin 2816) : Fin 5632 := ⟨e.val, by omega⟩
def hi (e : Fin 2816) : Fin 5632 := ⟨2816 + e.val, by omega⟩
theorem sum_halves (f : Fin 5632 → EReal) : (∑ e : Fin 2816, f (lo e)) + (∑ e : Fin 2816, f (hi e)) = ∑ e : Fin 5632, f e :=
  (Fin.sum_univ_add (a := 2816) (b := 2816) f).symm

theorem ix_0 : ∀ t : Fin grid0.N, win0_0.index t 0 = t.val % 32 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val % 32 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = t.val % 32 ∧ win0_4.index t 1 = 0 := by decide +kernel
theorem ix_5 : ∀ t : Fin grid0.N, win0_5.index t 0 = t.val % 32 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val % 32 ∧ win0_7.index t 1 = 0 := by decide +kernel
theorem ix_8 : ∀ t : Fin grid0.N, win0_8.index t 0 = t.val % 32 ∧ win0_8.index t 1 = 0 := by decide +kernel
theorem ix_9 : ∀ t : Fin grid0.N, win0_9.index t 0 = t.val % 32 ∧ win0_9.index t 1 = 0 := by decide +kernel
theorem ix_10 : ∀ t : Fin grid0.N, win0_10.index t 0 = 0 ∧ win0_10.index t 1 = 0 := by decide +kernel
theorem flush_8 : ∀ t : Fin cfg0.N, (cfg0.win 8).flush t = true := (by decide +kernel : ∀ t : Fin grid0.N, win0_8.flush t = true)
theorem flush_9 : ∀ t : Fin cfg0.N, (cfg0.win 9).flush t = true := (by decide +kernel : ∀ t : Fin grid0.N, win0_9.flush t = true)
theorem flush_10 : (cfg0.win 10).flush lastPt = true := (by decide +kernel : ∀ t : Fin grid0.N, t.val = 31 → win0_10.flush t = true) lastPt rfl
theorem last_of_flush : ∀ t : Fin cfg0.N, (cfg0.win 10).flush t = true → t.val = 31 :=
  (by decide +kernel : ∀ t : Fin grid0.N, win0_10.flush t = true → t.val = 31)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 256) (e : Fin 2816) :
    ((cfg0.win 0).blk t).view.read (Elt Ideal) (W (Pipeline.arrRef spec0 0)) (ix2 r e) = W main_v11 (ix2 (tokAt t.val r) e) := by
  rw [View.read_apply]
  refine congrArg (W main_v11) (funext fun a => Fin.ext ?_)
  match a with
  | ⟨0, _⟩ => show win0_0.index t 0 * 256 + 1 * r.val = t.val % 32 * 256 + r.val; rw [(ix_0 t).1]; omega
  | ⟨1, _⟩ => show win0_0.index t 1 * 2816 + 1 * e.val = e.val; rw [(ix_0 t).2]; omega
theorem read_1 (W : (b : Ref sig .tc) → Buf (Elt Ideal) ((c : Thread nD τ).loc b)) (e : Fin 2816) (d : Fin 1024) :
    ((cfg0.win 1).blk t).view.read (Elt Ideal) (W (Pipeline.arrRef spec0 1)) (ix2 e d) = W main_v13 (ix2 e d) := by
  rw [View.read_apply]
  refine congrArg (W main_v13) (funext fun a => Fin.ext ?_)
  match a with
  | ⟨0, _⟩ => show win0_1.index t 0 * 2816 + 1 * e.val = e.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (r : Fin 256) (e : Fin 2816) :
    ((cfg0.win 2).blk t).view.read (Elt Ideal) (W (Pipeline.arrRef spec0 2)) (ix2 r e) = W main_v14 (ix2 (tokAt t.val r) e) := by
  rw [View.read_apply]
  refine congrArg (W main_v14) (funext fun a => Fin.ext ?_)
  match a with
  | ⟨0, _⟩ => show win0_2.index t 0 * 256 + 1 * r.val = t.val % 32 * 256 + r.val; rw [(ix_2 t).1]; omega
  | ⟨1, _⟩ => show win0_2.index t 1 * 2816 + 1 * e.val = e.val; rw [(ix_2 t).2]; omega
theorem read_3 (W : (b : Ref sig .tc) → Buf (Elt Ideal) ((c : Thread nD τ).loc b)) (e : Fin 2816) (d : Fin 1024) :
    ((cfg0.win 3).blk t).view.read (Elt Ideal) (W (Pipeline.arrRef spec0 3)) (ix2 e d) = W main_v16 (ix2 e d) := by
  rw [View.read_apply]
  refine congrArg (W main_v16) (funext fun a => Fin.ext ?_)
  match a with
  | ⟨0, _⟩ => show win0_3.index t 0 * 2816 + 1 * e.val = e.val; rw [(ix_3 t).1]; omega
  | ⟨1, _⟩ => show win0_3.index t 1 * 1024 + 1 * d.val = d.val; rw [(ix_3 t).2]; omega
theorem read_4 (W : (b : Ref sig .tc) → Buf (Elt Ideal) ((c : Thread nD τ).loc b)) (r : Fin 256) (d : Fin 1024) :
    ((cfg0.win 4).blk t).view.read (Elt Ideal) (W (Pipeline.arrRef spec0 4)) (ix2 r d) = W main_arg0 (ix2 (tokAt t.val r) d) := by
  rw [View.read_apply]
  refine congrArg (W main_arg0) (funext fun a => Fin.ext ?_)
  match a with
  | ⟨0, _⟩ => show win0_4.index t 0 * 256 + 1 * r.val = t.val % 32 * 256 + r.val; rw [(ix_4 t).1]; omega
  | ⟨1, _⟩ => show win0_4.index t 1 * 1024 + 1 * d.val = d.val; rw [(ix_4 t).2]; omega
theorem read_5 (W : (b : Ref sig .tc) → Buf (Elt Ideal) ((c : Thread nD τ).loc b)) (r : Fin 256) (z : Fin 1) :
    ((cfg0.win 5).blk t).view.read (Elt Ideal) (W (Pipeline.arrRef spec0 5)) (ix2 r z) = W main_v7 (ix2 (tokAt t.val r) z) := by
  rw [View.read_apply]
  refine congrArg (W main_v7) (funext fun a => Fin.ext ?_)
  match a with
  | ⟨0, _⟩ => show win0_5.index t 0 * 256 + 1 * r.val = t.val % 32 * 256 + r.val; rw [(ix_5 t).1]; omega
  | ⟨1, _⟩ => show win0_5.index t 1 * 1 + 1 * z.val = z.val; rw [(ix_5 t).2]; omega
theorem read_6 (W : (b : Ref sig .tc) → Buf (Elt Ideal) ((c : Thread nD τ).loc b)) (z : Fin 1) (d : Fin 1024) :
    ((cfg0.win 6).blk t).view.read (Elt Ideal) (W (Pipeline.arrRef spec0 6)) (ix2 z d) = W main_v17 (ix2 z d) := by
  rw [View.read_apply]
  refine congrArg (W main_v17) (funext fun a => Fin.ext ?_)
  match a with
  | ⟨0, _⟩ => show win0_6.index t 0 * 1 + 1 * z.val = z.val; rw [(ix_6 t).1]; omega
  | ⟨1, _⟩ => show win0_6.index t 1 * 1024 + 1 * d.val = d.val; rw [(ix_6 t).2]; omega
theorem read_7 (W : (b : Ref sig .tc) → Buf (Elt Ideal) ((c : Thread nD τ).loc b)) (r : Fin 256) (d : Fin 1024) :
    ((cfg0.win 7).blk t).view.read (Elt Ideal) (W (Pipeline.arrRef spec0 7)) (ix2 r d) = W main_arg5 (ix2 (tokAt t.val r) d) := by
  rw [View.read_apply]
  refine congrArg (W main_arg5) (funext fun a => Fin.ext ?_)
  match a with
  | ⟨0, _⟩ => show win0_7.index t 0 * 256 + 1 * r.val = t.val % 32 * 256 + r.val; rw [(ix_7 t).1]; omega
  | ⟨1, _⟩ => show win0_7.index t 1 * 1024 + 1 * d.val = d.val; rw [(ix_7 t).2]; omega
theorem cover_8 (x : S8192x1024.Idx) : ∃ t : Fin cfg0.N, (cfg0.win 8).flush t = true ∧ x ∈ ((View.whole main_v18_0).slice (win0_8.rect t)).set := by
  obtain ⟨n, d, rfl⟩ := pair (a := 8192) (b := 1024) x
  refine ⟨pointOf n, flush_8 _, ?_⟩
  rw [View.set_slice_whole, Rect.mem_set_unit]
  have hp : (pointOf n).val = n.val / 256 := rfl
  have hn := n.isLt
  have hd := d.isLt
  have e0 := ix_8 (pointOf n)
  intro a
  match a with
  | ⟨0, _⟩ => show win0_8.index (pointOf n) 0 * 256 ≤ n.val ∧ n.val < win0_8.index (pointOf n) 0 * 256 + 256; rw [e0.1]; omega
  | ⟨1, _⟩ => show win0_8.index (pointOf n) 1 * 1024 ≤ d.val ∧ d.val < win0_8.index (pointOf n) 1 * 1024 + 1024; rw [e0.2]; omega
theorem cover_9 (x : S8192x1024.Idx) : ∃ t : Fin cfg0.N, (cfg0.win 9).flush t = true ∧ x ∈ ((View.whole main_v18_1).slice (win0_9.rect t)).set := by
  obtain ⟨n, d, rfl⟩ := pair (a := 8192) (b := 1024) x
  refine ⟨pointOf n, flush_9 _, ?_⟩
  rw [View.set_slice_whole, Rect.mem_set_unit]
  have hp : (pointOf n).val = n.val / 256 := rfl
  have hn := n.isLt
  have hd := d.isLt
  have e0 := ix_9 (pointOf n)
  intro a
  match a with
  | ⟨0, _⟩ => show win0_9.index (pointOf n) 0 * 256 ≤ n.val ∧ n.val < win0_9.index (pointOf n) 0 * 256 + 256; rw [e0.1]; omega
  | ⟨1, _⟩ => show win0_9.index (pointOf n) 1 * 1024 ≤ d.val ∧ d.val < win0_9.index (pointOf n) 1 * 1024 + 1024; rw [e0.2]; omega
theorem cover_10 (x : S1x1024.Idx) : ∃ t : Fin cfg0.N, (cfg0.win 10).flush t = true ∧ x ∈ ((View.whole main_v18_2).slice (win0_10.rect t)).set := by
  obtain ⟨z, d, rfl⟩ := pair (a := 1) (b := 1024) x
  refine ⟨lastPt, flush_10, ?_⟩
  rw [View.set_slice_whole, Rect.mem_set_unit]
  have hp : (lastPt).val = 31 := rfl
  have hz := z.isLt
  have hd := d.isLt
  have e0 := ix_10 (lastPt)
  intro a
  match a with
  | ⟨0, _⟩ => show win0_10.index (lastPt) 0 * 1 ≤ z.val ∧ z.val < win0_10.index (lastPt) 0 * 1 + 1; rw [e0.1]; omega
  | ⟨1, _⟩ => show win0_10.index (lastPt) 1 * 1024 ≤ d.val ∧ d.val < win0_10.index (lastPt) 1 * 1024 + 1024; rw [e0.2]; omega

omit t in
theorem final_8 (O : Fin cfg0.N → Vec Ideal S256x1024 .f32) (ho : ∀ t : Fin cfg0.N, (dats m 0 c).after 8 t = O t) (G : Fin 8192 → Fin 1024 → EReal)
    (h : ∀ (t : Fin cfg0.N) (r : Fin 256) (d : Fin 1024), O t (ix2 r d) = G (tokAt t.val r) (d)) :
    (dats m 0 c).arrAt 8 cfg0.N = fun x : S8192x1024.Idx => G (x 0) (x 1) := by
  refine (dats m 0 c).arrAt_eq_of_cover 8 (fun x : S8192x1024.Idx => G (x 0) (x 1)) (fun t ht => ?_) (fun x => cover_8 x)
  show (cfg0.win 8).cut (grid0.coords t) ((dats m 0 c).after 8 t) = _
  rw [ho]
  funext y
  rw [View.read_apply]
  obtain ⟨r, d, rfl⟩ := pair (a := 256) (b := 1024) y
  refine (h t r d).trans (congrArg₂ G (Fin.ext ?_) (Fin.ext ?_))
  · show t.val % 32 * 256 + r.val = win0_8.index t 0 * 256 + 1 * r.val; rw [(ix_8 t).1]; omega
  · show d.val = win0_8.index t 1 * 1024 + 1 * d.val; rw [(ix_8 t).2]; omega

omit t in
theorem final_9 (O : Fin cfg0.N → Vec Ideal S256x1024 .bf16) (ho : ∀ t : Fin cfg0.N, (dats m 0 c).after 9 t = O t) (G : Fin 8192 → Fin 1024 → EReal)
    (h : ∀ (t : Fin cfg0.N) (r : Fin 256) (d : Fin 1024), O t (ix2 r d) = G (tokAt t.val r) (d)) :
    (dats m 0 c).arrAt 9 cfg0.N = fun x : S8192x1024.Idx => G (x 0) (x 1) := by
  refine (dats m 0 c).arrAt_eq_of_cover 9 (fun x : S8192x1024.Idx => G (x 0) (x 1)) (fun t ht => ?_) (fun x => cover_9 x)
  show (cfg0.win 9).cut (grid0.coords t) ((dats m 0 c).after 9 t) = _
  rw [ho]
  funext y
  rw [View.read_apply]
  obtain ⟨r, d, rfl⟩ := pair (a := 256) (b := 1024) y
  refine (h t r d).trans (congrArg₂ G (Fin.ext ?_) (Fin.ext ?_))
  · show t.val % 32 * 256 + r.val = win0_9.index t 0 * 256 + 1 * r.val; rw [(ix_9 t).1]; omega
  · show d.val = win0_9.index t 1 * 1024 + 1 * d.val; rw [(ix_9 t).2]; omega

omit t in
theorem final_10 (O : Fin cfg0.N → Vec Ideal S1x1024 .f32) (ho : ∀ t : Fin cfg0.N, (dats m 0 c).after 10 t = O t) (G : Fin 1 → Fin 1024 → EReal)
    (h : ∀ (t : Fin cfg0.N) (hf : (cfg0.win 10).flush t = true) (z : Fin 1) (d : Fin 1024), O t (ix2 z d) = G (z) (d)) :
    (dats m 0 c).arrAt 10 cfg0.N = fun x : S1x1024.Idx => G (x 0) (x 1) := by
  refine (dats m 0 c).arrAt_eq_of_cover 10 (fun x : S1x1024.Idx => G (x 0) (x 1)) (fun t ht => ?_) (fun x => cover_10 x)
  show (cfg0.win 10).cut (grid0.coords t) ((dats m 0 c).after 10 t) = _
  rw [ho]
  funext y
  rw [View.read_apply]
  obtain ⟨z, d, rfl⟩ := pair (a := 1) (b := 1024) y
  refine (h t ht z d).trans (congrArg₂ G (Fin.ext ?_) (Fin.ext ?_))
  · show z.val = win0_10.index t 0 * 1 + 1 * z.val; rw [(ix_10 t).1]; omega
  · show d.val = win0_10.index t 1 * 1024 + 1 * d.val; rw [(ix_10 t).2]; omega

/-- The tokens, the norm's weight, the product's weight, the gradients of the gate and of what it multiplies, and of the residual. -/
abbrev argX : FVec Ideal S8192x1024 .f32 := m (c, Proc.tc.devRef main_arg0)
abbrev argN : FVec Ideal S1024 .f32 := m (c, Proc.tc.devRef main_arg1)
abbrev argW : FVec Ideal S1024x5632 .f32 := m (c, Proc.tc.devRef main_arg2)
abbrev argC : FVec Ideal S8192x2816 .f32 := m (c, Proc.tc.devRef main_arg3)
abbrev argD : FVec Ideal S8192x2816 .f32 := m (c, Proc.tc.devRef main_arg4)
abbrev argY : FVec Ideal S8192x1024 .f32 := m (c, Proc.tc.devRef main_arg5)

theorem in_0 (n : Fin 8192) (e : Fin 2816) : V m c main_v11 (ix2 n e) = argC m c (ix2 n e) := by
  unfold V
  after_reads_at
theorem in_1 (e : Fin 2816) (d : Fin 1024) : V m c main_v13 (ix2 e d) = argW m c (ix2 d (lo e)) := by
  unfold V
  after_reads_at
  rfl
theorem in_2 (n : Fin 8192) (e : Fin 2816) : V m c main_v14 (ix2 n e) = argD m c (ix2 n e) := by
  unfold V
  after_reads_at
theorem in_3 (e : Fin 2816) (d : Fin 1024) : V m c main_v16 (ix2 e d) = argW m c (ix2 d (hi e)) := by
  unfold V
  after_reads_at
  rfl
theorem in_4 (n : Fin 8192) (d : Fin 1024) : V m c main_arg0 (ix2 n d) = argX m c (ix2 n d) := by
  unfold V
  after_reads_at
theorem in_5 (n : Fin 8192) (z : Fin 1) : V m c main_v7 (ix2 n z) = rs fun d => argX m c (ix2 n d) := by
  unfold rs msq
  unfold V
  after_reads_at
theorem in_6 (d : Fin 1024) : V m c main_v17 (ix2 0 d) = argN m c (ix1 d) := by
  unfold V
  after_reads_at
theorem in_7 (n : Fin 8192) (d : Fin 1024) : V m c main_arg5 (ix2 n d) = argY m c (ix2 n d) := by
  unfold V
  after_reads_at

/-- The gradient of the normalised tokens. -/
def G (W : FVec Ideal S1024x5632 .f32) (C D : FVec Ideal S8192x2816 .f32) (n : Fin 8192) : Fin 1024 → EReal := fun d =>
  (∑ e : Fin 2816, C (ix2 n e) * W (ix2 d (lo e))) + ∑ e : Fin 2816, D (ix2 n e) * W (ix2 d (hi e))

/-- A grid point's blocks. -/
abbrev blk0 : Vec Ideal S256x2816 .bf16 := iblk m c 0 t
abbrev blk1 : Vec Ideal S2816x1024 .bf16 := iblk m c 1 t
abbrev blk2 : Vec Ideal S256x2816 .bf16 := iblk m c 2 t
abbrev blk3 : Vec Ideal S2816x1024 .bf16 := iblk m c 3 t
abbrev blk4 : Vec Ideal S256x1024 .f32 := iblk m c 4 t
abbrev blk5 : Vec Ideal S256x1 .f32 := iblk m c 5 t
abbrev blk6 : Vec Ideal S1x1024 .f32 := iblk m c 6 t
abbrev blk7 : Vec Ideal S256x1024 .f32 := iblk m c 7 t

theorem gr_block (r : Fin 256) : gr (blk0 m c t) (blk1 m c t) (blk2 m c t) (blk3 m c t) r = G (argW m c) (argC m c) (argD m c) (tokAt t.val r) :=
  funext fun d => congrArg₂ (· + ·)
    (Finset.sum_congr rfl fun e _ => congrArg₂ (· * ·) ((read_0 c t (V m c) r e).trans (in_0 m c _ e)) ((read_1 c t (V m c) e d).trans (in_1 m c e d)))
    (Finset.sum_congr rfl fun e _ => congrArg₂ (· * ·) ((read_2 c t (V m c) r e).trans (in_2 m c _ e)) ((read_3 c t (V m c) e d).trans (in_3 m c e d)))
theorem x_block (r : Fin 256) (d : Fin 1024) : blk4 m c t (ix2 r d) = argX m c (ix2 (tokAt t.val r) d) := (read_4 c t (V m c) r d).trans (in_4 m c _ d)
theorem q_block (r : Fin 256) : blk5 m c t (ix2 r 0) = rs fun d => argX m c (ix2 (tokAt t.val r) d) := (read_5 c t (V m c) r 0).trans (in_5 m c _ 0)
theorem w_block (d : Fin 1024) : blk6 m c t (ix2 0 d) = argN m c (ix1 d) := (read_6 c t (V m c) 0 d).trans (in_6 m c d)
theorem y_block (r : Fin 256) (d : Fin 1024) : blk7 m c t (ix2 r d) = argY m c (ix2 (tokAt t.val r) d) := (read_7 c t (V m c) r d).trans (in_7 m c _ d)

/-- A row of the gradient of the tokens; block `k` of an entry of the gradient of the norm's weight; and the entry. -/
def dxs (n : Fin 8192) : Fin 1024 → EReal :=
  back (fun d => argX m c (ix2 n d)) (G (argW m c) (argC m c) (argD m c) n) (fun d => argN m c (ix1 d)) (rs fun d => argX m c (ix2 n d)) (fun d => argY m c (ix2 n d))
def term (n : Fin 8192) (d : Fin 1024) : EReal := G (argW m c) (argC m c) (argD m c) n d * (argX m c (ix2 n d) * rs fun d => argX m c (ix2 n d))
def part (k : ℕ) (d : Fin 1024) : EReal := ∑ r : Fin 256, term m c (tokAt k r) d
def grad (d : Fin 1024) : EReal := ∑ n : Fin 8192, term m c n d

omit t in
theorem parts (d : Fin 1024) : ∑ k ∈ Finset.range 32, part m c k d = grad m c d := by
  rw [Finset.sum_range]
  refine Eq.trans ?_ (sum_blocks 32 256 8192 rfl fun n : Fin 8192 => term m c n d)
  refine Finset.sum_congr rfl fun k _ => Finset.sum_congr rfl fun r _ => congrArg (fun n => term m c n d) ?_
  exact Fin.ext (by show k.val % 32 * 256 + r.val = k.val * 256 + r.val; omega)

theorem dx_block (r : Fin 256) (d : Fin 1024) :
    back (fun d => blk4 m c t (ix2 r d)) (gr (blk0 m c t) (blk1 m c t) (blk2 m c t) (blk3 m c t) r) (fun d => blk6 m c t (ix2 0 d)) (blk5 m c t (ix2 r 0)) (fun d => blk7 m c t (ix2 r d)) d
      = dxs m c (tokAt t.val r) d := by
  unfold dxs
  rw [gr_block, q_block]
  simp only [x_block, w_block, y_block]
theorem part_block (d : Fin 1024) : ∑ r : Fin 256, gr (blk0 m c t) (blk1 m c t) (blk2 m c t) (blk3 m c t) r d * (blk4 m c t (ix2 r d) * blk5 m c t (ix2 r 0)) = part m c t.val d :=
  Finset.sum_congr rfl fun r _ => by
    unfold term
    rw [gr_block, q_block, x_block]

theorem left8 (r : Fin 256) (d : Fin 1024) : (outsAt0 m c t.val t.isLt).1 (ix2 r d) = dxs m c (tokAt t.val r) d := by
  by_cases h0 : t.val % 32 = 0
  · rw [outsAt0_A m c t h0]
    dsimp only
    rw [out8_a]
    exact dx_block m c t r d
  · rw [outsAt0_B m c t h0]
    dsimp only
    rw [out8_b]
    exact dx_block m c t r d
theorem left9 (r : Fin 256) (d : Fin 1024) : (outsAt0 m c t.val t.isLt).2.1 (ix2 r d) = dxs m c (tokAt t.val r) d := by
  by_cases h0 : t.val % 32 = 0
  · rw [outsAt0_A m c t h0]
    dsimp only
    rw [out9_a]
    exact dx_block m c t r d
  · rw [outsAt0_B m c t h0]
    dsimp only
    rw [out9_b]
    exact dx_block m c t r d
theorem left_a (h0 : t.val % 32 = 0) (d : Fin 1024) : (outsAt0 m c t.val t.isLt).2.2 (ix2 0 d) = part m c t.val d := by
  rw [outsAt0_A m c t h0]
  dsimp only
  rw [out10_a]
  exact part_block m c t d
theorem left_b (h0 : ¬t.val % 32 = 0) (d : Fin 1024) : (outsAt0 m c t.val t.isLt).2.2 (ix2 0 d)
    = (outsAt0 m c (t.val - 1) (Nat.lt_of_le_of_lt (Nat.sub_le _ _) t.isLt)).2.2 (ix2 0 d) + part m c t.val d := by
  rw [outsAt0_B m c t h0]
  dsimp only
  rw [out10_b]
  exact congrArg _ (part_block m c t d)

omit t in
theorem sums (d : Fin 1024) : ∀ (n : ℕ) (hn : n < cfg0.N), (outsAt0 m c n hn).2.2 (ix2 0 d) = ∑ k ∈ Finset.range (n + 1), part m c k d := by
  intro n
  induction n with
  | zero =>
    intro hn
    refine (left_a m c ⟨0, hn⟩ rfl d).trans ?_
    show part m c 0 d = ∑ k ∈ Finset.range 1, part m c k d
    rw [Finset.sum_range_one]
  | succ n ih =>
    intro hn
    have hN : cfg0.N = 32 := N_0
    have h0 : ¬(n + 1) % 32 = 0 := by omega
    refine (left_b m c ⟨n + 1, hn⟩ h0 d).trans ?_
    rw [Finset.sum_range_succ]
    exact congrArg (· + part m c (n + 1) d) (ih (Nat.lt_of_succ_lt hn))

omit t in
theorem last_8 : (dats m 0 c).arrAt 8 cfg0.N = fun x : S8192x1024.Idx => dxs m c (x 0) (x 1) :=
  final_8 m c _ (after0_8 m c) (dxs m c) fun t r d => left8 m c t r d
omit t in
theorem last_9 : (dats m 0 c).arrAt 9 cfg0.N = fun x : S8192x1024.Idx => dxs m c (x 0) (x 1) :=
  final_9 m c _ (after0_9 m c) (dxs m c) fun t r d => left9 m c t r d
omit t in
theorem last_10 : (dats m 0 c).arrAt 10 cfg0.N = fun x : S1x1024.Idx => (fun (_ : Fin 1) d => grad m c d) (x 0) (x 1) :=
  final_10 m c _ (after0_10 m c) (fun _ d => grad m c d) fun t hf z d => by
    have hz : z = 0 := Subsingleton.elim _ _
    subst hz
    refine (sums m c d t.val t.isLt).trans ?_
    rw [last_of_flush t hf]
    exact parts m c d
end points

/-! ## The reference -/

section ref
open Cert.Reference8Ideal.Read
variable (x0 : FVec Ideal S8192x1024 .f32) (x1 : FVec Ideal S1024 .f32) (x2 : FVec Ideal S1024x5632 .f32) (x3 x4 : FVec Ideal S8192x2816 .f32) (x5 : FVec Ideal S8192x1024 .f32) (n : Fin 8192) (d : Fin 1024)

theorem ref_msq (z : Fin 1) : val_main_v6 (F := Ideal) x0 (ix2 n z) = msq fun d => x0 (ix2 n d) := by
  unfold msq
  pointwise [val_main_v6, val_main_v5, val_main_v4, val_main_v3, val_main_v2, val_main_v1, val_main_v0, val_main_cst, val_main_cst_0, val_main_cst_1]
theorem ref_rs (z : Fin 1) : val_main_v7 (F := Ideal) x0 (ix2 n z) = rs fun d => x0 (ix2 n d) := by
  unfold rs
  rw [← ref_msq x0 n z]
  generalize hs : val_main_v6 (F := Ideal) x0 = s
  pointwise [val_main_v7, hs]
theorem cat_lo (e : Fin 2816) : val_main_v19 (F := Ideal) x3 x4 (ix2 n (lo e)) = x3 (ix2 n e) := by
  unfold lo
  pointwise [val_main_v19]
theorem cat_hi (e : Fin 2816) : val_main_v19 (F := Ideal) x3 x4 (ix2 n (hi e)) = x4 (ix2 n e) := by
  unfold hi
  pointwise [val_main_v19]
theorem ref_g : val_main_v20 (F := Ideal) x2 x3 x4 (ix2 n d) = G x2 x3 x4 n d := by
  refine Eq.trans ?_ ((sum_halves fun e => val_main_v19 (F := Ideal) x3 x4 (ix2 n e) * x2 (ix2 d e)).symm.trans ?_)
  · generalize hs : val_main_v19 (F := Ideal) x3 x4 = s
    pointwise [val_main_v20, hs]
  · unfold G
    simp only [cat_lo, cat_hi]
theorem ref_coef : val_main_v36 (F := Ideal) x0 x1 x2 x3 x4 (ix2 n d) = coef (fun d => x0 (ix2 n d)) (G x2 x3 x4 n) (fun d => x1 (ix1 d)) := by
  have h : G x2 x3 x4 n = fun d => val_main_v20 (F := Ideal) x2 x3 x4 (ix2 n d) := funext fun d => (ref_g x2 x3 x4 n d).symm
  unfold coef
  rw [h, ← ref_rs x0 n 0, ← ref_msq x0 n 0]
  unfold val_main_v36 val_main_v35 val_main_v34 val_main_v33 val_main_v32 val_main_v29 val_main_v28 val_main_v27 val_main_v25 val_main_v24 val_main_v13 val_main_v10 val_main_v9 val_main_v8
  generalize val_main_v7 (F := Ideal) x0 = q
  generalize val_main_v6 (F := Ideal) x0 = s
  generalize val_main_v20 (F := Ideal) x2 x3 x4 = p
  pointwise [val_main_cst_2, val_main_cst_5, val_main_cst_6, val_main_cst_7]
  exact Fin.sum_univ_one _
theorem ref_dx : val_main_v41 (F := Ideal) x0 x1 x2 x3 x4 x5 (ix2 n d)
    = chain (fun d => x0 (ix2 n d)) (G x2 x3 x4 n) (fun d => x1 (ix1 d)) (fun d => x5 (ix2 n d)) d := by
  unfold chain
  rw [← ref_g x2 x3 x4 n d, ← ref_coef x0 x1 x2 x3 x4 n d, ← ref_rs x0 n 0]
  unfold val_main_v41 val_main_v40 val_main_v39 val_main_v38 val_main_v37 val_main_v31 val_main_v30 val_main_v25 val_main_v24 val_main_v13
  generalize val_main_v36 (F := Ideal) x0 x1 x2 x3 x4 = k
  generalize val_main_v7 (F := Ideal) x0 = q
  generalize val_main_v20 (F := Ideal) x2 x3 x4 = p
  pointwise []
theorem ref_dw (z : Fin 1) : val_main_v44 (F := Ideal) x0 x2 x3 x4 (ix2 z d)
    = ∑ n : Fin 8192, x0 (ix2 n d) * (rs fun d => x0 (ix2 n d)) * G x2 x3 x4 n d := by
  have h : ∀ n : Fin 8192, x0 (ix2 n d) * (rs fun d => x0 (ix2 n d)) * G x2 x3 x4 n d
      = x0 (ix2 n d) * val_main_v7 (F := Ideal) x0 (ix2 n 0) * val_main_v20 (F := Ideal) x2 x3 x4 (ix2 n d) := fun n => by rw [ref_g, ref_rs]
  rw [Finset.sum_congr rfl fun n _ => h n]
  unfold val_main_v44 val_main_v26 val_main_v23 val_main_v22 val_main_v21 val_main_v12 val_main_v11
  generalize val_main_v7 (F := Ideal) x0 = q
  generalize val_main_v20 (F := Ideal) x2 x3 x4 = p
  pointwise [val_main_cst_3, val_main_cst_4]
  exact Fin.sum_univ_one _
theorem ref_dxb : val_main_v43 (F := Ideal) x0 x1 x2 x3 x4 x5 (ix2 n d) = val_main_v41 (F := Ideal) x0 x1 x2 x3 x4 x5 (ix2 n d) := by
  unfold val_main_v43 val_main_v42 val_main_v41
  generalize val_main_v40 (F := Ideal) x0 x1 x2 x3 x4 = p
  pointwise []
end ref

/-! ## The precondition -/

section pre
variable (x0 : FVec Ideal S8192x1024 .f32) (x1 : FVec Ideal S1024 .f32) (x2 : FVec Ideal S1024x5632 .f32) (x3 x4 : FVec Ideal S8192x2816 .f32) (x5 : FVec Ideal S8192x1024 .f32)

instance : Subsingleton Cert.Pre_finite6.S_.Idx := ⟨fun a b => funext fun i => i.elim0⟩

attribute [local instance] Cert.Pre_finite6.Gen.facts

theorem reals (h : Cert.Pre_finite6.fn (F := Ideal) x0 x1 x2 x3 x4 x5 = fun _ => 1#1) :
    ∃ (x : Fin 8192 → Fin 1024 → ℝ) (w : Fin 1024 → ℝ) (k : Fin 1024 → Fin 5632 → ℝ) (c : Fin 8192 → Fin 2816 → ℝ) (d : Fin 8192 → Fin 2816 → ℝ) (y : Fin 8192 → Fin 1024 → ℝ), x0 = mat x ∧ x1 = row w ∧ x2 = mat k ∧ x3 = mat c ∧ x4 = mat d ∧ x5 = mat y := by
  have h' := congrFun h ix0
  unfold Cert.Pre_finite6.fn Cert.Pre_finite6.fn_part1 at h'
  dsimp only at h'
  obtain ⟨g4, h5⟩ := IntOp.andi_eq_one.1 h'
  obtain ⟨g3, h4⟩ := IntOp.andi_eq_one.1 g4
  obtain ⟨g2, h3⟩ := IntOp.andi_eq_one.1 g3
  obtain ⟨g1, h2⟩ := IntOp.andi_eq_one.1 g2
  obtain ⟨g0, h1⟩ := IntOp.andi_eq_one.1 g1
  obtain ⟨x, e0⟩ := mat_of x0 fun i => Host.reduce_andi_all _ _ _ _ _ g0 i
  obtain ⟨w, e1⟩ := row_of x1 fun i => Host.reduce_andi_all _ _ _ _ _ h1 i
  obtain ⟨k, e2⟩ := mat_of x2 fun i => Host.reduce_andi_all _ _ _ _ _ h2 i
  obtain ⟨c, e3⟩ := mat_of x3 fun i => Host.reduce_andi_all _ _ _ _ _ h3 i
  obtain ⟨d, e4⟩ := mat_of x4 fun i => Host.reduce_andi_all _ _ _ _ _ h4 i
  obtain ⟨y, e5⟩ := mat_of x5 fun i => Host.reduce_andi_all _ _ _ _ _ h5 i
  exact ⟨x, w, k, c, d, y, e0, e1, e2, e3, e4, e5⟩

theorem real_g (k : Fin 1024 → Fin 5632 → ℝ) (c d : Fin 8192 → Fin 2816 → ℝ) (n : Fin 8192) :
    ∃ g : Fin 1024 → ℝ, G (mat k) (mat c) (mat d) n = fun i => ((g i : ℝ) : EReal) := by
  refine ⟨fun i => (∑ e : Fin 2816, c n e * k i (lo e)) + ∑ e : Fin 2816, d n e * k i (hi e), funext fun i => ?_⟩
  unfold G
  simp only [mat_at, ← EReal.coe_mul, ← coe_sum, ← EReal.coe_add]
theorem same_dx (h : Cert.Pre_finite6.fn (F := Ideal) x0 x1 x2 x3 x4 x5 = fun _ => 1#1) (n : Fin 8192) (i : Fin 1024) :
    chain (fun d => x0 (ix2 n d)) (G x2 x3 x4 n) (fun d => x1 (ix1 d)) (fun d => x5 (ix2 n d)) i
      = back (fun d => x0 (ix2 n d)) (G x2 x3 x4 n) (fun d => x1 (ix1 d)) (rs fun d => x0 (ix2 n d)) (fun d => x5 (ix2 n d)) i := by
  obtain ⟨x, w, k, c, d, y, rfl, rfl, rfl, rfl, rfl, rfl⟩ := reals x0 x1 x2 x3 x4 x5 h
  obtain ⟨g, hg⟩ := real_g k c d n
  rw [hg]
  exact (back_eq (x n) g w (y n) i).symm
end pre

/-! ## The claims -/

theorem frame_reference : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run m ρ)

theorem value : Cert.algebraic_Kernel8Ideal_Reference8Ideal_pre_finite6 := by
  intro m g m' g' hpre hargs
  refine ⟨fun c => fun x : S8192x1024.Idx => dxs m c (x 0) (x 1), fun c => fun x : S8192x1024.Idx => dxs m c (x 0) (x 1), fun c => fun x : S1x1024.Idx => grad m c (x 1), ?_, ?_⟩
  · refine (θ_run Cert.Kernel8Ideal.defs _ _).mono (fun r h c => ?_) (Cert.Kernel8Ideal.Value.run_blocks m g)
    obtain ⟨h8, h9, h10, ha⟩ := h c
    exact ⟨h8.trans (last_8 m c), h9.trans (last_9 m c), h10.trans (last_10 m c), ha⟩
  · refine (θ_run Cert.Reference8Ideal.defs _ _).mono (fun r h c => ?_) (Cert.Reference8Ideal.Value.run m' g')
    obtain ⟨a0, a1, a2, a3, a4, a5⟩ := hargs c
    obtain ⟨h8, h9, h10, ha⟩ := h c
    have same := same_dx (argX m c) (argN m c) (argW m c) (argC m c) (argD m c) (argY m c) (hpre c)
    refine ⟨h8.trans ?_, h9.trans ?_, h10.trans ?_, ha⟩
    · refine (Cert.Reference8Ideal.Read.val_main_v41_eq _ _).trans ?_
      rw [a0, a1, a2, a3, a4, a5]
      funext x
      obtain ⟨n, d, rfl⟩ := pair (a := 8192) (b := 1024) x
      exact (ref_dx (argX m c) (argN m c) (argW m c) (argC m c) (argD m c) (argY m c) n d).trans (same n d)
    · refine (Cert.Reference8Ideal.Read.val_main_v43_eq _ _).trans ?_
      rw [a0, a1, a2, a3, a4, a5]
      funext x
      obtain ⟨n, d, rfl⟩ := pair (a := 8192) (b := 1024) x
      exact (ref_dxb (argX m c) (argN m c) (argW m c) (argC m c) (argD m c) (argY m c) n d).trans ((ref_dx (argX m c) (argN m c) (argW m c) (argC m c) (argD m c) (argY m c) n d).trans (same n d))
    · refine (Cert.Reference8Ideal.Read.val_main_v44_eq _ _ _ _).trans ?_
      rw [a0, a2, a3, a4]
      funext x
      obtain ⟨z, d, rfl⟩ := pair (a := 1) (b := 1024) x
      refine (ref_dw (argX m c) (argW m c) (argC m c) (argD m c) d z).trans ?_
      show _ = grad m c d
      exact Finset.sum_congr rfl fun n _ => mul_comm _ _

end Cert.Proof.FfnUpBwd
-- ==== Proof.InProjBwd.lean ====
/-
  The gradient of the norm and of the input projection after it: of the tokens, with the gradient of the residual added,
  and of the norm's weight. A grid point is a block of 512 tokens; the gradient of the weight is added up over the grid.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite5
public import proofs.«01_k».proof.Proof.Sums
public import proofs.«01_k».proof.Proof.Norm
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel9Ideal Cert.Kernel9Ideal.Gen

namespace Cert.Proof.InProjBwd

open Cert.Proof.Reals Cert.Proof.Norm Cert.Proof.Sums

section pays
variable {a : Vec Ideal S512x2560 .bf16} {wa : Vec Ideal S2560x1024 .bf16} {b : Vec Ideal S512x768 .bf16} {wb : Vec Ideal S768x1024 .bf16}
  {x : Vec Ideal S512x1024 .f32} {q : Vec Ideal S512x1 .f32} {w : Vec Ideal S1x1024 .f32} {y : Vec Ideal S512x1024 .f32} {z : Vec Ideal S1x1024 .f32}
  {a' : Vec Ideal S512x2560 .bf16} {wa' : Vec Ideal S2560x1024 .bf16} {b' : Vec Ideal S512x768 .bf16} {wb' : Vec Ideal S768x1024 .bf16}
  {x' : Vec Ideal S512x1024 .f32} {q' : Vec Ideal S512x1 .f32} {w' : Vec Ideal S1x1024 .f32} {y' : Vec Ideal S512x1024 .f32} {z' : Vec Ideal S1x1024 .f32}

/-- The gradient of a normalised row of the block. -/
def gr (a : Vec Ideal S512x2560 .bf16) (wa : Vec Ideal S2560x1024 .bf16) (b : Vec Ideal S512x768 .bf16) (wb : Vec Ideal S768x1024 .bf16) (r : Fin 512) :
    Fin 1024 → EReal := fun d => (∑ e : Fin 2560, a (ix2 r e) * wa (ix2 e d)) + ∑ e : Fin 768, b (ix2 r e) * wb (ix2 e d)

theorem gr_at (r : Fin 512) (d : Fin 1024) : k0_pay2 (F := Ideal) a wa b wb (ix2 r d) = gr a wa b wb r d := by
  unfold gr
  pointwise [k0_pay2]
theorem norm_at (r : Fin 512) (d : Fin 1024) : k0_pay5 (F := Ideal) q x (ix2 r d) = x (ix2 r d) * q (ix2 r 0) := by
  pointwise [k0_pay5, k0_pay4]
theorem zero_at (d : Fin 1024) : k0_pay3 (F := Ideal) (ix2 0 d) = 0 := by
  pointwise [k0_pay3]
theorem dx_at (r : Fin 512) (d : Fin 1024) : k0_pay6 (F := Ideal) a wa b wb q x w y (ix2 r d)
    = back (fun d => x (ix2 r d)) (gr a wa b wb r) (fun d => w (ix2 0 d)) (q (ix2 r 0)) (fun d => y (ix2 r d)) d := by
  have h : gr a wa b wb r = fun d => k0_pay2 (F := Ideal) a wa b wb (ix2 r d) := funext fun d => (gr_at r d).symm
  rw [h]
  unfold back k0_pay6
  generalize k0_pay2 (F := Ideal) a wa b wb = p
  pointwise [k0_pay5, k0_pay4]
theorem dw_at (d : Fin 1024) : k0_pay1 (F := Ideal) (k0_pay2 a wa b wb) (k0_pay5 q x) z (ix2 0 d)
    = z (ix2 0 d) + ∑ r : Fin 512, gr a wa b wb r d * (x (ix2 r d) * q (ix2 r 0)) := by
  have h : ∀ r : Fin 512, gr a wa b wb r d * (x (ix2 r d) * q (ix2 r 0)) = k0_pay2 (F := Ideal) a wa b wb (ix2 r d) * k0_pay5 (F := Ideal) q x (ix2 r d) :=
    fun r => by rw [gr_at, norm_at]
  rw [Finset.sum_congr rfl fun r _ => h r]
  generalize k0_pay2 (F := Ideal) a wa b wb = p
  generalize k0_pay5 (F := Ideal) q x = p'
  pointwise [k0_pay1]
theorem dx_of (h0 : a = a') (h1 : wa = wa') (h2 : b = b') (h3 : wb = wb') (h4 : x = x') (h5 : q = q') (h6 : w = w') (h7 : y = y') (r : Fin 512) (d : Fin 1024) :
    k0_pay6 (F := Ideal) a wa b wb q x w y (ix2 r d)
      = back (fun d => x' (ix2 r d)) (gr a' wa' b' wb' r) (fun d => w' (ix2 0 d)) (q' (ix2 r 0)) (fun d => y' (ix2 r d)) d := by
  subst h0 h1 h2 h3 h4 h5 h6 h7
  exact dx_at r d
theorem dw_of (h0 : a = a') (h1 : wa = wa') (h2 : b = b') (h3 : wb = wb') (h4 : x = x') (h5 : q = q') (hz : z = z') (d : Fin 1024) :
    k0_pay1 (F := Ideal) (k0_pay2 a wa b wb) (k0_pay5 q x) z (ix2 0 d) = z' (ix2 0 d) + ∑ r : Fin 512, gr a' wa' b' wb' r d * (x' (ix2 r d) * q' (ix2 r 0)) := by
  subst h0 h1 h2 h3 h4 h5 hz
  exact dw_at d
end pays

section cases
variable (c : Dev nD) (i : grid0.Coords) (arg2 : Memref sig .tc .vmem S512x2560 .bf16) (harg2 : arg2.IsWhole) (arg3 : Memref sig .tc .vmem S2560x1024 .bf16) (harg3 : arg3.IsWhole) (arg4 : Memref sig .tc .vmem S512x768 .bf16) (harg4 : arg4.IsWhole) (arg5 : Memref sig .tc .vmem S768x1024 .bf16) (harg5 : arg5.IsWhole) (arg6 : Memref sig .tc .vmem S512x1024 .f32) (harg6 : arg6.IsWhole) (arg7 : Memref sig .tc .vmem S512x1 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole)
  (x0 : Vec Ideal S512x2560 .bf16) (x1 : Vec Ideal S2560x1024 .bf16) (x2 : Vec Ideal S512x768 .bf16) (x3 : Vec Ideal S768x1024 .bf16) (x4 : Vec Ideal S512x1024 .f32) (x5 : Vec Ideal S512x1 .f32) (x6 : Vec Ideal S1x1024 .f32) (x7 : Vec Ideal S512x1024 .f32) (xo : Vec Ideal S1x1024 .f32)

/-- What a first and a later point leave. -/
theorem out8_a (h0 : cond0_0 i) (r : Fin 512) (d : Fin 1024) : out0_A_8 (F := Ideal) c i arg2 harg2 arg3 harg3 arg4 harg4 arg5 harg5 arg6 harg6 arg7 harg7 arg8 harg8 arg9 harg9 arg10 harg10 arg11 harg11 h0 x0 x1 x2 x3 x4 x5 x6 x7 (ix2 r d) = back (fun d => x4 (ix2 r d)) (gr x0 x1 x2 x3 r) (fun d => x6 (ix2 0 d)) (x5 (ix2 r 0)) (fun d => x7 (ix2 r d)) d := by
  unfold out0_A_8 kernelRun0_A
  dsimp only
  sl_unfold_words
  exact (read_last VO0_8 _ inb_S512x1024_S512x1024_0_0 _ _ (ix2 r d)).trans (dx_of (load arg2 harg2 x0) (load arg3 harg3 x1) (load arg4 harg4 x2) (load arg5 harg5 x3) (load arg6 harg6 x4) (load arg7 harg7 x5) (load arg8 harg8 x6) (load arg9 harg9 x7) r d)
theorem out9_a (h0 : cond0_0 i) (d : Fin 1024) : out0_A_9 (F := Ideal) c i arg2 harg2 arg3 harg3 arg4 harg4 arg5 harg5 arg6 harg6 arg7 harg7 arg8 harg8 arg9 harg9 arg10 harg10 arg11 harg11 h0 x0 x1 x2 x3 x4 x5 x6 x7 (ix2 0 d) = ∑ r : Fin 512, gr x0 x1 x2 x3 r d * (x4 (ix2 r d) * x5 (ix2 r 0)) := by
  unfold out0_A_9 kernelRun0_A
  dsimp only
  sl_unfold_words
  exact (read_last VO0_9 _ inb_S1x1024_S1x1024_0_0 _ _ (ix2 0 d)).trans ((dw_of (load arg2 harg2 x0) (load arg3 harg3 x1) (load arg4 harg4 x2) (load arg5 harg5 x3) (load arg6 harg6 x4) (load arg7 harg7 x5) (load_last arg11.view inb_S1x1024_S1x1024_0_0 _ _) d).trans (by rw [zero_at, zero_add]))
theorem out8_b (h0 : ¬cond0_0 i) (r : Fin 512) (d : Fin 1024) : out0_B_8 (F := Ideal) c i arg2 harg2 arg3 harg3 arg4 harg4 arg5 harg5 arg6 harg6 arg7 harg7 arg8 harg8 arg9 harg9 arg10 harg10 arg11 harg11 h0 x0 x1 x2 x3 x4 x5 x6 x7 xo (ix2 r d) = back (fun d => x4 (ix2 r d)) (gr x0 x1 x2 x3 r) (fun d => x6 (ix2 0 d)) (x5 (ix2 r 0)) (fun d => x7 (ix2 r d)) d := by
  unfold out0_B_8 kernelRun0_B
  dsimp only
  sl_unfold_words
  exact (read_last VO0_8 _ inb_S512x1024_S512x1024_0_0 _ _ (ix2 r d)).trans (dx_of (load arg2 harg2 x0) (load arg3 harg3 x1) (load arg4 harg4 x2) (load arg5 harg5 x3) (load arg6 harg6 x4) (load arg7 harg7 x5) (load arg8 harg8 x6) (load arg9 harg9 x7) r d)
theorem out9_b (h0 : ¬cond0_0 i) (d : Fin 1024) : out0_B_9 (F := Ideal) c i arg2 harg2 arg3 harg3 arg4 harg4 arg5 harg5 arg6 harg6 arg7 harg7 arg8 harg8 arg9 harg9 arg10 harg10 arg11 harg11 h0 x0 x1 x2 x3 x4 x5 x6 x7 xo (ix2 0 d) = xo (ix2 0 d) + ∑ r : Fin 512, gr x0 x1 x2 x3 r d * (x4 (ix2 r d) * x5 (ix2 r 0)) := by
  unfold out0_B_9 kernelRun0_B
  dsimp only
  sl_unfold_words
  exact (read_last VO0_9 _ inb_S1x1024_S1x1024_0_0 _ _ (ix2 0 d)).trans ((dw_of (load arg2 harg2 x0) (load arg3 harg3 x1) (load arg4 harg4 x2) (load arg5 harg5 x3) (load arg6 harg6 x4) (load arg7 harg7 x5) (load arg11 harg11 xo) d))
end cases

/-- Token `r` of block `k`, the point of a token, the last point, and the two ranges of the projected features. -/
def tokAt (k : ℕ) (r : Fin 512) : Fin 8192 := ⟨k % 16 * 512 + r.val, by omega⟩
def pointOf (n : Fin 8192) : Fin cfg0.N := ⟨n.val / 512, by have hN : cfg0.N = 16 := N_0; omega⟩
def lastPt : Fin cfg0.N := ⟨15, by have hN : cfg0.N = 16 := N_0; omega⟩
def lo (e : Fin 2560) : Fin 3328 := ⟨e.val, by omega⟩
def hi (e : Fin 768) : Fin 3328 := ⟨2560 + e.val, by omega⟩
theorem sum_halves (f : Fin 3328 → EReal) : (∑ e : Fin 2560, f (lo e)) + (∑ e : Fin 768, f (hi e)) = ∑ e : Fin 3328, f e :=
  (Fin.sum_univ_add (a := 2560) (b := 768) f).symm

theorem ix_0 : ∀ t : Fin grid0.N, win0_0.index t 0 = t.val % 16 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val % 16 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = t.val % 16 ∧ win0_4.index t 1 = 0 := by decide +kernel
theorem ix_5 : ∀ t : Fin grid0.N, win0_5.index t 0 = t.val % 16 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val % 16 ∧ win0_7.index t 1 = 0 := by decide +kernel
theorem ix_8 : ∀ t : Fin grid0.N, win0_8.index t 0 = t.val % 16 ∧ win0_8.index t 1 = 0 := by decide +kernel
theorem ix_9 : ∀ t : Fin grid0.N, win0_9.index t 0 = 0 ∧ win0_9.index t 1 = 0 := by decide +kernel
theorem flush_8 : ∀ t : Fin cfg0.N, (cfg0.win 8).flush t = true := (by decide +kernel : ∀ t : Fin grid0.N, win0_8.flush t = true)
theorem flush_9 : (cfg0.win 9).flush lastPt = true := (by decide +kernel : ∀ t : Fin grid0.N, t.val = 15 → win0_9.flush t = true) lastPt rfl
theorem last_of_flush : ∀ t : Fin cfg0.N, (cfg0.win 9).flush t = true → t.val = 15 :=
  (by decide +kernel : ∀ t : Fin grid0.N, win0_9.flush t = true → t.val = 15)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (e : Fin 2560) :
    ((cfg0.win 0).blk t).view.read (Elt Ideal) (W (Pipeline.arrRef spec0 0)) (ix2 r e) = W main_v11 (ix2 (tokAt t.val r) e) := by
  rw [View.read_apply]
  refine congrArg (W main_v11) (funext fun a => Fin.ext ?_)
  match a with
  | ⟨0, _⟩ => show win0_0.index t 0 * 512 + 1 * r.val = t.val % 16 * 512 + r.val; rw [(ix_0 t).1]; omega
  | ⟨1, _⟩ => show win0_0.index t 1 * 2560 + 1 * e.val = e.val; rw [(ix_0 t).2]; omega
theorem read_1 (W : (b : Ref sig .tc) → Buf (Elt Ideal) ((c : Thread nD τ).loc b)) (e : Fin 2560) (d : Fin 1024) :
    ((cfg0.win 1).blk t).view.read (Elt Ideal) (W (Pipeline.arrRef spec0 1)) (ix2 e d) = W main_v12 (ix2 e d) := by
  rw [View.read_apply]
  refine congrArg (W main_v12) (funext fun a => Fin.ext ?_)
  match a with
  | ⟨0, _⟩ => show win0_1.index t 0 * 2560 + 1 * e.val = e.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (r : Fin 512) (e : Fin 768) :
    ((cfg0.win 2).blk t).view.read (Elt Ideal) (W (Pipeline.arrRef spec0 2)) (ix2 r e) = W main_v13 (ix2 (tokAt t.val r) e) := by
  rw [View.read_apply]
  refine congrArg (W main_v13) (funext fun a => Fin.ext ?_)
  match a with
  | ⟨0, _⟩ => show win0_2.index t 0 * 512 + 1 * r.val = t.val % 16 * 512 + r.val; rw [(ix_2 t).1]; omega
  | ⟨1, _⟩ => show win0_2.index t 1 * 768 + 1 * e.val = e.val; rw [(ix_2 t).2]; omega
theorem read_3 (W : (b : Ref sig .tc) → Buf (Elt Ideal) ((c : Thread nD τ).loc b)) (e : Fin 768) (d : Fin 1024) :
    ((cfg0.win 3).blk t).view.read (Elt Ideal) (W (Pipeline.arrRef spec0 3)) (ix2 e d) = W main_v14 (ix2 e d) := by
  rw [View.read_apply]
  refine congrArg (W main_v14) (funext fun a => Fin.ext ?_)
  match a with
  | ⟨0, _⟩ => show win0_3.index t 0 * 768 + 1 * e.val = e.val; rw [(ix_3 t).1]; omega
  | ⟨1, _⟩ => show win0_3.index t 1 * 1024 + 1 * d.val = d.val; rw [(ix_3 t).2]; omega
theorem read_4 (W : (b : Ref sig .tc) → Buf (Elt Ideal) ((c : Thread nD τ).loc b)) (r : Fin 512) (d : Fin 1024) :
    ((cfg0.win 4).blk t).view.read (Elt Ideal) (W (Pipeline.arrRef spec0 4)) (ix2 r d) = W main_arg0 (ix2 (tokAt t.val r) d) := by
  rw [View.read_apply]
  refine congrArg (W main_arg0) (funext fun a => Fin.ext ?_)
  match a with
  | ⟨0, _⟩ => show win0_4.index t 0 * 512 + 1 * r.val = t.val % 16 * 512 + r.val; rw [(ix_4 t).1]; omega
  | ⟨1, _⟩ => show win0_4.index t 1 * 1024 + 1 * d.val = d.val; rw [(ix_4 t).2]; omega
theorem read_5 (W : (b : Ref sig .tc) → Buf (Elt Ideal) ((c : Thread nD τ).loc b)) (r : Fin 512) (z : Fin 1) :
    ((cfg0.win 5).blk t).view.read (Elt Ideal) (W (Pipeline.arrRef spec0 5)) (ix2 r z) = W main_v7 (ix2 (tokAt t.val r) z) := by
  rw [View.read_apply]
  refine congrArg (W main_v7) (funext fun a => Fin.ext ?_)
  match a with
  | ⟨0, _⟩ => show win0_5.index t 0 * 512 + 1 * r.val = t.val % 16 * 512 + r.val; rw [(ix_5 t).1]; omega
  | ⟨1, _⟩ => show win0_5.index t 1 * 1 + 1 * z.val = z.val; rw [(ix_5 t).2]; omega
theorem read_6 (W : (b : Ref sig .tc) → Buf (Elt Ideal) ((c : Thread nD τ).loc b)) (z : Fin 1) (d : Fin 1024) :
    ((cfg0.win 6).blk t).view.read (Elt Ideal) (W (Pipeline.arrRef spec0 6)) (ix2 z d) = W main_v15 (ix2 z d) := by
  rw [View.read_apply]
  refine congrArg (W main_v15) (funext fun a => Fin.ext ?_)
  match a with
  | ⟨0, _⟩ => show win0_6.index t 0 * 1 + 1 * z.val = z.val; rw [(ix_6 t).1]; omega
  | ⟨1, _⟩ => show win0_6.index t 1 * 1024 + 1 * d.val = d.val; rw [(ix_6 t).2]; omega
theorem read_7 (W : (b : Ref sig .tc) → Buf (Elt Ideal) ((c : Thread nD τ).loc b)) (r : Fin 512) (d : Fin 1024) :
    ((cfg0.win 7).blk t).view.read (Elt Ideal) (W (Pipeline.arrRef spec0 7)) (ix2 r d) = W main_arg4 (ix2 (tokAt t.val r) d) := by
  rw [View.read_apply]
  refine congrArg (W main_arg4) (funext fun a => Fin.ext ?_)
  match a with
  | ⟨0, _⟩ => show win0_7.index t 0 * 512 + 1 * r.val = t.val % 16 * 512 + r.val; rw [(ix_7 t).1]; omega
  | ⟨1, _⟩ => show win0_7.index t 1 * 1024 + 1 * d.val = d.val; rw [(ix_7 t).2]; omega
theorem cover_8 (x : S8192x1024.Idx) : ∃ t : Fin cfg0.N, (cfg0.win 8).flush t = true ∧ x ∈ ((View.whole main_v16_0).slice (win0_8.rect t)).set := by
  obtain ⟨n, d, rfl⟩ := pair (a := 8192) (b := 1024) x
  refine ⟨pointOf n, flush_8 _, ?_⟩
  rw [View.set_slice_whole, Rect.mem_set_unit]
  have hp : (pointOf n).val = n.val / 512 := rfl
  have hn := n.isLt
  have hd := d.isLt
  have e0 := ix_8 (pointOf n)
  intro a
  match a with
  | ⟨0, _⟩ => show win0_8.index (pointOf n) 0 * 512 ≤ n.val ∧ n.val < win0_8.index (pointOf n) 0 * 512 + 512; rw [e0.1]; omega
  | ⟨1, _⟩ => show win0_8.index (pointOf n) 1 * 1024 ≤ d.val ∧ d.val < win0_8.index (pointOf n) 1 * 1024 + 1024; rw [e0.2]; omega
theorem cover_9 (x : S1x1024.Idx) : ∃ t : Fin cfg0.N, (cfg0.win 9).flush t = true ∧ x ∈ ((View.whole main_v16_1).slice (win0_9.rect t)).set := by
  obtain ⟨z, d, rfl⟩ := pair (a := 1) (b := 1024) x
  refine ⟨lastPt, flush_9, ?_⟩
  rw [View.set_slice_whole, Rect.mem_set_unit]
  have hp : (lastPt).val = 15 := rfl
  have hz := z.isLt
  have hd := d.isLt
  have e0 := ix_9 (lastPt)
  intro a
  match a with
  | ⟨0, _⟩ => show win0_9.index (lastPt) 0 * 1 ≤ z.val ∧ z.val < win0_9.index (lastPt) 0 * 1 + 1; rw [e0.1]; omega
  | ⟨1, _⟩ => show win0_9.index (lastPt) 1 * 1024 ≤ d.val ∧ d.val < win0_9.index (lastPt) 1 * 1024 + 1024; rw [e0.2]; omega

omit t in
theorem final_8 (O : Fin cfg0.N → Vec Ideal S512x1024 .f32) (ho : ∀ t : Fin cfg0.N, (dats m 0 c).after 8 t = O t) (G : Fin 8192 → Fin 1024 → EReal)
    (h : ∀ (t : Fin cfg0.N) (r : Fin 512) (d : Fin 1024), O t (ix2 r d) = G (tokAt t.val r) (d)) :
    (dats m 0 c).arrAt 8 cfg0.N = fun x : S8192x1024.Idx => G (x 0) (x 1) := by
  refine (dats m 0 c).arrAt_eq_of_cover 8 (fun x : S8192x1024.Idx => G (x 0) (x 1)) (fun t ht => ?_) (fun x => cover_8 x)
  show (cfg0.win 8).cut (grid0.coords t) ((dats m 0 c).after 8 t) = _
  rw [ho]
  funext y
  rw [View.read_apply]
  obtain ⟨r, d, rfl⟩ := pair (a := 512) (b := 1024) y
  refine (h t r d).trans (congrArg₂ G (Fin.ext ?_) (Fin.ext ?_))
  · show t.val % 16 * 512 + r.val = win0_8.index t 0 * 512 + 1 * r.val; rw [(ix_8 t).1]; omega
  · show d.val = win0_8.index t 1 * 1024 + 1 * d.val; rw [(ix_8 t).2]; omega

omit t in
theorem final_9 (O : Fin cfg0.N → Vec Ideal S1x1024 .f32) (ho : ∀ t : Fin cfg0.N, (dats m 0 c).after 9 t = O t) (G : Fin 1 → Fin 1024 → EReal)
    (h : ∀ (t : Fin cfg0.N) (hf : (cfg0.win 9).flush t = true) (z : Fin 1) (d : Fin 1024), O t (ix2 z d) = G (z) (d)) :
    (dats m 0 c).arrAt 9 cfg0.N = fun x : S1x1024.Idx => G (x 0) (x 1) := by
  refine (dats m 0 c).arrAt_eq_of_cover 9 (fun x : S1x1024.Idx => G (x 0) (x 1)) (fun t ht => ?_) (fun x => cover_9 x)
  show (cfg0.win 9).cut (grid0.coords t) ((dats m 0 c).after 9 t) = _
  rw [ho]
  funext y
  rw [View.read_apply]
  obtain ⟨z, d, rfl⟩ := pair (a := 1) (b := 1024) y
  refine (h t ht z d).trans (congrArg₂ G (Fin.ext ?_) (Fin.ext ?_))
  · show z.val = win0_9.index t 0 * 1 + 1 * z.val; rw [(ix_9 t).1]; omega
  · show d.val = win0_9.index t 1 * 1024 + 1 * d.val; rw [(ix_9 t).2]; omega

/-- The tokens, the norm's weight, the projection's weight, the gradient of the projection, and of the residual. -/
abbrev argX : FVec Ideal S8192x1024 .f32 := m (c, Proc.tc.devRef main_arg0)
abbrev argN : FVec Ideal S1024 .f32 := m (c, Proc.tc.devRef main_arg1)
abbrev argW : FVec Ideal S1024x3328 .f32 := m (c, Proc.tc.devRef main_arg2)
abbrev argC : FVec Ideal S8192x3328 .f32 := m (c, Proc.tc.devRef main_arg3)
abbrev argY : FVec Ideal S8192x1024 .f32 := m (c, Proc.tc.devRef main_arg4)

theorem in_0 (n : Fin 8192) (e : Fin 2560) : V m c main_v11 (ix2 n e) = argC m c (ix2 n (lo e)) := by
  unfold V
  after_reads_at
  rfl
theorem in_1 (e : Fin 2560) (d : Fin 1024) : V m c main_v12 (ix2 e d) = argW m c (ix2 d (lo e)) := by
  unfold V
  after_reads_at
  rfl
theorem in_2 (n : Fin 8192) (e : Fin 768) : V m c main_v13 (ix2 n e) = argC m c (ix2 n (hi e)) := by
  unfold V
  after_reads_at
  rfl
theorem in_3 (e : Fin 768) (d : Fin 1024) : V m c main_v14 (ix2 e d) = argW m c (ix2 d (hi e)) := by
  unfold V
  after_reads_at
  rfl
theorem in_4 (n : Fin 8192) (d : Fin 1024) : V m c main_arg0 (ix2 n d) = argX m c (ix2 n d) := by
  unfold V
  after_reads_at
theorem in_5 (n : Fin 8192) (z : Fin 1) : V m c main_v7 (ix2 n z) = rs fun d => argX m c (ix2 n d) := by
  unfold rs msq
  unfold V
  after_reads_at
theorem in_6 (d : Fin 1024) : V m c main_v15 (ix2 0 d) = argN m c (ix1 d) := by
  unfold V
  after_reads_at
theorem in_7 (n : Fin 8192) (d : Fin 1024) : V m c main_arg4 (ix2 n d) = argY m c (ix2 n d) := by
  unfold V
  after_reads_at

/-- The gradient of the normalised tokens. -/
def G (W : FVec Ideal S1024x3328 .f32) (C : FVec Ideal S8192x3328 .f32) (n : Fin 8192) : Fin 1024 → EReal := fun d =>
  (∑ e : Fin 2560, C (ix2 n (lo e)) * W (ix2 d (lo e))) + ∑ e : Fin 768, C (ix2 n (hi e)) * W (ix2 d (hi e))

/-- A grid point's blocks. -/
abbrev blk0 : Vec Ideal S512x2560 .bf16 := iblk m c 0 t
abbrev blk1 : Vec Ideal S2560x1024 .bf16 := iblk m c 1 t
abbrev blk2 : Vec Ideal S512x768 .bf16 := iblk m c 2 t
abbrev blk3 : Vec Ideal S768x1024 .bf16 := iblk m c 3 t
abbrev blk4 : Vec Ideal S512x1024 .f32 := iblk m c 4 t
abbrev blk5 : Vec Ideal S512x1 .f32 := iblk m c 5 t
abbrev blk6 : Vec Ideal S1x1024 .f32 := iblk m c 6 t
abbrev blk7 : Vec Ideal S512x1024 .f32 := iblk m c 7 t

theorem gr_block (r : Fin 512) : gr (blk0 m c t) (blk1 m c t) (blk2 m c t) (blk3 m c t) r = G (argW m c) (argC m c) (tokAt t.val r) :=
  funext fun d => congrArg₂ (· + ·)
    (Finset.sum_congr rfl fun e _ => congrArg₂ (· * ·) ((read_0 c t (V m c) r e).trans (in_0 m c _ e)) ((read_1 c t (V m c) e d).trans (in_1 m c e d)))
    (Finset.sum_congr rfl fun e _ => congrArg₂ (· * ·) ((read_2 c t (V m c) r e).trans (in_2 m c _ e)) ((read_3 c t (V m c) e d).trans (in_3 m c e d)))
theorem x_block (r : Fin 512) (d : Fin 1024) : blk4 m c t (ix2 r d) = argX m c (ix2 (tokAt t.val r) d) := (read_4 c t (V m c) r d).trans (in_4 m c _ d)
theorem q_block (r : Fin 512) : blk5 m c t (ix2 r 0) = rs fun d => argX m c (ix2 (tokAt t.val r) d) := (read_5 c t (V m c) r 0).trans (in_5 m c _ 0)
theorem w_block (d : Fin 1024) : blk6 m c t (ix2 0 d) = argN m c (ix1 d) := (read_6 c t (V m c) 0 d).trans (in_6 m c d)
theorem y_block (r : Fin 512) (d : Fin 1024) : blk7 m c t (ix2 r d) = argY m c (ix2 (tokAt t.val r) d) := (read_7 c t (V m c) r d).trans (in_7 m c _ d)

/-- A row of the gradient of the tokens; block `k` of an entry of the gradient of the norm's weight; and the entry. -/
def dxs (n : Fin 8192) : Fin 1024 → EReal :=
  back (fun d => argX m c (ix2 n d)) (G (argW m c) (argC m c) n) (fun d => argN m c (ix1 d)) (rs fun d => argX m c (ix2 n d)) (fun d => argY m c (ix2 n d))
def term (n : Fin 8192) (d : Fin 1024) : EReal := G (argW m c) (argC m c) n d * (argX m c (ix2 n d) * rs fun d => argX m c (ix2 n d))
def part (k : ℕ) (d : Fin 1024) : EReal := ∑ r : Fin 512, term m c (tokAt k r) d
def grad (d : Fin 1024) : EReal := ∑ n : Fin 8192, term m c n d

omit t in
theorem parts (d : Fin 1024) : ∑ k ∈ Finset.range 16, part m c k d = grad m c d := by
  rw [Finset.sum_range]
  refine Eq.trans ?_ (sum_blocks 16 512 8192 rfl fun n : Fin 8192 => term m c n d)
  refine Finset.sum_congr rfl fun k _ => Finset.sum_congr rfl fun r _ => congrArg (fun n => term m c n d) ?_
  exact Fin.ext (by show k.val % 16 * 512 + r.val = k.val * 512 + r.val; omega)

theorem dx_block (r : Fin 512) (d : Fin 1024) :
    back (fun d => blk4 m c t (ix2 r d)) (gr (blk0 m c t) (blk1 m c t) (blk2 m c t) (blk3 m c t) r) (fun d => blk6 m c t (ix2 0 d)) (blk5 m c t (ix2 r 0)) (fun d => blk7 m c t (ix2 r d)) d
      = dxs m c (tokAt t.val r) d := by
  unfold dxs
  rw [gr_block, q_block]
  simp only [x_block, w_block, y_block]
theorem part_block (d : Fin 1024) : ∑ r : Fin 512, gr (blk0 m c t) (blk1 m c t) (blk2 m c t) (blk3 m c t) r d * (blk4 m c t (ix2 r d) * blk5 m c t (ix2 r 0)) = part m c t.val d :=
  Finset.sum_congr rfl fun r _ => by
    unfold term
    rw [gr_block, q_block, x_block]

theorem left8 (r : Fin 512) (d : Fin 1024) : (outsAt0 m c t.val t.isLt).1 (ix2 r d) = dxs m c (tokAt t.val r) d := by
  by_cases h0 : t.val % 16 = 0
  · rw [outsAt0_A m c t h0]
    dsimp only
    rw [out8_a]
    exact dx_block m c t r d
  · rw [outsAt0_B m c t h0]
    dsimp only
    rw [out8_b]
    exact dx_block m c t r d
theorem left_a (h0 : t.val % 16 = 0) (d : Fin 1024) : (outsAt0 m c t.val t.isLt).2 (ix2 0 d) = part m c t.val d := by
  rw [outsAt0_A m c t h0]
  dsimp only
  rw [out9_a]
  exact part_block m c t d
theorem left_b (h0 : ¬t.val % 16 = 0) (d : Fin 1024) : (outsAt0 m c t.val t.isLt).2 (ix2 0 d)
    = (outsAt0 m c (t.val - 1) (Nat.lt_of_le_of_lt (Nat.sub_le _ _) t.isLt)).2 (ix2 0 d) + part m c t.val d := by
  rw [outsAt0_B m c t h0]
  dsimp only
  rw [out9_b]
  exact congrArg _ (part_block m c t d)

omit t in
theorem sums (d : Fin 1024) : ∀ (n : ℕ) (hn : n < cfg0.N), (outsAt0 m c n hn).2 (ix2 0 d) = ∑ k ∈ Finset.range (n + 1), part m c k d := by
  intro n
  induction n with
  | zero =>
    intro hn
    refine (left_a m c ⟨0, hn⟩ rfl d).trans ?_
    show part m c 0 d = ∑ k ∈ Finset.range 1, part m c k d
    rw [Finset.sum_range_one]
  | succ n ih =>
    intro hn
    have hN : cfg0.N = 16 := N_0
    have h0 : ¬(n + 1) % 16 = 0 := by omega
    refine (left_b m c ⟨n + 1, hn⟩ h0 d).trans ?_
    rw [Finset.sum_range_succ]
    exact congrArg (· + part m c (n + 1) d) (ih (Nat.lt_of_succ_lt hn))

omit t in
theorem last_8 : (dats m 0 c).arrAt 8 cfg0.N = fun x : S8192x1024.Idx => dxs m c (x 0) (x 1) :=
  final_8 m c _ (after0_8 m c) (dxs m c) fun t r d => left8 m c t r d
omit t in
theorem last_9 : (dats m 0 c).arrAt 9 cfg0.N = fun x : S1x1024.Idx => (fun (_ : Fin 1) d => grad m c d) (x 0) (x 1) :=
  final_9 m c _ (after0_9 m c) (fun _ d => grad m c d) fun t hf z d => by
    have hz : z = 0 := Subsingleton.elim _ _
    subst hz
    refine (sums m c d t.val t.isLt).trans ?_
    rw [last_of_flush t hf]
    exact parts m c d
end points

/-! ## The reference -/

section ref
open Cert.Reference9Ideal.Read
variable (x0 : FVec Ideal S8192x1024 .f32) (x1 : FVec Ideal S1024 .f32) (x2 : FVec Ideal S1024x3328 .f32) (x3 : FVec Ideal S8192x3328 .f32) (x4 : FVec Ideal S8192x1024 .f32) (n : Fin 8192) (d : Fin 1024)

theorem ref_msq (z : Fin 1) : val_main_v6 (F := Ideal) x0 (ix2 n z) = msq fun d => x0 (ix2 n d) := by
  unfold msq
  pointwise [val_main_v6, val_main_v5, val_main_v4, val_main_v3, val_main_v2, val_main_v1, val_main_v0, val_main_cst, val_main_cst_0, val_main_cst_1]
theorem ref_rs (z : Fin 1) : val_main_v7 (F := Ideal) x0 (ix2 n z) = rs fun d => x0 (ix2 n d) := by
  unfold rs
  rw [← ref_msq x0 n z]
  generalize hs : val_main_v6 (F := Ideal) x0 = s
  pointwise [val_main_v7, hs]
theorem ref_g : val_main_v17 (F := Ideal) x2 x3 (ix2 n d) = G x2 x3 n d := by
  refine Eq.trans ?_ (sum_halves fun e => x3 (ix2 n e) * x2 (ix2 d e)).symm
  pointwise [val_main_v17]
theorem ref_coef : val_main_v33 (F := Ideal) x0 x1 x2 x3 (ix2 n d) = coef (fun d => x0 (ix2 n d)) (G x2 x3 n) (fun d => x1 (ix1 d)) := by
  have h : G x2 x3 n = fun d => val_main_v17 (F := Ideal) x2 x3 (ix2 n d) := funext fun d => (ref_g x2 x3 n d).symm
  unfold coef
  rw [h, ← ref_rs x0 n 0, ← ref_msq x0 n 0]
  unfold val_main_v33 val_main_v32 val_main_v31 val_main_v30 val_main_v29 val_main_v26 val_main_v25 val_main_v24 val_main_v22 val_main_v21 val_main_v13 val_main_v10 val_main_v9 val_main_v8
  generalize val_main_v7 (F := Ideal) x0 = q
  generalize val_main_v6 (F := Ideal) x0 = s
  generalize val_main_v17 (F := Ideal) x2 x3 = p
  pointwise [val_main_cst_2, val_main_cst_5, val_main_cst_6, val_main_cst_7]
  exact Fin.sum_univ_one _
theorem ref_dx : val_main_v38 (F := Ideal) x0 x1 x2 x3 x4 (ix2 n d)
    = chain (fun d => x0 (ix2 n d)) (G x2 x3 n) (fun d => x1 (ix1 d)) (fun d => x4 (ix2 n d)) d := by
  unfold chain
  rw [← ref_g x2 x3 n d, ← ref_coef x0 x1 x2 x3 n d, ← ref_rs x0 n 0]
  unfold val_main_v38 val_main_v37 val_main_v36 val_main_v35 val_main_v34 val_main_v28 val_main_v27 val_main_v22 val_main_v21 val_main_v13
  generalize val_main_v33 (F := Ideal) x0 x1 x2 x3 = k
  generalize val_main_v7 (F := Ideal) x0 = q
  generalize val_main_v17 (F := Ideal) x2 x3 = p
  pointwise []
theorem ref_dw (z : Fin 1) : val_main_v39 (F := Ideal) x0 x2 x3 (ix2 z d)
    = ∑ n : Fin 8192, x0 (ix2 n d) * (rs fun d => x0 (ix2 n d)) * G x2 x3 n d := by
  have h : ∀ n : Fin 8192, x0 (ix2 n d) * (rs fun d => x0 (ix2 n d)) * G x2 x3 n d
      = x0 (ix2 n d) * val_main_v7 (F := Ideal) x0 (ix2 n 0) * val_main_v17 (F := Ideal) x2 x3 (ix2 n d) := fun n => by rw [ref_g, ref_rs]
  rw [Finset.sum_congr rfl fun n _ => h n]
  unfold val_main_v39 val_main_v23 val_main_v20 val_main_v19 val_main_v18 val_main_v12 val_main_v11
  generalize val_main_v7 (F := Ideal) x0 = q
  generalize val_main_v17 (F := Ideal) x2 x3 = p
  pointwise [val_main_cst_3, val_main_cst_4]
  exact Fin.sum_univ_one _
end ref

/-! ## The precondition -/

section pre
variable (x0 : FVec Ideal S8192x1024 .f32) (x1 : FVec Ideal S1024 .f32) (x2 : FVec Ideal S1024x3328 .f32) (x3 : FVec Ideal S8192x3328 .f32) (x4 : FVec Ideal S8192x1024 .f32)

instance : Subsingleton Cert.Pre_finite5.S_.Idx := ⟨fun a b => funext fun i => i.elim0⟩

attribute [local instance] Cert.Pre_finite5.Gen.facts

theorem reals (h : Cert.Pre_finite5.fn (F := Ideal) x0 x1 x2 x3 x4 = fun _ => 1#1) :
    ∃ (x : Fin 8192 → Fin 1024 → ℝ) (w : Fin 1024 → ℝ) (k : Fin 1024 → Fin 3328 → ℝ) (c : Fin 8192 → Fin 3328 → ℝ) (y : Fin 8192 → Fin 1024 → ℝ), x0 = mat x ∧ x1 = row w ∧ x2 = mat k ∧ x3 = mat c ∧ x4 = mat y := by
  have h' := congrFun h ix0
  unfold Cert.Pre_finite5.fn Cert.Pre_finite5.fn_part1 at h'
  dsimp only at h'
  obtain ⟨g3, h4⟩ := IntOp.andi_eq_one.1 h'
  obtain ⟨g2, h3⟩ := IntOp.andi_eq_one.1 g3
  obtain ⟨g1, h2⟩ := IntOp.andi_eq_one.1 g2
  obtain ⟨g0, h1⟩ := IntOp.andi_eq_one.1 g1
  obtain ⟨x, e0⟩ := mat_of x0 fun i => Host.reduce_andi_all _ _ _ _ _ g0 i
  obtain ⟨w, e1⟩ := row_of x1 fun i => Host.reduce_andi_all _ _ _ _ _ h1 i
  obtain ⟨k, e2⟩ := mat_of x2 fun i => Host.reduce_andi_all _ _ _ _ _ h2 i
  obtain ⟨c, e3⟩ := mat_of x3 fun i => Host.reduce_andi_all _ _ _ _ _ h3 i
  obtain ⟨y, e4⟩ := mat_of x4 fun i => Host.reduce_andi_all _ _ _ _ _ h4 i
  exact ⟨x, w, k, c, y, e0, e1, e2, e3, e4⟩

theorem real_g (k : Fin 1024 → Fin 3328 → ℝ) (c : Fin 8192 → Fin 3328 → ℝ) (n : Fin 8192) :
    ∃ g : Fin 1024 → ℝ, G (mat k) (mat c) n = fun i => ((g i : ℝ) : EReal) := by
  refine ⟨fun i => (∑ e : Fin 2560, c n (lo e) * k i (lo e)) + ∑ e : Fin 768, c n (hi e) * k i (hi e), funext fun i => ?_⟩
  unfold G
  simp only [mat_at, ← EReal.coe_mul, ← coe_sum, ← EReal.coe_add]
theorem same_dx (h : Cert.Pre_finite5.fn (F := Ideal) x0 x1 x2 x3 x4 = fun _ => 1#1) (n : Fin 8192) (i : Fin 1024) :
    chain (fun d => x0 (ix2 n d)) (G x2 x3 n) (fun d => x1 (ix1 d)) (fun d => x4 (ix2 n d)) i
      = back (fun d => x0 (ix2 n d)) (G x2 x3 n) (fun d => x1 (ix1 d)) (rs fun d => x0 (ix2 n d)) (fun d => x4 (ix2 n d)) i := by
  obtain ⟨x, w, k, c, y, rfl, rfl, rfl, rfl, rfl⟩ := reals x0 x1 x2 x3 x4 h
  obtain ⟨g, hg⟩ := real_g k c n
  rw [hg]
  exact (back_eq (x n) g w (y n) i).symm
end pre

/-! ## The claims -/

theorem frame_reference : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run m ρ)

theorem value : Cert.algebraic_Kernel9Ideal_Reference9Ideal_pre_finite5 := by
  intro m g m' g' hpre hargs
  refine ⟨fun c => fun x : S8192x1024.Idx => dxs m c (x 0) (x 1), fun c => fun x : S1x1024.Idx => grad m c (x 1), ?_, ?_⟩
  · refine (θ_run Cert.Kernel9Ideal.defs _ _).mono (fun r h c => ?_) (Cert.Kernel9Ideal.Value.run_blocks m g)
    obtain ⟨h8, h10, ha⟩ := h c
    exact ⟨h8.trans (last_8 m c), h10.trans (last_9 m c), ha⟩
  · refine (θ_run Cert.Reference9Ideal.defs _ _).mono (fun r h c => ?_) (Cert.Reference9Ideal.Value.run m' g')
    obtain ⟨a0, a1, a2, a3, a4⟩ := hargs c
    obtain ⟨h8, h10, ha⟩ := h c
    have same := same_dx (argX m c) (argN m c) (argW m c) (argC m c) (argY m c) (hpre c)
    refine ⟨h8.trans ?_, h10.trans ?_, ha⟩
    · refine (Cert.Reference9Ideal.Read.val_main_v38_eq _ _).trans ?_
      rw [a0, a1, a2, a3, a4]
      funext x
      obtain ⟨n, d, rfl⟩ := pair (a := 8192) (b := 1024) x
      exact (ref_dx (argX m c) (argN m c) (argW m c) (argC m c) (argY m c) n d).trans (same n d)
    · refine (Cert.Reference9Ideal.Read.val_main_v39_eq _ _ _).trans ?_
      rw [a0, a2, a3]
      funext x
      obtain ⟨z, d, rfl⟩ := pair (a := 1) (b := 1024) x
      refine (ref_dw (argX m c) (argW m c) (argC m c) d z).trans ?_
      show _ = grad m c d
      exact Finset.sum_congr rfl fun n _ => mul_comm _ _

end Cert.Proof.InProjBwd
-- ==== Proof.DwGate.lean ====
/-
  The gradient of the gate's weight: a sum over the tokens, taken 2048 tokens at a time into a scratch that is written out at the
  last of the four blocks of tokens. A grid point is a block of 1408 rows of the gradient and a block of tokens.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Sums
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel10Ideal Cert.Kernel10Ideal.Gen

namespace Cert.Proof.DwGate

open Cert.Proof.Sums

theorem zero_at (y : S1408x1024.Idx) : k0_pay1 (F := Ideal) y = 0 := by
  pointwise [k0_pay1]
theorem pay_at (z : Vec Ideal S1408x1024 .f32) (x : Vec Ideal S2048x1408 .bf16) (y : Vec Ideal S2048x1024 .bf16) (f : Fin 1408) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32) (f : Fin 1408) (d : Fin 1024)

/-- What the scratch holds after a first, a middle and what is written at a last block of tokens. -/
theorem scratch_a (h0 : cond0_0 i) (h1 : ¬cond0_1 i) : sout0_A_0 (F := Ideal) c i arg3 harg3 arg4 harg4 arg5 harg5 arg6 harg6 h0 h1 x0 x1 (ix2 f d)
    = ∑ r : Fin 2048, x0 (ix2 r f) * x1 (ix2 r d) := by
  unfold sout0_A_0 kernelRun0_A
  dsimp only
  sl_unfold_words
  refine (read_last VS0_0 _ inb_S1408x1024_S1408x1024_0_0 _ _ (ix2 f d)).trans ((pay_at _ _ _ f d).trans ?_)
  rw [load_last arg6.view inb_S1408x1024_S1408x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg5 harg5 arg6 harg6 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S1408x1024_S1408x1024_0_0 _ _ (ix2 f d)).trans ((pay_at _ _ _ f d).trans ?_)
  exact congrArg₂ (· + ·) (congrFun (load arg6 harg6 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg5 harg5 arg6 harg6 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S1408x1024_S1408x1024_0_0 _ _ (ix2 f d)).trans ?_
  rw [load_last arg6.view inb_S1408x1024_S1408x1024_0_0]
  refine (pay_at _ _ _ f d).trans ?_
  exact congrArg₂ (· + ·) (congrFun (load arg6 harg6 xs) _)
    (Finset.sum_congr rfl fun r _ => congrArg₂ (· * ·) (congrFun (load arg3 harg3 x0) _) (congrFun (load arg4 harg4 x1) _))
end cases

/-- Token `r` of block `k`, row `f` of a grid point's block, and the point that writes a row. -/
def tokAt (k : ℕ) (r : Fin 2048) : Fin 8192 := ⟨k % 4 * 2048 + r.val, by omega⟩
def rowAt (q : ℕ) (f : Fin 1408) : Fin 2816 := ⟨q % 2 * 1408 + f.val, by omega⟩
def pointOf (f : Fin 2816) : Fin cfg0.N := ⟨4 * (f.val / 1408) + 3, by have hN : cfg0.N = 8 := N_0; omega⟩

theorem ix_0 : ∀ t : Fin grid0.N, win0_0.index t 0 = t.val % 4 ∧ win0_0.index t 1 = t.val / 4 % 2 := by decide +kernel
theorem ix_1 : ∀ t : Fin grid0.N, win0_1.index t 0 = t.val % 4 ∧ win0_1.index t 1 = 0 := by decide +kernel
theorem ix_2 : ∀ t : Fin grid0.N, win0_2.index t 0 = t.val / 4 % 2 ∧ win0_2.index t 1 = 0 := by decide +kernel
theorem flush_2 : ∀ f : Fin 2816, (cfg0.win 2).flush (pointOf f) = true := fun f =>
  (by decide +kernel : ∀ t : Fin grid0.N, t.val % 4 = 3 → win0_2.flush t = true) (pointOf f) (by show (4 * (f.val / 1408) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 1408) :
    ((cfg0.win 0).blk t).view.read (Elt Ideal) (W (Pipeline.arrRef spec0 0)) (ix2 r f) = W main_v0 (ix2 (tokAt t.val r) (rowAt (t.val / 4) f)) := by
  rw [View.read_apply]
  refine congrArg (W main_v0) (funext fun a => Fin.ext ?_)
  match a with
  | ⟨0, _⟩ => show win0_0.index t 0 * 2048 + 1 * r.val = t.val % 4 * 2048 + r.val; rw [(ix_0 t).1]; omega
  | ⟨1, _⟩ => show win0_0.index t 1 * 1408 + 1 * f.val = t.val / 4 % 2 * 1408 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v1 (ix2 (tokAt t.val r) d) := by
  rw [View.read_apply]
  refine congrArg (W main_v1) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (x : S2816x1024.Idx) : ∃ t : Fin cfg0.N, (cfg0.win 2).flush t = true ∧ x ∈ ((View.whole main_v2).slice (win0_2.rect t)).set := by
  obtain ⟨f, d, rfl⟩ := pair (a := 2816) (b := 1024) x
  refine ⟨pointOf f, flush_2 f, ?_⟩
  rw [View.set_slice_whole, Rect.mem_set_unit]
  have hp : (pointOf f).val = 4 * (f.val / 1408) + 3 := rfl
  have hf := f.isLt
  have hd := d.isLt
  have e0 := ix_2 (pointOf f)
  intro a
  match a with
  | ⟨0, _⟩ => show win0_2.index (pointOf f) 0 * 1408 ≤ f.val ∧ f.val < win0_2.index (pointOf f) 0 * 1408 + 1408; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S1408x1024 .f32) (ho : ∀ t : Fin cfg0.N, (dats m 0 c).after 2 t = O t) (G : Fin 2816 → Fin 1024 → EReal)
    (h : ∀ (t : Fin cfg0.N) (hf : (cfg0.win 2).flush t = true) (f : Fin 1408) (d : Fin 1024), O t (ix2 f d) = G (rowAt (t.val / 4) f) (d)) :
    (dats m 0 c).arrAt 2 cfg0.N = fun x : S2816x1024.Idx => G (x 0) (x 1) := by
  refine (dats m 0 c).arrAt_eq_of_cover 2 (fun x : S2816x1024.Idx => G (x 0) (x 1)) (fun t ht => ?_) (fun x => cover_2 x)
  show (cfg0.win 2).cut (grid0.coords t) ((dats m 0 c).after 2 t) = _
  rw [ho]
  funext y
  rw [View.read_apply]
  obtain ⟨f, d, rfl⟩ := pair (a := 1408) (b := 1024) y
  refine (h t ht f d).trans (congrArg₂ G (Fin.ext ?_) (Fin.ext ?_))
  · show t.val / 4 % 2 * 1408 + f.val = win0_2.index t 0 * 1408 + 1 * f.val; rw [(ix_2 t).1]; omega
  · show d.val = win0_2.index t 1 * 1024 + 1 * d.val; rw [(ix_2 t).2]; omega

/-- The gradient of the product, and what the weight multiplied. -/
abbrev argA : FVec Ideal S8192x2816 .f32 := m (c, Proc.tc.devRef main_arg2)
abbrev argG : FVec Ideal S8192x1024 .f32 := m (c, Proc.tc.devRef main_arg0)

theorem in_0 (n : Fin 8192) (f : Fin 2816) : V m c main_v0 (ix2 n f) = argA m c (ix2 n f) := by
  unfold V
  after_reads_at
theorem in_1 (n : Fin 8192) (d : Fin 1024) : V m c main_v1 (ix2 n d) = argG m c (ix2 n d) := by
  unfold V
  after_reads_at

/-- Block `k` of tokens of an entry of the gradient, and the entry. -/
def part (k : ℕ) (f : Fin 2816) (d : Fin 1024) : EReal := ∑ r : Fin 2048, argA m c (ix2 (tokAt k r) f) * argG m c (ix2 (tokAt k r) d)
def grad (f : Fin 2816) (d : Fin 1024) : EReal := ∑ n : Fin 8192, argA m c (ix2 n f) * argG m c (ix2 n d)

omit t in
theorem parts (f : Fin 2816) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of the gradient of the product, and of what the weight multiplied. -/
abbrev blk0 : Vec Ideal S2048x1408 .bf16 := iblk m c 0 t
abbrev blk1 : Vec Ideal S2048x1024 .bf16 := iblk m c 1 t

theorem part_block (f : Fin 1408) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _)) ((read_1 c t (V m c) r d).trans (in_1 m c _ _))

theorem part_mod (k : ℕ) (f : Fin 2816) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 1408) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 1408) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 1408) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 1408) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 1408) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 : (dats m 0 c).arrAt 2 cfg0.N = fun x : S2816x1024.Idx => grad m c (x 0) (x 1) :=
  final_2 m c _ (after0_2 m c) (grad m c) fun t hf f d => written m c t (last_of_flush t hf) f d
end points

theorem ref_at (x0 : FVec Ideal S8192x1024 .f32) (x2 : FVec Ideal S8192x2816 .f32) (f : Fin 2816) (d : Fin 1024) :
    Cert.Reference10Ideal.Read.val_main_v3 (F := Ideal) x0 x2 (ix2 f d) = ∑ n : Fin 8192, x2 (ix2 n f) * x0 (ix2 n d) := by
  pointwise [Cert.Reference10Ideal.Read.val_main_v3, Cert.Reference10Ideal.Read.val_main_v2, Cert.Reference10Ideal.Read.val_main_v1]

/-! ## The claims -/

theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run m ρ)

theorem value : Cert.algebraic_Kernel10Ideal_Reference10Ideal := by
  intro m g m' g' _ hargs
  refine ⟨fun c => fun x : S2816x1024.Idx => grad m c (x 0) (x 1), ?_, ?_⟩
  · refine (θ_run Cert.Kernel10Ideal.defs _ _).mono (fun r h c => ?_) (Cert.Kernel10Ideal.Value.run_blocks m g)
    obtain ⟨h2, ha⟩ := h c
    exact ⟨h2.trans (last_2 m c), ha⟩
  · refine (θ_run Cert.Reference10Ideal.defs _ _).mono (fun r h c => ?_) (Cert.Reference10Ideal.Value.run m' g')
    obtain ⟨a0, a1, a2⟩ := hargs c
    obtain ⟨h2, ha⟩ := h c
    refine ⟨h2.trans ?_, ha⟩
    refine (Cert.Reference10Ideal.Read.val_main_v3_eq _ _).trans ?_
    rw [a0, a2]
    funext x
    obtain ⟨f, d, rfl⟩ := pair (a := 2816) (b := 1024) x
    exact ref_at _ _ f d

end Cert.Proof.DwGate
-- ==== Proof.DwUp.lean ====
/-
  The gradient of the weight of what the gate multiplies: a sum over the tokens, taken 2048 tokens at a time into a scratch that is written out at the
  last of the four blocks of tokens. A grid point is a block of 1408 rows of the gradient and a block of tokens.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Sums
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel11Ideal Cert.Kernel11Ideal.Gen

namespace Cert.Proof.DwUp

open Cert.Proof.Sums

theorem zero_at (y : S1408x1024.Idx) : k0_pay1 (F := Ideal) y = 0 := by
  pointwise [k0_pay1]
theorem pay_at (z : Vec Ideal S1408x1024 .f32) (x : Vec Ideal S2048x1408 .bf16) (y : Vec Ideal S2048x1024 .bf16) (f : Fin 1408) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32) (f : Fin 1408) (d : Fin 1024)

/-- What the scratch holds after a first, a middle and what is written at a last block of tokens. -/
theorem scratch_a (h0 : cond0_0 i) (h1 : ¬cond0_1 i) : sout0_A_0 (F := Ideal) c i arg3 harg3 arg4 harg4 arg5 harg5 arg6 harg6 h0 h1 x0 x1 (ix2 f d)
    = ∑ r : Fin 2048, x0 (ix2 r f) * x1 (ix2 r d) := by
  unfold sout0_A_0 kernelRun0_A
  dsimp only
  sl_unfold_words
  refine (read_last VS0_0 _ inb_S1408x1024_S1408x1024_0_0 _ _ (ix2 f d)).trans ((pay_at _ _ _ f d).trans ?_)
  rw [load_last arg6.view inb_S1408x1024_S1408x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg5 harg5 arg6 harg6 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S1408x1024_S1408x1024_0_0 _ _ (ix2 f d)).trans ((pay_at _ _ _ f d).trans ?_)
  exact congrArg₂ (· + ·) (congrFun (load arg6 harg6 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg5 harg5 arg6 harg6 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S1408x1024_S1408x1024_0_0 _ _ (ix2 f d)).trans ?_
  rw [load_last arg6.view inb_S1408x1024_S1408x1024_0_0]
  refine (pay_at _ _ _ f d).trans ?_
  exact congrArg₂ (· + ·) (congrFun (load arg6 harg6 xs) _)
    (Finset.sum_congr rfl fun r _ => congrArg₂ (· * ·) (congrFun (load arg3 harg3 x0) _) (congrFun (load arg4 harg4 x1) _))
end cases

/-- Token `r` of block `k`, row `f` of a grid point's block, and the point that writes a row. -/
def tokAt (k : ℕ) (r : Fin 2048) : Fin 8192 := ⟨k % 4 * 2048 + r.val, by omega⟩
def rowAt (q : ℕ) (f : Fin 1408) : Fin 2816 := ⟨q % 2 * 1408 + f.val, by omega⟩
def pointOf (f : Fin 2816) : Fin cfg0.N := ⟨4 * (f.val / 1408) + 3, by have hN : cfg0.N = 8 := N_0; omega⟩

theorem ix_0 : ∀ t : Fin grid0.N, win0_0.index t 0 = t.val % 4 ∧ win0_0.index t 1 = t.val / 4 % 2 := by decide +kernel
theorem ix_1 : ∀ t : Fin grid0.N, win0_1.index t 0 = t.val % 4 ∧ win0_1.index t 1 = 0 := by decide +kernel
theorem ix_2 : ∀ t : Fin grid0.N, win0_2.index t 0 = t.val / 4 % 2 ∧ win0_2.index t 1 = 0 := by decide +kernel
theorem flush_2 : ∀ f : Fin 2816, (cfg0.win 2).flush (pointOf f) = true := fun f =>
  (by decide +kernel : ∀ t : Fin grid0.N, t.val % 4 = 3 → win0_2.flush t = true) (pointOf f) (by show (4 * (f.val / 1408) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 1408) :
    ((cfg0.win 0).blk t).view.read (Elt Ideal) (W (Pipeline.arrRef spec0 0)) (ix2 r f) = W main_v0 (ix2 (tokAt t.val r) (rowAt (t.val / 4) f)) := by
  rw [View.read_apply]
  refine congrArg (W main_v0) (funext fun a => Fin.ext ?_)
  match a with
  | ⟨0, _⟩ => show win0_0.index t 0 * 2048 + 1 * r.val = t.val % 4 * 2048 + r.val; rw [(ix_0 t).1]; omega
  | ⟨1, _⟩ => show win0_0.index t 1 * 1408 + 1 * f.val = t.val / 4 % 2 * 1408 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v1 (ix2 (tokAt t.val r) d) := by
  rw [View.read_apply]
  refine congrArg (W main_v1) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (x : S2816x1024.Idx) : ∃ t : Fin cfg0.N, (cfg0.win 2).flush t = true ∧ x ∈ ((View.whole main_v2).slice (win0_2.rect t)).set := by
  obtain ⟨f, d, rfl⟩ := pair (a := 2816) (b := 1024) x
  refine ⟨pointOf f, flush_2 f, ?_⟩
  rw [View.set_slice_whole, Rect.mem_set_unit]
  have hp : (pointOf f).val = 4 * (f.val / 1408) + 3 := rfl
  have hf := f.isLt
  have hd := d.isLt
  have e0 := ix_2 (pointOf f)
  intro a
  match a with
  | ⟨0, _⟩ => show win0_2.index (pointOf f) 0 * 1408 ≤ f.val ∧ f.val < win0_2.index (pointOf f) 0 * 1408 + 1408; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S1408x1024 .f32) (ho : ∀ t : Fin cfg0.N, (dats m 0 c).after 2 t = O t) (G : Fin 2816 → Fin 1024 → EReal)
    (h : ∀ (t : Fin cfg0.N) (hf : (cfg0.win 2).flush t = true) (f : Fin 1408) (d : Fin 1024), O t (ix2 f d) = G (rowAt (t.val / 4) f) (d)) :
    (dats m 0 c).arrAt 2 cfg0.N = fun x : S2816x1024.Idx => G (x 0) (x 1) := by
  refine (dats m 0 c).arrAt_eq_of_cover 2 (fun x : S2816x1024.Idx => G (x 0) (x 1)) (fun t ht => ?_) (fun x => cover_2 x)
  show (cfg0.win 2).cut (grid0.coords t) ((dats m 0 c).after 2 t) = _
  rw [ho]
  funext y
  rw [View.read_apply]
  obtain ⟨f, d, rfl⟩ := pair (a := 1408) (b := 1024) y
  refine (h t ht f d).trans (congrArg₂ G (Fin.ext ?_) (Fin.ext ?_))
  · show t.val / 4 % 2 * 1408 + f.val = win0_2.index t 0 * 1408 + 1 * f.val; rw [(ix_2 t).1]; omega
  · show d.val = win0_2.index t 1 * 1024 + 1 * d.val; rw [(ix_2 t).2]; omega

/-- The gradient of the product, and what the weight multiplied. -/
abbrev argA : FVec Ideal S8192x2816 .f32 := m (c, Proc.tc.devRef main_arg2)
abbrev argG : FVec Ideal S8192x1024 .f32 := m (c, Proc.tc.devRef main_arg0)

theorem in_0 (n : Fin 8192) (f : Fin 2816) : V m c main_v0 (ix2 n f) = argA m c (ix2 n f) := by
  unfold V
  after_reads_at
theorem in_1 (n : Fin 8192) (d : Fin 1024) : V m c main_v1 (ix2 n d) = argG m c (ix2 n d) := by
  unfold V
  after_reads_at

/-- Block `k` of tokens of an entry of the gradient, and the entry. -/
def part (k : ℕ) (f : Fin 2816) (d : Fin 1024) : EReal := ∑ r : Fin 2048, argA m c (ix2 (tokAt k r) f) * argG m c (ix2 (tokAt k r) d)
def grad (f : Fin 2816) (d : Fin 1024) : EReal := ∑ n : Fin 8192, argA m c (ix2 n f) * argG m c (ix2 n d)

omit t in
theorem parts (f : Fin 2816) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of the gradient of the product, and of what the weight multiplied. -/
abbrev blk0 : Vec Ideal S2048x1408 .bf16 := iblk m c 0 t
abbrev blk1 : Vec Ideal S2048x1024 .bf16 := iblk m c 1 t

theorem part_block (f : Fin 1408) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _)) ((read_1 c t (V m c) r d).trans (in_1 m c _ _))

theorem part_mod (k : ℕ) (f : Fin 2816) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 1408) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 1408) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 1408) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 1408) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 1408) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 : (dats m 0 c).arrAt 2 cfg0.N = fun x : S2816x1024.Idx => grad m c (x 0) (x 1) :=
  final_2 m c _ (after0_2 m c) (grad m c) fun t hf f d => written m c t (last_of_flush t hf) f d
end points

theorem ref_at (x0 : FVec Ideal S8192x1024 .f32) (x2 : FVec Ideal S8192x2816 .f32) (f : Fin 2816) (d : Fin 1024) :
    Cert.Reference11Ideal.Read.val_main_v3 (F := Ideal) x0 x2 (ix2 f d) = ∑ n : Fin 8192, x2 (ix2 n f) * x0 (ix2 n d) := by
  pointwise [Cert.Reference11Ideal.Read.val_main_v3, Cert.Reference11Ideal.Read.val_main_v2, Cert.Reference11Ideal.Read.val_main_v1]

/-! ## The claims -/

theorem frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run m ρ)

theorem value : Cert.algebraic_Kernel11Ideal_Reference11Ideal := by
  intro m g m' g' _ hargs
  refine ⟨fun c => fun x : S2816x1024.Idx => grad m c (x 0) (x 1), ?_, ?_⟩
  · refine (θ_run Cert.Kernel11Ideal.defs _ _).mono (fun r h c => ?_) (Cert.Kernel11Ideal.Value.run_blocks m g)
    obtain ⟨h2, ha⟩ := h c
    exact ⟨h2.trans (last_2 m c), ha⟩
  · refine (θ_run Cert.Reference11Ideal.defs _ _).mono (fun r h c => ?_) (Cert.Reference11Ideal.Value.run m' g')
    obtain ⟨a0, a1, a2⟩ := hargs c
    obtain ⟨h2, ha⟩ := h c
    refine ⟨h2.trans ?_, ha⟩
    refine (Cert.Reference11Ideal.Read.val_main_v3_eq _ _).trans ?_
    rw [a0, a2]
    funext x
    obtain ⟨f, d, rfl⟩ := pair (a := 2816) (b := 1024) x
    exact ref_at _ _ f d

end Cert.Proof.DwUp
-- ==== Proof.DwIn.lean ====
/-
  The first 2560 rows of the gradient of the weight of the input's product: a sum over the tokens, taken 2048 tokens at a time
  into a scratch that is written out at the last of the four blocks of tokens. A grid point is a block of 1280 rows and a
  block of tokens. The rows behind them are left to another call.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Sums
public import proofs.«01_k».proof.Proof.Gen.On_rows_hg
public import proofs.«01_k».proof.Proof.Index
public import Idealize.ShloMosaic.Lib.Pipeline.ClipFacts
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel12Ideal Cert.Kernel12Ideal.Gen

namespace Cert.Proof.DwIn

open Cert.Proof.Sums

theorem zero_at (y : S1280x1024.Idx) : k0_pay1 (F := Ideal) y = 0 := by
  pointwise [k0_pay1]
theorem pay_at (z : Vec Ideal S1280x1024 .f32) (x : Vec Ideal S2048x1280 .bf16) (y : Vec Ideal S2048x1024 .bf16) (f : Fin 1280) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x1280 .bf16) (harg3 : arg3.IsWhole) (arg4 : Memref sig .tc .vmem S2048x1024 .bf16) (harg4 : arg4.IsWhole) (arg5 : Memref sig .tc .vmem S1280x1024 .f32) (harg5 : arg5.IsWhole) (arg6 : Memref sig .tc .vmem S1280x1024 .f32) (harg6 : arg6.IsWhole)
  (x0 : Vec Ideal S2048x1280 .bf16) (x1 : Vec Ideal S2048x1024 .bf16) (xs : Vec Ideal S1280x1024 .f32) (f : Fin 1280) (d : Fin 1024)

/-- What the scratch holds after a first, a middle and what is written at a last block of tokens. -/
theorem scratch_a (h0 : cond0_0 i) (h1 : ¬cond0_1 i) : sout0_A_0 (F := Ideal) c i arg3 harg3 arg4 harg4 arg5 harg5 arg6 harg6 h0 h1 x0 x1 (ix2 f d)
    = ∑ r : Fin 2048, x0 (ix2 r f) * x1 (ix2 r d) := by
  unfold sout0_A_0 kernelRun0_A
  dsimp only
  sl_unfold_words
  refine (read_last VS0_0 _ inb_S1280x1024_S1280x1024_0_0 _ _ (ix2 f d)).trans ((pay_at _ _ _ f d).trans ?_)
  rw [load_last arg6.view inb_S1280x1024_S1280x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg5 harg5 arg6 harg6 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S1280x1024_S1280x1024_0_0 _ _ (ix2 f d)).trans ((pay_at _ _ _ f d).trans ?_)
  exact congrArg₂ (· + ·) (congrFun (load arg6 harg6 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg5 harg5 arg6 harg6 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S1280x1024_S1280x1024_0_0 _ _ (ix2 f d)).trans ?_
  rw [load_last arg6.view inb_S1280x1024_S1280x1024_0_0]
  refine (pay_at _ _ _ f d).trans ?_
  exact congrArg₂ (· + ·) (congrFun (load arg6 harg6 xs) _)
    (Finset.sum_congr rfl fun r _ => congrArg₂ (· * ·) (congrFun (load arg3 harg3 x0) _) (congrFun (load arg4 harg4 x1) _))
end cases

/-- Token `r` of block `k`, column `f` of a grid point's block among the columns taken, the row it makes, and the point that writes a row. -/
def tokAt (k : ℕ) (r : Fin 2048) : Fin 8192 := ⟨k % 4 * 2048 + r.val, by omega⟩
def colAt (q : ℕ) (f : Fin 1280) : Fin 2560 := ⟨q % 2 * 1280 + f.val, by omega⟩
def rowAt (q : ℕ) (f : Fin 1280) : Fin 3328 := ⟨0 + (q % 2 * 1280 + f.val), by omega⟩
def pointOf (f : Fin 3328) : Fin cfg0.N := ⟨4 * ((f.val - 0) / 1280 % 2) + 3, by have hN : cfg0.N = 8 := N_0; omega⟩

theorem ix_0 : ∀ t : Fin grid0.N, win0_0.index t 0 = t.val % 4 ∧ win0_0.index t 1 = t.val / 4 % 2 := by decide +kernel
theorem ix_1 : ∀ t : Fin grid0.N, win0_1.index t 0 = t.val % 4 ∧ win0_1.index t 1 = 0 := by decide +kernel
theorem ix_2 : ∀ t : Fin grid0.N, win0_2.index t 0 = 0 + t.val / 4 % 2 ∧ win0_2.index t 1 = 0 := by decide +kernel
theorem flush_2 : ∀ f : Fin 3328, (cfg0.win 2).flush (pointOf f) = true := fun f =>
  (by decide +kernel : ∀ t : Fin grid0.N, t.val % 4 = 3 → win0_2.flush t = true) (pointOf f) (by show (4 * ((f.val - 0) / 1280 % 2) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 1280) :
    ((cfg0.win 0).blk t).view.read (Elt Ideal) (W (Pipeline.arrRef spec0 0)) (ix2 r f) = W main_v1 (ix2 (tokAt t.val r) (colAt (t.val / 4) f)) := by
  rw [View.read_apply]
  refine congrArg (W main_v1) (funext fun a => Fin.ext ?_)
  match a with
  | ⟨0, _⟩ => show win0_0.index t 0 * 2048 + 1 * r.val = t.val % 4 * 2048 + r.val; rw [(ix_0 t).1]; omega
  | ⟨1, _⟩ => show win0_0.index t 1 * 1280 + 1 * f.val = t.val / 4 % 2 * 1280 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v2 (ix2 (tokAt t.val r) d) := by
  rw [View.read_apply]
  refine congrArg (W main_v2) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (f : Fin 3328) (hf : f.val < 2560) (d : Fin 1024) : (ix2 f d : S3328x1024.Idx) ∈ ((View.whole main_v3).slice (win0_2.rect (pointOf f))).set := by
  rw [View.set_slice_whole, Rect.mem_set_unit]
  have hp : (pointOf f).val = 4 * ((f.val - 0) / 1280 % 2) + 3 := rfl
  have hf' := f.isLt
  have hd := d.isLt
  have e0 := ix_2 (pointOf f)
  intro a
  match a with
  | ⟨0, _⟩ => show win0_2.index (pointOf f) 0 * 1280 ≤ f.val ∧ f.val < win0_2.index (pointOf f) 0 * 1280 + (Pipeline.Clip.of (win0_2.index (pointOf f) 0) 1280 3328).extent 1280; rw [Pipeline.Clip.extent_of_inb (by rw [e0.1]; omega), e0.1]; omega
  | ⟨1, _⟩ => show win0_2.index (pointOf f) 1 * 1024 ≤ d.val ∧ d.val < win0_2.index (pointOf f) 1 * 1024 + (Pipeline.Clip.of (win0_2.index (pointOf f) 1) 1024 1024).extent 1024; rw [Pipeline.Clip.extent_of_inb (by rw [e0.2]), e0.2]; omega

omit t in
theorem final_2 (O : Fin cfg0.N → Vec Ideal S1280x1024 .f32) (ho : ∀ t : Fin cfg0.N, (dats m 0 c).after 2 t = O t) (G : Fin 3328 → Fin 1024 → EReal)
    (h : ∀ (t : Fin cfg0.N) (hf : (cfg0.win 2).flush t = true) (f : Fin 1280) (d : Fin 1024), O t (ix2 f d) = G (rowAt (t.val / 4) f) (d))
    (f : Fin 3328) (hf : f.val < 2560) (d : Fin 1024) : (dats m 0 c).arrAt 2 cfg0.N (ix2 f d) = G f d := by
  refine (dats m 0 c).arrAt_apply_of_mem 2 (fun x : S3328x1024.Idx => G (x 0) (x 1)) (fun t ht => ?_) cfg0.N (pointOf f) (ix2 f d) (pointOf f).isLt (flush_2 f) (cover_2 f hf d)
  show (cfg0.win 2).cut (grid0.coords t) ((dats m 0 c).after 2 t) = _
  rw [ho]
  funext y
  rw [View.read_apply]
  show O t ((cfg0.win 2).xinj (grid0.coords t) y) = _
  have h0 : (y 0).val < 1280 := ((cfg0.win 2).xinj (grid0.coords t) y 0).isLt
  have h1 : (y 1).val < 1024 := ((cfg0.win 2).xinj (grid0.coords t) y 1).isLt
  have hy : (cfg0.win 2).xinj (grid0.coords t) y = ix2 (⟨(y 0).val, h0⟩ : Fin 1280) (⟨(y 1).val, h1⟩ : Fin 1024) := funext fun a => by fin_cases a <;> rfl
  rw [hy]
  refine (h t ht _ _).trans (congrArg₂ G (Fin.ext ?_) (Fin.ext ?_))
  · show 0 + (t.val / 4 % 2 * 1280 + (y 0).val) = win0_2.index t 0 * 1280 + 1 * (y 0).val; rw [(ix_2 t).1]; omega
  · show (y 1).val = win0_2.index t 1 * 1024 + 1 * (y 1).val; rw [(ix_2 t).2]; omega

/-- The gradient of the product, and what the weight multiplied. -/
abbrev argA : FVec Ideal S8192x3328 .f32 := m (c, Proc.tc.devRef main_arg2)
abbrev argG : FVec Ideal S8192x1024 .f32 := m (c, Proc.tc.devRef main_arg0)

theorem in_0 (n : Fin 8192) (q : ℕ) (f : Fin 1280) : V m c main_v1 (ix2 n (colAt q f)) = argA m c (ix2 n (rowAt q f)) := by
  unfold V
  after_reads_at
  refine congrArg (argA m c) (funext fun a => Fin.ext ?_)
  match a with
  | ⟨0, _⟩ => show _ = n.val; simp
  | ⟨1, _⟩ => show _ = 0 + (q % 2 * 1280 + f.val); simp [colAt]
theorem in_1 (n : Fin 8192) (d : Fin 1024) : V m c main_v2 (ix2 n d) = argG m c (ix2 n d) := by
  unfold V
  after_reads_at

/-- Block `k` of tokens of an entry of the gradient, and the entry. -/
def part (k : ℕ) (f : Fin 3328) (d : Fin 1024) : EReal := ∑ r : Fin 2048, argA m c (ix2 (tokAt k r) f) * argG m c (ix2 (tokAt k r) d)
def grad (f : Fin 3328) (d : Fin 1024) : EReal := ∑ n : Fin 8192, argA m c (ix2 n f) * argG m c (ix2 n d)

omit t in
theorem parts (f : Fin 3328) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of the gradient of the product, and of what the weight multiplied. -/
abbrev blk0 : Vec Ideal S2048x1280 .bf16 := iblk m c 0 t
abbrev blk1 : Vec Ideal S2048x1024 .bf16 := iblk m c 1 t

theorem part_block (f : Fin 1280) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _ _)) ((read_1 c t (V m c) r d).trans (in_1 m c _ _))

theorem part_mod (k : ℕ) (f : Fin 3328) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 1280) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 1280) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 1280) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 1280) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 1280) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 (f : Fin 3328) (hf : f.val < 2560) (d : Fin 1024) : (dats m 0 c).arrAt 2 cfg0.N (ix2 f d) = grad m c f d :=
  final_2 m c _ (after0_2 m c) (grad m c) (fun t hf f d => written m c t (last_of_flush t hf) f d) f hf d
end points

theorem ref_at (x0 : FVec Ideal S8192x1024 .f32) (x2 : FVec Ideal S8192x3328 .f32) (f : Fin 3328) (d : Fin 1024) :
    Cert.Reference12Ideal.Read.val_main_v3 (F := Ideal) x0 x2 (ix2 f d) = ∑ n : Fin 8192, x2 (ix2 n f) * x0 (ix2 n d) := by
  pointwise [Cert.Reference12Ideal.Read.val_main_v3, Cert.Reference12Ideal.Read.val_main_v2, Cert.Reference12Ideal.Read.val_main_v1]

/-- The rows the claim is about. -/
theorem mask_at (x0 : FVec Ideal S8192x1024 .f32) (x1 : FVec Ideal ⟨2, ![1024, 3328]⟩ .f32) (x2 : FVec Ideal S8192x3328 .f32) (f : Fin 3328) (d : Fin 1024)
    (h : Cert.On_rows_hg.fn (F := Ideal) x0 x1 x2 (ix2 f d) = 1#1) : f.val < 2560 := by
  have h' : IntOp.cmpi .slt (BitVec.ofNat 32 f.val) 2560#32 = 1#1 := h
  exact (by decide +kernel : ∀ f : Fin 3328, IntOp.cmpi .slt (BitVec.ofNat 32 f.val) 2560#32 = 1#1 → f.val < 2560) f h'

/-! ## The claims -/

theorem frame_reference : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run m ρ)

theorem value : Cert.algebraic_Kernel12Ideal_Reference12Ideal_on_rows_hg := by
  intro m g m' g' _ hargs
  refine ⟨fun c => fun x : S3328x1024.Idx => grad m c (x 0) (x 1), ?_, ?_⟩
  · refine (θ_run Cert.Kernel12Ideal.defs _ _).mono (fun r h c => ?_) (Cert.Kernel12Ideal.Value.run_blocks m g)
    obtain ⟨h2, ha⟩ := h c
    refine ⟨fun x hx => (congrFun h2 x).trans ?_, ha⟩
    obtain ⟨f, d, rfl⟩ := pair (a := 3328) (b := 1024) x
    exact last_2 m c f (mask_at _ _ _ f d hx) d
  · refine (θ_run Cert.Reference12Ideal.defs _ _).mono (fun r h c => ?_) (Cert.Reference12Ideal.Value.run m' g')
    obtain ⟨a0, a1, a2⟩ := hargs c
    obtain ⟨h2, ha⟩ := h c
    refine ⟨fun x _ => (congrFun h2 x).trans ?_, ha⟩
    refine (congrFun (Cert.Reference12Ideal.Read.val_main_v3_eq _ _) x).trans ?_
    rw [a0, a2]
    obtain ⟨f, d, rfl⟩ := pair (a := 3328) (b := 1024) x
    exact (ref_at _ _ f d)

end Cert.Proof.DwIn
-- ==== Proof.DwOut.lean ====
/-
  The first 512 rows of the gradient of the weight of the mixers' product: a sum over the tokens, taken 2048 tokens at a time
  into a scratch that is written out at the last of the four blocks of tokens. The rows behind them are left to another
  call.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Sums
public import proofs.«01_k».proof.Proof.Gen.On_rows_hg2
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel13Ideal Cert.Kernel13Ideal.Gen

namespace Cert.Proof.DwOut

open Cert.Proof.Sums

theorem zero_at (y : S512x1024.Idx) : k0_pay1 (F := Ideal) y = 0 := by
  pointwise [k0_pay1]
theorem pay_at (z : Vec Ideal S512x1024 .f32) (x : Vec Ideal S2048x512 .bf16) (y : Vec Ideal S2048x1024 .bf16) (f : Fin 512) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x1024 .f32) (harg6 : arg6.IsWhole)
  (x0 : Vec Ideal S2048x512 .bf16) (x1 : Vec Ideal S2048x1024 .bf16) (xs : Vec Ideal S512x1024 .f32) (f : Fin 512) (d : Fin 1024)

/-- What the scratch holds after a first, a middle and what is written at a last block of tokens. -/
theorem scratch_a (h0 : cond0_0 i) (h1 : ¬cond0_1 i) : sout0_A_0 (F := Ideal) c i arg3 harg3 arg4 harg4 arg5 harg5 arg6 harg6 h0 h1 x0 x1 (ix2 f d)
    = ∑ r : Fin 2048, x0 (ix2 r f) * x1 (ix2 r d) := by
  unfold sout0_A_0 kernelRun0_A
  dsimp only
  sl_unfold_words
  refine (read_last VS0_0 _ inb_S512x1024_S512x1024_0_0 _ _ (ix2 f d)).trans ((pay_at _ _ _ f d).trans ?_)
  rw [load_last arg6.view inb_S512x1024_S512x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg5 harg5 arg6 harg6 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S512x1024_S512x1024_0_0 _ _ (ix2 f d)).trans ((pay_at _ _ _ f d).trans ?_)
  exact congrArg₂ (· + ·) (congrFun (load arg6 harg6 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg5 harg5 arg6 harg6 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S512x1024_S512x1024_0_0 _ _ (ix2 f d)).trans ?_
  rw [load_last arg6.view inb_S512x1024_S512x1024_0_0]
  refine (pay_at _ _ _ f d).trans ?_
  exact congrArg₂ (· + ·) (congrFun (load arg6 harg6 xs) _)
    (Finset.sum_congr rfl fun r _ => congrArg₂ (· * ·) (congrFun (load arg3 harg3 x0) _) (congrFun (load arg4 harg4 x1) _))
end cases

/-- Token `r` of block `k`, column `f` of a grid point's block among the columns taken, the row it makes, and the point that writes a row. -/
def tokAt (k : ℕ) (r : Fin 2048) : Fin 8192 := ⟨k % 4 * 2048 + r.val, by omega⟩
def colAt (q : ℕ) (f : Fin 512) : Fin 512 := ⟨q % 1 * 512 + f.val, by omega⟩
def rowAt (q : ℕ) (f : Fin 512) : Fin 1024 := ⟨0 + (q % 1 * 512 + f.val), by omega⟩
def pointOf (f : Fin 1024) : Fin cfg0.N := ⟨4 * ((f.val - 0) / 512 % 1) + 3, by have hN : cfg0.N = 4 := N_0; omega⟩

theorem ix_0 : ∀ t : Fin grid0.N, win0_0.index t 0 = t.val % 4 ∧ win0_0.index t 1 = t.val / 4 % 1 := by decide +kernel
theorem ix_1 : ∀ t : Fin grid0.N, win0_1.index t 0 = t.val % 4 ∧ win0_1.index t 1 = 0 := by decide +kernel
theorem ix_2 : ∀ t : Fin grid0.N, win0_2.index t 0 = 0 + t.val / 4 % 1 ∧ win0_2.index t 1 = 0 := by decide +kernel
theorem flush_2 : ∀ f : Fin 1024, (cfg0.win 2).flush (pointOf f) = true := fun f =>
  (by decide +kernel : ∀ t : Fin grid0.N, t.val % 4 = 3 → win0_2.flush t = true) (pointOf f) (by show (4 * ((f.val - 0) / 512 % 1) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 512) :
    ((cfg0.win 0).blk t).view.read (Elt Ideal) (W (Pipeline.arrRef spec0 0)) (ix2 r f) = W main_v1 (ix2 (tokAt t.val r) (colAt (t.val / 4) f)) := by
  rw [View.read_apply]
  refine congrArg (W main_v1) (funext fun a => Fin.ext ?_)
  match a with
  | ⟨0, _⟩ => show win0_0.index t 0 * 2048 + 1 * r.val = t.val % 4 * 2048 + r.val; rw [(ix_0 t).1]; omega
  | ⟨1, _⟩ => show win0_0.index t 1 * 512 + 1 * f.val = t.val / 4 % 1 * 512 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v2 (ix2 (tokAt t.val r) d) := by
  rw [View.read_apply]
  refine congrArg (W main_v2) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (f : Fin 1024) (hf : f.val < 512) (d : Fin 1024) : (ix2 f d : S1024x1024.Idx) ∈ ((View.whole main_v3).slice (win0_2.rect (pointOf f))).set := by
  rw [View.set_slice_whole, Rect.mem_set_unit]
  have hp : (pointOf f).val = 4 * ((f.val - 0) / 512 % 1) + 3 := rfl
  have hf' := f.isLt
  have hd := d.isLt
  have e0 := ix_2 (pointOf f)
  intro a
  match a with
  | ⟨0, _⟩ => show win0_2.index (pointOf f) 0 * 512 ≤ f.val ∧ f.val < win0_2.index (pointOf f) 0 * 512 + 512; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S512x1024 .f32) (ho : ∀ t : Fin cfg0.N, (dats m 0 c).after 2 t = O t) (G : Fin 1024 → Fin 1024 → EReal)
    (h : ∀ (t : Fin cfg0.N) (hf : (cfg0.win 2).flush t = true) (f : Fin 512) (d : Fin 1024), O t (ix2 f d) = G (rowAt (t.val / 4) f) (d))
    (f : Fin 1024) (hf : f.val < 512) (d : Fin 1024) : (dats m 0 c).arrAt 2 cfg0.N (ix2 f d) = G f d := by
  refine (dats m 0 c).arrAt_apply_of_mem 2 (fun x : S1024x1024.Idx => G (x 0) (x 1)) (fun t ht => ?_) cfg0.N (pointOf f) (ix2 f d) (pointOf f).isLt (flush_2 f) (cover_2 f hf d)
  show (cfg0.win 2).cut (grid0.coords t) ((dats m 0 c).after 2 t) = _
  rw [ho]
  funext y
  rw [View.read_apply]
  show O t ((cfg0.win 2).xinj (grid0.coords t) y) = _
  have h0 : (y 0).val < 512 := ((cfg0.win 2).xinj (grid0.coords t) y 0).isLt
  have h1 : (y 1).val < 1024 := ((cfg0.win 2).xinj (grid0.coords t) y 1).isLt
  have hy : (cfg0.win 2).xinj (grid0.coords t) y = ix2 (⟨(y 0).val, h0⟩ : Fin 512) (⟨(y 1).val, h1⟩ : Fin 1024) := funext fun a => by fin_cases a <;> rfl
  rw [hy]
  refine (h t ht _ _).trans (congrArg₂ G (Fin.ext ?_) (Fin.ext ?_))
  · show 0 + (t.val / 4 % 1 * 512 + (y 0).val) = win0_2.index t 0 * 512 + 1 * (y 0).val; rw [(ix_2 t).1]; omega
  · show (y 1).val = win0_2.index t 1 * 1024 + 1 * (y 1).val; rw [(ix_2 t).2]; omega

/-- What the weight multiplied, and the gradient of the product. -/
abbrev argA : FVec Ideal S8192x1024 .f32 := m (c, Proc.tc.devRef main_arg0)
abbrev argG : FVec Ideal S8192x1024 .f32 := m (c, Proc.tc.devRef main_arg2)

theorem in_0 (n : Fin 8192) (q : ℕ) (f : Fin 512) : V m c main_v1 (ix2 n (colAt q f)) = argA m c (ix2 n (rowAt q f)) := by
  unfold V
  after_reads_at
  refine congrArg (argA m c) (funext fun a => Fin.ext ?_)
  match a with
  | ⟨0, _⟩ => show _ = n.val; simp
  | ⟨1, _⟩ => show _ = 0 + (q % 1 * 512 + f.val); simp [colAt]
theorem in_1 (n : Fin 8192) (d : Fin 1024) : V m c main_v2 (ix2 n d) = argG m c (ix2 n d) := by
  unfold V
  after_reads_at

/-- Block `k` of tokens of an entry of the gradient, and the entry. -/
def part (k : ℕ) (f : Fin 1024) (d : Fin 1024) : EReal := ∑ r : Fin 2048, argA m c (ix2 (tokAt k r) f) * argG m c (ix2 (tokAt k r) d)
def grad (f : Fin 1024) (d : Fin 1024) : EReal := ∑ n : Fin 8192, argA m c (ix2 n f) * argG m c (ix2 n d)

omit t in
theorem parts (f : Fin 1024) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of what the weight multiplied, and of the gradient of the product. -/
abbrev blk0 : Vec Ideal S2048x512 .bf16 := iblk m c 0 t
abbrev blk1 : Vec Ideal S2048x1024 .bf16 := iblk m c 1 t

theorem part_block (f : Fin 512) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _ _)) ((read_1 c t (V m c) r d).trans (in_1 m c _ _))

theorem part_mod (k : ℕ) (f : Fin 1024) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 512) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 512) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 512) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 512) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 512) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 (f : Fin 1024) (hf : f.val < 512) (d : Fin 1024) : (dats m 0 c).arrAt 2 cfg0.N (ix2 f d) = grad m c f d :=
  final_2 m c _ (after0_2 m c) (grad m c) (fun t hf f d => written m c t (last_of_flush t hf) f d) f hf d
end points

theorem ref_at (x0 : FVec Ideal S8192x1024 .f32) (x2 : FVec Ideal S8192x1024 .f32) (f : Fin 1024) (d : Fin 1024) :
    Cert.Reference13Ideal.Read.val_main_v2 (F := Ideal) x0 x2 (ix2 f d) = ∑ n : Fin 8192, x2 (ix2 n d) * x0 (ix2 n f) := by
  pointwise [Cert.Reference13Ideal.Read.val_main_v2, Cert.Reference13Ideal.Read.val_main_v1]

/-- The rows the claim is about. -/
theorem mask_at (x0 : FVec Ideal S8192x1024 .f32) (x1 : FVec Ideal ⟨2, ![1024, 1024]⟩ .f32) (x2 : FVec Ideal S8192x1024 .f32) (f : Fin 1024) (d : Fin 1024)
    (h : Cert.On_rows_hg2.fn (F := Ideal) x0 x1 x2 (ix2 f d) = 1#1) : f.val < 512 := by
  have h' : IntOp.cmpi .slt (BitVec.ofNat 32 f.val) 512#32 = 1#1 := h
  exact (by decide +kernel : ∀ f : Fin 1024, IntOp.cmpi .slt (BitVec.ofNat 32 f.val) 512#32 = 1#1 → f.val < 512) f h'

/-! ## The claims -/

theorem frame_reference : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run m ρ)

theorem value : Cert.algebraic_Kernel13Ideal_Reference13Ideal_on_rows_hg2 := by
  intro m g m' g' _ hargs
  refine ⟨fun c => fun x : S1024x1024.Idx => grad m c (x 0) (x 1), ?_, ?_⟩
  · refine (θ_run Cert.Kernel13Ideal.defs _ _).mono (fun r h c => ?_) (Cert.Kernel13Ideal.Value.run_blocks m g)
    obtain ⟨h2, ha⟩ := h c
    refine ⟨fun x hx => (congrFun h2 x).trans ?_, ha⟩
    obtain ⟨f, d, rfl⟩ := pair (a := 1024) (b := 1024) x
    exact last_2 m c f (mask_at _ _ _ f d hx) d
  · refine (θ_run Cert.Reference13Ideal.defs _ _).mono (fun r h c => ?_) (Cert.Reference13Ideal.Value.run m' g')
    obtain ⟨a0, a1, a2⟩ := hargs c
    obtain ⟨h2, ha⟩ := h c
    refine ⟨fun x _ => (congrFun h2 x).trans ?_, ha⟩
    refine (congrFun (Cert.Reference13Ideal.Read.val_main_v2_eq _ _) x).trans ?_
    rw [a0, a2]
    obtain ⟨f, d, rfl⟩ := pair (a := 1024) (b := 1024) x
    exact (ref_at _ _ f d).trans (Finset.sum_congr rfl fun n _ => mul_comm _ _)

end Cert.Proof.DwOut
-- ==== Proof.OutProj.lean ====
/-
  The second product of the mixing: the tokens plus the mixed array times the weight, added from its two halves; the
  normalised tokens after it; and each token's factor of the norm. A grid point is a block of 512 tokens.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel14Ideal Cert.Kernel14Ideal.Gen

namespace Cert.Proof.OutProj

/-- The factor of the norm of a row: one over the root of its mean square plus a small constant. -/
def rs (v : Fin 1024 → EReal) : EReal :=
  Ideal.rsqrt (Ideal.div (∑ d : Fin 1024, v d * v d) (Ideal.ofBits .f32 0x44800000#32) + Ideal.ofBits .f32 0x358637BD#32)

section pays
variable (a : Vec Ideal S512x512 .bf16) (wa : Vec Ideal S512x1024 .bf16) (b : Vec Ideal S512x512 .bf16) (wb : Vec Ideal S512x1024 .bf16)
  (x : Vec Ideal S512x1024 .f32) (w : Vec Ideal S1x1024 .f32) (r : Fin 512) (d : Fin 1024)

/-- The block's tokens. -/
def tok : Fin 1024 → EReal := fun d =>
  (∑ e : Fin 512, a (ix2 r e) * wa (ix2 e d)) + (∑ e : Fin 512, b (ix2 r e) * wb (ix2 e d)) + x (ix2 r d)

theorem tok_at : k0_pay1 (F := Ideal) a wa b wb x (ix2 r d) = tok a wa b wb x r d := by
  unfold tok
  pointwise [k0_pay1]
theorem rs_at (z : Fin 1) : k0_pay2 (F := Ideal) a wa b wb x (ix2 r z) = rs (tok a wa b wb x r) := by
  have h : tok a wa b wb x r = fun d => k0_pay1 (F := Ideal) a wa b wb x (ix2 r d) := funext fun d => (tok_at a wa b wb x r d).symm
  rw [h]
  unfold rs k0_pay2
  generalize k0_pay1 (F := Ideal) a wa b wb x = p
  pointwise []
theorem norm_at : k0_pay3 (F := Ideal) a wa b wb x w (ix2 r d) = tok a wa b wb x r d * rs (tok a wa b wb x r) * w (ix2 0 d) := by
  rw [← tok_at, ← rs_at a wa b wb x r 0]
  unfold k0_pay3
  generalize k0_pay2 (F := Ideal) a wa b wb x = q
  generalize k0_pay1 (F := Ideal) a wa b wb x = p
  pointwise []

theorem out6_at : out0_6 (F := Ideal) a wa b wb x w (ix2 r d) = tok a wa b wb x r d := by
  unfold out0_6
  rw [View.canon_unit_zero zero2]
  rw [View.ld_unit_zero (S := S512x512) zero2, View.ld_unit_zero (S := S512x1024) zero2, View.ld_unit_zero (S := S512x512) zero2, View.ld_unit_zero (S := S512x1024) zero2, View.ld_unit_zero (S := S512x1024) zero2]
  exact tok_at a wa b wb x r d
theorem out7_at : out0_7 (F := Ideal) a wa b wb x w (ix2 r d) = tok a wa b wb x r d * rs (tok a wa b wb x r) * w (ix2 0 d) := by
  unfold out0_7
  rw [View.canon_unit_zero zero2]
  rw [View.ld_unit_zero (S := S512x512) zero2, View.ld_unit_zero (S := S512x1024) zero2, View.ld_unit_zero (S := S512x512) zero2, View.ld_unit_zero (S := S512x1024) zero2, View.ld_unit_zero (S := S512x1024) zero2, View.ld_unit_zero (S := S1x1024) zero2]
  exact norm_at a wa b wb x w r d
theorem out8_at (z : Fin 1) : out0_8 (F := Ideal) a wa b wb x w (ix2 r z) = rs (tok a wa b wb x r) := by
  unfold out0_8
  rw [View.canon_unit_zero zero2]
  rw [View.ld_unit_zero (S := S512x512) zero2, View.ld_unit_zero (S := S512x1024) zero2, View.ld_unit_zero (S := S512x512) zero2, View.ld_unit_zero (S := S512x1024) zero2, View.ld_unit_zero (S := S512x1024) zero2]
  exact rs_at a wa b wb x r z
end pays

/-- Token `r` of a grid point's block, the point of a token, and the two halves of the mixed array's columns. -/
def rowAt (t : Fin cfg0.N) (r : Fin 512) : Fin 8192 := ⟨t.val * 512 + r.val, by have := t.isLt; have hN : cfg0.N = 16 := N_0; omega⟩
def pointOf (n : Fin 8192) : Fin cfg0.N := ⟨n.val / 512, by have hN : cfg0.N = 16 := N_0; omega⟩
def lo (e : Fin 512) : Fin 1024 := ⟨e.val, by omega⟩
def hi (e : Fin 512) : Fin 1024 := ⟨512 + e.val, by omega⟩
theorem sum_halves (f : Fin 1024 → EReal) : (∑ e : Fin 512, f (lo e)) + (∑ e : Fin 512, f (hi e)) = ∑ e : Fin 1024, f e :=
  (Fin.sum_univ_add (a := 512) (b := 512) f).symm

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem ix_8 : ∀ t : Fin grid0.N, win0_8.index t 0 = t.val ∧ win0_8.index t 1 = 0 := by decide +kernel
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)
theorem flush_8 : ∀ t : Fin cfg0.N, (cfg0.win 8).flush t = true := (by decide +kernel : ∀ t : Fin grid0.N, win0_8.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (e : Fin 512) :
    ((cfg0.win 0).blk t).view.read (Elt Ideal) (W (Pipeline.arrRef spec0 0)) (ix2 r e) = W main_v2 (ix2 (rowAt t r) e) := by
  rw [View.read_apply]
  refine congrArg (W main_v2) (funext fun a => Fin.ext ?_)
  match a with
  | ⟨0, _⟩ => show win0_0.index t 0 * 512 + 1 * r.val = t.val * 512 + r.val; rw [(ix_0 t).1]; omega
  | ⟨1, _⟩ => show win0_0.index t 1 * 512 + 1 * e.val = e.val; rw [(ix_0 t).2]; omega
theorem read_1 (W : (b : Ref sig .tc) → Buf (Elt Ideal) ((c : Thread nD τ).loc b)) (e : Fin 512) (d : Fin 1024) :
    ((cfg0.win 1).blk t).view.read (Elt Ideal) (W (Pipeline.arrRef spec0 1)) (ix2 e d) = W main_v3 (ix2 e d) := by
  rw [View.read_apply]
  refine congrArg (W main_v3) (funext fun a => Fin.ext ?_)
  match a with
  | ⟨0, _⟩ => show win0_1.index t 0 * 512 + 1 * e.val = e.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (r : Fin 512) (e : Fin 512) :
    ((cfg0.win 2).blk t).view.read (Elt Ideal) (W (Pipeline.arrRef spec0 2)) (ix2 r e) = W main_v4 (ix2 (rowAt t r) e) := by
  rw [View.read_apply]
  refine congrArg (W main_v4) (funext fun a => Fin.ext ?_)
  match a with
  | ⟨0, _⟩ => show win0_2.index t 0 * 512 + 1 * r.val = t.val * 512 + r.val; rw [(ix_2 t).1]; omega
  | ⟨1, _⟩ => show win0_2.index t 1 * 512 + 1 * e.val = e.val; rw [(ix_2 t).2]; omega
theorem read_3 (W : (b : Ref sig .tc) → Buf (Elt Ideal) ((c : Thread nD τ).loc b)) (e : Fin 512) (d : Fin 1024) :
    ((cfg0.win 3).blk t).view.read (Elt Ideal) (W (Pipeline.arrRef spec0 3)) (ix2 e d) = W main_v5 (ix2 e d) := by
  rw [View.read_apply]
  refine congrArg (W main_v5) (funext fun a => Fin.ext ?_)
  match a with
  | ⟨0, _⟩ => show win0_3.index t 0 * 512 + 1 * e.val = e.val; rw [(ix_3 t).1]; omega
  | ⟨1, _⟩ => show win0_3.index t 1 * 1024 + 1 * d.val = d.val; rw [(ix_3 t).2]; omega
theorem read_4 (W : (b : Ref sig .tc) → Buf (Elt Ideal) ((c : Thread nD τ).loc b)) (r : Fin 512) (d : Fin 1024) :
    ((cfg0.win 4).blk t).view.read (Elt Ideal) (W (Pipeline.arrRef spec0 4)) (ix2 r d) = W main_arg0 (ix2 (rowAt t r) d) := by
  rw [View.read_apply]
  refine congrArg (W main_arg0) (funext fun a => Fin.ext ?_)
  match a with
  | ⟨0, _⟩ => show win0_4.index t 0 * 512 + 1 * r.val = t.val * 512 + r.val; rw [(ix_4 t).1]; omega
  | ⟨1, _⟩ => show win0_4.index t 1 * 1024 + 1 * d.val = d.val; rw [(ix_4 t).2]; omega
theorem read_5 (W : (b : Ref sig .tc) → Buf (Elt Ideal) ((c : Thread nD τ).loc b)) (z : Fin 1) (d : Fin 1024) :
    ((cfg0.win 5).blk t).view.read (Elt Ideal) (W (Pipeline.arrRef spec0 5)) (ix2 z d) = W main_v6 (ix2 z d) := by
  rw [View.read_apply]
  refine congrArg (W main_v6) (funext fun a => Fin.ext ?_)
  match a with
  | ⟨0, _⟩ => show win0_5.index t 0 * 1 + 1 * z.val = z.val; rw [(ix_5 t).1]; omega
  | ⟨1, _⟩ => show win0_5.index t 1 * 1024 + 1 * d.val = d.val; rw [(ix_5 t).2]; omega
theorem cover_6 (x : S8192x1024.Idx) : ∃ t : Fin cfg0.N, (cfg0.win 6).flush t = true ∧ x ∈ ((View.whole main_v7_0).slice (win0_6.rect t)).set := by
  obtain ⟨n, d, rfl⟩ := pair (a := 8192) (b := 1024) x
  refine ⟨pointOf n, flush_6 _, ?_⟩
  rw [View.set_slice_whole, Rect.mem_set_unit]
  have hp : (pointOf n).val = n.val / 512 := rfl
  have hn := n.isLt
  have hd := d.isLt
  have e0 := ix_6 (pointOf n)
  intro a
  match a with
  | ⟨0, _⟩ => show win0_6.index (pointOf n) 0 * 512 ≤ n.val ∧ n.val < win0_6.index (pointOf n) 0 * 512 + 512; rw [e0.1]; omega
  | ⟨1, _⟩ => show win0_6.index (pointOf n) 1 * 1024 ≤ d.val ∧ d.val < win0_6.index (pointOf n) 1 * 1024 + 1024; rw [e0.2]; omega
theorem cover_7 (x : S8192x1024.Idx) : ∃ t : Fin cfg0.N, (cfg0.win 7).flush t = true ∧ x ∈ ((View.whole main_v7_1).slice (win0_7.rect t)).set := by
  obtain ⟨n, d, rfl⟩ := pair (a := 8192) (b := 1024) x
  refine ⟨pointOf n, flush_7 _, ?_⟩
  rw [View.set_slice_whole, Rect.mem_set_unit]
  have hp : (pointOf n).val = n.val / 512 := rfl
  have hn := n.isLt
  have hd := d.isLt
  have e0 := ix_7 (pointOf n)
  intro a
  match a with
  | ⟨0, _⟩ => show win0_7.index (pointOf n) 0 * 512 ≤ n.val ∧ n.val < win0_7.index (pointOf n) 0 * 512 + 512; rw [e0.1]; omega
  | ⟨1, _⟩ => show win0_7.index (pointOf n) 1 * 1024 ≤ d.val ∧ d.val < win0_7.index (pointOf n) 1 * 1024 + 1024; rw [e0.2]; omega
theorem cover_8 (x : S8192x1.Idx) : ∃ t : Fin cfg0.N, (cfg0.win 8).flush t = true ∧ x ∈ ((View.whole main_v7_2).slice (win0_8.rect t)).set := by
  obtain ⟨n, z, rfl⟩ := pair (a := 8192) (b := 1) x
  refine ⟨pointOf n, flush_8 _, ?_⟩
  rw [View.set_slice_whole, Rect.mem_set_unit]
  have hp : (pointOf n).val = n.val / 512 := rfl
  have hn := n.isLt
  have hz := z.isLt
  have e0 := ix_8 (pointOf n)
  intro a
  match a with
  | ⟨0, _⟩ => show win0_8.index (pointOf n) 0 * 512 ≤ n.val ∧ n.val < win0_8.index (pointOf n) 0 * 512 + 512; rw [e0.1]; omega
  | ⟨1, _⟩ => show win0_8.index (pointOf n) 1 * 1 ≤ z.val ∧ z.val < win0_8.index (pointOf n) 1 * 1 + 1; rw [e0.2]; omega

omit t in
theorem final_6 (O : Fin cfg0.N → Vec Ideal S512x1024 .f32) (ho : ∀ t : Fin cfg0.N, (dats m 0 c).after 6 t = O t) (G : Fin 8192 → Fin 1024 → EReal)
    (h : ∀ (t : Fin cfg0.N) (r : Fin 512) (d : Fin 1024), O t (ix2 r d) = G (rowAt t r) (d)) :
    (dats m 0 c).arrAt 6 cfg0.N = fun x : S8192x1024.Idx => G (x 0) (x 1) := by
  refine (dats m 0 c).arrAt_eq_of_cover 6 (fun x : S8192x1024.Idx => G (x 0) (x 1)) (fun t ht => ?_) (fun x => cover_6 x)
  show (cfg0.win 6).cut (grid0.coords t) ((dats m 0 c).after 6 t) = _
  rw [ho]
  funext y
  rw [View.read_apply]
  obtain ⟨r, d, rfl⟩ := pair (a := 512) (b := 1024) y
  refine (h t r d).trans (congrArg₂ G (Fin.ext ?_) (Fin.ext ?_))
  · show t.val * 512 + r.val = win0_6.index t 0 * 512 + 1 * r.val; rw [(ix_6 t).1]; omega
  · show d.val = win0_6.index t 1 * 1024 + 1 * d.val; rw [(ix_6 t).2]; omega

omit t in
theorem final_7 (O : Fin cfg0.N → Vec Ideal S512x1024 .bf16) (ho : ∀ t : Fin cfg0.N, (dats m 0 c).after 7 t = O t) (G : Fin 8192 → Fin 1024 → EReal)
    (h : ∀ (t : Fin cfg0.N) (r : Fin 512) (d : Fin 1024), O t (ix2 r d) = G (rowAt t r) (d)) :
    (dats m 0 c).arrAt 7 cfg0.N = fun x : S8192x1024.Idx => G (x 0) (x 1) := by
  refine (dats m 0 c).arrAt_eq_of_cover 7 (fun x : S8192x1024.Idx => G (x 0) (x 1)) (fun t ht => ?_) (fun x => cover_7 x)
  show (cfg0.win 7).cut (grid0.coords t) ((dats m 0 c).after 7 t) = _
  rw [ho]
  funext y
  rw [View.read_apply]
  obtain ⟨r, d, rfl⟩ := pair (a := 512) (b := 1024) y
  refine (h t r d).trans (congrArg₂ G (Fin.ext ?_) (Fin.ext ?_))
  · show t.val * 512 + r.val = win0_7.index t 0 * 512 + 1 * r.val; rw [(ix_7 t).1]; omega
  · show d.val = win0_7.index t 1 * 1024 + 1 * d.val; rw [(ix_7 t).2]; omega

omit t in
theorem final_8 (O : Fin cfg0.N → Vec Ideal S512x1 .f32) (ho : ∀ t : Fin cfg0.N, (dats m 0 c).after 8 t = O t) (G : Fin 8192 → Fin 1 → EReal)
    (h : ∀ (t : Fin cfg0.N) (r : Fin 512) (z : Fin 1), O t (ix2 r z) = G (rowAt t r) (z)) :
    (dats m 0 c).arrAt 8 cfg0.N = fun x : S8192x1.Idx => G (x 0) (x 1) := by
  refine (dats m 0 c).arrAt_eq_of_cover 8 (fun x : S8192x1.Idx => G (x 0) (x 1)) (fun t ht => ?_) (fun x => cover_8 x)
  show (cfg0.win 8).cut (grid0.coords t) ((dats m 0 c).after 8 t) = _
  rw [ho]
  funext y
  rw [View.read_apply]
  obtain ⟨r, z, rfl⟩ := pair (a := 512) (b := 1) y
  refine (h t r z).trans (congrArg₂ G (Fin.ext ?_) (Fin.ext ?_))
  · show t.val * 512 + r.val = win0_8.index t 0 * 512 + 1 * r.val; rw [(ix_8 t).1]; omega
  · show z.val = win0_8.index t 1 * 1 + 1 * z.val; rw [(ix_8 t).2]; omega

/-- The tokens, the mixed array, its weight and the weight of the norm. -/
abbrev argX : FVec Ideal S8192x1024 .f32 := m (c, Proc.tc.devRef main_arg0)
abbrev argM : FVec Ideal S8192x1024 .f32 := m (c, Proc.tc.devRef main_arg1)
abbrev argW : FVec Ideal S1024x1024 .f32 := m (c, Proc.tc.devRef main_arg2)
abbrev argN : FVec Ideal S1024 .f32 := m (c, Proc.tc.devRef main_arg3)

theorem in_0 (n : Fin 8192) (e : Fin 512) : V m c main_v2 (ix2 n e) = argM m c (ix2 n (lo e)) := by
  unfold V
  after_reads_at
  rfl
theorem in_1 (e : Fin 512) (d : Fin 1024) : V m c main_v3 (ix2 e d) = argW m c (ix2 (lo e) d) := by
  unfold V
  after_reads_at
  rfl
theorem in_2 (n : Fin 8192) (e : Fin 512) : V m c main_v4 (ix2 n e) = argM m c (ix2 n (hi e)) := by
  unfold V
  after_reads_at
  rfl
theorem in_3 (e : Fin 512) (d : Fin 1024) : V m c main_v5 (ix2 e d) = argW m c (ix2 (hi e) d) := by
  unfold V
  after_reads_at
  rfl
theorem in_4 (n : Fin 8192) (d : Fin 1024) : V m c main_arg0 (ix2 n d) = argX m c (ix2 n d) := by
  unfold V
  after_reads_at
theorem in_5 (d : Fin 1024) : V m c main_v6 (ix2 0 d) = argN m c (ix1 d) := by
  unfold V
  after_reads_at

/-- The tokens after the product. -/
def toks (n : Fin 8192) : Fin 1024 → EReal := fun d => argX m c (ix2 n d) + ∑ e : Fin 1024, argM m c (ix2 n e) * argW m c (ix2 e d)

/-- A grid point's blocks. -/
abbrev blk0 : Vec Ideal S512x512 .bf16 := iblk m c 0 t
abbrev blk1 : Vec Ideal S512x1024 .bf16 := iblk m c 1 t
abbrev blk2 : Vec Ideal S512x512 .bf16 := iblk m c 2 t
abbrev blk3 : Vec Ideal S512x1024 .bf16 := iblk m c 3 t
abbrev blk4 : Vec Ideal S512x1024 .f32 := iblk m c 4 t
abbrev blk5 : Vec Ideal S1x1024 .f32 := iblk m c 5 t

theorem tok_block (r : Fin 512) : tok (blk0 m c t) (blk1 m c t) (blk2 m c t) (blk3 m c t) (blk4 m c t) r = toks m c (rowAt t r) := by
  funext d
  unfold tok toks
  have h0 : ∀ e : Fin 512, blk0 m c t (ix2 r e) * blk1 m c t (ix2 e d) = (fun e => argM m c (ix2 (rowAt t r) e) * argW m c (ix2 e d)) (lo e) := fun e =>
    congrArg₂ (· * ·) ((read_0 c t (V m c) r e).trans (in_0 m c _ e)) ((read_1 c t (V m c) e d).trans (in_1 m c e d))
  have h1 : ∀ e : Fin 512, blk2 m c t (ix2 r e) * blk3 m c t (ix2 e d) = (fun e => argM m c (ix2 (rowAt t r) e) * argW m c (ix2 e d)) (hi e) := fun e =>
    congrArg₂ (· * ·) ((read_2 c t (V m c) r e).trans (in_2 m c _ e)) ((read_3 c t (V m c) e d).trans (in_3 m c e d))
  have h2 : blk4 m c t (ix2 r d) = argX m c (ix2 (rowAt t r) d) := (read_4 c t (V m c) r d).trans (in_4 m c _ d)
  rw [Finset.sum_congr rfl fun e _ => h0 e, Finset.sum_congr rfl fun e _ => h1 e, sum_halves (fun e => argM m c (ix2 (rowAt t r) e) * argW m c (ix2 e d)), h2, add_comm]
theorem norm_block (d : Fin 1024) : blk5 m c t (ix2 0 d) = argN m c (ix1 d) := (read_5 c t (V m c) 0 d).trans (in_5 m c d)

/-- The normalised tokens. -/
def normed (n : Fin 8192) (d : Fin 1024) : EReal := toks m c n d * rs (toks m c n) * argN m c (ix1 d)

omit t in
theorem last_6 : (dats m 0 c).arrAt 6 cfg0.N = fun x : S8192x1024.Idx => toks m c (x 0) (x 1) :=
  final_6 m c _ (after0_6 m c) (toks m c) fun t r d => (out6_at _ _ _ _ _ _ r d).trans (congrFun (tok_block m c t r) d)
omit t in
theorem last_7 : (dats m 0 c).arrAt 7 cfg0.N = fun x : S8192x1024.Idx => normed m c (x 0) (x 1) :=
  final_7 m c _ (after0_7 m c) (normed m c) fun t r d => (out7_at _ _ _ _ _ _ r d).trans (by
    show tok (blk0 m c t) (blk1 m c t) (blk2 m c t) (blk3 m c t) (blk4 m c t) r d * rs (tok (blk0 m c t) (blk1 m c t) (blk2 m c t) (blk3 m c t) (blk4 m c t) r) * blk5 m c t (ix2 0 d) = _
    rw [tok_block, norm_block]
    rfl)
omit t in
theorem last_8 : (dats m 0 c).arrAt 8 cfg0.N = fun x : S8192x1.Idx => (fun n _ => rs (toks m c n)) (x 0) (x 1) :=
  final_8 m c _ (after0_8 m c) (fun n _ => rs (toks m c n)) fun t r z => (out8_at _ _ _ _ _ _ r z).trans (congrArg rs (tok_block m c t r))
end points

/-! ## The reference -/

section ref
open Cert.Reference14Ideal.Read
variable (x0 x1 : FVec Ideal S8192x1024 .f32) (x2 : FVec Ideal S1024x1024 .f32) (x3 : FVec Ideal S1024 .f32) (n : Fin 8192) (d : Fin 1024)

/-- The reference's tokens. -/
def rtok : Fin 1024 → EReal := fun d => x0 (ix2 n d) + ∑ e : Fin 1024, x1 (ix2 n e) * x2 (ix2 e d)

theorem ref_tok : val_main_v1 (F := Ideal) x0 x1 x2 (ix2 n d) = rtok x0 x1 x2 n d := by
  unfold rtok
  pointwise [val_main_v1, val_main_v0]
theorem rtok_eq : rtok x0 x1 x2 n = fun d => val_main_v1 (F := Ideal) x0 x1 x2 (ix2 n d) := funext fun d => (ref_tok x0 x1 x2 n d).symm
theorem ref_rs (z : Fin 1) : val_main_v9 (F := Ideal) x0 x1 x2 (ix2 n z) = rs (rtok x0 x1 x2 n) := by
  rw [rtok_eq]
  unfold rs val_main_v9 val_main_v8 val_main_v7 val_main_v6 val_main_v5 val_main_v4 val_main_v3 val_main_v2
  generalize val_main_v1 (F := Ideal) x0 x1 x2 = p
  pointwise [val_main_cst, val_main_cst_0, val_main_cst_1]
theorem ref_rs2 (z : Fin 1) : val_main_v17 (F := Ideal) x0 x1 x2 (ix2 n z) = rs (rtok x0 x1 x2 n) := by
  rw [rtok_eq]
  unfold rs val_main_v17 val_main_v16 val_main_v15 val_main_v14 val_main_v13 val_main_v12 val_main_v11 val_main_v10
  generalize val_main_v1 (F := Ideal) x0 x1 x2 = p
  pointwise [val_main_cst_2, val_main_cst_3, val_main_cst_4]
theorem ref_norm : val_main_v23 (F := Ideal) x0 x1 x2 x3 (ix2 n d) = rtok x0 x1 x2 n d * rs (rtok x0 x1 x2 n) * x3 (ix1 d) := by
  rw [← ref_rs2 x0 x1 x2 n 0, ← ref_tok]
  unfold val_main_v23 val_main_v22 val_main_v21 val_main_v20 val_main_v19 val_main_v18
  generalize val_main_v17 (F := Ideal) x0 x1 x2 = q
  generalize val_main_v1 (F := Ideal) x0 x1 x2 = p
  pointwise []
end ref

/-! ## The claims -/

theorem frame_reference : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run m ρ)

theorem value : Cert.algebraic_Kernel14Ideal_Reference14Ideal := by
  intro m g m' g' _ hargs
  refine ⟨fun c => fun x : S8192x1024.Idx => toks m c (x 0) (x 1), fun c => fun x : S8192x1024.Idx => normed m c (x 0) (x 1),
    fun c => fun x : S8192x1.Idx => rs (toks m c (x 0)), ?_, ?_⟩
  · refine (θ_run Cert.Kernel14Ideal.defs _ _).mono (fun r h c => ?_) (Cert.Kernel14Ideal.Value.run_blocks m g)
    obtain ⟨h6, h7, h8, ha⟩ := h c
    exact ⟨h6.trans (last_6 m c), h7.trans (last_7 m c), h8.trans (last_8 m c), ha⟩
  · refine (θ_run Cert.Reference14Ideal.defs _ _).mono (fun r h c => ?_) (Cert.Reference14Ideal.Value.run m' g')
    obtain ⟨a0, a1, a2, a3⟩ := hargs c
    obtain ⟨h6, h7, h8, ha⟩ := h c
    refine ⟨h6.trans ?_, h7.trans ?_, h8.trans ?_, ha⟩
    · refine (Cert.Reference14Ideal.Read.val_main_v1_eq _ _ _).trans ?_
      rw [a0, a1, a2]
      funext x
      obtain ⟨n, d, rfl⟩ := pair (a := 8192) (b := 1024) x
      exact ref_tok (argX m c) (argM m c) (argW m c) n d
    · refine (Cert.Reference14Ideal.Read.val_main_v23_eq _ _ _ _).trans ?_
      rw [a0, a1, a2, a3]
      funext x
      obtain ⟨n, d, rfl⟩ := pair (a := 8192) (b := 1024) x
      exact ref_norm (argX m c) (argM m c) (argW m c) (argN m c) n d
    · refine (Cert.Reference14Ideal.Read.val_main_v9_eq _ _ _).trans ?_
      rw [a0, a1, a2]
      funext x
      obtain ⟨n, z, rfl⟩ := pair (a := 8192) (b := 1) x
      exact ref_rs (argX m c) (argM m c) (argW m c) n z

end Cert.Proof.OutProj
-- ==== Proof.FfnDown.lean ====
/-
  The last product of the feed-forward with the residual added, the normalised tokens, their loss against a target, and
  the gradients: of the tokens, and of the norm's weight. A grid point is a block of 512 tokens; the loss and the
  gradient of the weight are added up over the grid.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite7
public import proofs.«01_k».proof.Proof.Sums
public import proofs.«01_k».proof.Proof.Norm
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel15Ideal Cert.Kernel15Ideal.Gen

namespace Cert.Proof.FfnDown

open Cert.Proof.Reals Cert.Proof.Norm Cert.Proof.Sums

/-- A row: what the normalised row misses of the target, the gradient of that by the kernel's and by the reference's
    arithmetic, the mean of its squares, and the row of the gradient. -/
def miss (v w t : Fin 1024 → EReal) : Fin 1024 → EReal := fun d => v d * rs v * w d - t d
def down (v w t : Fin 1024 → EReal) : Fin 1024 → EReal := fun d => miss v w t d * Ideal.ofBits .f32 0x3A800000#32
def down2 (v w t : Fin 1024 → EReal) : Fin 1024 → EReal := fun d =>
  Ideal.div (Ideal.ofBits .f32 0x3F000000#32 * Ideal.ofBits .f32 0x3F800000#32) (Ideal.ofBits .f32 0x44800000#32) * (Ideal.ofBits .f32 0x40000000#32 * miss v w t d)
def mean (v w t : Fin 1024 → EReal) : EReal := Ideal.div (∑ d : Fin 1024, miss v w t d * miss v w t d) (Ideal.ofBits .f32 0x44800000#32)
def bk (v w t : Fin 1024 → EReal) : Fin 1024 → EReal := back v (down v w t) w (rs v) (fun _ => 0)

theorem half_bits : Ideal.ofBits .f32 0x3F000000#32 = ((1 / 2 : ℝ) : EReal) := by
  simp [Ideal.ofBits, Ideal.ieee, -EReal.coe_mul]
  norm_num
theorem one_bits : Ideal.ofBits .f32 0x3F800000#32 = ((1 : ℝ) : EReal) := by
  simp [Ideal.ofBits, Ideal.ieee, -EReal.coe_mul]
  norm_num
theorem two_bits : Ideal.ofBits .f32 0x40000000#32 = ((2 : ℝ) : EReal) := by
  simp [Ideal.ofBits, Ideal.ieee, -EReal.coe_mul]
  norm_num
theorem over_bits : Ideal.ofBits .f32 0x3A800000#32 = ((1 / 1024 : ℝ) : EReal) := by
  simp [Ideal.ofBits, Ideal.ieee, -EReal.coe_mul]
  norm_num

theorem miss_coe (v w t : Fin 1024 → ℝ) : miss (fun d => ((v d : ℝ) : EReal)) (fun d => ((w d : ℝ) : EReal)) (fun d => ((t d : ℝ) : EReal))
    = fun d => ((v d * rrs v * w d - t d : ℝ) : EReal) := by
  funext d
  unfold miss
  rw [rs_coe, ← EReal.coe_mul, ← EReal.coe_mul, ← EReal.coe_sub]
theorem down_coe (v w t : Fin 1024 → ℝ) : down (fun d => ((v d : ℝ) : EReal)) (fun d => ((w d : ℝ) : EReal)) (fun d => ((t d : ℝ) : EReal))
    = fun d => (((v d * rrs v * w d - t d) * (1 / 1024) : ℝ) : EReal) := by
  funext d
  unfold down
  rw [miss_coe, over_bits]
  exact (EReal.coe_mul _ _).symm
theorem down2_coe (v w t : Fin 1024 → ℝ) : down2 (fun d => ((v d : ℝ) : EReal)) (fun d => ((w d : ℝ) : EReal)) (fun d => ((t d : ℝ) : EReal))
    = down (fun d => ((v d : ℝ) : EReal)) (fun d => ((w d : ℝ) : EReal)) (fun d => ((t d : ℝ) : EReal)) := by
  rw [down_coe]
  funext d
  unfold down2
  rw [miss_coe, half_bits, one_bits, two_bits, width_bits, Ideal.div_coe (by norm_num)]
  simp only [← EReal.coe_mul]
  exact congrArg _ (by ring)
theorem mean_coe (v w t : Fin 1024 → ℝ) : mean (fun d => ((v d : ℝ) : EReal)) (fun d => ((w d : ℝ) : EReal)) (fun d => ((t d : ℝ) : EReal))
    = (((∑ d : Fin 1024, (v d * rrs v * w d - t d) * (v d * rrs v * w d - t d)) * (1 / 1024) : ℝ) : EReal) := by
  unfold mean
  rw [miss_coe, width_bits, Ideal.div_coe (by norm_num)]
  simp only [← EReal.coe_mul, ← coe_sum]

section pays
variable {a : Vec Ideal S512x2816 .bf16} {k : Vec Ideal S2816x1024 .bf16} {x : Vec Ideal S512x1024 .f32} {y : Vec Ideal S512x1024 .f32} {w : Vec Ideal S1x1024 .f32}
  {a' : Vec Ideal S512x2816 .bf16} {k' : Vec Ideal S2816x1024 .bf16} {x' : Vec Ideal S512x1024 .f32} {y' : Vec Ideal S512x1024 .f32} {w' : Vec Ideal S1x1024 .f32}
  {l l' : Vec Ideal S1x1 .f32} {z z' : Vec Ideal S1x1024 .f32}

/-- A token of the block. -/
def tk (a : Vec Ideal S512x2816 .bf16) (k : Vec Ideal S2816x1024 .bf16) (x : Vec Ideal S512x1024 .f32) (r : Fin 512) : Fin 1024 → EReal := fun d =>
  (∑ e : Fin 2816, a (ix2 r e) * k (ix2 e d)) + x (ix2 r d)
def wr (w : Vec Ideal S1x1024 .f32) : Fin 1024 → EReal := fun d => w (ix2 0 d)
def tr (y : Vec Ideal S512x1024 .f32) (r : Fin 512) : Fin 1024 → EReal := fun d => y (ix2 r d)

theorem tk_at (r : Fin 512) (d : Fin 1024) : k0_pay6 (F := Ideal) a k x (ix2 r d) = tk a k x r d := by
  unfold tk
  pointwise [k0_pay6]
theorem tk_row (r : Fin 512) : tk a k x r = fun d => k0_pay6 (F := Ideal) a k x (ix2 r d) := funext fun d => (tk_at r d).symm
theorem rs_at (r : Fin 512) : k0_pay9 (F := Ideal) a k x (ix2 r 0) = rs (tk a k x r) := by
  rw [tk_row]
  unfold rs msq k0_pay9
  generalize k0_pay6 (F := Ideal) a k x = p
  pointwise []
theorem norm_at (r : Fin 512) (d : Fin 1024) : k0_pay10 (F := Ideal) a k x (ix2 r d) = tk a k x r d * rs (tk a k x r) := by
  rw [← tk_at, ← rs_at]
  unfold k0_pay10
  generalize k0_pay6 (F := Ideal) a k x = p
  generalize k0_pay9 (F := Ideal) a k x = q
  pointwise []
theorem miss_at (r : Fin 512) (d : Fin 1024) : k0_pay12 (F := Ideal) a k x w y (ix2 r d) = miss (tk a k x r) (wr w) (tr y r) d := by
  unfold miss wr tr
  rw [← norm_at]
  unfold k0_pay12
  generalize k0_pay10 (F := Ideal) a k x = p
  pointwise [k0_pay11]
theorem mean_at : k0_pay14 (F := Ideal) a k x w y (ix2 0 0) = ∑ r : Fin 512, mean (tk a k x r) (wr w) (tr y r) := by
  have h : ∀ r : Fin 512, mean (tk a k x r) (wr w) (tr y r)
      = Ideal.div (∑ d : Fin 1024, k0_pay12 (F := Ideal) a k x w y (ix2 r d) * k0_pay12 (F := Ideal) a k x w y (ix2 r d)) (Ideal.ofBits .f32 0x44800000#32) := fun r => by
    unfold mean
    simp only [miss_at]
  rw [Finset.sum_congr rfl fun r _ => h r]
  unfold k0_pay14
  generalize k0_pay12 (F := Ideal) a k x w y = p
  pointwise []
theorem down_at (r : Fin 512) (d : Fin 1024) : k0_pay2 (F := Ideal) (k0_pay12 a k x w y) (ix2 r d) = down (tk a k x r) (wr w) (tr y r) d := by
  unfold down
  rw [← miss_at]
  generalize k0_pay12 (F := Ideal) a k x w y = p
  pointwise [k0_pay2]
theorem zero1_at : k0_pay7 (F := Ideal) (ix2 0 0) = 0 := by
  pointwise [k0_pay7]
theorem zero_at (d : Fin 1024) : k0_pay8 (F := Ideal) (ix2 0 d) = 0 := by
  pointwise [k0_pay8]
theorem dx_at (r : Fin 512) (d : Fin 1024) : k0_pay3 (F := Ideal) (k0_pay9 a k x) (k0_pay10 a k x) (k0_pay11 w) (k0_pay12 a k x w y) (ix2 r d) = bk (tk a k x r) (wr w) (tr y r) d := by
  have h : down (tk a k x r) (wr w) (tr y r) = fun d => k0_pay2 (F := Ideal) (k0_pay12 a k x w y) (ix2 r d) := funext fun d => (down_at r d).symm
  unfold bk back
  rw [h, zero_add]
  simp only [← norm_at]
  rw [← rs_at]
  unfold wr k0_pay3
  generalize k0_pay2 (F := Ideal) (k0_pay12 a k x w y) = p
  generalize k0_pay9 (F := Ideal) a k x = q
  generalize k0_pay10 (F := Ideal) a k x = u
  pointwise [k0_pay11]
theorem dy_at (r : Fin 512) (d : Fin 1024) : k0_pay4 (F := Ideal) (k0_pay9 a k x) (k0_pay10 a k x) (k0_pay11 w) (k0_pay12 a k x w y) (ix2 r d) = bk (tk a k x r) (wr w) (tr y r) d := by
  rw [← dx_at]
  rfl
theorem dw_at (d : Fin 1024) : k0_pay5 (F := Ideal) (k0_pay10 a k x) (k0_pay12 a k x w y) z (ix2 0 d)
    = z (ix2 0 d) + ∑ r : Fin 512, down (tk a k x r) (wr w) (tr y r) d * (tk a k x r d * rs (tk a k x r)) := by
  have h : ∀ r : Fin 512, down (tk a k x r) (wr w) (tr y r) d * (tk a k x r d * rs (tk a k x r))
      = k0_pay2 (F := Ideal) (k0_pay12 a k x w y) (ix2 r d) * k0_pay10 (F := Ideal) a k x (ix2 r d) := fun r => by rw [down_at, norm_at]
  rw [Finset.sum_congr rfl fun r _ => h r]
  unfold k0_pay5
  generalize k0_pay2 (F := Ideal) (k0_pay12 a k x w y) = p
  generalize k0_pay10 (F := Ideal) a k x = u
  pointwise []
theorem loss_at : k0_pay1 (F := Ideal) (k0_pay13 l) (k0_pay14 a k x w y) (Scalar.ofBits .f32 0x3F000000#32) (ix2 0 0)
    = l (ix2 0 0) + Ideal.ofBits .f32 0x3F000000#32 * ∑ r : Fin 512, mean (tk a k x r) (wr w) (tr y r) := by
  rw [← mean_at]
  generalize k0_pay14 (F := Ideal) a k x w y = p
  pointwise [k0_pay1, k0_pay13]
theorem dx_of (h0 : a = a') (h1 : k = k') (h2 : x = x') (h3 : y = y') (h4 : w = w') (r : Fin 512) (d : Fin 1024) : k0_pay3 (F := Ideal) (k0_pay9 a k x) (k0_pay10 a k x) (k0_pay11 w) (k0_pay12 a k x w y) (ix2 r d) = bk (tk a' k' x' r) (wr w') (tr y' r) d := by
  subst h0 h1 h2 h3 h4
  exact dx_at r d
theorem dy_of (h0 : a = a') (h1 : k = k') (h2 : x = x') (h3 : y = y') (h4 : w = w') (r : Fin 512) (d : Fin 1024) : k0_pay4 (F := Ideal) (k0_pay9 a k x) (k0_pay10 a k x) (k0_pay11 w) (k0_pay12 a k x w y) (ix2 r d) = bk (tk a' k' x' r) (wr w') (tr y' r) d := by
  subst h0 h1 h2 h3 h4
  exact dy_at r d
theorem dw_of (h0 : a = a') (h1 : k = k') (h2 : x = x') (h3 : y = y') (h4 : w = w') (hz : z = z') (d : Fin 1024) : k0_pay5 (F := Ideal) (k0_pay10 a k x) (k0_pay12 a k x w y) z (ix2 0 d)
    = z' (ix2 0 d) + ∑ r : Fin 512, down (tk a' k' x' r) (wr w') (tr y' r) d * (tk a' k' x' r d * rs (tk a' k' x' r)) := by
  subst h0 h1 h2 h3 h4 hz
  exact dw_at d
theorem loss_of (h0 : a = a') (h1 : k = k') (h2 : x = x') (h3 : y = y') (h4 : w = w') (hl : l = l') : k0_pay1 (F := Ideal) (k0_pay13 l) (k0_pay14 a k x w y) (Scalar.ofBits .f32 0x3F000000#32) (ix2 0 0)
    = l' (ix2 0 0) + Ideal.ofBits .f32 0x3F000000#32 * ∑ r : Fin 512, mean (tk a' k' x' r) (wr w') (tr y' r) := by
  subst h0 h1 h2 h3 h4 hl
  exact loss_at
end pays

section cases
variable (c : Dev nD) (i : grid0.Coords) (arg2 : Memref sig .tc .vmem S512x2816 .bf16) (harg2 : arg2.IsWhole) (arg3 : Memref sig .tc .vmem S2816x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole)
  (x0 : Vec Ideal S512x2816 .bf16) (x1 : Vec Ideal S2816x1024 .bf16) (x2 : Vec Ideal S512x1024 .f32) (x3 : Vec Ideal S512x1024 .f32) (x4 : Vec Ideal S1x1024 .f32) (xo5 : Vec Ideal S1x1 .f32) (xo8 : Vec Ideal S1x1024 .f32)

/-- What a first and a later point leave. -/
theorem out5_a (h0 : cond0_0 i) : out0_A_5 (F := Ideal) c i arg2 harg2 arg3 harg3 arg4 harg4 arg5 harg5 arg6 harg6 arg7 harg7 arg8 harg8 arg9 harg9 arg10 harg10 h0 x0 x1 x2 x3 x4 (ix2 0 0) = Ideal.ofBits .f32 0x3F000000#32 * ∑ r : Fin 512, mean (tk x0 x1 x2 r) (wr x4) (tr x3 r) := by
  unfold out0_A_5 kernelRun0_A
  dsimp only
  sl_unfold_words
  exact (read_last VO0_5 _ inb_S1x1_S1x1_0_0 _ _ (ix2 0 0)).trans ((loss_of (load arg2 harg2 x0) (load arg3 harg3 x1) (load arg4 harg4 x2) (load arg5 harg5 x3) (load arg6 harg6 x4) (load_last arg7.view inb_S1x1_S1x1_0_0 _ _)).trans (by rw [zero1_at, zero_add]))
theorem out6_a (h0 : cond0_0 i) (r : Fin 512) (d : Fin 1024) : out0_A_6 (F := Ideal) c i arg2 harg2 arg3 harg3 arg4 harg4 arg5 harg5 arg6 harg6 arg7 harg7 arg8 harg8 arg9 harg9 arg10 harg10 h0 x0 x1 x2 x3 x4 (ix2 r d) = bk (tk x0 x1 x2 r) (wr x4) (tr x3 r) d := by
  unfold out0_A_6 kernelRun0_A
  dsimp only
  sl_unfold_words
  exact (read_last VO0_6 _ inb_S512x1024_S512x1024_0_0 _ _ (ix2 r d)).trans (dx_of (load arg2 harg2 x0) (load arg3 harg3 x1) (load arg4 harg4 x2) (load arg5 harg5 x3) (load arg6 harg6 x4) r d)
theorem out7_a (h0 : cond0_0 i) (r : Fin 512) (d : Fin 1024) : out0_A_7 (F := Ideal) c i arg2 harg2 arg3 harg3 arg4 harg4 arg5 harg5 arg6 harg6 arg7 harg7 arg8 harg8 arg9 harg9 arg10 harg10 h0 x0 x1 x2 x3 x4 (ix2 r d) = bk (tk x0 x1 x2 r) (wr x4) (tr x3 r) d := by
  unfold out0_A_7 kernelRun0_A
  dsimp only
  sl_unfold_words
  exact (read_last VO0_7 _ inb_S512x1024_S512x1024_0_0 _ _ (ix2 r d)).trans (dy_of (load arg2 harg2 x0) (load arg3 harg3 x1) (load arg4 harg4 x2) (load arg5 harg5 x3) (load arg6 harg6 x4) r d)
theorem out8_a (h0 : cond0_0 i) (d : Fin 1024) : out0_A_8 (F := Ideal) c i arg2 harg2 arg3 harg3 arg4 harg4 arg5 harg5 arg6 harg6 arg7 harg7 arg8 harg8 arg9 harg9 arg10 harg10 h0 x0 x1 x2 x3 x4 (ix2 0 d) = ∑ r : Fin 512, down (tk x0 x1 x2 r) (wr x4) (tr x3 r) d * (tk x0 x1 x2 r d * rs (tk x0 x1 x2 r)) := by
  unfold out0_A_8 kernelRun0_A
  dsimp only
  sl_unfold_words
  exact (read_last VO0_8 _ inb_S1x1024_S1x1024_0_0 _ _ (ix2 0 d)).trans ((dw_of (load arg2 harg2 x0) (load arg3 harg3 x1) (load arg4 harg4 x2) (load arg5 harg5 x3) (load arg6 harg6 x4) (load_last arg10.view inb_S1x1024_S1x1024_0_0 _ _) d).trans (by rw [zero_at, zero_add]))
theorem out5_b (h0 : ¬cond0_0 i) : out0_B_5 (F := Ideal) c i arg2 harg2 arg3 harg3 arg4 harg4 arg5 harg5 arg6 harg6 arg7 harg7 arg8 harg8 arg9 harg9 arg10 harg10 h0 x0 x1 x2 x3 x4 xo5 xo8 (ix2 0 0) = xo5 (ix2 0 0) + Ideal.ofBits .f32 0x3F000000#32 * ∑ r : Fin 512, mean (tk x0 x1 x2 r) (wr x4) (tr x3 r) := by
  unfold out0_B_5 kernelRun0_B
  dsimp only
  sl_unfold_words
  exact (read_last VO0_5 _ inb_S1x1_S1x1_0_0 _ _ (ix2 0 0)).trans (loss_of (load arg2 harg2 x0) (load arg3 harg3 x1) (load arg4 harg4 x2) (load arg5 harg5 x3) (load arg6 harg6 x4) (load arg7 harg7 xo5))
theorem out6_b (h0 : ¬cond0_0 i) (r : Fin 512) (d : Fin 1024) : out0_B_6 (F := Ideal) c i arg2 harg2 arg3 harg3 arg4 harg4 arg5 harg5 arg6 harg6 arg7 harg7 arg8 harg8 arg9 harg9 arg10 harg10 h0 x0 x1 x2 x3 x4 xo5 xo8 (ix2 r d) = bk (tk x0 x1 x2 r) (wr x4) (tr x3 r) d := by
  unfold out0_B_6 kernelRun0_B
  dsimp only
  sl_unfold_words
  exact (read_last VO0_6 _ inb_S512x1024_S512x1024_0_0 _ _ (ix2 r d)).trans (dx_of (load arg2 harg2 x0) (load arg3 harg3 x1) (load arg4 harg4 x2) (load arg5 harg5 x3) (load arg6 harg6 x4) r d)
theorem out7_b (h0 : ¬cond0_0 i) (r : Fin 512) (d : Fin 1024) : out0_B_7 (F := Ideal) c i arg2 harg2 arg3 harg3 arg4 harg4 arg5 harg5 arg6 harg6 arg7 harg7 arg8 harg8 arg9 harg9 arg10 harg10 h0 x0 x1 x2 x3 x4 xo5 xo8 (ix2 r d) = bk (tk x0 x1 x2 r) (wr x4) (tr x3 r) d := by
  unfold out0_B_7 kernelRun0_B
  dsimp only
  sl_unfold_words
  exact (read_last VO0_7 _ inb_S512x1024_S512x1024_0_0 _ _ (ix2 r d)).trans (dy_of (load arg2 harg2 x0) (load arg3 harg3 x1) (load arg4 harg4 x2) (load arg5 harg5 x3) (load arg6 harg6 x4) r d)
theorem out8_b (h0 : ¬cond0_0 i) (d : Fin 1024) : out0_B_8 (F := Ideal) c i arg2 harg2 arg3 harg3 arg4 harg4 arg5 harg5 arg6 harg6 arg7 harg7 arg8 harg8 arg9 harg9 arg10 harg10 h0 x0 x1 x2 x3 x4 xo5 xo8 (ix2 0 d) = xo8 (ix2 0 d) + ∑ r : Fin 512, down (tk x0 x1 x2 r) (wr x4) (tr x3 r) d * (tk x0 x1 x2 r d * rs (tk x0 x1 x2 r)) := by
  unfold out0_B_8 kernelRun0_B
  dsimp only
  sl_unfold_words
  exact (read_last VO0_8 _ inb_S1x1024_S1x1024_0_0 _ _ (ix2 0 d)).trans (dw_of (load arg2 harg2 x0) (load arg3 harg3 x1) (load arg4 harg4 x2) (load arg5 harg5 x3) (load arg6 harg6 x4) (load arg10 harg10 xo8) d)
end cases

/-- Token `r` of block `b`, the point of a token, and the last point. -/
def tokAt (b : ℕ) (r : Fin 512) : Fin 8192 := ⟨b % 16 * 512 + r.val, by omega⟩
def pointOf (n : Fin 8192) : Fin cfg0.N := ⟨n.val / 512, by have hN : cfg0.N = 16 := N_0; omega⟩
def lastPt : Fin cfg0.N := ⟨15, by have hN : cfg0.N = 16 := N_0; omega⟩

theorem ix_0 : ∀ t : Fin grid0.N, win0_0.index t 0 = t.val % 16 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val % 16 ∧ win0_2.index t 1 = 0 := by decide +kernel
theorem ix_3 : ∀ t : Fin grid0.N, win0_3.index t 0 = t.val % 16 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val % 16 ∧ win0_6.index t 1 = 0 := by decide +kernel
theorem ix_7 : ∀ t : Fin grid0.N, win0_7.index t 0 = t.val % 16 ∧ win0_7.index t 1 = 0 := by decide +kernel
theorem ix_8 : ∀ t : Fin grid0.N, win0_8.index t 0 = 0 ∧ win0_8.index t 1 = 0 := by decide +kernel
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)
theorem flush_5 : (cfg0.win 5).flush lastPt = true := (by decide +kernel : ∀ t : Fin grid0.N, t.val = 15 → win0_5.flush t = true) lastPt rfl
theorem last_of_flush_5 : ∀ t : Fin cfg0.N, (cfg0.win 5).flush t = true → t.val = 15 :=
  (by decide +kernel : ∀ t : Fin grid0.N, win0_5.flush t = true → t.val = 15)
theorem flush_8 : (cfg0.win 8).flush lastPt = true := (by decide +kernel : ∀ t : Fin grid0.N, t.val = 15 → win0_8.flush t = true) lastPt rfl
theorem last_of_flush_8 : ∀ t : Fin cfg0.N, (cfg0.win 8).flush t = true → t.val = 15 :=
  (by decide +kernel : ∀ t : Fin grid0.N, win0_8.flush t = true → t.val = 15)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (e : Fin 2816) :
    ((cfg0.win 0).blk t).view.read (Elt Ideal) (W (Pipeline.arrRef spec0 0)) (ix2 r e) = W main_v0 (ix2 (tokAt t.val r) e) := by
  rw [View.read_apply]
  refine congrArg (W main_v0) (funext fun a => Fin.ext ?_)
  match a with
  | ⟨0, _⟩ => show win0_0.index t 0 * 512 + 1 * r.val = t.val % 16 * 512 + r.val; rw [(ix_0 t).1]; omega
  | ⟨1, _⟩ => show win0_0.index t 1 * 2816 + 1 * e.val = e.val; rw [(ix_0 t).2]; omega
theorem read_1 (W : (b : Ref sig .tc) → Buf (Elt Ideal) ((c : Thread nD τ).loc b)) (e : Fin 2816) (d : Fin 1024) :
    ((cfg0.win 1).blk t).view.read (Elt Ideal) (W (Pipeline.arrRef spec0 1)) (ix2 e d) = W main_v1 (ix2 e d) := by
  rw [View.read_apply]
  refine congrArg (W main_v1) (funext fun a => Fin.ext ?_)
  match a with
  | ⟨0, _⟩ => show win0_1.index t 0 * 2816 + 1 * e.val = e.val; rw [(ix_1 t).1]; omega
  | ⟨1, _⟩ => show win0_1.index t 1 * 1024 + 1 * d.val = d.val; rw [(ix_1 t).2]; omega
theorem read_2 (W : (b : Ref sig .tc) → Buf (Elt Ideal) ((c : Thread nD τ).loc b)) (r : Fin 512) (d : Fin 1024) :
    ((cfg0.win 2).blk t).view.read (Elt Ideal) (W (Pipeline.arrRef spec0 2)) (ix2 r d) = W main_arg0 (ix2 (tokAt t.val r) d) := by
  rw [View.read_apply]
  refine congrArg (W main_arg0) (funext fun a => Fin.ext ?_)
  match a with
  | ⟨0, _⟩ => show win0_2.index t 0 * 512 + 1 * r.val = t.val % 16 * 512 + r.val; rw [(ix_2 t).1]; omega
  | ⟨1, _⟩ => show win0_2.index t 1 * 1024 + 1 * d.val = d.val; rw [(ix_2 t).2]; omega
theorem read_3 (W : (b : Ref sig .tc) → Buf (Elt Ideal) ((c : Thread nD τ).loc b)) (r : Fin 512) (d : Fin 1024) :
    ((cfg0.win 3).blk t).view.read (Elt Ideal) (W (Pipeline.arrRef spec0 3)) (ix2 r d) = W main_arg4 (ix2 (tokAt t.val r) d) := by
  rw [View.read_apply]
  refine congrArg (W main_arg4) (funext fun a => Fin.ext ?_)
  match a with
  | ⟨0, _⟩ => show win0_3.index t 0 * 512 + 1 * r.val = t.val % 16 * 512 + r.val; rw [(ix_3 t).1]; omega
  | ⟨1, _⟩ => show win0_3.index t 1 * 1024 + 1 * d.val = d.val; rw [(ix_3 t).2]; omega
theorem read_4 (W : (b : Ref sig .tc) → Buf (Elt Ideal) ((c : Thread nD τ).loc b)) (z : Fin 1) (d : Fin 1024) :
    ((cfg0.win 4).blk t).view.read (Elt Ideal) (W (Pipeline.arrRef spec0 4)) (ix2 z d) = W main_v2 (ix2 z d) := by
  rw [View.read_apply]
  refine congrArg (W main_v2) (funext fun a => Fin.ext ?_)
  match a with
  | ⟨0, _⟩ => show win0_4.index t 0 * 1 + 1 * z.val = z.val; rw [(ix_4 t).1]; omega
  | ⟨1, _⟩ => show win0_4.index t 1 * 1024 + 1 * d.val = d.val; rw [(ix_4 t).2]; omega
theorem cover_6 (x : S8192x1024.Idx) : ∃ t : Fin cfg0.N, (cfg0.win 6).flush t = true ∧ x ∈ ((View.whole main_v3_1).slice (win0_6.rect t)).set := by
  obtain ⟨n, d, rfl⟩ := pair (a := 8192) (b := 1024) x
  refine ⟨pointOf n, flush_6 _, ?_⟩
  rw [View.set_slice_whole, Rect.mem_set_unit]
  have hp : (pointOf n).val = n.val / 512 := rfl
  have hn := n.isLt
  have hd := d.isLt
  have e0 := ix_6 (pointOf n)
  intro a
  match a with
  | ⟨0, _⟩ => show win0_6.index (pointOf n) 0 * 512 ≤ n.val ∧ n.val < win0_6.index (pointOf n) 0 * 512 + 512; rw [e0.1]; omega
  | ⟨1, _⟩ => show win0_6.index (pointOf n) 1 * 1024 ≤ d.val ∧ d.val < win0_6.index (pointOf n) 1 * 1024 + 1024; rw [e0.2]; omega
theorem cover_7 (x : S8192x1024.Idx) : ∃ t : Fin cfg0.N, (cfg0.win 7).flush t = true ∧ x ∈ ((View.whole main_v3_2).slice (win0_7.rect t)).set := by
  obtain ⟨n, d, rfl⟩ := pair (a := 8192) (b := 1024) x
  refine ⟨pointOf n, flush_7 _, ?_⟩
  rw [View.set_slice_whole, Rect.mem_set_unit]
  have hp : (pointOf n).val = n.val / 512 := rfl
  have hn := n.isLt
  have hd := d.isLt
  have e0 := ix_7 (pointOf n)
  intro a
  match a with
  | ⟨0, _⟩ => show win0_7.index (pointOf n) 0 * 512 ≤ n.val ∧ n.val < win0_7.index (pointOf n) 0 * 512 + 512; rw [e0.1]; omega
  | ⟨1, _⟩ => show win0_7.index (pointOf n) 1 * 1024 ≤ d.val ∧ d.val < win0_7.index (pointOf n) 1 * 1024 + 1024; rw [e0.2]; omega
theorem cover_5 (x : S1x1.Idx) : ∃ t : Fin cfg0.N, (cfg0.win 5).flush t = true ∧ x ∈ ((View.whole main_v3_0).slice (win0_5.rect t)).set := by
  obtain ⟨z, o, rfl⟩ := pair (a := 1) (b := 1) x
  refine ⟨lastPt, flush_5, ?_⟩
  rw [View.set_slice_whole, Rect.mem_set_unit]
  have hp : (lastPt).val = 15 := rfl
  have hz := z.isLt
  have ho := o.isLt
  have e0 := ix_5 (lastPt)
  intro a
  match a with
  | ⟨0, _⟩ => show win0_5.index (lastPt) 0 * 1 ≤ z.val ∧ z.val < win0_5.index (lastPt) 0 * 1 + 1; rw [e0.1]; omega
  | ⟨1, _⟩ => show win0_5.index (lastPt) 1 * 1 ≤ o.val ∧ o.val < win0_5.index (lastPt) 1 * 1 + 1; rw [e0.2]; omega
theorem cover_8 (x : S1x1024.Idx) : ∃ t : Fin cfg0.N, (cfg0.win 8).flush t = true ∧ x ∈ ((View.whole main_v3_3).slice (win0_8.rect t)).set := by
  obtain ⟨z, d, rfl⟩ := pair (a := 1) (b := 1024) x
  refine ⟨lastPt, flush_8, ?_⟩
  rw [View.set_slice_whole, Rect.mem_set_unit]
  have hp : (lastPt).val = 15 := rfl
  have hz := z.isLt
  have hd := d.isLt
  have e0 := ix_8 (lastPt)
  intro a
  match a with
  | ⟨0, _⟩ => show win0_8.index (lastPt) 0 * 1 ≤ z.val ∧ z.val < win0_8.index (lastPt) 0 * 1 + 1; rw [e0.1]; omega
  | ⟨1, _⟩ => show win0_8.index (lastPt) 1 * 1024 ≤ d.val ∧ d.val < win0_8.index (lastPt) 1 * 1024 + 1024; rw [e0.2]; omega

omit t in
theorem final_6 (O : Fin cfg0.N → Vec Ideal S512x1024 .f32) (ho : ∀ t : Fin cfg0.N, (dats m 0 c).after 6 t = O t) (G : Fin 8192 → Fin 1024 → EReal)
    (h : ∀ (t : Fin cfg0.N) (r : Fin 512) (d : Fin 1024), O t (ix2 r d) = G (tokAt t.val r) (d)) :
    (dats m 0 c).arrAt 6 cfg0.N = fun x : S8192x1024.Idx => G (x 0) (x 1) := by
  refine (dats m 0 c).arrAt_eq_of_cover 6 (fun x : S8192x1024.Idx => G (x 0) (x 1)) (fun t ht => ?_) (fun x => cover_6 x)
  show (cfg0.win 6).cut (grid0.coords t) ((dats m 0 c).after 6 t) = _
  rw [ho]
  funext y
  rw [View.read_apply]
  obtain ⟨r, d, rfl⟩ := pair (a := 512) (b := 1024) y
  refine (h t r d).trans (congrArg₂ G (Fin.ext ?_) (Fin.ext ?_))
  · show t.val % 16 * 512 + r.val = win0_6.index t 0 * 512 + 1 * r.val; rw [(ix_6 t).1]; omega
  · show d.val = win0_6.index t 1 * 1024 + 1 * d.val; rw [(ix_6 t).2]; omega

omit t in
theorem final_7 (O : Fin cfg0.N → Vec Ideal S512x1024 .bf16) (ho : ∀ t : Fin cfg0.N, (dats m 0 c).after 7 t = O t) (G : Fin 8192 → Fin 1024 → EReal)
    (h : ∀ (t : Fin cfg0.N) (r : Fin 512) (d : Fin 1024), O t (ix2 r d) = G (tokAt t.val r) (d)) :
    (dats m 0 c).arrAt 7 cfg0.N = fun x : S8192x1024.Idx => G (x 0) (x 1) := by
  refine (dats m 0 c).arrAt_eq_of_cover 7 (fun x : S8192x1024.Idx => G (x 0) (x 1)) (fun t ht => ?_) (fun x => cover_7 x)
  show (cfg0.win 7).cut (grid0.coords t) ((dats m 0 c).after 7 t) = _
  rw [ho]
  funext y
  rw [View.read_apply]
  obtain ⟨r, d, rfl⟩ := pair (a := 512) (b := 1024) y
  refine (h t r d).trans (congrArg₂ G (Fin.ext ?_) (Fin.ext ?_))
  · show t.val % 16 * 512 + r.val = win0_7.index t 0 * 512 + 1 * r.val; rw [(ix_7 t).1]; omega
  · show d.val = win0_7.index t 1 * 1024 + 1 * d.val; rw [(ix_7 t).2]; omega

omit t in
theorem final_5 (O : Fin cfg0.N → Vec Ideal S1x1 .f32) (ho : ∀ t : Fin cfg0.N, (dats m 0 c).after 5 t = O t) (G : Fin 1 → Fin 1 → EReal)
    (h : ∀ (t : Fin cfg0.N) (hf : (cfg0.win 5).flush t = true) (z : Fin 1) (o : Fin 1), O t (ix2 z o) = G (z) (o)) :
    (dats m 0 c).arrAt 5 cfg0.N = fun x : S1x1.Idx => G (x 0) (x 1) := by
  refine (dats m 0 c).arrAt_eq_of_cover 5 (fun x : S1x1.Idx => G (x 0) (x 1)) (fun t ht => ?_) (fun x => cover_5 x)
  show (cfg0.win 5).cut (grid0.coords t) ((dats m 0 c).after 5 t) = _
  rw [ho]
  funext y
  rw [View.read_apply]
  obtain ⟨z, o, rfl⟩ := pair (a := 1) (b := 1) y
  refine (h t ht z o).trans (congrArg₂ G (Fin.ext ?_) (Fin.ext ?_))
  · show z.val = win0_5.index t 0 * 1 + 1 * z.val; rw [(ix_5 t).1]; omega
  · show o.val = win0_5.index t 1 * 1 + 1 * o.val; rw [(ix_5 t).2]; omega

omit t in
theorem final_8 (O : Fin cfg0.N → Vec Ideal S1x1024 .f32) (ho : ∀ t : Fin cfg0.N, (dats m 0 c).after 8 t = O t) (G : Fin 1 → Fin 1024 → EReal)
    (h : ∀ (t : Fin cfg0.N) (hf : (cfg0.win 8).flush t = true) (z : Fin 1) (d : Fin 1024), O t (ix2 z d) = G (z) (d)) :
    (dats m 0 c).arrAt 8 cfg0.N = fun x : S1x1024.Idx => G (x 0) (x 1) := by
  refine (dats m 0 c).arrAt_eq_of_cover 8 (fun x : S1x1024.Idx => G (x 0) (x 1)) (fun t ht => ?_) (fun x => cover_8 x)
  show (cfg0.win 8).cut (grid0.coords t) ((dats m 0 c).after 8 t) = _
  rw [ho]
  funext y
  rw [View.read_apply]
  obtain ⟨z, d, rfl⟩ := pair (a := 1) (b := 1024) y
  refine (h t ht z d).trans (congrArg₂ G (Fin.ext ?_) (Fin.ext ?_))
  · show z.val = win0_8.index t 0 * 1 + 1 * z.val; rw [(ix_8 t).1]; omega
  · show d.val = win0_8.index t 1 * 1024 + 1 * d.val; rw [(ix_8 t).2]; omega

/-- The residual, the activations, the weight, the norm's weight and the target. -/
abbrev argX : FVec Ideal S8192x1024 .f32 := m (c, Proc.tc.devRef main_arg0)
abbrev argA : FVec Ideal S8192x2816 .f32 := m (c, Proc.tc.devRef main_arg1)
abbrev argK : FVec Ideal S2816x1024 .f32 := m (c, Proc.tc.devRef main_arg2)
abbrev argN : FVec Ideal S1024 .f32 := m (c, Proc.tc.devRef main_arg3)
abbrev argT : FVec Ideal S8192x1024 .f32 := m (c, Proc.tc.devRef main_arg4)

theorem in_0 (n : Fin 8192) (e : Fin 2816) : V m c main_v0 (ix2 n e) = argA m c (ix2 n e) := by
  unfold V
  after_reads_at
theorem in_1 (e : Fin 2816) (d : Fin 1024) : V m c main_v1 (ix2 e d) = argK m c (ix2 e d) := by
  unfold V
  after_reads_at
theorem in_2 (n : Fin 8192) (d : Fin 1024) : V m c main_arg0 (ix2 n d) = argX m c (ix2 n d) := by
  unfold V
  after_reads_at
theorem in_3 (n : Fin 8192) (d : Fin 1024) : V m c main_arg4 (ix2 n d) = argT m c (ix2 n d) := by
  unfold V
  after_reads_at
theorem in_4 (d : Fin 1024) : V m c main_v2 (ix2 0 d) = argN m c (ix1 d) := by
  unfold V
  after_reads_at

/-- A token, the norm's weight and a row of the target. -/
def T (X : FVec Ideal S8192x1024 .f32) (A : FVec Ideal S8192x2816 .f32) (K : FVec Ideal S2816x1024 .f32) (n : Fin 8192) : Fin 1024 → EReal := fun d =>
  (∑ e : Fin 2816, A (ix2 n e) * K (ix2 e d)) + X (ix2 n d)
def W (N : FVec Ideal S1024 .f32) : Fin 1024 → EReal := fun d => N (ix1 d)
def Y (U : FVec Ideal S8192x1024 .f32) (n : Fin 8192) : Fin 1024 → EReal := fun d => U (ix2 n d)

/-- A grid point's blocks. -/
abbrev blk0 : Vec Ideal S512x2816 .bf16 := iblk m c 0 t
abbrev blk1 : Vec Ideal S2816x1024 .bf16 := iblk m c 1 t
abbrev blk2 : Vec Ideal S512x1024 .f32 := iblk m c 2 t
abbrev blk3 : Vec Ideal S512x1024 .f32 := iblk m c 3 t
abbrev blk4 : Vec Ideal S1x1024 .f32 := iblk m c 4 t

theorem t_block (r : Fin 512) : tk (blk0 m c t) (blk1 m c t) (blk2 m c t) r = T (argX m c) (argA m c) (argK m c) (tokAt t.val r) :=
  funext fun d => congrArg₂ (· + ·)
    (Finset.sum_congr rfl fun e _ => congrArg₂ (· * ·) ((read_0 c t (V m c) r e).trans (in_0 m c _ e)) ((read_1 c t (V m c) e d).trans (in_1 m c e d)))
    ((read_2 c t (V m c) r d).trans (in_2 m c _ d))
theorem y_block (r : Fin 512) : tr (blk3 m c t) r = Y (argT m c) (tokAt t.val r) := funext fun d => (read_3 c t (V m c) r d).trans (in_3 m c _ d)
theorem w_block : wr (blk4 m c t) = W (argN m c) := funext fun d => (read_4 c t (V m c) 0 d).trans (in_4 m c d)

/-- A row of the gradient of the tokens; a row's mean; a block's part of the loss; a row's term of an entry of the
    gradient of the norm's weight, a block's part of it, and the entry. -/
def dxs (n : Fin 8192) : Fin 1024 → EReal := bk (T (argX m c) (argA m c) (argK m c) n) (W (argN m c)) (Y (argT m c) n)
def means (n : Fin 8192) : EReal := mean (T (argX m c) (argA m c) (argK m c) n) (W (argN m c)) (Y (argT m c) n)
def lpart (b : ℕ) : EReal := Ideal.ofBits .f32 0x3F000000#32 * ∑ r : Fin 512, means m c (tokAt b r)
def loss : EReal := ∑ b ∈ Finset.range 16, lpart m c b
def term (n : Fin 8192) (d : Fin 1024) : EReal := down (T (argX m c) (argA m c) (argK m c) n) (W (argN m c)) (Y (argT m c) n) d
  * (T (argX m c) (argA m c) (argK m c) n d * rs (T (argX m c) (argA m c) (argK m c) n))
def part (b : ℕ) (d : Fin 1024) : EReal := ∑ r : Fin 512, term m c (tokAt b r) d
def grad (d : Fin 1024) : EReal := ∑ n : Fin 8192, term m c n d

omit m c t in
theorem over_blocks {M : Type} [AddCommMonoid M] (f : Fin 8192 → M) : ∑ b ∈ Finset.range 16, ∑ r : Fin 512, f (tokAt b r) = ∑ n : Fin 8192, f n := by
  rw [Finset.sum_range]
  refine Eq.trans ?_ (sum_blocks 16 512 8192 rfl f)
  refine Finset.sum_congr rfl fun b _ => Finset.sum_congr rfl fun r _ => congrArg f ?_
  exact Fin.ext (by show b.val % 16 * 512 + r.val = b.val * 512 + r.val; omega)
omit t in
theorem parts (d : Fin 1024) : ∑ b ∈ Finset.range 16, part m c b d = grad m c d := over_blocks fun n => term m c n d

theorem dx_block (r : Fin 512) (d : Fin 1024) : bk (tk (blk0 m c t) (blk1 m c t) (blk2 m c t) r) (wr (blk4 m c t)) (tr (blk3 m c t) r) d = dxs m c (tokAt t.val r) d := by
  unfold dxs
  rw [t_block, w_block, y_block]
theorem loss_block : Ideal.ofBits .f32 0x3F000000#32 * ∑ r : Fin 512, mean (tk (blk0 m c t) (blk1 m c t) (blk2 m c t) r) (wr (blk4 m c t)) (tr (blk3 m c t) r) = lpart m c t.val :=
  congrArg (Ideal.ofBits .f32 0x3F000000#32 * ·) (Finset.sum_congr rfl fun r _ => by
    unfold means
    rw [t_block, w_block, y_block])
theorem part_block (d : Fin 1024) : ∑ r : Fin 512, down (tk (blk0 m c t) (blk1 m c t) (blk2 m c t) r) (wr (blk4 m c t)) (tr (blk3 m c t) r) d
      * (tk (blk0 m c t) (blk1 m c t) (blk2 m c t) r d * rs (tk (blk0 m c t) (blk1 m c t) (blk2 m c t) r)) = part m c t.val d :=
  Finset.sum_congr rfl fun r _ => by
    unfold term
    rw [t_block, w_block, y_block]

theorem left6 (r : Fin 512) (d : Fin 1024) : (outsAt0 m c t.val t.isLt).2.1 (ix2 r d) = dxs m c (tokAt t.val r) d := by
  by_cases h0 : t.val % 16 = 0
  · rw [outsAt0_A m c t h0]
    dsimp only
    rw [out6_a]
    exact dx_block m c t r d
  · rw [outsAt0_B m c t h0]
    dsimp only
    rw [out6_b]
    exact dx_block m c t r d
theorem left7 (r : Fin 512) (d : Fin 1024) : (outsAt0 m c t.val t.isLt).2.2.1 (ix2 r d) = dxs m c (tokAt t.val r) d := by
  by_cases h0 : t.val % 16 = 0
  · rw [outsAt0_A m c t h0]
    dsimp only
    rw [out7_a]
    exact dx_block m c t r d
  · rw [outsAt0_B m c t h0]
    dsimp only
    rw [out7_b]
    exact dx_block m c t r d
theorem left5_a (h0 : t.val % 16 = 0) : (outsAt0 m c t.val t.isLt).1 (ix2 0 0) = lpart m c t.val := by
  rw [outsAt0_A m c t h0]
  dsimp only
  rw [out5_a]
  exact loss_block m c t
theorem left5_b (h0 : ¬t.val % 16 = 0) : (outsAt0 m c t.val t.isLt).1 (ix2 0 0)
    = (outsAt0 m c (t.val - 1) (Nat.lt_of_le_of_lt (Nat.sub_le _ _) t.isLt)).1 (ix2 0 0) + lpart m c t.val := by
  rw [outsAt0_B m c t h0]
  dsimp only
  rw [out5_b]
  exact congrArg _ (loss_block m c t)

omit t in
theorem sums5 : ∀ (n : ℕ) (hn : n < cfg0.N), (outsAt0 m c n hn).1 (ix2 0 0) = ∑ b ∈ Finset.range (n + 1), lpart m c b := by
  intro n
  induction n with
  | zero =>
    intro hn
    refine (left5_a m c ⟨0, hn⟩ rfl).trans ?_
    show lpart m c 0 = ∑ b ∈ Finset.range 1, lpart m c b
    rw [Finset.sum_range_one]
  | succ n ih =>
    intro hn
    have hN : cfg0.N = 16 := N_0
    have h0 : ¬(n + 1) % 16 = 0 := by omega
    refine (left5_b m c ⟨n + 1, hn⟩ h0).trans ?_
    rw [Finset.sum_range_succ]
    exact congrArg (· + lpart m c (n + 1)) (ih (Nat.lt_of_succ_lt hn))

theorem left8_a (h0 : t.val % 16 = 0) (d : Fin 1024) : (outsAt0 m c t.val t.isLt).2.2.2 (ix2 0 d) = part m c t.val d := by
  rw [outsAt0_A m c t h0]
  dsimp only
  rw [out8_a]
  exact part_block m c t d
theorem left8_b (h0 : ¬t.val % 16 = 0) (d : Fin 1024) : (outsAt0 m c t.val t.isLt).2.2.2 (ix2 0 d)
    = (outsAt0 m c (t.val - 1) (Nat.lt_of_le_of_lt (Nat.sub_le _ _) t.isLt)).2.2.2 (ix2 0 d) + part m c t.val d := by
  rw [outsAt0_B m c t h0]
  dsimp only
  rw [out8_b]
  exact congrArg _ (part_block m c t d)

omit t in
theorem sums8 (d : Fin 1024) : ∀ (n : ℕ) (hn : n < cfg0.N), (outsAt0 m c n hn).2.2.2 (ix2 0 d) = ∑ b ∈ Finset.range (n + 1), part m c b d := by
  intro n
  induction n with
  | zero =>
    intro hn
    refine (left8_a m c ⟨0, hn⟩ rfl d).trans ?_
    show part m c 0 d = ∑ b ∈ Finset.range 1, part m c b d
    rw [Finset.sum_range_one]
  | succ n ih =>
    intro hn
    have hN : cfg0.N = 16 := N_0
    have h0 : ¬(n + 1) % 16 = 0 := by omega
    refine (left8_b m c ⟨n + 1, hn⟩ h0 d).trans ?_
    rw [Finset.sum_range_succ]
    exact congrArg (· + part m c (n + 1) d) (ih (Nat.lt_of_succ_lt hn))

omit t in
theorem last_6 : (dats m 0 c).arrAt 6 cfg0.N = fun x : S8192x1024.Idx => dxs m c (x 0) (x 1) :=
  final_6 m c _ (after0_6 m c) (dxs m c) fun t r d => left6 m c t r d
omit t in
theorem last_7 : (dats m 0 c).arrAt 7 cfg0.N = fun x : S8192x1024.Idx => dxs m c (x 0) (x 1) :=
  final_7 m c _ (after0_7 m c) (dxs m c) fun t r d => left7 m c t r d
omit t in
theorem last_5 : (dats m 0 c).arrAt 5 cfg0.N = fun x : S1x1.Idx => (fun (_ _ : Fin 1) => loss m c) (x 0) (x 1) :=
  final_5 m c _ (after0_5 m c) (fun _ _ => loss m c) fun t hf z o => by
    have hz : z = 0 := Subsingleton.elim _ _
    have ho : o = 0 := Subsingleton.elim _ _
    subst hz ho
    refine (sums5 m c t.val t.isLt).trans ?_
    rw [last_of_flush_5 t hf]
    rfl
omit t in
theorem last_8 : (dats m 0 c).arrAt 8 cfg0.N = fun x : S1x1024.Idx => (fun (_ : Fin 1) d => grad m c d) (x 0) (x 1) :=
  final_8 m c _ (after0_8 m c) (fun _ d => grad m c d) fun t hf z d => by
    have hz : z = 0 := Subsingleton.elim _ _
    subst hz
    refine (sums8 m c d t.val t.isLt).trans ?_
    rw [last_of_flush_8 t hf]
    exact parts m c d
end points

/-! ## The reference -/

section ref
open Cert.Reference15Ideal.Read
variable (x0 : FVec Ideal S8192x1024 .f32) (x1 : FVec Ideal S8192x2816 .f32) (x2 : FVec Ideal S2816x1024 .f32) (x3 : FVec Ideal S1024 .f32) (x4 : FVec Ideal S8192x1024 .f32) (n : Fin 8192) (d : Fin 1024)

theorem ref_t : T x0 x1 x2 n = fun d => val_main_v1 (F := Ideal) x0 x1 x2 (ix2 n d) := funext fun d => by
  refine (add_comm _ _).trans ?_
  pointwise [val_main_v1, val_main_v0]
theorem ref_msq (z : Fin 1) : val_main_v8 (F := Ideal) x0 x1 x2 (ix2 n z) = msq (T x0 x1 x2 n) := by
  rw [ref_t]
  unfold msq val_main_v8 val_main_v6 val_main_v4 val_main_v3 val_main_v2
  generalize val_main_v1 (F := Ideal) x0 x1 x2 = p
  pointwise [val_main_v7, val_main_v5, val_main_cst, val_main_cst_0, val_main_cst_1]
theorem ref_rs (z : Fin 1) : val_main_v9 (F := Ideal) x0 x1 x2 (ix2 n z) = rs (T x0 x1 x2 n) := by
  unfold rs
  rw [← ref_msq x0 x1 x2 n z]
  unfold val_main_v9
  generalize val_main_v8 (F := Ideal) x0 x1 x2 = s
  pointwise []
theorem ref_miss : val_main_v18 (F := Ideal) x0 x1 x2 x3 x4 (ix2 n d) = miss (T x0 x1 x2 n) (W x3) (Y x4 n) d := by
  unfold miss W Y
  rw [← ref_rs x0 x1 x2 n 0, ref_t]
  unfold val_main_v18 val_main_v17 val_main_v16 val_main_v15 val_main_v14 val_main_v13
  generalize val_main_v9 (F := Ideal) x0 x1 x2 = q
  generalize val_main_v1 (F := Ideal) x0 x1 x2 = p
  pointwise []
theorem ref_g : val_main_v32 (F := Ideal) x0 x1 x2 x3 x4 (ix2 n d) = down2 (T x0 x1 x2 n) (W x3) (Y x4 n) d := by
  unfold down2
  rw [← ref_miss]
  unfold val_main_v32 val_main_v21
  generalize val_main_v18 (F := Ideal) x0 x1 x2 x3 x4 = p
  pointwise [val_main_v31, val_main_v30, val_main_v29, val_main_v28, val_main_v27, val_main_v20, val_main_cst_3, val_main_cst_8, val_main_cst_9, val_main_cst_10]
theorem ref_g_row : down2 (T x0 x1 x2 n) (W x3) (Y x4 n) = fun d => val_main_v32 (F := Ideal) x0 x1 x2 x3 x4 (ix2 n d) := funext fun d => (ref_g x0 x1 x2 x3 x4 n d).symm
theorem ref_coef (z : Fin 1024) : val_main_v48 (F := Ideal) x0 x1 x2 x3 x4 (ix2 n z) = coef (T x0 x1 x2 n) (down2 (T x0 x1 x2 n) (W x3) (Y x4 n)) (W x3) := by
  unfold coef
  rw [ref_g_row, ← ref_rs x0 x1 x2 n 0, ← ref_msq x0 x1 x2 n 0, ref_t]
  unfold W val_main_v48 val_main_v47 val_main_v46 val_main_v44 val_main_v41 val_main_v40 val_main_v39 val_main_v37 val_main_v36 val_main_v15 val_main_v12 val_main_v10
  generalize val_main_v32 (F := Ideal) x0 x1 x2 x3 x4 = g
  generalize val_main_v9 (F := Ideal) x0 x1 x2 = q
  generalize val_main_v8 (F := Ideal) x0 x1 x2 = s
  generalize val_main_v1 (F := Ideal) x0 x1 x2 = p
  pointwise [val_main_v45, val_main_v11, val_main_cst_2, val_main_cst_13, val_main_cst_14, val_main_cst_15]
  exact Fin.sum_univ_one _
theorem ref_dx : val_main_v52 (F := Ideal) x0 x1 x2 x3 x4 (ix2 n d)
    = chain (T x0 x1 x2 n) (down2 (T x0 x1 x2 n) (W x3) (Y x4 n)) (W x3) (fun _ => 0) d := by
  unfold chain
  rw [add_zero, ← ref_coef x0 x1 x2 x3 x4 n d, ref_g_row, ← ref_rs x0 x1 x2 n 0, ref_t]
  unfold W val_main_v52 val_main_v51 val_main_v50 val_main_v49 val_main_v43 val_main_v42 val_main_v37 val_main_v36 val_main_v15
  generalize val_main_v48 (F := Ideal) x0 x1 x2 x3 x4 = k
  generalize val_main_v32 (F := Ideal) x0 x1 x2 x3 x4 = g
  generalize val_main_v9 (F := Ideal) x0 x1 x2 = q
  generalize val_main_v1 (F := Ideal) x0 x1 x2 = p
  pointwise []
theorem ref_dy : val_main_v54 (F := Ideal) x0 x1 x2 x3 x4 (ix2 n d) = val_main_v52 (F := Ideal) x0 x1 x2 x3 x4 (ix2 n d) := by
  unfold val_main_v54
  generalize val_main_v52 (F := Ideal) x0 x1 x2 x3 x4 = p
  pointwise []
theorem ref_dw (z : Fin 1) : val_main_v55 (F := Ideal) x0 x1 x2 x3 x4 (ix2 z d)
    = ∑ n : Fin 8192, T x0 x1 x2 n d * rs (T x0 x1 x2 n) * down2 (T x0 x1 x2 n) (W x3) (Y x4 n) d := by
  have h : ∀ n : Fin 8192, T x0 x1 x2 n d * rs (T x0 x1 x2 n) * down2 (T x0 x1 x2 n) (W x3) (Y x4 n) d
      = val_main_v1 (F := Ideal) x0 x1 x2 (ix2 n d) * val_main_v9 (F := Ideal) x0 x1 x2 (ix2 n 0) * val_main_v32 (F := Ideal) x0 x1 x2 x3 x4 (ix2 n d) := fun n => by
    rw [ref_g, ref_rs, ref_t]
  rw [Finset.sum_congr rfl fun n _ => h n]
  unfold val_main_v55 val_main_v38 val_main_v35 val_main_v34 val_main_v33 val_main_v14 val_main_v13
  generalize val_main_v32 (F := Ideal) x0 x1 x2 x3 x4 = g
  generalize val_main_v9 (F := Ideal) x0 x1 x2 = q
  generalize val_main_v1 (F := Ideal) x0 x1 x2 = p
  pointwise [val_main_cst_11, val_main_cst_12]
  exact Fin.sum_univ_one _
theorem ref_loss (z o : Fin 1) : val_main_v53 (F := Ideal) x0 x1 x2 x3 x4 (ix2 z o)
    = Ideal.ofBits .f32 0x3F000000#32 * ∑ n : Fin 8192, mean (T x0 x1 x2 n) (W x3) (Y x4 n) := by
  have h : ∀ n : Fin 8192, mean (T x0 x1 x2 n) (W x3) (Y x4 n)
      = Ideal.div (∑ d : Fin 1024, val_main_v18 (F := Ideal) x0 x1 x2 x3 x4 (ix2 n d) * val_main_v18 (F := Ideal) x0 x1 x2 x3 x4 (ix2 n d)) (Ideal.ofBits .f32 0x44800000#32) := fun n => by
    unfold mean
    simp only [ref_miss]
  rw [Finset.sum_congr rfl fun n _ => h n]
  unfold val_main_v53 val_main_v26 val_main_v25 val_main_v24 val_main_v22 val_main_v19
  generalize val_main_v18 (F := Ideal) x0 x1 x2 x3 x4 = p
  pointwise [val_main_v23, val_main_cst_4, val_main_cst_5, val_main_cst_6, val_main_cst_7]
end ref

/-! ## The precondition -/

section pre
variable (x0 : FVec Ideal S8192x1024 .f32) (x1 : FVec Ideal S8192x2816 .f32) (x2 : FVec Ideal S2816x1024 .f32) (x3 : FVec Ideal S1024 .f32) (x4 : FVec Ideal S8192x1024 .f32)

instance : Subsingleton Cert.Pre_finite7.S_.Idx := ⟨fun a b => funext fun i => i.elim0⟩

attribute [local instance] Cert.Pre_finite7.Gen.facts

theorem reals (h : Cert.Pre_finite7.fn (F := Ideal) x0 x1 x2 x3 x4 = fun _ => 1#1) :
    ∃ (x : Fin 8192 → Fin 1024 → ℝ) (a : Fin 8192 → Fin 2816 → ℝ) (k : Fin 2816 → Fin 1024 → ℝ) (w : Fin 1024 → ℝ) (y : Fin 8192 → Fin 1024 → ℝ),
      x0 = mat x ∧ x1 = mat a ∧ x2 = mat k ∧ x3 = row w ∧ x4 = mat y := by
  have h' := congrFun h ix0
  unfold Cert.Pre_finite7.fn Cert.Pre_finite7.fn_part1 at h'
  dsimp only at h'
  obtain ⟨g3, h4⟩ := IntOp.andi_eq_one.1 h'
  obtain ⟨g2, h3⟩ := IntOp.andi_eq_one.1 g3
  obtain ⟨g1, h2⟩ := IntOp.andi_eq_one.1 g2
  obtain ⟨g0, h1⟩ := IntOp.andi_eq_one.1 g1
  obtain ⟨x, e0⟩ := mat_of x0 fun i => Host.reduce_andi_all _ _ _ _ _ g0 i
  obtain ⟨a, e1⟩ := mat_of x1 fun i => Host.reduce_andi_all _ _ _ _ _ h1 i
  obtain ⟨k, e2⟩ := mat_of x2 fun i => Host.reduce_andi_all _ _ _ _ _ h2 i
  obtain ⟨w, e3⟩ := row_of x3 fun i => Host.reduce_andi_all _ _ _ _ _ h3 i
  obtain ⟨y, e4⟩ := mat_of x4 fun i => Host.reduce_andi_all _ _ _ _ _ h4 i
  exact ⟨x, a, k, w, y, e0, e1, e2, e3, e4⟩

theorem real_rows (h : Cert.Pre_finite7.fn (F := Ideal) x0 x1 x2 x3 x4 = fun _ => 1#1) :
    ∃ (v : Fin 8192 → Fin 1024 → ℝ) (w : Fin 1024 → ℝ) (y : Fin 8192 → Fin 1024 → ℝ), (∀ n, T x0 x1 x2 n = fun d => ((v n d : ℝ) : EReal))
      ∧ W x3 = (fun d => ((w d : ℝ) : EReal)) ∧ ∀ n, Y x4 n = fun d => ((y n d : ℝ) : EReal) := by
  obtain ⟨x, a, k, w, y, rfl, rfl, rfl, rfl, rfl⟩ := reals x0 x1 x2 x3 x4 h
  refine ⟨fun n d => (∑ e : Fin 2816, a n e * k e d) + x n d, w, y, fun n => funext fun d => ?_, rfl, fun n => rfl⟩
  unfold T
  simp only [mat_at, ← EReal.coe_mul, ← coe_sum, ← EReal.coe_add]
theorem same_g (h : Cert.Pre_finite7.fn (F := Ideal) x0 x1 x2 x3 x4 = fun _ => 1#1) (n : Fin 8192) :
    down2 (T x0 x1 x2 n) (W x3) (Y x4 n) = down (T x0 x1 x2 n) (W x3) (Y x4 n) := by
  obtain ⟨v, w, y, hv, hw, hy⟩ := real_rows x0 x1 x2 x3 x4 h
  rw [hv, hw, hy]
  exact down2_coe (v n) w (y n)
theorem same_dx (h : Cert.Pre_finite7.fn (F := Ideal) x0 x1 x2 x3 x4 = fun _ => 1#1) (n : Fin 8192) (d : Fin 1024) :
    chain (T x0 x1 x2 n) (down2 (T x0 x1 x2 n) (W x3) (Y x4 n)) (W x3) (fun _ => 0) d = bk (T x0 x1 x2 n) (W x3) (Y x4 n) d := by
  rw [same_g x0 x1 x2 x3 x4 h n]
  obtain ⟨v, w, y, hv, hw, hy⟩ := real_rows x0 x1 x2 x3 x4 h
  unfold bk
  rw [hv, hw, hy, down_coe]
  exact (back_eq (v n) (fun d => (v n d * rrs (v n) * w d - y n d) * (1 / 1024)) w (fun _ => 0) d).symm
theorem same_loss (h : Cert.Pre_finite7.fn (F := Ideal) x0 x1 x2 x3 x4 = fun _ => 1#1) :
    Ideal.ofBits .f32 0x3F000000#32 * ∑ n : Fin 8192, mean (T x0 x1 x2 n) (W x3) (Y x4 n)
      = ∑ b ∈ Finset.range 16, Ideal.ofBits .f32 0x3F000000#32 * ∑ r : Fin 512, mean (T x0 x1 x2 (tokAt b r)) (W x3) (Y x4 (tokAt b r)) := by
  have hl : ∃ l : Fin 8192 → ℝ, ∀ n, mean (T x0 x1 x2 n) (W x3) (Y x4 n) = ((l n : ℝ) : EReal) := by
    obtain ⟨v, w, y, hv, hw, hy⟩ := real_rows x0 x1 x2 x3 x4 h
    refine ⟨fun n => (∑ d : Fin 1024, (v n d * rrs (v n) * w d - y n d) * (v n d * rrs (v n) * w d - y n d)) * (1 / 1024), fun n => ?_⟩
    rw [hv, hw, hy]
    exact mean_coe (v n) w (y n)
  obtain ⟨l, hl⟩ := hl
  simp only [hl, half_bits, ← EReal.coe_mul, ← coe_sum]
  rw [← Finset.mul_sum, over_blocks]
end pre

/-! ## The claims -/

theorem frame_reference : Cert.quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run m ρ)

theorem value : Cert.algebraic_Kernel15Ideal_Reference15Ideal_pre_finite7 := by
  intro m g m' g' hpre hargs
  refine ⟨fun c => fun x : S1x1.Idx => loss m c, fun c => fun x : S8192x1024.Idx => dxs m c (x 0) (x 1), fun c => fun x : S8192x1024.Idx => dxs m c (x 0) (x 1),
    fun c => fun x : S1x1024.Idx => grad m c (x 1), ?_, ?_⟩
  · refine (θ_run Cert.Kernel15Ideal.defs _ _).mono (fun r h c => ?_) (Cert.Kernel15Ideal.Value.run_blocks m g)
    obtain ⟨h5, h6, h7, h8, ha⟩ := h c
    exact ⟨h5.trans (last_5 m c), h6.trans (last_6 m c), h7.trans (last_7 m c), h8.trans (last_8 m c), ha⟩
  · refine (θ_run Cert.Reference15Ideal.defs _ _).mono (fun r h c => ?_) (Cert.Reference15Ideal.Value.run m' g')
    obtain ⟨a0, a1, a2, a3, a4⟩ := hargs c
    obtain ⟨h5, h6, h7, h8, ha⟩ := h c
    have same := same_dx (argX m c) (argA m c) (argK m c) (argN m c) (argT m c) (hpre c)
    refine ⟨h5.trans ?_, h6.trans ?_, h7.trans ?_, h8.trans ?_, ha⟩
    · refine (Cert.Reference15Ideal.Read.val_main_v53_eq _ _ _ _ _).trans ?_
      rw [a0, a1, a2, a3, a4]
      funext x
      obtain ⟨z, o, rfl⟩ := pair (a := 1) (b := 1) x
      exact (ref_loss (argX m c) (argA m c) (argK m c) (argN m c) (argT m c) z o).trans (same_loss (argX m c) (argA m c) (argK m c) (argN m c) (argT m c) (hpre c))
    · refine (Cert.Reference15Ideal.Read.val_main_v52_eq _ _).trans ?_
      rw [a0, a1, a2, a3, a4]
      funext x
      obtain ⟨n, d, rfl⟩ := pair (a := 8192) (b := 1024) x
      exact (ref_dx (argX m c) (argA m c) (argK m c) (argN m c) (argT m c) n d).trans (same n d)
    · refine (Cert.Reference15Ideal.Read.val_main_v54_eq _ _).trans ?_
      rw [a0, a1, a2, a3, a4]
      funext x
      obtain ⟨n, d, rfl⟩ := pair (a := 8192) (b := 1024) x
      exact (ref_dy (argX m c) (argA m c) (argK m c) (argN m c) (argT m c) n d).trans ((ref_dx (argX m c) (argA m c) (argK m c) (argN m c) (argT m c) n d).trans (same n d))
    · refine (Cert.Reference15Ideal.Read.val_main_v55_eq _ _ _ _ _).trans ?_
      rw [a0, a1, a2, a3, a4]
      funext x
      obtain ⟨z, d, rfl⟩ := pair (a := 1) (b := 1024) x
      refine (ref_dw (argX m c) (argA m c) (argK m c) (argN m c) (argT m c) d z).trans ?_
      show _ = grad m c d
      refine Finset.sum_congr rfl fun n _ => ?_
      rw [same_g (argX m c) (argA m c) (argK m c) (argN m c) (argT m c) (hpre c) n]
      exact mul_comm _ _

end Cert.Proof.FfnDown
-- ==== Proof.DwInAtt.lean ====
/-
  The last 768 rows of the gradient of the weight of the input's product, written over an array that holds the first 2560:
  a sum over the tokens, taken 2048 tokens at a time into a scratch that is written out at the last of the four blocks of
  tokens. A grid point is a block of 256 rows and a block of tokens.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Sums
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel16Ideal Cert.Kernel16Ideal.Gen

namespace Cert.Proof.DwInAtt

open Cert.Proof.Sums

theorem zero_at (y : S256x1024.Idx) : k0_pay1 (F := Ideal) y = 0 := by
  pointwise [k0_pay1]
theorem pay_at (z : Vec Ideal S256x1024 .f32) (x : Vec Ideal S2048x256 .bf16) (y : Vec Ideal S2048x1024 .bf16) (f : Fin 256) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x256 .bf16) (harg3 : arg3.IsWhole) (arg4 : Memref sig .tc .vmem S2048x1024 .bf16) (harg4 : arg4.IsWhole) (arg6 : Memref sig .tc .vmem S256x1024 .f32) (harg6 : arg6.IsWhole) (arg7 : Memref sig .tc .vmem S256x1024 .f32) (harg7 : arg7.IsWhole)
  (x0 : Vec Ideal S2048x256 .bf16) (x1 : Vec Ideal S2048x1024 .bf16) (xs : Vec Ideal S256x1024 .f32) (f : Fin 256) (d : Fin 1024)

/-- What the scratch holds after a first, a middle and what is written at a last block of tokens. -/
theorem scratch_a (h0 : cond0_0 i) (h1 : ¬cond0_1 i) : sout0_A_0 (F := Ideal) c i arg3 harg3 arg4 harg4 arg6 harg6 arg7 harg7 h0 h1 x0 x1 (ix2 f d)
    = ∑ r : Fin 2048, x0 (ix2 r f) * x1 (ix2 r d) := by
  unfold sout0_A_0 kernelRun0_A
  dsimp only
  sl_unfold_words
  refine (read_last VS0_0 _ inb_S256x1024_S256x1024_0_0 _ _ (ix2 f d)).trans ((pay_at _ _ _ f d).trans ?_)
  rw [load_last arg7.view inb_S256x1024_S256x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg6 harg6 arg7 harg7 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S256x1024_S256x1024_0_0 _ _ (ix2 f d)).trans ((pay_at _ _ _ f d).trans ?_)
  exact congrArg₂ (· + ·) (congrFun (load arg7 harg7 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg6 harg6 arg7 harg7 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S256x1024_S256x1024_0_0 _ _ (ix2 f d)).trans ?_
  rw [load_last arg7.view inb_S256x1024_S256x1024_0_0]
  refine (pay_at _ _ _ f d).trans ?_
  exact congrArg₂ (· + ·) (congrFun (load arg7 harg7 xs) _)
    (Finset.sum_congr rfl fun r _ => congrArg₂ (· * ·) (congrFun (load arg3 harg3 x0) _) (congrFun (load arg4 harg4 x1) _))
end cases

/-- Token `r` of block `k`, column `f` of a grid point's block among the columns taken, the row it makes, and the point that writes a row. -/
def tokAt (k : ℕ) (r : Fin 2048) : Fin 8192 := ⟨k % 4 * 2048 + r.val, by omega⟩
def colAt (q : ℕ) (f : Fin 256) : Fin 768 := ⟨q % 3 * 256 + f.val, by omega⟩
def rowAt (q : ℕ) (f : Fin 256) : Fin 3328 := ⟨2560 + (q % 3 * 256 + f.val), by omega⟩
def pointOf (f : Fin 3328) : Fin cfg0.N := ⟨4 * ((f.val - 2560) / 256 % 3) + 3, by have hN : cfg0.N = 12 := N_0; omega⟩

theorem ix_0 : ∀ t : Fin grid0.N, win0_0.index t 0 = t.val % 4 ∧ win0_0.index t 1 = t.val / 4 % 3 := by decide +kernel
theorem ix_1 : ∀ t : Fin grid0.N, win0_1.index t 0 = t.val % 4 ∧ win0_1.index t 1 = 0 := by decide +kernel
theorem ix_2 : ∀ t : Fin grid0.N, win0_2.index t 0 = 10 + t.val / 4 % 3 ∧ win0_2.index t 1 = 0 := by decide +kernel
theorem flush_2 : ∀ f : Fin 3328, (cfg0.win 2).flush (pointOf f) = true := fun f =>
  (by decide +kernel : ∀ t : Fin grid0.N, t.val % 4 = 3 → win0_2.flush t = true) (pointOf f) (by show (4 * ((f.val - 2560) / 256 % 3) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 256) :
    ((cfg0.win 0).blk t).view.read (Elt Ideal) (W (Pipeline.arrRef spec0 0)) (ix2 r f) = W main_v1 (ix2 (tokAt t.val r) (colAt (t.val / 4) f)) := by
  rw [View.read_apply]
  refine congrArg (W main_v1) (funext fun a => Fin.ext ?_)
  match a with
  | ⟨0, _⟩ => show win0_0.index t 0 * 2048 + 1 * r.val = t.val % 4 * 2048 + r.val; rw [(ix_0 t).1]; omega
  | ⟨1, _⟩ => show win0_0.index t 1 * 256 + 1 * f.val = t.val / 4 % 3 * 256 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v2 (ix2 (tokAt t.val r) d) := by
  rw [View.read_apply]
  refine congrArg (W main_v2) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (f : Fin 3328) (hf : 2560 ≤ f.val) (d : Fin 1024) : (ix2 f d : S3328x1024.Idx) ∈ ((View.whole main_v3).slice (win0_2.rect (pointOf f))).set := by
  rw [View.set_slice_whole, Rect.mem_set_unit]
  have hp : (pointOf f).val = 4 * ((f.val - 2560) / 256 % 3) + 3 := rfl
  have hf' := f.isLt
  have hd := d.isLt
  have e0 := ix_2 (pointOf f)
  intro a
  match a with
  | ⟨0, _⟩ => show win0_2.index (pointOf f) 0 * 256 ≤ f.val ∧ f.val < win0_2.index (pointOf f) 0 * 256 + 256; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S256x1024 .f32) (ho : ∀ t : Fin cfg0.N, (dats m 0 c).after 2 t = O t) (G : Fin 3328 → Fin 1024 → EReal)
    (h : ∀ (t : Fin cfg0.N) (hf : (cfg0.win 2).flush t = true) (f : Fin 256) (d : Fin 1024), O t (ix2 f d) = G (rowAt (t.val / 4) f) (d))
    (f : Fin 3328) (hf : 2560 ≤ f.val) (d : Fin 1024) : (dats m 0 c).arrAt 2 cfg0.N (ix2 f d) = G f d := by
  refine (dats m 0 c).arrAt_apply_of_mem 2 (fun x : S3328x1024.Idx => G (x 0) (x 1)) (fun t ht => ?_) cfg0.N (pointOf f) (ix2 f d) (pointOf f).isLt (flush_2 f) (cover_2 f hf d)
  show (cfg0.win 2).cut (grid0.coords t) ((dats m 0 c).after 2 t) = _
  rw [ho]
  funext y
  rw [View.read_apply]
  show O t ((cfg0.win 2).xinj (grid0.coords t) y) = _
  have h0 : (y 0).val < 256 := ((cfg0.win 2).xinj (grid0.coords t) y 0).isLt
  have h1 : (y 1).val < 1024 := ((cfg0.win 2).xinj (grid0.coords t) y 1).isLt
  have hy : (cfg0.win 2).xinj (grid0.coords t) y = ix2 (⟨(y 0).val, h0⟩ : Fin 256) (⟨(y 1).val, h1⟩ : Fin 1024) := funext fun a => by fin_cases a <;> rfl
  rw [hy]
  refine (h t ht _ _).trans (congrArg₂ G (Fin.ext ?_) (Fin.ext ?_))
  · show 2560 + (t.val / 4 % 3 * 256 + (y 0).val) = win0_2.index t 0 * 256 + 1 * (y 0).val; rw [(ix_2 t).1]; omega
  · show (y 1).val = win0_2.index t 1 * 1024 + 1 * (y 1).val; rw [(ix_2 t).2]; omega

/-- The gradient of the product, and what the weight multiplied. -/
abbrev argA : FVec Ideal S8192x3328 .f32 := m (c, Proc.tc.devRef main_arg2)
abbrev argG : FVec Ideal S8192x1024 .f32 := m (c, Proc.tc.devRef main_arg0)
/-- What the result holds beforehand. -/
abbrev argR : FVec Ideal S3328x1024 .f32 := m (c, Proc.tc.devRef main_arg3)

theorem in_0 (n : Fin 8192) (q : ℕ) (f : Fin 256) : V m c main_v1 (ix2 n (colAt q f)) = argA m c (ix2 n (rowAt q f)) := by
  unfold V
  after_reads_at
  refine congrArg (argA m c) (funext fun a => Fin.ext ?_)
  match a with
  | ⟨0, _⟩ => show _ = n.val; simp
  | ⟨1, _⟩ => show _ = 2560 + (q % 3 * 256 + f.val); simp [colAt]
theorem in_1 (n : Fin 8192) (d : Fin 1024) : V m c main_v2 (ix2 n d) = argG m c (ix2 n d) := by
  unfold V
  after_reads_at
theorem in_2 (f : Fin 3328) (d : Fin 1024) : V m c main_v3 (ix2 f d) = argR m c (ix2 f d) := by
  unfold V
  after_reads_at
  rfl

omit t in
/-- The rows in front keep what the array held. -/
theorem kept_2 (f : Fin 3328) (hf : f.val < 2560) (d : Fin 1024) : (dats m 0 c).arrAt 2 cfg0.N (ix2 f d) = argR m c (ix2 f d) := by
  refine (Cert.Kernel16Ideal.Value.entry2 m c (ix2 f d) fun t _ h => ?_).trans (in_2 m c f d)
  have h' : (ix2 f d : S3328x1024.Idx) ∈ ((View.whole main_v3).slice (win0_2.rect t)).set := h
  rw [View.set_slice_whole, Rect.mem_set_unit] at h'
  have h0 : win0_2.index t 0 * 256 ≤ f.val := (h' 0).1
  rw [(ix_2 t).1] at h0
  omega

/-- Block `k` of tokens of an entry of the gradient, and the entry. -/
def part (k : ℕ) (f : Fin 3328) (d : Fin 1024) : EReal := ∑ r : Fin 2048, argA m c (ix2 (tokAt k r) f) * argG m c (ix2 (tokAt k r) d)
def grad (f : Fin 3328) (d : Fin 1024) : EReal := ∑ n : Fin 8192, argA m c (ix2 n f) * argG m c (ix2 n d)

omit t in
theorem parts (f : Fin 3328) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of the gradient of the product, and of what the weight multiplied. -/
abbrev blk0 : Vec Ideal S2048x256 .bf16 := iblk m c 0 t
abbrev blk1 : Vec Ideal S2048x1024 .bf16 := iblk m c 1 t

theorem part_block (f : Fin 256) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _ _)) ((read_1 c t (V m c) r d).trans (in_1 m c _ _))

theorem part_mod (k : ℕ) (f : Fin 3328) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 256) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 256) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 256) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 256) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 256) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 (f : Fin 3328) (hf : 2560 ≤ f.val) (d : Fin 1024) : (dats m 0 c).arrAt 2 cfg0.N (ix2 f d) = grad m c f d :=
  final_2 m c _ (after0_2 m c) (grad m c) (fun t hf f d => written m c t (last_of_flush t hf) f d) f hf d
end points

theorem ref_at (x0 : FVec Ideal S8192x1024 .f32) (x2 : FVec Ideal S8192x3328 .f32) (f : Fin 3328) (d : Fin 1024) :
    Cert.Reference16Ideal.Read.val_main_v3 (F := Ideal) x0 x2 (ix2 f d) = ∑ n : Fin 8192, x2 (ix2 n f) * x0 (ix2 n d) := by
  pointwise [Cert.Reference16Ideal.Read.val_main_v3, Cert.Reference16Ideal.Read.val_main_v2, Cert.Reference16Ideal.Read.val_main_v1]

theorem ref_front (x0 : FVec Ideal S8192x1024 .f32) (x2 : FVec Ideal S8192x3328 .f32) (x3 : FVec Ideal S3328x1024 .f32) (f : Fin 3328) (d : Fin 1024) (h : f.val < 2560) :
    Cert.Reference16Ideal.Read.val_main_v6 (F := Ideal) x0 x2 x3 (ix2 f d) = x3 (ix2 f d) := by
  pointwise [Cert.Reference16Ideal.Read.val_main_v6, Cert.Reference16Ideal.Read.val_main_v4]
  exact dif_pos h
theorem ref_back (x0 : FVec Ideal S8192x1024 .f32) (x2 : FVec Ideal S8192x3328 .f32) (x3 : FVec Ideal S3328x1024 .f32) (f : Fin 3328) (d : Fin 1024) (h : 2560 ≤ f.val) :
    Cert.Reference16Ideal.Read.val_main_v6 (F := Ideal) x0 x2 x3 (ix2 f d) = Cert.Reference16Ideal.Read.val_main_v3 (F := Ideal) x0 x2 (ix2 f d) := by
  have h' : ¬f.val < 2560 := by omega
  pointwise [Cert.Reference16Ideal.Read.val_main_v6, Cert.Reference16Ideal.Read.val_main_v5]
  refine (dif_neg h').trans (congrArg (fun e => Cert.Reference16Ideal.Read.val_main_v3 (F := Ideal) x0 x2 (ix2 e d)) (Fin.ext ?_))
  show 2560 + (f.val - 2560) = f.val
  omega

/-! ## The claims -/

theorem frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run m ρ)

theorem value : Cert.algebraic_Kernel16Ideal_Reference16Ideal := by
  intro m g m' g' _ hargs
  refine ⟨fun c => fun x : S3328x1024.Idx => if (x 0).val < 2560 then argR m c x else grad m c (x 0) (x 1), ?_, ?_⟩
  · refine (θ_run Cert.Kernel16Ideal.defs _ _).mono (fun r h c => ?_) (Cert.Kernel16Ideal.Value.run_blocks m g)
    obtain ⟨h2, ha⟩ := h c
    refine ⟨h2.trans ?_, ha⟩
    funext x
    obtain ⟨f, d, rfl⟩ := pair (a := 3328) (b := 1024) x
    by_cases hf : f.val < 2560
    · exact (kept_2 m c f hf d).trans (if_pos hf).symm
    · exact (last_2 m c f (by omega) d).trans (if_neg hf).symm
  · refine (θ_run Cert.Reference16Ideal.defs _ _).mono (fun r h c => ?_) (Cert.Reference16Ideal.Value.run m' g')
    obtain ⟨a0, a1, a2, a3⟩ := hargs c
    obtain ⟨h2, ha⟩ := h c
    refine ⟨h2.trans ?_, ha⟩
    refine (Cert.Reference16Ideal.Read.val_main_v6_eq _ _ _).trans ?_
    rw [a0, a2, a3]
    funext x
    obtain ⟨f, d, rfl⟩ := pair (a := 3328) (b := 1024) x
    by_cases hf : f.val < 2560
    · exact (ref_front _ _ _ f d hf).trans (if_pos hf).symm
    · exact ((ref_back _ _ _ f d (by omega)).trans ((ref_at _ _ f d))).trans (if_neg hf).symm

end Cert.Proof.DwInAtt
-- ==== Proof.DwOutAtt.lean ====
/-
  The last 512 rows of the gradient of the weight of the mixers' product, written over an array that holds the first 512: a
  sum over the tokens, taken 2048 tokens at a time into a scratch that is written out at the last of the four blocks of
  tokens.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Sums
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Kernel17Ideal Cert.Kernel17Ideal.Gen

namespace Cert.Proof.DwOutAtt

open Cert.Proof.Sums

theorem zero_at (y : S512x1024.Idx) : k0_pay1 (F := Ideal) y = 0 := by
  pointwise [k0_pay1]
theorem pay_at (z : Vec Ideal S512x1024 .f32) (x : Vec Ideal S2048x512 .bf16) (y : Vec Ideal S2048x1024 .bf16) (f : Fin 512) (d : Fin 1024) :
    k0_pay2 (F := Ideal) z x y (ix2 f d) = z (ix2 f d) + ∑ r : Fin 2048, x (ix2 r f) * y (ix2 r d) := by
  pointwise [k0_pay2]

section cases
variable (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S512x1024 .f32) (harg6 : arg6.IsWhole) (arg7 : Memref sig .tc .vmem S512x1024 .f32) (harg7 : arg7.IsWhole)
  (x0 : Vec Ideal S2048x512 .bf16) (x1 : Vec Ideal S2048x1024 .bf16) (xs : Vec Ideal S512x1024 .f32) (f : Fin 512) (d : Fin 1024)

/-- What the scratch holds after a first, a middle and what is written at a last block of tokens. -/
theorem scratch_a (h0 : cond0_0 i) (h1 : ¬cond0_1 i) : sout0_A_0 (F := Ideal) c i arg3 harg3 arg4 harg4 arg6 harg6 arg7 harg7 h0 h1 x0 x1 (ix2 f d)
    = ∑ r : Fin 2048, x0 (ix2 r f) * x1 (ix2 r d) := by
  unfold sout0_A_0 kernelRun0_A
  dsimp only
  sl_unfold_words
  refine (read_last VS0_0 _ inb_S512x1024_S512x1024_0_0 _ _ (ix2 f d)).trans ((pay_at _ _ _ f d).trans ?_)
  rw [load_last arg7.view inb_S512x1024_S512x1024_0_0, zero_at, zero_add]
  exact Finset.sum_congr rfl fun r _ => congrArg₂ (· * ·) (congrFun (load arg3 harg3 x0) _) (congrFun (load arg4 harg4 x1) _)
theorem scratch_b (h0 : ¬cond0_0 i) (h1 : ¬cond0_1 i) : sout0_B_0 (F := Ideal) c i arg3 harg3 arg4 harg4 arg6 harg6 arg7 harg7 h0 h1 x0 x1 xs (ix2 f d)
    = xs (ix2 f d) + ∑ r : Fin 2048, x0 (ix2 r f) * x1 (ix2 r d) := by
  unfold sout0_B_0 kernelRun0_B
  dsimp only
  sl_unfold_words
  refine (read_last VS0_0 _ inb_S512x1024_S512x1024_0_0 _ _ (ix2 f d)).trans ((pay_at _ _ _ f d).trans ?_)
  exact congrArg₂ (· + ·) (congrFun (load arg7 harg7 xs) _)
    (Finset.sum_congr rfl fun r _ => congrArg₂ (· * ·) (congrFun (load arg3 harg3 x0) _) (congrFun (load arg4 harg4 x1) _))
theorem out_c (h0 : ¬cond0_0 i) (h1 : cond0_1 i) : out0_C_2 (F := Ideal) c i arg3 harg3 arg4 harg4 arg6 harg6 arg7 harg7 h0 h1 x0 x1 xs (ix2 f d)
    = xs (ix2 f d) + ∑ r : Fin 2048, x0 (ix2 r f) * x1 (ix2 r d) := by
  unfold out0_C_2 kernelRun0_C
  dsimp only
  sl_unfold_words
  refine (read_last VO0_2 _ inb_S512x1024_S512x1024_0_0 _ _ (ix2 f d)).trans ?_
  rw [load_last arg7.view inb_S512x1024_S512x1024_0_0]
  refine (pay_at _ _ _ f d).trans ?_
  exact congrArg₂ (· + ·) (congrFun (load arg7 harg7 xs) _)
    (Finset.sum_congr rfl fun r _ => congrArg₂ (· * ·) (congrFun (load arg3 harg3 x0) _) (congrFun (load arg4 harg4 x1) _))
end cases

/-- Token `r` of block `k`, column `f` of a grid point's block among the columns taken, the row it makes, and the point that writes a row. -/
def tokAt (k : ℕ) (r : Fin 2048) : Fin 8192 := ⟨k % 4 * 2048 + r.val, by omega⟩
def colAt (q : ℕ) (f : Fin 512) : Fin 512 := ⟨q % 1 * 512 + f.val, by omega⟩
def rowAt (q : ℕ) (f : Fin 512) : Fin 1024 := ⟨512 + (q % 1 * 512 + f.val), by omega⟩
def pointOf (f : Fin 1024) : Fin cfg0.N := ⟨4 * ((f.val - 512) / 512 % 1) + 3, by have hN : cfg0.N = 4 := N_0; omega⟩

theorem ix_0 : ∀ t : Fin grid0.N, win0_0.index t 0 = t.val % 4 ∧ win0_0.index t 1 = t.val / 4 % 1 := by decide +kernel
theorem ix_1 : ∀ t : Fin grid0.N, win0_1.index t 0 = t.val % 4 ∧ win0_1.index t 1 = 0 := by decide +kernel
theorem ix_2 : ∀ t : Fin grid0.N, win0_2.index t 0 = 1 + t.val / 4 % 1 ∧ win0_2.index t 1 = 0 := by decide +kernel
theorem flush_2 : ∀ f : Fin 1024, (cfg0.win 2).flush (pointOf f) = true := fun f =>
  (by decide +kernel : ∀ t : Fin grid0.N, t.val % 4 = 3 → win0_2.flush t = true) (pointOf f) (by show (4 * ((f.val - 512) / 512 % 1) + 3) % 4 = 3; omega)
theorem last_of_flush : ∀ t : Fin cfg0.N, (cfg0.win 2).flush t = true → t.val % 4 = 3 :=
  (by decide +kernel : ∀ t : Fin grid0.N, win0_2.flush t = true → t.val % 4 = 3)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 2048) (f : Fin 512) :
    ((cfg0.win 0).blk t).view.read (Elt Ideal) (W (Pipeline.arrRef spec0 0)) (ix2 r f) = W main_v1 (ix2 (tokAt t.val r) (colAt (t.val / 4) f)) := by
  rw [View.read_apply]
  refine congrArg (W main_v1) (funext fun a => Fin.ext ?_)
  match a with
  | ⟨0, _⟩ => show win0_0.index t 0 * 2048 + 1 * r.val = t.val % 4 * 2048 + r.val; rw [(ix_0 t).1]; omega
  | ⟨1, _⟩ => show win0_0.index t 1 * 512 + 1 * f.val = t.val / 4 % 1 * 512 + f.val; rw [(ix_0 t).2]; omega
theorem read_1 (W : (b : Ref sig .tc) → Buf (Elt Ideal) ((c : Thread nD τ).loc b)) (r : Fin 2048) (d : Fin 1024) :
    ((cfg0.win 1).blk t).view.read (Elt Ideal) (W (Pipeline.arrRef spec0 1)) (ix2 r d) = W main_v2 (ix2 (tokAt t.val r) d) := by
  rw [View.read_apply]
  refine congrArg (W main_v2) (funext fun a => Fin.ext ?_)
  match a with
  | ⟨0, _⟩ => show win0_1.index t 0 * 2048 + 1 * r.val = t.val % 4 * 2048 + r.val; rw [(ix_1 t).1]; omega
  | ⟨1, _⟩ => show win0_1.index t 1 * 1024 + 1 * d.val = d.val; rw [(ix_1 t).2]; omega
theorem cover_2 (f : Fin 1024) (hf : 512 ≤ f.val) (d : Fin 1024) : (ix2 f d : S1024x1024.Idx) ∈ ((View.whole main_v3).slice (win0_2.rect (pointOf f))).set := by
  rw [View.set_slice_whole, Rect.mem_set_unit]
  have hp : (pointOf f).val = 4 * ((f.val - 512) / 512 % 1) + 3 := rfl
  have hf' := f.isLt
  have hd := d.isLt
  have e0 := ix_2 (pointOf f)
  intro a
  match a with
  | ⟨0, _⟩ => show win0_2.index (pointOf f) 0 * 512 ≤ f.val ∧ f.val < win0_2.index (pointOf f) 0 * 512 + 512; rw [e0.1]; omega
  | ⟨1, _⟩ => show win0_2.index (pointOf f) 1 * 1024 ≤ d.val ∧ d.val < win0_2.index (pointOf f) 1 * 1024 + 1024; rw [e0.2]; omega

omit t in
theorem final_2 (O : Fin cfg0.N → Vec Ideal S512x1024 .f32) (ho : ∀ t : Fin cfg0.N, (dats m 0 c).after 2 t = O t) (G : Fin 1024 → Fin 1024 → EReal)
    (h : ∀ (t : Fin cfg0.N) (hf : (cfg0.win 2).flush t = true) (f : Fin 512) (d : Fin 1024), O t (ix2 f d) = G (rowAt (t.val / 4) f) (d))
    (f : Fin 1024) (hf : 512 ≤ f.val) (d : Fin 1024) : (dats m 0 c).arrAt 2 cfg0.N (ix2 f d) = G f d := by
  refine (dats m 0 c).arrAt_apply_of_mem 2 (fun x : S1024x1024.Idx => G (x 0) (x 1)) (fun t ht => ?_) cfg0.N (pointOf f) (ix2 f d) (pointOf f).isLt (flush_2 f) (cover_2 f hf d)
  show (cfg0.win 2).cut (grid0.coords t) ((dats m 0 c).after 2 t) = _
  rw [ho]
  funext y
  rw [View.read_apply]
  show O t ((cfg0.win 2).xinj (grid0.coords t) y) = _
  have h0 : (y 0).val < 512 := ((cfg0.win 2).xinj (grid0.coords t) y 0).isLt
  have h1 : (y 1).val < 1024 := ((cfg0.win 2).xinj (grid0.coords t) y 1).isLt
  have hy : (cfg0.win 2).xinj (grid0.coords t) y = ix2 (⟨(y 0).val, h0⟩ : Fin 512) (⟨(y 1).val, h1⟩ : Fin 1024) := funext fun a => by fin_cases a <;> rfl
  rw [hy]
  refine (h t ht _ _).trans (congrArg₂ G (Fin.ext ?_) (Fin.ext ?_))
  · show 512 + (t.val / 4 % 1 * 512 + (y 0).val) = win0_2.index t 0 * 512 + 1 * (y 0).val; rw [(ix_2 t).1]; omega
  · show (y 1).val = win0_2.index t 1 * 1024 + 1 * (y 1).val; rw [(ix_2 t).2]; omega

/-- What the weight multiplied, and the gradient of the product. -/
abbrev argA : FVec Ideal S8192x1024 .f32 := m (c, Proc.tc.devRef main_arg0)
abbrev argG : FVec Ideal S8192x1024 .f32 := m (c, Proc.tc.devRef main_arg2)
/-- What the result holds beforehand. -/
abbrev argR : FVec Ideal S1024x1024 .f32 := m (c, Proc.tc.devRef main_arg3)

theorem in_0 (n : Fin 8192) (q : ℕ) (f : Fin 512) : V m c main_v1 (ix2 n (colAt q f)) = argA m c (ix2 n (rowAt q f)) := by
  unfold V
  after_reads_at
  refine congrArg (argA m c) (funext fun a => Fin.ext ?_)
  match a with
  | ⟨0, _⟩ => show _ = n.val; simp
  | ⟨1, _⟩ => show _ = 512 + (q % 1 * 512 + f.val); simp [colAt]
theorem in_1 (n : Fin 8192) (d : Fin 1024) : V m c main_v2 (ix2 n d) = argG m c (ix2 n d) := by
  unfold V
  after_reads_at
theorem in_2 (f : Fin 1024) (d : Fin 1024) : V m c main_v3 (ix2 f d) = argR m c (ix2 f d) := by
  unfold V
  after_reads_at
  rfl

omit t in
/-- The rows in front keep what the array held. -/
theorem kept_2 (f : Fin 1024) (hf : f.val < 512) (d : Fin 1024) : (dats m 0 c).arrAt 2 cfg0.N (ix2 f d) = argR m c (ix2 f d) := by
  refine (Cert.Kernel17Ideal.Value.entry2 m c (ix2 f d) fun t _ h => ?_).trans (in_2 m c f d)
  have h' : (ix2 f d : S1024x1024.Idx) ∈ ((View.whole main_v3).slice (win0_2.rect t)).set := h
  rw [View.set_slice_whole, Rect.mem_set_unit] at h'
  have h0 : win0_2.index t 0 * 512 ≤ f.val := (h' 0).1
  rw [(ix_2 t).1] at h0
  omega

/-- Block `k` of tokens of an entry of the gradient, and the entry. -/
def part (k : ℕ) (f : Fin 1024) (d : Fin 1024) : EReal := ∑ r : Fin 2048, argA m c (ix2 (tokAt k r) f) * argG m c (ix2 (tokAt k r) d)
def grad (f : Fin 1024) (d : Fin 1024) : EReal := ∑ n : Fin 8192, argA m c (ix2 n f) * argG m c (ix2 n d)

omit t in
theorem parts (f : Fin 1024) (d : Fin 1024) : ∑ k ∈ Finset.range 4, part m c k f d = grad m c f d := by
  rw [Finset.sum_range]
  refine Eq.trans ?_ (sum_blocks 4 2048 8192 rfl fun n : Fin 8192 => argA m c (ix2 n f) * argG m c (ix2 n d))
  refine Finset.sum_congr rfl fun k _ => Finset.sum_congr rfl fun r _ => ?_
  have hk : tokAt k.val r = ⟨k.val * 2048 + r.val, block_lt (by rfl) k r⟩ := Fin.ext (by show k.val % 4 * 2048 + r.val = k.val * 2048 + r.val; omega)
  rw [hk]

/-- A grid point's block of what the weight multiplied, and of the gradient of the product. -/
abbrev blk0 : Vec Ideal S2048x512 .bf16 := iblk m c 0 t
abbrev blk1 : Vec Ideal S2048x1024 .bf16 := iblk m c 1 t

theorem part_block (f : Fin 512) (d : Fin 1024) :
    ∑ r : Fin 2048, blk0 m c t (ix2 r f) * blk1 m c t (ix2 r d) = part m c t.val (rowAt (t.val / 4) f) d :=
  Finset.sum_congr rfl fun r _ => congrArg₂ (· * ·) ((read_0 c t (V m c) r f).trans (in_0 m c _ _ _)) ((read_1 c t (V m c) r d).trans (in_1 m c _ _))

theorem part_mod (k : ℕ) (f : Fin 1024) (d : Fin 1024) : part m c (k % 4) f d = part m c k f d := by
  have h : ∀ r, tokAt (k % 4) r = tokAt k r := fun r => Fin.ext (by show k % 4 % 4 * 2048 + r.val = k % 4 * 2048 + r.val; omega)
  unfold part
  simp only [h]

/-- What a point leaves, over what the point before left. -/
theorem left_a (h0 : t.val % 4 = 0) (h1 : ¬t.val % 4 = 3) (f : Fin 512) (d : Fin 1024) :
    (outsAt0 m c t.val t.isLt).2 (ix2 f d) = part m c t.val (rowAt (t.val / 4) f) d := by
  rw [outsAt0_A m c t h0 h1]
  dsimp only
  rw [scratch_a]
  exact part_block m c t f d
theorem left_b (h0 : ¬t.val % 4 = 0) (h1 : ¬t.val % 4 = 3) (f : Fin 512) (d : Fin 1024) :
    (outsAt0 m c t.val t.isLt).2 (ix2 f d)
      = (outsAt0 m c (t.val - 1) (Nat.lt_of_le_of_lt (Nat.sub_le _ _) t.isLt)).2 (ix2 f d) + part m c t.val (rowAt (t.val / 4) f) d := by
  rw [outsAt0_B m c t h0 h1]
  dsimp only
  rw [scratch_b]
  exact congrArg _ (part_block m c t f d)
theorem left_c (h0 : ¬t.val % 4 = 0) (h1 : t.val % 4 = 3) (f : Fin 512) (d : Fin 1024) :
    (outsAt0 m c t.val t.isLt).1 (ix2 f d)
      = (outsAt0 m c (t.val - 1) (Nat.lt_of_le_of_lt (Nat.sub_le _ _) t.isLt)).2 (ix2 f d) + part m c t.val (rowAt (t.val / 4) f) d := by
  rw [outsAt0_C m c t h0 h1]
  dsimp only
  rw [out_c]
  exact congrArg _ (part_block m c t f d)

omit t in
/-- After a block of tokens that is not the last the scratch holds the blocks so far. -/
theorem scratch (f : Fin 512) (d : Fin 1024) : ∀ (n : ℕ) (hn : n < cfg0.N), n % 4 ≠ 3 →
    (outsAt0 m c n hn).2 (ix2 f d) = ∑ k ∈ Finset.range (n % 4 + 1), part m c k (rowAt (n / 4) f) d := by
  intro n
  induction n with
  | zero =>
    intro hn h3
    refine (left_a m c ⟨0, hn⟩ rfl h3 f d).trans ?_
    show part m c 0 _ d = ∑ k ∈ Finset.range 1, part m c k _ d
    rw [Finset.sum_range_one]
  | succ n ih =>
    intro hn h3
    by_cases h0 : (n + 1) % 4 = 0
    · refine (left_a m c ⟨n + 1, hn⟩ h0 h3 f d).trans ?_
      show part m c (n + 1) _ d = _
      rw [h0, Finset.sum_range_one, ← part_mod m c (n + 1), h0]
    · refine (left_b m c ⟨n + 1, hn⟩ h0 h3 f d).trans ?_
      have e1 : (n + 1) % 4 = n % 4 + 1 := by omega
      have e2 : (n + 1) / 4 = n / 4 := by omega
      have e3 := ih (Nat.lt_of_succ_lt hn) (by omega)
      show (outsAt0 m c n (Nat.lt_of_succ_lt hn)).2 (ix2 f d) + part m c (n + 1) (rowAt ((n + 1) / 4) f) d = _
      rw [e3, ← part_mod m c (n + 1), e1, e2, Finset.sum_range_succ _ (n % 4 + 1)]

/-- The last block of tokens writes the entry. -/
theorem written (h3 : t.val % 4 = 3) (f : Fin 512) (d : Fin 1024) :
    (outsAt0 m c t.val t.isLt).1 (ix2 f d) = grad m c (rowAt (t.val / 4) f) d := by
  have h0 : ¬t.val % 4 = 0 := by omega
  have e1 : (t.val - 1) % 4 + 1 = 3 := by omega
  have e2 : (t.val - 1) / 4 = t.val / 4 := by omega
  refine (left_c m c t h0 h3 f d).trans ?_
  rw [scratch m c f d (t.val - 1) _ (by omega), ← part_mod m c t.val, e1, e2, h3,
    ← Finset.sum_range_succ (fun k => part m c k (rowAt (t.val / 4) f) d) 3]
  exact parts m c _ d

omit t in
theorem last_2 (f : Fin 1024) (hf : 512 ≤ f.val) (d : Fin 1024) : (dats m 0 c).arrAt 2 cfg0.N (ix2 f d) = grad m c f d :=
  final_2 m c _ (after0_2 m c) (grad m c) (fun t hf f d => written m c t (last_of_flush t hf) f d) f hf d
end points

theorem ref_at (x0 : FVec Ideal S8192x1024 .f32) (x2 : FVec Ideal S8192x1024 .f32) (f : Fin 1024) (d : Fin 1024) :
    Cert.Reference17Ideal.Read.val_main_v2 (F := Ideal) x0 x2 (ix2 f d) = ∑ n : Fin 8192, x2 (ix2 n d) * x0 (ix2 n f) := by
  pointwise [Cert.Reference17Ideal.Read.val_main_v2, Cert.Reference17Ideal.Read.val_main_v1]

theorem ref_front (x0 : FVec Ideal S8192x1024 .f32) (x2 : FVec Ideal S8192x1024 .f32) (x3 : FVec Ideal S1024x1024 .f32) (f : Fin 1024) (d : Fin 1024) (h : f.val < 512) :
    Cert.Reference17Ideal.Read.val_main_v5 (F := Ideal) x0 x2 x3 (ix2 f d) = x3 (ix2 f d) := by
  pointwise [Cert.Reference17Ideal.Read.val_main_v5, Cert.Reference17Ideal.Read.val_main_v3]
  exact dif_pos h
theorem ref_back (x0 : FVec Ideal S8192x1024 .f32) (x2 : FVec Ideal S8192x1024 .f32) (x3 : FVec Ideal S1024x1024 .f32) (f : Fin 1024) (d : Fin 1024) (h : 512 ≤ f.val) :
    Cert.Reference17Ideal.Read.val_main_v5 (F := Ideal) x0 x2 x3 (ix2 f d) = Cert.Reference17Ideal.Read.val_main_v2 (F := Ideal) x0 x2 (ix2 f d) := by
  have h' : ¬f.val < 512 := by omega
  pointwise [Cert.Reference17Ideal.Read.val_main_v5, Cert.Reference17Ideal.Read.val_main_v4]
  refine (dif_neg h').trans (congrArg (fun e => Cert.Reference17Ideal.Read.val_main_v2 (F := Ideal) x0 x2 (ix2 e d)) (Fin.ext ?_))
  show 512 + (f.val - 512) = f.val
  omega

/-! ## The claims -/

theorem frame_reference : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run m ρ)

theorem value : Cert.algebraic_Kernel17Ideal_Reference17Ideal := by
  intro m g m' g' _ hargs
  refine ⟨fun c => fun x : S1024x1024.Idx => if (x 0).val < 512 then argR m c x else grad m c (x 0) (x 1), ?_, ?_⟩
  · refine (θ_run Cert.Kernel17Ideal.defs _ _).mono (fun r h c => ?_) (Cert.Kernel17Ideal.Value.run_blocks m g)
    obtain ⟨h2, ha⟩ := h c
    refine ⟨h2.trans ?_, ha⟩
    funext x
    obtain ⟨f, d, rfl⟩ := pair (a := 1024) (b := 1024) x
    by_cases hf : f.val < 512
    · exact (kept_2 m c f hf d).trans (if_pos hf).symm
    · exact (last_2 m c f (by omega) d).trans (if_neg hf).symm
  · refine (θ_run Cert.Reference17Ideal.defs _ _).mono (fun r h c => ?_) (Cert.Reference17Ideal.Value.run m' g')
    obtain ⟨a0, a1, a2, a3⟩ := hargs c
    obtain ⟨h2, ha⟩ := h c
    refine ⟨h2.trans ?_, ha⟩
    refine (Cert.Reference17Ideal.Read.val_main_v5_eq _ _ _).trans ?_
    rw [a0, a2, a3]
    funext x
    obtain ⟨f, d, rfl⟩ := pair (a := 1024) (b := 1024) x
    by_cases hf : f.val < 512
    · exact (ref_front _ _ _ f d hf).trans (if_pos hf).symm
    · exact ((ref_back _ _ _ f d (by omega)).trans ((ref_at _ _ f d).trans (Finset.sum_congr rfl fun n _ => mul_comm _ _))).trans (if_neg hf).symm

end Cert.Proof.DwOutAtt
-- ==== Proof.Adam.lean ====
/-
  One step of the optimiser on one number: the two moments of its gradient, and the number's change.
-/
module

public import proofs.«01_k».proof.Proof.Index

@[expose] public section

noncomputable section

open Idealize.ShloMosaic

namespace Cert.Proof.Adam

/-- The first moment, from the one before it and the gradient. -/
def moment1 (u g : EReal) : EReal := Ideal.ofBits .f32 0x3F666666#32 * u + Ideal.ofBits .f32 0x3DCCCCCD#32 * g
/-- The second moment, from the one before it and the gradient. -/
def moment2 (u g : EReal) : EReal := Ideal.ofBits .f32 0x3F7FBE77#32 * u + Ideal.ofBits .f32 0x3A83126F#32 * (g * g)
/-- The change of a number, from the number and its two moments. -/
def change (w u v : EReal) : EReal :=
  Ideal.ofBits .f32 0xBA83126F#32 * (Ideal.div (Ideal.div u (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

end Cert.Proof.Adam
-- ==== Proof.AdamIn.lean ====
/-
  The optimiser's step on the input projection's weights: the gradient is the sum of its parts, and the step is taken number by number.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel18Ideal Cert.Kernel18Ideal.Gen

namespace Cert.Proof.AdamIn

section pays
variable (p0 p1 p2 p3 : Vec Ideal S1x256x416 .bf16) (w u v : Vec Ideal S256x416 .f32) (r : Fin 256) (f : Fin 416)

theorem sum_at : k0_pay2 (F := Ideal) p0 p1 p2 p3 (ix2 r f) = (((p0 (ix3 0 r f) + p1 (ix3 0 r f)) + p2 (ix3 0 r f)) + p3 (ix3 0 r f)) := by
  pointwise [k0_pay2]
theorem first_at : k0_pay3 (F := Ideal) p0 p1 p2 p3 u (ix2 r f) = moment1 (u (ix2 r f)) (k0_pay2 (F := Ideal) p0 p1 p2 p3 (ix2 r f)) := by
  unfold moment1
  generalize hg : k0_pay2 (F := Ideal) p0 p1 p2 p3 = g
  pointwise [k0_pay3, hg]
theorem second_at : k0_pay4 (F := Ideal) p0 p1 p2 p3 v (ix2 r f) = moment2 (v (ix2 r f)) (k0_pay2 (F := Ideal) p0 p1 p2 p3 (ix2 r f)) := by
  unfold moment2
  generalize hg : k0_pay2 (F := Ideal) p0 p1 p2 p3 = g
  pointwise [k0_pay4, hg]
theorem change_at : k0_pay1 (F := Ideal) w (k0_pay5 p0 p1 p2 p3 u) (k0_pay6 p0 p1 p2 p3 v) (Scalar.ofBits .f32 0x322BCC77#32) (ix2 r f) = change (w (ix2 r f)) (k0_pay3 (F := Ideal) p0 p1 p2 p3 u (ix2 r f)) (k0_pay4 (F := Ideal) p0 p1 p2 p3 v (ix2 r f)) := by
  unfold change
  generalize ha : k0_pay3 (F := Ideal) p0 p1 p2 p3 u = a
  generalize hb : k0_pay4 (F := Ideal) p0 p1 p2 p3 v = b
  pointwise [k0_pay1, k0_pay5, k0_pay6, ha, hb]
end pays

section blocks
variable (x0 : Vec Ideal S4x256x416 .bf16) (x1 x2 x3 : Vec Ideal S256x416 .f32) (r : Fin 256) (f : Fin 416)

theorem part_0 : View.ld x0 r0_0 (ix3 0 r f) = x0 (ix3 0 r f) :=
  View.ld_unit_apply_of x0 ![0, 0, 0] S1x256x416.size _ (ix3 0 r f) (ix3 0 r f) fun a => by
    match a with
    | ⟨0, _⟩ => rfl
    | ⟨1, _⟩ => exact (Nat.zero_add r.val).symm
    | ⟨2, _⟩ => exact (Nat.zero_add f.val).symm
theorem part_1 : View.ld x0 r0_1 (ix3 0 r f) = x0 (ix3 1 r f) :=
  View.ld_unit_apply_of x0 ![1, 0, 0] S1x256x416.size _ (ix3 0 r f) (ix3 1 r f) fun a => by
    match a with
    | ⟨0, _⟩ => rfl
    | ⟨1, _⟩ => exact (Nat.zero_add r.val).symm
    | ⟨2, _⟩ => exact (Nat.zero_add f.val).symm
theorem part_2 : View.ld x0 r0_2 (ix3 0 r f) = x0 (ix3 2 r f) :=
  View.ld_unit_apply_of x0 ![2, 0, 0] S1x256x416.size _ (ix3 0 r f) (ix3 2 r f) fun a => by
    match a with
    | ⟨0, _⟩ => rfl
    | ⟨1, _⟩ => exact (Nat.zero_add r.val).symm
    | ⟨2, _⟩ => exact (Nat.zero_add f.val).symm
theorem part_3 : View.ld x0 r0_3 (ix3 0 r f) = x0 (ix3 3 r f) :=
  View.ld_unit_apply_of x0 ![3, 0, 0] S1x256x416.size _ (ix3 0 r f) (ix3 3 r f) fun a => by
    match a with
    | ⟨0, _⟩ => rfl
    | ⟨1, _⟩ => exact (Nat.zero_add r.val).symm
    | ⟨2, _⟩ => exact (Nat.zero_add f.val).symm
theorem total_at : k0_pay2 (F := Ideal) (View.ld x0 r0_0) (View.ld x0 r0_1) (View.ld x0 r0_2) (View.ld x0 r0_3) (ix2 r f) = ∑ k : Fin 4, x0 (ix3 k r f) := by
  rw [sum_at, part_0, part_1, part_2, part_3]
  exact (Fin.sum_univ_four fun k : Fin 4 => x0 (ix3 k r f)).symm
theorem out4_at : out0_4 (F := Ideal) x0 x1 x2 x3 (ix2 r f) = ∑ k : Fin 4, x0 (ix3 k r f) := by
  unfold out0_4
  rw [View.canon_unit_zero zero2]
  exact total_at x0 r f
theorem out6_at : out0_6 (F := Ideal) x0 x1 x2 x3 (ix2 r f) = moment1 (x2 (ix2 r f)) (∑ k : Fin 4, x0 (ix3 k r f)) := by
  unfold out0_6
  rw [View.canon_unit_zero zero2, View.ld_unit_zero (S := S256x416) zero2]
  exact (first_at (View.ld x0 r0_0) (View.ld x0 r0_1) (View.ld x0 r0_2) (View.ld x0 r0_3) x2 r f).trans (congrArg (moment1 (x2 (ix2 r f))) (total_at x0 r f))
theorem out7_at : out0_7 (F := Ideal) x0 x1 x2 x3 (ix2 r f) = moment2 (x3 (ix2 r f)) (∑ k : Fin 4, x0 (ix3 k r f)) := by
  unfold out0_7
  rw [View.canon_unit_zero zero2, View.ld_unit_zero (S := S256x416) zero2]
  exact (second_at (View.ld x0 r0_0) (View.ld x0 r0_1) (View.ld x0 r0_2) (View.ld x0 r0_3) x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 4, x0 (ix3 k r f))) (moment2 (x3 (ix2 r f)) (∑ k : Fin 4, x0 (ix3 k r f))) := by
  unfold out0_5
  rw [View.canon_unit_zero zero2, View.ld_unit_zero (S := S256x416) zero2, View.ld_unit_zero (S := S256x416) zero2, View.ld_unit_zero (S := S256x416) zero2]
  exact (change_at (View.ld x0 r0_0) (View.ld x0 r0_1) (View.ld x0 r0_2) (View.ld x0 r0_3) x1 x2 x3 r f).trans (congrArg₂ (change (x1 (ix2 r f)))
    ((first_at (View.ld x0 r0_0) (View.ld x0 r0_1) (View.ld x0 r0_2) (View.ld x0 r0_3) x2 r f).trans (congrArg (moment1 (x2 (ix2 r f))) (total_at x0 r f)))
    ((second_at (View.ld x0 r0_0) (View.ld x0 r0_1) (View.ld x0 r0_2) (View.ld x0 r0_3) x3 r f).trans (congrArg (moment2 (x3 (ix2 r f))) (total_at x0 r f))))
end blocks

/-- Row `r` of a grid point's block, and the point of a row. -/
def rowAt (t : Fin cfg0.N) (r : Fin 256) : Fin 1024 := ⟨t.val * 256 + r.val, by have := t.isLt; have hN : cfg0.N = 4 := N_0; omega⟩
def pointOf (n : Fin 1024) : Fin cfg0.N := ⟨n.val / 256, by have hN : cfg0.N = 4 := N_0; omega⟩

theorem ix_0 : ∀ t : Fin grid0.N, win0_0.index t 0 = 0 ∧ win0_0.index t 1 = t.val ∧ win0_0.index t 2 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 4) (r : Fin 256) (f : Fin 416) :
    ((cfg0.win 0).blk t).view.read (Elt Ideal) (W (Pipeline.arrRef spec0 0)) (ix3 k r f) = W main_v0 (ix3 k (rowAt t r) f) := by
  rw [View.read_apply]
  refine congrArg (W main_v0) (funext fun a => Fin.ext ?_)
  match a with
  | ⟨0, _⟩ => show win0_0.index t 0 * 4 + 1 * k.val = k.val; rw [(ix_0 t).1]; omega
  | ⟨1, _⟩ => show win0_0.index t 1 * 256 + 1 * r.val = t.val * 256 + r.val; rw [(ix_0 t).2.1]; omega
  | ⟨2, _⟩ => show win0_0.index t 2 * 416 + 1 * f.val = f.val; rw [(ix_0 t).2.2]; omega

/-- A block of an array with one block per grid point; the arrays in and out are all laid out so. -/
theorem block_4 (A : S1024x416.Idx → EReal) (r : Fin 256) (f : Fin 416) :
    ((cfg0.win 4).blk t).view.read (Elt Ideal) A (ix2 r f) = A (ix2 (rowAt t r) f) := by
  rw [View.read_apply]
  refine congrArg A (funext fun a => Fin.ext ?_)
  match a with
  | ⟨0, _⟩ => show win0_4.index t 0 * 256 + 1 * r.val = t.val * 256 + r.val; rw [(ix_4 t).1]; omega
  | ⟨1, _⟩ => show win0_4.index t 1 * 416 + 1 * f.val = f.val; rw [(ix_4 t).2]; omega
theorem cover_4 (x : S1024x416.Idx) : ∃ t : Fin cfg0.N, (cfg0.win 4).flush t = true ∧ x ∈ ((View.whole main_v1_0).slice (win0_4.rect t)).set := by
  obtain ⟨n, f, rfl⟩ := pair (a := 1024) (b := 416) x
  refine ⟨pointOf n, flush_4 _, ?_⟩
  rw [View.set_slice_whole, Rect.mem_set_unit]
  have hp : (pointOf n).val = n.val / 256 := rfl
  have hn := n.isLt
  have hf := f.isLt
  have e0 := ix_4 (pointOf n)
  intro a
  match a with
  | ⟨0, _⟩ => show win0_4.index (pointOf n) 0 * 256 ≤ n.val ∧ n.val < win0_4.index (pointOf n) 0 * 256 + 256; rw [e0.1]; omega
  | ⟨1, _⟩ => show win0_4.index (pointOf n) 1 * 416 ≤ f.val ∧ f.val < win0_4.index (pointOf n) 1 * 416 + 416; rw [e0.2]; omega

omit t in
theorem final_4 (O : Fin cfg0.N → Vec Ideal S256x416 .f32) (ho : ∀ t : Fin cfg0.N, (dats m 0 c).after 4 t = O t) (G : Fin 1024 → Fin 416 → EReal)
    (h : ∀ (t : Fin cfg0.N) (r : Fin 256) (f : Fin 416), O t (ix2 r f) = G (rowAt t r) f) : (dats m 0 c).arrAt 4 cfg0.N = fun x : S1024x416.Idx => G (x 0) (x 1) := by
  refine (dats m 0 c).arrAt_eq_of_cover 4 (fun x : S1024x416.Idx => G (x 0) (x 1)) (fun t ht => ?_) (fun x => cover_4 x)
  show (cfg0.win 4).cut (grid0.coords t) ((dats m 0 c).after 4 t) = _
  rw [ho]
  funext y
  obtain ⟨r, f, rfl⟩ := pair (a := 256) (b := 416) y
  exact (h t r f).trans (block_4 t (fun x : S1024x416.Idx => G (x 0) (x 1)) r f).symm

omit t in
theorem final_5 (O : Fin cfg0.N → Vec Ideal S256x416 .f32) (ho : ∀ t : Fin cfg0.N, (dats m 0 c).after 5 t = O t) (G : Fin 1024 → Fin 416 → EReal)
    (h : ∀ (t : Fin cfg0.N) (r : Fin 256) (f : Fin 416), O t (ix2 r f) = G (rowAt t r) f) : (dats m 0 c).arrAt 5 cfg0.N = fun x : S1024x416.Idx => G (x 0) (x 1) := by
  refine (dats m 0 c).arrAt_eq_of_cover 5 (fun x : S1024x416.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 256) (b := 416) y
  exact (h t r f).trans (block_4 t (fun x : S1024x416.Idx => G (x 0) (x 1)) r f).symm

omit t in
theorem final_6 (O : Fin cfg0.N → Vec Ideal S256x416 .f32) (ho : ∀ t : Fin cfg0.N, (dats m 0 c).after 6 t = O t) (G : Fin 1024 → Fin 416 → EReal)
    (h : ∀ (t : Fin cfg0.N) (r : Fin 256) (f : Fin 416), O t (ix2 r f) = G (rowAt t r) f) : (dats m 0 c).arrAt 6 cfg0.N = fun x : S1024x416.Idx => G (x 0) (x 1) := by
  refine (dats m 0 c).arrAt_eq_of_cover 6 (fun x : S1024x416.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 256) (b := 416) y
  exact (h t r f).trans (block_4 t (fun x : S1024x416.Idx => G (x 0) (x 1)) r f).symm

omit t in
theorem final_7 (O : Fin cfg0.N → Vec Ideal S256x416 .f32) (ho : ∀ t : Fin cfg0.N, (dats m 0 c).after 7 t = O t) (G : Fin 1024 → Fin 416 → EReal)
    (h : ∀ (t : Fin cfg0.N) (r : Fin 256) (f : Fin 416), O t (ix2 r f) = G (rowAt t r) f) : (dats m 0 c).arrAt 7 cfg0.N = fun x : S1024x416.Idx => G (x 0) (x 1) := by
  refine (dats m 0 c).arrAt_eq_of_cover 7 (fun x : S1024x416.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 256) (b := 416) y
  exact (h t r f).trans (block_4 t (fun x : S1024x416.Idx => G (x 0) (x 1)) r f).symm

/-- The gradient's parts, the weights and the two moments. -/
abbrev argP : FVec Ideal S4x1024x416 .f32 := m (c, Proc.tc.devRef main_arg0)
abbrev argW : FVec Ideal S1024x416 .f32 := m (c, Proc.tc.devRef main_arg1)
abbrev argM : FVec Ideal S1024x416 .f32 := m (c, Proc.tc.devRef main_arg2)
abbrev argV : FVec Ideal S1024x416 .f32 := m (c, Proc.tc.devRef main_arg3)

omit t in
theorem in_0 (k : Fin 4) (n : Fin 1024) (f : Fin 416) : V m c main_v0 (ix3 k n f) = argP m c (ix3 k n f) := by
  unfold V
  after_reads_at

/-- The gradient. -/
def total (n : Fin 1024) (f : Fin 416) : EReal := ∑ k : Fin 4, argP m c (ix3 k n f)
/-- The two moments after the step, and the change. -/
def first (n : Fin 1024) (f : Fin 416) : EReal := moment1 (argM m c (ix2 n f)) (total m c n f)
def second (n : Fin 1024) (f : Fin 416) : EReal := moment2 (argV m c (ix2 n f)) (total m c n f)
def delta (n : Fin 1024) (f : Fin 416) : EReal := change (argW m c (ix2 n f)) (first m c n f) (second m c n f)

/-- A grid point's blocks. -/
abbrev blk0 : Vec Ideal S4x256x416 .bf16 := iblk m c 0 t
abbrev blk1 : Vec Ideal S256x416 .f32 := iblk m c 1 t
abbrev blk2 : Vec Ideal S256x416 .f32 := iblk m c 2 t
abbrev blk3 : Vec Ideal S256x416 .f32 := iblk m c 3 t

theorem total_block (r : Fin 256) (f : Fin 416) : ∑ k : Fin 4, blk0 m c t (ix3 k r f) = total m c (rowAt t r) f :=
  Finset.sum_congr rfl fun k _ => (read_0 c t (V m c) k r f).trans (in_0 m c k _ f)
theorem argW_block (r : Fin 256) (f : Fin 416) : blk1 m c t (ix2 r f) = argW m c (ix2 (rowAt t r) f) := (block_4 t (V m c main_arg1) r f).trans (congrFun (V_main_arg1 m c) _)
theorem argM_block (r : Fin 256) (f : Fin 416) : blk2 m c t (ix2 r f) = argM m c (ix2 (rowAt t r) f) := (block_4 t (V m c main_arg2) r f).trans (congrFun (V_main_arg2 m c) _)
theorem argV_block (r : Fin 256) (f : Fin 416) : blk3 m c t (ix2 r f) = argV m c (ix2 (rowAt t r) f) := (block_4 t (V m c main_arg3) r f).trans (congrFun (V_main_arg3 m c) _)
theorem first_block (r : Fin 256) (f : Fin 416) : moment1 (blk2 m c t (ix2 r f)) (∑ k : Fin 4, blk0 m c t (ix3 k r f)) = first m c (rowAt t r) f :=
  congrArg₂ moment1 (argM_block m c t r f) (total_block m c t r f)
theorem second_block (r : Fin 256) (f : Fin 416) : moment2 (blk3 m c t (ix2 r f)) (∑ k : Fin 4, blk0 m c t (ix3 k r f)) = second m c (rowAt t r) f :=
  congrArg₂ moment2 (argV_block m c t r f) (total_block m c t r f)

omit t in
theorem last_4 : (dats m 0 c).arrAt 4 cfg0.N = fun x : S1024x416.Idx => total m c (x 0) (x 1) :=
  final_4 m c _ (after0_4 m c) (total m c) fun t r f => (out4_at _ _ _ _ r f).trans (total_block m c t r f)
omit t in
theorem last_6 : (dats m 0 c).arrAt 6 cfg0.N = fun x : S1024x416.Idx => first m c (x 0) (x 1) :=
  final_6 m c _ (after0_6 m c) (first m c) fun t r f => (out6_at _ _ _ _ r f).trans (first_block m c t r f)
omit t in
theorem last_7 : (dats m 0 c).arrAt 7 cfg0.N = fun x : S1024x416.Idx => second m c (x 0) (x 1) :=
  final_7 m c _ (after0_7 m c) (second m c) fun t r f => (out7_at _ _ _ _ r f).trans (second_block m c t r f)
omit t in
theorem last_5 : (dats m 0 c).arrAt 5 cfg0.N = fun x : S1024x416.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference18Ideal.Read
variable (x0 : FVec Ideal S4x1024x416 .f32) (x1 x2 x3 : FVec Ideal S1024x416 .f32) (n : Fin 1024) (f : Fin 416)

theorem ref_total : val_main_v0 (F := Ideal) x0 (ix2 n f) = ∑ k : Fin 4, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run m ρ)

theorem value : Cert.algebraic_Kernel18Ideal_Reference18Ideal := by
  intro m g m' g' _ hargs
  refine ⟨fun c => fun x : S1024x416.Idx => total m c (x 0) (x 1), fun c => fun x : S1024x416.Idx => delta m c (x 0) (x 1),
    fun c => fun x : S1024x416.Idx => first m c (x 0) (x 1), fun c => fun x : S1024x416.Idx => second m c (x 0) (x 1), ?_, ?_⟩
  · refine (θ_run Cert.Kernel18Ideal.defs _ _).mono (fun r h c => ?_) (Cert.Kernel18Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference18Ideal.defs _ _).mono (fun r h c => ?_) (Cert.Reference18Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference18Ideal.Read.val_main_v0_eq _).trans ?_
      rw [a0]
      funext x
      obtain ⟨n, f, rfl⟩ := pair (a := 1024) (b := 416) x
      exact ref_total _ n f
    · refine (Cert.Reference18Ideal.Read.val_main_v24_eq _ _ _ _).trans ?_
      rw [a0, a1, a2, a3]
      funext x
      obtain ⟨n, f, rfl⟩ := pair (a := 1024) (b := 416) x
      refine (ref_delta _ _ _ _ n f).trans ?_
      rw [ref_first, ref_second, ref_total]
      rfl
    · refine (Cert.Reference18Ideal.Read.val_main_v5_eq _ _).trans ?_
      rw [a0, a2]
      funext x
      obtain ⟨n, f, rfl⟩ := pair (a := 1024) (b := 416) x
      refine (ref_first _ _ n f).trans ?_
      rw [ref_total]
      rfl
    · refine (Cert.Reference18Ideal.Read.val_main_v11_eq _ _).trans ?_
      rw [a0, a3]
      funext x
      obtain ⟨n, f, rfl⟩ := pair (a := 1024) (b := 416) x
      refine (ref_second _ _ n f).trans ?_
      rw [ref_total]
      rfl

end Cert.Proof.AdamIn
-- ==== Proof.AdamOut.lean ====
/-
  The optimiser's step on the output projection's weights: the gradient is the sum of its parts, and the step is taken number by number.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel19Ideal Cert.Kernel19Ideal.Gen

namespace Cert.Proof.AdamOut

section pays
variable (p0 p1 p2 p3 : Vec Ideal S1x128x1024 .bf16) (w u v : Vec Ideal S128x1024 .f32) (r : Fin 128) (f : Fin 1024)

theorem sum_at : k0_pay2 (F := Ideal) p0 p1 p2 p3 (ix2 r f) = (((p0 (ix3 0 r f) + p1 (ix3 0 r f)) + p2 (ix3 0 r f)) + p3 (ix3 0 r f)) := by
  pointwise [k0_pay2]
theorem first_at : k0_pay3 (F := Ideal) p0 p1 p2 p3 u (ix2 r f) = moment1 (u (ix2 r f)) (k0_pay2 (F := Ideal) p0 p1 p2 p3 (ix2 r f)) := by
  unfold moment1
  generalize hg : k0_pay2 (F := Ideal) p0 p1 p2 p3 = g
  pointwise [k0_pay3, hg]
theorem second_at : k0_pay4 (F := Ideal) p0 p1 p2 p3 v (ix2 r f) = moment2 (v (ix2 r f)) (k0_pay2 (F := Ideal) p0 p1 p2 p3 (ix2 r f)) := by
  unfold moment2
  generalize hg : k0_pay2 (F := Ideal) p0 p1 p2 p3 = g
  pointwise [k0_pay4, hg]
theorem change_at : k0_pay1 (F := Ideal) w (k0_pay5 p0 p1 p2 p3 u) (k0_pay6 p0 p1 p2 p3 v) (Scalar.ofBits .f32 0x322BCC77#32) (ix2 r f) = change (w (ix2 r f)) (k0_pay3 (F := Ideal) p0 p1 p2 p3 u (ix2 r f)) (k0_pay4 (F := Ideal) p0 p1 p2 p3 v (ix2 r f)) := by
  unfold change
  generalize ha : k0_pay3 (F := Ideal) p0 p1 p2 p3 u = a
  generalize hb : k0_pay4 (F := Ideal) p0 p1 p2 p3 v = b
  pointwise [k0_pay1, k0_pay5, k0_pay6, ha, hb]
end pays

section blocks
variable (x0 : Vec Ideal S4x128x1024 .bf16) (x1 x2 x3 : Vec Ideal S128x1024 .f32) (r : Fin 128) (f : Fin 1024)

theorem part_0 : View.ld x0 r0_0 (ix3 0 r f) = x0 (ix3 0 r f) :=
  View.ld_unit_apply_of x0 ![0, 0, 0] S1x128x1024.size _ (ix3 0 r f) (ix3 0 r f) fun a => by
    match a with
    | ⟨0, _⟩ => rfl
    | ⟨1, _⟩ => exact (Nat.zero_add r.val).symm
    | ⟨2, _⟩ => exact (Nat.zero_add f.val).symm
theorem part_1 : View.ld x0 r0_1 (ix3 0 r f) = x0 (ix3 1 r f) :=
  View.ld_unit_apply_of x0 ![1, 0, 0] S1x128x1024.size _ (ix3 0 r f) (ix3 1 r f) fun a => by
    match a with
    | ⟨0, _⟩ => rfl
    | ⟨1, _⟩ => exact (Nat.zero_add r.val).symm
    | ⟨2, _⟩ => exact (Nat.zero_add f.val).symm
theorem part_2 : View.ld x0 r0_2 (ix3 0 r f) = x0 (ix3 2 r f) :=
  View.ld_unit_apply_of x0 ![2, 0, 0] S1x128x1024.size _ (ix3 0 r f) (ix3 2 r f) fun a => by
    match a with
    | ⟨0, _⟩ => rfl
    | ⟨1, _⟩ => exact (Nat.zero_add r.val).symm
    | ⟨2, _⟩ => exact (Nat.zero_add f.val).symm
theorem part_3 : View.ld x0 r0_3 (ix3 0 r f) = x0 (ix3 3 r f) :=
  View.ld_unit_apply_of x0 ![3, 0, 0] S1x128x1024.size _ (ix3 0 r f) (ix3 3 r f) fun a => by
    match a with
    | ⟨0, _⟩ => rfl
    | ⟨1, _⟩ => exact (Nat.zero_add r.val).symm
    | ⟨2, _⟩ => exact (Nat.zero_add f.val).symm
theorem total_at : k0_pay2 (F := Ideal) (View.ld x0 r0_0) (View.ld x0 r0_1) (View.ld x0 r0_2) (View.ld x0 r0_3) (ix2 r f) = ∑ k : Fin 4, x0 (ix3 k r f) := by
  rw [sum_at, part_0, part_1, part_2, part_3]
  exact (Fin.sum_univ_four fun k : Fin 4 => x0 (ix3 k r f)).symm
theorem out4_at : out0_4 (F := Ideal) x0 x1 x2 x3 (ix2 r f) = ∑ k : Fin 4, x0 (ix3 k r f) := by
  unfold out0_4
  rw [View.canon_unit_zero zero2]
  exact total_at x0 r f
theorem out6_at : out0_6 (F := Ideal) x0 x1 x2 x3 (ix2 r f) = moment1 (x2 (ix2 r f)) (∑ k : Fin 4, x0 (ix3 k r f)) := by
  unfold out0_6
  rw [View.canon_unit_zero zero2, View.ld_unit_zero (S := S128x1024) zero2]
  exact (first_at (View.ld x0 r0_0) (View.ld x0 r0_1) (View.ld x0 r0_2) (View.ld x0 r0_3) x2 r f).trans (congrArg (moment1 (x2 (ix2 r f))) (total_at x0 r f))
theorem out7_at : out0_7 (F := Ideal) x0 x1 x2 x3 (ix2 r f) = moment2 (x3 (ix2 r f)) (∑ k : Fin 4, x0 (ix3 k r f)) := by
  unfold out0_7
  rw [View.canon_unit_zero zero2, View.ld_unit_zero (S := S128x1024) zero2]
  exact (second_at (View.ld x0 r0_0) (View.ld x0 r0_1) (View.ld x0 r0_2) (View.ld x0 r0_3) x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 4, x0 (ix3 k r f))) (moment2 (x3 (ix2 r f)) (∑ k : Fin 4, x0 (ix3 k r f))) := by
  unfold out0_5
  rw [View.canon_unit_zero zero2, View.ld_unit_zero (S := S128x1024) zero2, View.ld_unit_zero (S := S128x1024) zero2, View.ld_unit_zero (S := S128x1024) zero2]
  exact (change_at (View.ld x0 r0_0) (View.ld x0 r0_1) (View.ld x0 r0_2) (View.ld x0 r0_3) x1 x2 x3 r f).trans (congrArg₂ (change (x1 (ix2 r f)))
    ((first_at (View.ld x0 r0_0) (View.ld x0 r0_1) (View.ld x0 r0_2) (View.ld x0 r0_3) x2 r f).trans (congrArg (moment1 (x2 (ix2 r f))) (total_at x0 r f)))
    ((second_at (View.ld x0 r0_0) (View.ld x0 r0_1) (View.ld x0 r0_2) (View.ld x0 r0_3) x3 r f).trans (congrArg (moment2 (x3 (ix2 r f))) (total_at x0 r f))))
end blocks

/-- The one point of the grid. -/
def pointOf (n : Fin 128) : Fin cfg0.N := ⟨0, by have hN : cfg0.N = 1 := N_0; omega⟩

theorem ix_0 : ∀ t : Fin grid0.N, win0_0.index t 0 = 0 ∧ win0_0.index t 1 = 0 ∧ win0_0.index t 2 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 4) (r : Fin 128) (f : Fin 1024) :
    ((cfg0.win 0).blk t).view.read (Elt Ideal) (W (Pipeline.arrRef spec0 0)) (ix3 k r f) = W main_v0 (ix3 k r f) := by
  rw [View.read_apply]
  refine congrArg (W main_v0) (funext fun a => Fin.ext ?_)
  match a with
  | ⟨0, _⟩ => show win0_0.index t 0 * 4 + 1 * k.val = k.val; rw [(ix_0 t).1]; omega
  | ⟨1, _⟩ => show win0_0.index t 1 * 128 + 1 * r.val = r.val; rw [(ix_0 t).2.1]; omega
  | ⟨2, _⟩ => show win0_0.index t 2 * 1024 + 1 * f.val = f.val; rw [(ix_0 t).2.2]; omega

/-- A block of an array with one block per grid point; the arrays in and out are all laid out so. -/
theorem block_4 (A : S128x1024.Idx → EReal) (r : Fin 128) (f : Fin 1024) :
    ((cfg0.win 4).blk t).view.read (Elt Ideal) A (ix2 r f) = A (ix2 r f) := by
  rw [View.read_apply]
  refine congrArg A (funext fun a => Fin.ext ?_)
  match a with
  | ⟨0, _⟩ => show win0_4.index t 0 * 128 + 1 * r.val = r.val; rw [(ix_4 t).1]; omega
  | ⟨1, _⟩ => show win0_4.index t 1 * 1024 + 1 * f.val = f.val; rw [(ix_4 t).2]; omega
theorem cover_4 (x : S128x1024.Idx) : ∃ t : Fin cfg0.N, (cfg0.win 4).flush t = true ∧ x ∈ ((View.whole main_v1_0).slice (win0_4.rect t)).set := by
  obtain ⟨n, f, rfl⟩ := pair (a := 128) (b := 1024) x
  refine ⟨pointOf n, flush_4 _, ?_⟩
  rw [View.set_slice_whole, Rect.mem_set_unit]
  have hp : (pointOf n).val = 0 := rfl
  have hn := n.isLt
  have hf := f.isLt
  have e0 := ix_4 (pointOf n)
  intro a
  match a with
  | ⟨0, _⟩ => show win0_4.index (pointOf n) 0 * 128 ≤ n.val ∧ n.val < win0_4.index (pointOf n) 0 * 128 + 128; rw [e0.1]; omega
  | ⟨1, _⟩ => show win0_4.index (pointOf n) 1 * 1024 ≤ f.val ∧ f.val < win0_4.index (pointOf n) 1 * 1024 + 1024; rw [e0.2]; omega

omit t in
theorem final_4 (O : Fin cfg0.N → Vec Ideal S128x1024 .f32) (ho : ∀ t : Fin cfg0.N, (dats m 0 c).after 4 t = O t) (G : Fin 128 → Fin 1024 → EReal)
    (h : ∀ (t : Fin cfg0.N) (r : Fin 128) (f : Fin 1024), O t (ix2 r f) = G r f) : (dats m 0 c).arrAt 4 cfg0.N = fun x : S128x1024.Idx => G (x 0) (x 1) := by
  refine (dats m 0 c).arrAt_eq_of_cover 4 (fun x : S128x1024.Idx => G (x 0) (x 1)) (fun t ht => ?_) (fun x => cover_4 x)
  show (cfg0.win 4).cut (grid0.coords t) ((dats m 0 c).after 4 t) = _
  rw [ho]
  funext y
  obtain ⟨r, f, rfl⟩ := pair (a := 128) (b := 1024) y
  exact (h t r f).trans (block_4 t (fun x : S128x1024.Idx => G (x 0) (x 1)) r f).symm

omit t in
theorem final_5 (O : Fin cfg0.N → Vec Ideal S128x1024 .f32) (ho : ∀ t : Fin cfg0.N, (dats m 0 c).after 5 t = O t) (G : Fin 128 → Fin 1024 → EReal)
    (h : ∀ (t : Fin cfg0.N) (r : Fin 128) (f : Fin 1024), O t (ix2 r f) = G r f) : (dats m 0 c).arrAt 5 cfg0.N = fun x : S128x1024.Idx => G (x 0) (x 1) := by
  refine (dats m 0 c).arrAt_eq_of_cover 5 (fun x : S128x1024.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 128) (b := 1024) y
  exact (h t r f).trans (block_4 t (fun x : S128x1024.Idx => G (x 0) (x 1)) r f).symm

omit t in
theorem final_6 (O : Fin cfg0.N → Vec Ideal S128x1024 .f32) (ho : ∀ t : Fin cfg0.N, (dats m 0 c).after 6 t = O t) (G : Fin 128 → Fin 1024 → EReal)
    (h : ∀ (t : Fin cfg0.N) (r : Fin 128) (f : Fin 1024), O t (ix2 r f) = G r f) : (dats m 0 c).arrAt 6 cfg0.N = fun x : S128x1024.Idx => G (x 0) (x 1) := by
  refine (dats m 0 c).arrAt_eq_of_cover 6 (fun x : S128x1024.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 128) (b := 1024) y
  exact (h t r f).trans (block_4 t (fun x : S128x1024.Idx => G (x 0) (x 1)) r f).symm

omit t in
theorem final_7 (O : Fin cfg0.N → Vec Ideal S128x1024 .f32) (ho : ∀ t : Fin cfg0.N, (dats m 0 c).after 7 t = O t) (G : Fin 128 → Fin 1024 → EReal)
    (h : ∀ (t : Fin cfg0.N) (r : Fin 128) (f : Fin 1024), O t (ix2 r f) = G r f) : (dats m 0 c).arrAt 7 cfg0.N = fun x : S128x1024.Idx => G (x 0) (x 1) := by
  refine (dats m 0 c).arrAt_eq_of_cover 7 (fun x : S128x1024.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 128) (b := 1024) y
  exact (h t r f).trans (block_4 t (fun x : S128x1024.Idx => G (x 0) (x 1)) r f).symm

/-- The gradient's parts, the weights and the two moments. -/
abbrev argP : FVec Ideal S4x128x1024 .f32 := m (c, Proc.tc.devRef main_arg0)
abbrev argW : FVec Ideal S128x1024 .f32 := m (c, Proc.tc.devRef main_arg1)
abbrev argM : FVec Ideal S128x1024 .f32 := m (c, Proc.tc.devRef main_arg2)
abbrev argV : FVec Ideal S128x1024 .f32 := m (c, Proc.tc.devRef main_arg3)

omit t in
theorem in_0 (k : Fin 4) (n : Fin 128) (f : Fin 1024) : V m c main_v0 (ix3 k n f) = argP m c (ix3 k n f) := by
  unfold V
  after_reads_at

/-- The gradient. -/
def total (n : Fin 128) (f : Fin 1024) : EReal := ∑ k : Fin 4, argP m c (ix3 k n f)
/-- The two moments after the step, and the change. -/
def first (n : Fin 128) (f : Fin 1024) : EReal := moment1 (argM m c (ix2 n f)) (total m c n f)
def second (n : Fin 128) (f : Fin 1024) : EReal := moment2 (argV m c (ix2 n f)) (total m c n f)
def delta (n : Fin 128) (f : Fin 1024) : EReal := change (argW m c (ix2 n f)) (first m c n f) (second m c n f)

/-- A grid point's blocks. -/
abbrev blk0 : Vec Ideal S4x128x1024 .bf16 := iblk m c 0 t
abbrev blk1 : Vec Ideal S128x1024 .f32 := iblk m c 1 t
abbrev blk2 : Vec Ideal S128x1024 .f32 := iblk m c 2 t
abbrev blk3 : Vec Ideal S128x1024 .f32 := iblk m c 3 t

theorem total_block (r : Fin 128) (f : Fin 1024) : ∑ k : Fin 4, blk0 m c t (ix3 k r f) = total m c r f :=
  Finset.sum_congr rfl fun k _ => (read_0 c t (V m c) k r f).trans (in_0 m c k _ f)
theorem argW_block (r : Fin 128) (f : Fin 1024) : blk1 m c t (ix2 r f) = argW m c (ix2 r f) := (block_4 t (V m c main_arg1) r f).trans (congrFun (V_main_arg1 m c) _)
theorem argM_block (r : Fin 128) (f : Fin 1024) : blk2 m c t (ix2 r f) = argM m c (ix2 r f) := (block_4 t (V m c main_arg2) r f).trans (congrFun (V_main_arg2 m c) _)
theorem argV_block (r : Fin 128) (f : Fin 1024) : blk3 m c t (ix2 r f) = argV m c (ix2 r f) := (block_4 t (V m c main_arg3) r f).trans (congrFun (V_main_arg3 m c) _)
theorem first_block (r : Fin 128) (f : Fin 1024) : moment1 (blk2 m c t (ix2 r f)) (∑ k : Fin 4, blk0 m c t (ix3 k r f)) = first m c r f :=
  congrArg₂ moment1 (argM_block m c t r f) (total_block m c t r f)
theorem second_block (r : Fin 128) (f : Fin 1024) : moment2 (blk3 m c t (ix2 r f)) (∑ k : Fin 4, blk0 m c t (ix3 k r f)) = second m c r f :=
  congrArg₂ moment2 (argV_block m c t r f) (total_block m c t r f)

omit t in
theorem last_4 : (dats m 0 c).arrAt 4 cfg0.N = fun x : S128x1024.Idx => total m c (x 0) (x 1) :=
  final_4 m c _ (after0_4 m c) (total m c) fun t r f => (out4_at _ _ _ _ r f).trans (total_block m c t r f)
omit t in
theorem last_6 : (dats m 0 c).arrAt 6 cfg0.N = fun x : S128x1024.Idx => first m c (x 0) (x 1) :=
  final_6 m c _ (after0_6 m c) (first m c) fun t r f => (out6_at _ _ _ _ r f).trans (first_block m c t r f)
omit t in
theorem last_7 : (dats m 0 c).arrAt 7 cfg0.N = fun x : S128x1024.Idx => second m c (x 0) (x 1) :=
  final_7 m c _ (after0_7 m c) (second m c) fun t r f => (out7_at _ _ _ _ r f).trans (second_block m c t r f)
omit t in
theorem last_5 : (dats m 0 c).arrAt 5 cfg0.N = fun x : S128x1024.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference19Ideal.Read
variable (x0 : FVec Ideal S4x128x1024 .f32) (x1 x2 x3 : FVec Ideal S128x1024 .f32) (n : Fin 128) (f : Fin 1024)

theorem ref_total : val_main_v0 (F := Ideal) x0 (ix2 n f) = ∑ k : Fin 4, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run m ρ)

theorem value : Cert.algebraic_Kernel19Ideal_Reference19Ideal := by
  intro m g m' g' _ hargs
  refine ⟨fun c => fun x : S128x1024.Idx => total m c (x 0) (x 1), fun c => fun x : S128x1024.Idx => delta m c (x 0) (x 1),
    fun c => fun x : S128x1024.Idx => first m c (x 0) (x 1), fun c => fun x : S128x1024.Idx => second m c (x 0) (x 1), ?_, ?_⟩
  · refine (θ_run Cert.Kernel19Ideal.defs _ _).mono (fun r h c => ?_) (Cert.Kernel19Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference19Ideal.defs _ _).mono (fun r h c => ?_) (Cert.Reference19Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference19Ideal.Read.val_main_v0_eq _).trans ?_
      rw [a0]
      funext x
      obtain ⟨n, f, rfl⟩ := pair (a := 128) (b := 1024) x
      exact ref_total _ n f
    · refine (Cert.Reference19Ideal.Read.val_main_v24_eq _ _ _ _).trans ?_
      rw [a0, a1, a2, a3]
      funext x
      obtain ⟨n, f, rfl⟩ := pair (a := 128) (b := 1024) x
      refine (ref_delta _ _ _ _ n f).trans ?_
      rw [ref_first, ref_second, ref_total]
      rfl
    · refine (Cert.Reference19Ideal.Read.val_main_v5_eq _ _).trans ?_
      rw [a0, a2]
      funext x
      obtain ⟨n, f, rfl⟩ := pair (a := 128) (b := 1024) x
      refine (ref_first _ _ n f).trans ?_
      rw [ref_total]
      rfl
    · refine (Cert.Reference19Ideal.Read.val_main_v11_eq _ _).trans ?_
      rw [a0, a3]
      funext x
      obtain ⟨n, f, rfl⟩ := pair (a := 128) (b := 1024) x
      refine (ref_second _ _ n f).trans ?_
      rw [ref_total]
      rfl

end Cert.Proof.AdamOut
-- ==== Proof.AdamGateUp.lean ====
/-
  The optimiser's step on the weights of the first half of the feed-forward: the gradient is the sum of its parts, and the step is taken number by number.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel20Ideal Cert.Kernel20Ideal.Gen

namespace Cert.Proof.AdamGateUp

section pays
variable (p0 p1 p2 p3 : Vec Ideal S1x256x704 .bf16) (w u v : Vec Ideal S256x704 .f32) (r : Fin 256) (f : Fin 704)

theorem sum_at : k0_pay2 (F := Ideal) p0 p1 p2 p3 (ix2 r f) = (((p0 (ix3 0 r f) + p1 (ix3 0 r f)) + p2 (ix3 0 r f)) + p3 (ix3 0 r f)) := by
  pointwise [k0_pay2]
theorem first_at : k0_pay3 (F := Ideal) p0 p1 p2 p3 u (ix2 r f) = moment1 (u (ix2 r f)) (k0_pay2 (F := Ideal) p0 p1 p2 p3 (ix2 r f)) := by
  unfold moment1
  generalize hg : k0_pay2 (F := Ideal) p0 p1 p2 p3 = g
  pointwise [k0_pay3, hg]
theorem second_at : k0_pay4 (F := Ideal) p0 p1 p2 p3 v (ix2 r f) = moment2 (v (ix2 r f)) (k0_pay2 (F := Ideal) p0 p1 p2 p3 (ix2 r f)) := by
  unfold moment2
  generalize hg : k0_pay2 (F := Ideal) p0 p1 p2 p3 = g
  pointwise [k0_pay4, hg]
theorem change_at : k0_pay1 (F := Ideal) w (k0_pay5 p0 p1 p2 p3 u) (k0_pay6 p0 p1 p2 p3 v) (Scalar.ofBits .f32 0x322BCC77#32) (ix2 r f) = change (w (ix2 r f)) (k0_pay3 (F := Ideal) p0 p1 p2 p3 u (ix2 r f)) (k0_pay4 (F := Ideal) p0 p1 p2 p3 v (ix2 r f)) := by
  unfold change
  generalize ha : k0_pay3 (F := Ideal) p0 p1 p2 p3 u = a
  generalize hb : k0_pay4 (F := Ideal) p0 p1 p2 p3 v = b
  pointwise [k0_pay1, k0_pay5, k0_pay6, ha, hb]
end pays

section blocks
variable (x0 : Vec Ideal S4x256x704 .bf16) (x1 x2 x3 : Vec Ideal S256x704 .f32) (r : Fin 256) (f : Fin 704)

theorem part_0 : View.ld x0 r0_0 (ix3 0 r f) = x0 (ix3 0 r f) :=
  View.ld_unit_apply_of x0 ![0, 0, 0] S1x256x704.size _ (ix3 0 r f) (ix3 0 r f) fun a => by
    match a with
    | ⟨0, _⟩ => rfl
    | ⟨1, _⟩ => exact (Nat.zero_add r.val).symm
    | ⟨2, _⟩ => exact (Nat.zero_add f.val).symm
theorem part_1 : View.ld x0 r0_1 (ix3 0 r f) = x0 (ix3 1 r f) :=
  View.ld_unit_apply_of x0 ![1, 0, 0] S1x256x704.size _ (ix3 0 r f) (ix3 1 r f) fun a => by
    match a with
    | ⟨0, _⟩ => rfl
    | ⟨1, _⟩ => exact (Nat.zero_add r.val).symm
    | ⟨2, _⟩ => exact (Nat.zero_add f.val).symm
theorem part_2 : View.ld x0 r0_2 (ix3 0 r f) = x0 (ix3 2 r f) :=
  View.ld_unit_apply_of x0 ![2, 0, 0] S1x256x704.size _ (ix3 0 r f) (ix3 2 r f) fun a => by
    match a with
    | ⟨0, _⟩ => rfl
    | ⟨1, _⟩ => exact (Nat.zero_add r.val).symm
    | ⟨2, _⟩ => exact (Nat.zero_add f.val).symm
theorem part_3 : View.ld x0 r0_3 (ix3 0 r f) = x0 (ix3 3 r f) :=
  View.ld_unit_apply_of x0 ![3, 0, 0] S1x256x704.size _ (ix3 0 r f) (ix3 3 r f) fun a => by
    match a with
    | ⟨0, _⟩ => rfl
    | ⟨1, _⟩ => exact (Nat.zero_add r.val).symm
    | ⟨2, _⟩ => exact (Nat.zero_add f.val).symm
theorem total_at : k0_pay2 (F := Ideal) (View.ld x0 r0_0) (View.ld x0 r0_1) (View.ld x0 r0_2) (View.ld x0 r0_3) (ix2 r f) = ∑ k : Fin 4, x0 (ix3 k r f) := by
  rw [sum_at, part_0, part_1, part_2, part_3]
  exact (Fin.sum_univ_four fun k : Fin 4 => x0 (ix3 k r f)).symm
theorem out4_at : out0_4 (F := Ideal) x0 x1 x2 x3 (ix2 r f) = ∑ k : Fin 4, x0 (ix3 k r f) := by
  unfold out0_4
  rw [View.canon_unit_zero zero2]
  exact total_at x0 r f
theorem out6_at : out0_6 (F := Ideal) x0 x1 x2 x3 (ix2 r f) = moment1 (x2 (ix2 r f)) (∑ k : Fin 4, x0 (ix3 k r f)) := by
  unfold out0_6
  rw [View.canon_unit_zero zero2, View.ld_unit_zero (S := S256x704) zero2]
  exact (first_at (View.ld x0 r0_0) (View.ld x0 r0_1) (View.ld x0 r0_2) (View.ld x0 r0_3) x2 r f).trans (congrArg (moment1 (x2 (ix2 r f))) (total_at x0 r f))
theorem out7_at : out0_7 (F := Ideal) x0 x1 x2 x3 (ix2 r f) = moment2 (x3 (ix2 r f)) (∑ k : Fin 4, x0 (ix3 k r f)) := by
  unfold out0_7
  rw [View.canon_unit_zero zero2, View.ld_unit_zero (S := S256x704) zero2]
  exact (second_at (View.ld x0 r0_0) (View.ld x0 r0_1) (View.ld x0 r0_2) (View.ld x0 r0_3) x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 4, x0 (ix3 k r f))) (moment2 (x3 (ix2 r f)) (∑ k : Fin 4, x0 (ix3 k r f))) := by
  unfold out0_5
  rw [View.canon_unit_zero zero2, View.ld_unit_zero (S := S256x704) zero2, View.ld_unit_zero (S := S256x704) zero2, View.ld_unit_zero (S := S256x704) zero2]
  exact (change_at (View.ld x0 r0_0) (View.ld x0 r0_1) (View.ld x0 r0_2) (View.ld x0 r0_3) x1 x2 x3 r f).trans (congrArg₂ (change (x1 (ix2 r f)))
    ((first_at (View.ld x0 r0_0) (View.ld x0 r0_1) (View.ld x0 r0_2) (View.ld x0 r0_3) x2 r f).trans (congrArg (moment1 (x2 (ix2 r f))) (total_at x0 r f)))
    ((second_at (View.ld x0 r0_0) (View.ld x0 r0_1) (View.ld x0 r0_2) (View.ld x0 r0_3) x3 r f).trans (congrArg (moment2 (x3 (ix2 r f))) (total_at x0 r f))))
end blocks

/-- Row `r` of a grid point's block, and the point of a row. -/
def rowAt (t : Fin cfg0.N) (r : Fin 256) : Fin 1024 := ⟨t.val * 256 + r.val, by have := t.isLt; have hN : cfg0.N = 4 := N_0; omega⟩
def pointOf (n : Fin 1024) : Fin cfg0.N := ⟨n.val / 256, by have hN : cfg0.N = 4 := N_0; omega⟩

theorem ix_0 : ∀ t : Fin grid0.N, win0_0.index t 0 = 0 ∧ win0_0.index t 1 = t.val ∧ win0_0.index t 2 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 4) (r : Fin 256) (f : Fin 704) :
    ((cfg0.win 0).blk t).view.read (Elt Ideal) (W (Pipeline.arrRef spec0 0)) (ix3 k r f) = W main_v0 (ix3 k (rowAt t r) f) := by
  rw [View.read_apply]
  refine congrArg (W main_v0) (funext fun a => Fin.ext ?_)
  match a with
  | ⟨0, _⟩ => show win0_0.index t 0 * 4 + 1 * k.val = k.val; rw [(ix_0 t).1]; omega
  | ⟨1, _⟩ => show win0_0.index t 1 * 256 + 1 * r.val = t.val * 256 + r.val; rw [(ix_0 t).2.1]; omega
  | ⟨2, _⟩ => show win0_0.index t 2 * 704 + 1 * f.val = f.val; rw [(ix_0 t).2.2]; omega

/-- A block of an array with one block per grid point; the arrays in and out are all laid out so. -/
theorem block_4 (A : S1024x704.Idx → EReal) (r : Fin 256) (f : Fin 704) :
    ((cfg0.win 4).blk t).view.read (Elt Ideal) A (ix2 r f) = A (ix2 (rowAt t r) f) := by
  rw [View.read_apply]
  refine congrArg A (funext fun a => Fin.ext ?_)
  match a with
  | ⟨0, _⟩ => show win0_4.index t 0 * 256 + 1 * r.val = t.val * 256 + r.val; rw [(ix_4 t).1]; omega
  | ⟨1, _⟩ => show win0_4.index t 1 * 704 + 1 * f.val = f.val; rw [(ix_4 t).2]; omega
theorem cover_4 (x : S1024x704.Idx) : ∃ t : Fin cfg0.N, (cfg0.win 4).flush t = true ∧ x ∈ ((View.whole main_v1_0).slice (win0_4.rect t)).set := by
  obtain ⟨n, f, rfl⟩ := pair (a := 1024) (b := 704) x
  refine ⟨pointOf n, flush_4 _, ?_⟩
  rw [View.set_slice_whole, Rect.mem_set_unit]
  have hp : (pointOf n).val = n.val / 256 := rfl
  have hn := n.isLt
  have hf := f.isLt
  have e0 := ix_4 (pointOf n)
  intro a
  match a with
  | ⟨0, _⟩ => show win0_4.index (pointOf n) 0 * 256 ≤ n.val ∧ n.val < win0_4.index (pointOf n) 0 * 256 + 256; rw [e0.1]; omega
  | ⟨1, _⟩ => show win0_4.index (pointOf n) 1 * 704 ≤ f.val ∧ f.val < win0_4.index (pointOf n) 1 * 704 + 704; rw [e0.2]; omega

omit t in
theorem final_4 (O : Fin cfg0.N → Vec Ideal S256x704 .f32) (ho : ∀ t : Fin cfg0.N, (dats m 0 c).after 4 t = O t) (G : Fin 1024 → Fin 704 → EReal)
    (h : ∀ (t : Fin cfg0.N) (r : Fin 256) (f : Fin 704), O t (ix2 r f) = G (rowAt t r) f) : (dats m 0 c).arrAt 4 cfg0.N = fun x : S1024x704.Idx => G (x 0) (x 1) := by
  refine (dats m 0 c).arrAt_eq_of_cover 4 (fun x : S1024x704.Idx => G (x 0) (x 1)) (fun t ht => ?_) (fun x => cover_4 x)
  show (cfg0.win 4).cut (grid0.coords t) ((dats m 0 c).after 4 t) = _
  rw [ho]
  funext y
  obtain ⟨r, f, rfl⟩ := pair (a := 256) (b := 704) y
  exact (h t r f).trans (block_4 t (fun x : S1024x704.Idx => G (x 0) (x 1)) r f).symm

omit t in
theorem final_5 (O : Fin cfg0.N → Vec Ideal S256x704 .f32) (ho : ∀ t : Fin cfg0.N, (dats m 0 c).after 5 t = O t) (G : Fin 1024 → Fin 704 → EReal)
    (h : ∀ (t : Fin cfg0.N) (r : Fin 256) (f : Fin 704), O t (ix2 r f) = G (rowAt t r) f) : (dats m 0 c).arrAt 5 cfg0.N = fun x : S1024x704.Idx => G (x 0) (x 1) := by
  refine (dats m 0 c).arrAt_eq_of_cover 5 (fun x : S1024x704.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 256) (b := 704) y
  exact (h t r f).trans (block_4 t (fun x : S1024x704.Idx => G (x 0) (x 1)) r f).symm

omit t in
theorem final_6 (O : Fin cfg0.N → Vec Ideal S256x704 .f32) (ho : ∀ t : Fin cfg0.N, (dats m 0 c).after 6 t = O t) (G : Fin 1024 → Fin 704 → EReal)
    (h : ∀ (t : Fin cfg0.N) (r : Fin 256) (f : Fin 704), O t (ix2 r f) = G (rowAt t r) f) : (dats m 0 c).arrAt 6 cfg0.N = fun x : S1024x704.Idx => G (x 0) (x 1) := by
  refine (dats m 0 c).arrAt_eq_of_cover 6 (fun x : S1024x704.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 256) (b := 704) y
  exact (h t r f).trans (block_4 t (fun x : S1024x704.Idx => G (x 0) (x 1)) r f).symm

omit t in
theorem final_7 (O : Fin cfg0.N → Vec Ideal S256x704 .f32) (ho : ∀ t : Fin cfg0.N, (dats m 0 c).after 7 t = O t) (G : Fin 1024 → Fin 704 → EReal)
    (h : ∀ (t : Fin cfg0.N) (r : Fin 256) (f : Fin 704), O t (ix2 r f) = G (rowAt t r) f) : (dats m 0 c).arrAt 7 cfg0.N = fun x : S1024x704.Idx => G (x 0) (x 1) := by
  refine (dats m 0 c).arrAt_eq_of_cover 7 (fun x : S1024x704.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 256) (b := 704) y
  exact (h t r f).trans (block_4 t (fun x : S1024x704.Idx => G (x 0) (x 1)) r f).symm

/-- The gradient's parts, the weights and the two moments. -/
abbrev argP : FVec Ideal S4x1024x704 .f32 := m (c, Proc.tc.devRef main_arg0)
abbrev argW : FVec Ideal S1024x704 .f32 := m (c, Proc.tc.devRef main_arg1)
abbrev argM : FVec Ideal S1024x704 .f32 := m (c, Proc.tc.devRef main_arg2)
abbrev argV : FVec Ideal S1024x704 .f32 := m (c, Proc.tc.devRef main_arg3)

omit t in
theorem in_0 (k : Fin 4) (n : Fin 1024) (f : Fin 704) : V m c main_v0 (ix3 k n f) = argP m c (ix3 k n f) := by
  unfold V
  after_reads_at

/-- The gradient. -/
def total (n : Fin 1024) (f : Fin 704) : EReal := ∑ k : Fin 4, argP m c (ix3 k n f)
/-- The two moments after the step, and the change. -/
def first (n : Fin 1024) (f : Fin 704) : EReal := moment1 (argM m c (ix2 n f)) (total m c n f)
def second (n : Fin 1024) (f : Fin 704) : EReal := moment2 (argV m c (ix2 n f)) (total m c n f)
def delta (n : Fin 1024) (f : Fin 704) : EReal := change (argW m c (ix2 n f)) (first m c n f) (second m c n f)

/-- A grid point's blocks. -/
abbrev blk0 : Vec Ideal S4x256x704 .bf16 := iblk m c 0 t
abbrev blk1 : Vec Ideal S256x704 .f32 := iblk m c 1 t
abbrev blk2 : Vec Ideal S256x704 .f32 := iblk m c 2 t
abbrev blk3 : Vec Ideal S256x704 .f32 := iblk m c 3 t

theorem total_block (r : Fin 256) (f : Fin 704) : ∑ k : Fin 4, blk0 m c t (ix3 k r f) = total m c (rowAt t r) f :=
  Finset.sum_congr rfl fun k _ => (read_0 c t (V m c) k r f).trans (in_0 m c k _ f)
theorem argW_block (r : Fin 256) (f : Fin 704) : blk1 m c t (ix2 r f) = argW m c (ix2 (rowAt t r) f) := (block_4 t (V m c main_arg1) r f).trans (congrFun (V_main_arg1 m c) _)
theorem argM_block (r : Fin 256) (f : Fin 704) : blk2 m c t (ix2 r f) = argM m c (ix2 (rowAt t r) f) := (block_4 t (V m c main_arg2) r f).trans (congrFun (V_main_arg2 m c) _)
theorem argV_block (r : Fin 256) (f : Fin 704) : blk3 m c t (ix2 r f) = argV m c (ix2 (rowAt t r) f) := (block_4 t (V m c main_arg3) r f).trans (congrFun (V_main_arg3 m c) _)
theorem first_block (r : Fin 256) (f : Fin 704) : moment1 (blk2 m c t (ix2 r f)) (∑ k : Fin 4, blk0 m c t (ix3 k r f)) = first m c (rowAt t r) f :=
  congrArg₂ moment1 (argM_block m c t r f) (total_block m c t r f)
theorem second_block (r : Fin 256) (f : Fin 704) : moment2 (blk3 m c t (ix2 r f)) (∑ k : Fin 4, blk0 m c t (ix3 k r f)) = second m c (rowAt t r) f :=
  congrArg₂ moment2 (argV_block m c t r f) (total_block m c t r f)

omit t in
theorem last_4 : (dats m 0 c).arrAt 4 cfg0.N = fun x : S1024x704.Idx => total m c (x 0) (x 1) :=
  final_4 m c _ (after0_4 m c) (total m c) fun t r f => (out4_at _ _ _ _ r f).trans (total_block m c t r f)
omit t in
theorem last_6 : (dats m 0 c).arrAt 6 cfg0.N = fun x : S1024x704.Idx => first m c (x 0) (x 1) :=
  final_6 m c _ (after0_6 m c) (first m c) fun t r f => (out6_at _ _ _ _ r f).trans (first_block m c t r f)
omit t in
theorem last_7 : (dats m 0 c).arrAt 7 cfg0.N = fun x : S1024x704.Idx => second m c (x 0) (x 1) :=
  final_7 m c _ (after0_7 m c) (second m c) fun t r f => (out7_at _ _ _ _ r f).trans (second_block m c t r f)
omit t in
theorem last_5 : (dats m 0 c).arrAt 5 cfg0.N = fun x : S1024x704.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference20Ideal.Read
variable (x0 : FVec Ideal S4x1024x704 .f32) (x1 x2 x3 : FVec Ideal S1024x704 .f32) (n : Fin 1024) (f : Fin 704)

theorem ref_total : val_main_v0 (F := Ideal) x0 (ix2 n f) = ∑ k : Fin 4, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run m ρ)

theorem value : Cert.algebraic_Kernel20Ideal_Reference20Ideal := by
  intro m g m' g' _ hargs
  refine ⟨fun c => fun x : S1024x704.Idx => total m c (x 0) (x 1), fun c => fun x : S1024x704.Idx => delta m c (x 0) (x 1),
    fun c => fun x : S1024x704.Idx => first m c (x 0) (x 1), fun c => fun x : S1024x704.Idx => second m c (x 0) (x 1), ?_, ?_⟩
  · refine (θ_run Cert.Kernel20Ideal.defs _ _).mono (fun r h c => ?_) (Cert.Kernel20Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference20Ideal.defs _ _).mono (fun r h c => ?_) (Cert.Reference20Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference20Ideal.Read.val_main_v0_eq _).trans ?_
      rw [a0]
      funext x
      obtain ⟨n, f, rfl⟩ := pair (a := 1024) (b := 704) x
      exact ref_total _ n f
    · refine (Cert.Reference20Ideal.Read.val_main_v24_eq _ _ _ _).trans ?_
      rw [a0, a1, a2, a3]
      funext x
      obtain ⟨n, f, rfl⟩ := pair (a := 1024) (b := 704) x
      refine (ref_delta _ _ _ _ n f).trans ?_
      rw [ref_first, ref_second, ref_total]
      rfl
    · refine (Cert.Reference20Ideal.Read.val_main_v5_eq _ _).trans ?_
      rw [a0, a2]
      funext x
      obtain ⟨n, f, rfl⟩ := pair (a := 1024) (b := 704) x
      refine (ref_first _ _ n f).trans ?_
      rw [ref_total]
      rfl
    · refine (Cert.Reference20Ideal.Read.val_main_v11_eq _ _).trans ?_
      rw [a0, a3]
      funext x
      obtain ⟨n, f, rfl⟩ := pair (a := 1024) (b := 704) x
      refine (ref_second _ _ n f).trans ?_
      rw [ref_total]
      rfl

end Cert.Proof.AdamGateUp
-- ==== Proof.AdamDown.lean ====
/-
  The optimiser's step on the weights of the second half of the feed-forward: the gradient is the sum of its parts, and the step is taken number by number.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel21Ideal Cert.Kernel21Ideal.Gen

namespace Cert.Proof.AdamDown

section pays
variable (p0 p1 p2 p3 : Vec Ideal S1x176x1024 .bf16) (w u v : Vec Ideal S176x1024 .f32) (r : Fin 176) (f : Fin 1024)

theorem sum_at : k0_pay2 (F := Ideal) p0 p1 p2 p3 (ix2 r f) = (((p0 (ix3 0 r f) + p1 (ix3 0 r f)) + p2 (ix3 0 r f)) + p3 (ix3 0 r f)) := by
  pointwise [k0_pay2]
theorem first_at : k0_pay3 (F := Ideal) p0 p1 p2 p3 u (ix2 r f) = moment1 (u (ix2 r f)) (k0_pay2 (F := Ideal) p0 p1 p2 p3 (ix2 r f)) := by
  unfold moment1
  generalize hg : k0_pay2 (F := Ideal) p0 p1 p2 p3 = g
  pointwise [k0_pay3, hg]
theorem second_at : k0_pay4 (F := Ideal) p0 p1 p2 p3 v (ix2 r f) = moment2 (v (ix2 r f)) (k0_pay2 (F := Ideal) p0 p1 p2 p3 (ix2 r f)) := by
  unfold moment2
  generalize hg : k0_pay2 (F := Ideal) p0 p1 p2 p3 = g
  pointwise [k0_pay4, hg]
theorem change_at : k0_pay1 (F := Ideal) w (k0_pay5 p0 p1 p2 p3 u) (k0_pay6 p0 p1 p2 p3 v) (Scalar.ofBits .f32 0x322BCC77#32) (ix2 r f) = change (w (ix2 r f)) (k0_pay3 (F := Ideal) p0 p1 p2 p3 u (ix2 r f)) (k0_pay4 (F := Ideal) p0 p1 p2 p3 v (ix2 r f)) := by
  unfold change
  generalize ha : k0_pay3 (F := Ideal) p0 p1 p2 p3 u = a
  generalize hb : k0_pay4 (F := Ideal) p0 p1 p2 p3 v = b
  pointwise [k0_pay1, k0_pay5, k0_pay6, ha, hb]
end pays

section blocks
variable (x0 : Vec Ideal S4x176x1024 .bf16) (x1 x2 x3 : Vec Ideal S176x1024 .f32) (r : Fin 176) (f : Fin 1024)

theorem part_0 : View.ld x0 r0_0 (ix3 0 r f) = x0 (ix3 0 r f) :=
  View.ld_unit_apply_of x0 ![0, 0, 0] S1x176x1024.size _ (ix3 0 r f) (ix3 0 r f) fun a => by
    match a with
    | ⟨0, _⟩ => rfl
    | ⟨1, _⟩ => exact (Nat.zero_add r.val).symm
    | ⟨2, _⟩ => exact (Nat.zero_add f.val).symm
theorem part_1 : View.ld x0 r0_1 (ix3 0 r f) = x0 (ix3 1 r f) :=
  View.ld_unit_apply_of x0 ![1, 0, 0] S1x176x1024.size _ (ix3 0 r f) (ix3 1 r f) fun a => by
    match a with
    | ⟨0, _⟩ => rfl
    | ⟨1, _⟩ => exact (Nat.zero_add r.val).symm
    | ⟨2, _⟩ => exact (Nat.zero_add f.val).symm
theorem part_2 : View.ld x0 r0_2 (ix3 0 r f) = x0 (ix3 2 r f) :=
  View.ld_unit_apply_of x0 ![2, 0, 0] S1x176x1024.size _ (ix3 0 r f) (ix3 2 r f) fun a => by
    match a with
    | ⟨0, _⟩ => rfl
    | ⟨1, _⟩ => exact (Nat.zero_add r.val).symm
    | ⟨2, _⟩ => exact (Nat.zero_add f.val).symm
theorem part_3 : View.ld x0 r0_3 (ix3 0 r f) = x0 (ix3 3 r f) :=
  View.ld_unit_apply_of x0 ![3, 0, 0] S1x176x1024.size _ (ix3 0 r f) (ix3 3 r f) fun a => by
    match a with
    | ⟨0, _⟩ => rfl
    | ⟨1, _⟩ => exact (Nat.zero_add r.val).symm
    | ⟨2, _⟩ => exact (Nat.zero_add f.val).symm
theorem total_at : k0_pay2 (F := Ideal) (View.ld x0 r0_0) (View.ld x0 r0_1) (View.ld x0 r0_2) (View.ld x0 r0_3) (ix2 r f) = ∑ k : Fin 4, x0 (ix3 k r f) := by
  rw [sum_at, part_0, part_1, part_2, part_3]
  exact (Fin.sum_univ_four fun k : Fin 4 => x0 (ix3 k r f)).symm
theorem out4_at : out0_4 (F := Ideal) x0 x1 x2 x3 (ix2 r f) = ∑ k : Fin 4, x0 (ix3 k r f) := by
  unfold out0_4
  rw [View.canon_unit_zero zero2]
  exact total_at x0 r f
theorem out6_at : out0_6 (F := Ideal) x0 x1 x2 x3 (ix2 r f) = moment1 (x2 (ix2 r f)) (∑ k : Fin 4, x0 (ix3 k r f)) := by
  unfold out0_6
  rw [View.canon_unit_zero zero2, View.ld_unit_zero (S := S176x1024) zero2]
  exact (first_at (View.ld x0 r0_0) (View.ld x0 r0_1) (View.ld x0 r0_2) (View.ld x0 r0_3) x2 r f).trans (congrArg (moment1 (x2 (ix2 r f))) (total_at x0 r f))
theorem out7_at : out0_7 (F := Ideal) x0 x1 x2 x3 (ix2 r f) = moment2 (x3 (ix2 r f)) (∑ k : Fin 4, x0 (ix3 k r f)) := by
  unfold out0_7
  rw [View.canon_unit_zero zero2, View.ld_unit_zero (S := S176x1024) zero2]
  exact (second_at (View.ld x0 r0_0) (View.ld x0 r0_1) (View.ld x0 r0_2) (View.ld x0 r0_3) x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 4, x0 (ix3 k r f))) (moment2 (x3 (ix2 r f)) (∑ k : Fin 4, x0 (ix3 k r f))) := by
  unfold out0_5
  rw [View.canon_unit_zero zero2, View.ld_unit_zero (S := S176x1024) zero2, View.ld_unit_zero (S := S176x1024) zero2, View.ld_unit_zero (S := S176x1024) zero2]
  exact (change_at (View.ld x0 r0_0) (View.ld x0 r0_1) (View.ld x0 r0_2) (View.ld x0 r0_3) x1 x2 x3 r f).trans (congrArg₂ (change (x1 (ix2 r f)))
    ((first_at (View.ld x0 r0_0) (View.ld x0 r0_1) (View.ld x0 r0_2) (View.ld x0 r0_3) x2 r f).trans (congrArg (moment1 (x2 (ix2 r f))) (total_at x0 r f)))
    ((second_at (View.ld x0 r0_0) (View.ld x0 r0_1) (View.ld x0 r0_2) (View.ld x0 r0_3) x3 r f).trans (congrArg (moment2 (x3 (ix2 r f))) (total_at x0 r f))))
end blocks

/-- Row `r` of a grid point's block, and the point of a row. -/
def rowAt (t : Fin cfg0.N) (r : Fin 176) : Fin 352 := ⟨t.val * 176 + r.val, by have := t.isLt; have hN : cfg0.N = 2 := N_0; omega⟩
def pointOf (n : Fin 352) : Fin cfg0.N := ⟨n.val / 176, by have hN : cfg0.N = 2 := N_0; omega⟩

theorem ix_0 : ∀ t : Fin grid0.N, win0_0.index t 0 = 0 ∧ win0_0.index t 1 = t.val ∧ win0_0.index t 2 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 4) (r : Fin 176) (f : Fin 1024) :
    ((cfg0.win 0).blk t).view.read (Elt Ideal) (W (Pipeline.arrRef spec0 0)) (ix3 k r f) = W main_v0 (ix3 k (rowAt t r) f) := by
  rw [View.read_apply]
  refine congrArg (W main_v0) (funext fun a => Fin.ext ?_)
  match a with
  | ⟨0, _⟩ => show win0_0.index t 0 * 4 + 1 * k.val = k.val; rw [(ix_0 t).1]; omega
  | ⟨1, _⟩ => show win0_0.index t 1 * 176 + 1 * r.val = t.val * 176 + r.val; rw [(ix_0 t).2.1]; omega
  | ⟨2, _⟩ => show win0_0.index t 2 * 1024 + 1 * f.val = f.val; rw [(ix_0 t).2.2]; omega

/-- A block of an array with one block per grid point; the arrays in and out are all laid out so. -/
theorem block_4 (A : S352x1024.Idx → EReal) (r : Fin 176) (f : Fin 1024) :
    ((cfg0.win 4).blk t).view.read (Elt Ideal) A (ix2 r f) = A (ix2 (rowAt t r) f) := by
  rw [View.read_apply]
  refine congrArg A (funext fun a => Fin.ext ?_)
  match a with
  | ⟨0, _⟩ => show win0_4.index t 0 * 176 + 1 * r.val = t.val * 176 + r.val; rw [(ix_4 t).1]; omega
  | ⟨1, _⟩ => show win0_4.index t 1 * 1024 + 1 * f.val = f.val; rw [(ix_4 t).2]; omega
theorem cover_4 (x : S352x1024.Idx) : ∃ t : Fin cfg0.N, (cfg0.win 4).flush t = true ∧ x ∈ ((View.whole main_v1_0).slice (win0_4.rect t)).set := by
  obtain ⟨n, f, rfl⟩ := pair (a := 352) (b := 1024) x
  refine ⟨pointOf n, flush_4 _, ?_⟩
  rw [View.set_slice_whole, Rect.mem_set_unit]
  have hp : (pointOf n).val = n.val / 176 := rfl
  have hn := n.isLt
  have hf := f.isLt
  have e0 := ix_4 (pointOf n)
  intro a
  match a with
  | ⟨0, _⟩ => show win0_4.index (pointOf n) 0 * 176 ≤ n.val ∧ n.val < win0_4.index (pointOf n) 0 * 176 + 176; rw [e0.1]; omega
  | ⟨1, _⟩ => show win0_4.index (pointOf n) 1 * 1024 ≤ f.val ∧ f.val < win0_4.index (pointOf n) 1 * 1024 + 1024; rw [e0.2]; omega

omit t in
theorem final_4 (O : Fin cfg0.N → Vec Ideal S176x1024 .f32) (ho : ∀ t : Fin cfg0.N, (dats m 0 c).after 4 t = O t) (G : Fin 352 → Fin 1024 → EReal)
    (h : ∀ (t : Fin cfg0.N) (r : Fin 176) (f : Fin 1024), O t (ix2 r f) = G (rowAt t r) f) : (dats m 0 c).arrAt 4 cfg0.N = fun x : S352x1024.Idx => G (x 0) (x 1) := by
  refine (dats m 0 c).arrAt_eq_of_cover 4 (fun x : S352x1024.Idx => G (x 0) (x 1)) (fun t ht => ?_) (fun x => cover_4 x)
  show (cfg0.win 4).cut (grid0.coords t) ((dats m 0 c).after 4 t) = _
  rw [ho]
  funext y
  obtain ⟨r, f, rfl⟩ := pair (a := 176) (b := 1024) y
  exact (h t r f).trans (block_4 t (fun x : S352x1024.Idx => G (x 0) (x 1)) r f).symm

omit t in
theorem final_5 (O : Fin cfg0.N → Vec Ideal S176x1024 .f32) (ho : ∀ t : Fin cfg0.N, (dats m 0 c).after 5 t = O t) (G : Fin 352 → Fin 1024 → EReal)
    (h : ∀ (t : Fin cfg0.N) (r : Fin 176) (f : Fin 1024), O t (ix2 r f) = G (rowAt t r) f) : (dats m 0 c).arrAt 5 cfg0.N = fun x : S352x1024.Idx => G (x 0) (x 1) := by
  refine (dats m 0 c).arrAt_eq_of_cover 5 (fun x : S352x1024.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 176) (b := 1024) y
  exact (h t r f).trans (block_4 t (fun x : S352x1024.Idx => G (x 0) (x 1)) r f).symm

omit t in
theorem final_6 (O : Fin cfg0.N → Vec Ideal S176x1024 .f32) (ho : ∀ t : Fin cfg0.N, (dats m 0 c).after 6 t = O t) (G : Fin 352 → Fin 1024 → EReal)
    (h : ∀ (t : Fin cfg0.N) (r : Fin 176) (f : Fin 1024), O t (ix2 r f) = G (rowAt t r) f) : (dats m 0 c).arrAt 6 cfg0.N = fun x : S352x1024.Idx => G (x 0) (x 1) := by
  refine (dats m 0 c).arrAt_eq_of_cover 6 (fun x : S352x1024.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 176) (b := 1024) y
  exact (h t r f).trans (block_4 t (fun x : S352x1024.Idx => G (x 0) (x 1)) r f).symm

omit t in
theorem final_7 (O : Fin cfg0.N → Vec Ideal S176x1024 .f32) (ho : ∀ t : Fin cfg0.N, (dats m 0 c).after 7 t = O t) (G : Fin 352 → Fin 1024 → EReal)
    (h : ∀ (t : Fin cfg0.N) (r : Fin 176) (f : Fin 1024), O t (ix2 r f) = G (rowAt t r) f) : (dats m 0 c).arrAt 7 cfg0.N = fun x : S352x1024.Idx => G (x 0) (x 1) := by
  refine (dats m 0 c).arrAt_eq_of_cover 7 (fun x : S352x1024.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 176) (b := 1024) y
  exact (h t r f).trans (block_4 t (fun x : S352x1024.Idx => G (x 0) (x 1)) r f).symm

/-- The gradient's parts, the weights and the two moments. -/
abbrev argP : FVec Ideal S4x352x1024 .f32 := m (c, Proc.tc.devRef main_arg0)
abbrev argW : FVec Ideal S352x1024 .f32 := m (c, Proc.tc.devRef main_arg1)
abbrev argM : FVec Ideal S352x1024 .f32 := m (c, Proc.tc.devRef main_arg2)
abbrev argV : FVec Ideal S352x1024 .f32 := m (c, Proc.tc.devRef main_arg3)

omit t in
theorem in_0 (k : Fin 4) (n : Fin 352) (f : Fin 1024) : V m c main_v0 (ix3 k n f) = argP m c (ix3 k n f) := by
  unfold V
  after_reads_at

/-- The gradient. -/
def total (n : Fin 352) (f : Fin 1024) : EReal := ∑ k : Fin 4, argP m c (ix3 k n f)
/-- The two moments after the step, and the change. -/
def first (n : Fin 352) (f : Fin 1024) : EReal := moment1 (argM m c (ix2 n f)) (total m c n f)
def second (n : Fin 352) (f : Fin 1024) : EReal := moment2 (argV m c (ix2 n f)) (total m c n f)
def delta (n : Fin 352) (f : Fin 1024) : EReal := change (argW m c (ix2 n f)) (first m c n f) (second m c n f)

/-- A grid point's blocks. -/
abbrev blk0 : Vec Ideal S4x176x1024 .bf16 := iblk m c 0 t
abbrev blk1 : Vec Ideal S176x1024 .f32 := iblk m c 1 t
abbrev blk2 : Vec Ideal S176x1024 .f32 := iblk m c 2 t
abbrev blk3 : Vec Ideal S176x1024 .f32 := iblk m c 3 t

theorem total_block (r : Fin 176) (f : Fin 1024) : ∑ k : Fin 4, blk0 m c t (ix3 k r f) = total m c (rowAt t r) f :=
  Finset.sum_congr rfl fun k _ => (read_0 c t (V m c) k r f).trans (in_0 m c k _ f)
theorem argW_block (r : Fin 176) (f : Fin 1024) : blk1 m c t (ix2 r f) = argW m c (ix2 (rowAt t r) f) := (block_4 t (V m c main_arg1) r f).trans (congrFun (V_main_arg1 m c) _)
theorem argM_block (r : Fin 176) (f : Fin 1024) : blk2 m c t (ix2 r f) = argM m c (ix2 (rowAt t r) f) := (block_4 t (V m c main_arg2) r f).trans (congrFun (V_main_arg2 m c) _)
theorem argV_block (r : Fin 176) (f : Fin 1024) : blk3 m c t (ix2 r f) = argV m c (ix2 (rowAt t r) f) := (block_4 t (V m c main_arg3) r f).trans (congrFun (V_main_arg3 m c) _)
theorem first_block (r : Fin 176) (f : Fin 1024) : moment1 (blk2 m c t (ix2 r f)) (∑ k : Fin 4, blk0 m c t (ix3 k r f)) = first m c (rowAt t r) f :=
  congrArg₂ moment1 (argM_block m c t r f) (total_block m c t r f)
theorem second_block (r : Fin 176) (f : Fin 1024) : moment2 (blk3 m c t (ix2 r f)) (∑ k : Fin 4, blk0 m c t (ix3 k r f)) = second m c (rowAt t r) f :=
  congrArg₂ moment2 (argV_block m c t r f) (total_block m c t r f)

omit t in
theorem last_4 : (dats m 0 c).arrAt 4 cfg0.N = fun x : S352x1024.Idx => total m c (x 0) (x 1) :=
  final_4 m c _ (after0_4 m c) (total m c) fun t r f => (out4_at _ _ _ _ r f).trans (total_block m c t r f)
omit t in
theorem last_6 : (dats m 0 c).arrAt 6 cfg0.N = fun x : S352x1024.Idx => first m c (x 0) (x 1) :=
  final_6 m c _ (after0_6 m c) (first m c) fun t r f => (out6_at _ _ _ _ r f).trans (first_block m c t r f)
omit t in
theorem last_7 : (dats m 0 c).arrAt 7 cfg0.N = fun x : S352x1024.Idx => second m c (x 0) (x 1) :=
  final_7 m c _ (after0_7 m c) (second m c) fun t r f => (out7_at _ _ _ _ r f).trans (second_block m c t r f)
omit t in
theorem last_5 : (dats m 0 c).arrAt 5 cfg0.N = fun x : S352x1024.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference21Ideal.Read
variable (x0 : FVec Ideal S4x352x1024 .f32) (x1 x2 x3 : FVec Ideal S352x1024 .f32) (n : Fin 352) (f : Fin 1024)

theorem ref_total : val_main_v0 (F := Ideal) x0 (ix2 n f) = ∑ k : Fin 4, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference21Ideal := fun m ρ _ =>
  (θ_run Cert.Reference21Ideal.defs _ _).mono (fun r h => ⟨fun c => (h c).2.2.2.2,
      Idealize.ShloMosaic.sem_eq_zero_of_no_sems (by decide) r.2⟩)
    (Cert.Reference21Ideal.Value.run m ρ)

theorem value : Cert.algebraic_Kernel21Ideal_Reference21Ideal := by
  intro m g m' g' _ hargs
  refine ⟨fun c => fun x : S352x1024.Idx => total m c (x 0) (x 1), fun c => fun x : S352x1024.Idx => delta m c (x 0) (x 1),
    fun c => fun x : S352x1024.Idx => first m c (x 0) (x 1), fun c => fun x : S352x1024.Idx => second m c (x 0) (x 1), ?_, ?_⟩
  · refine (θ_run Cert.Kernel21Ideal.defs _ _).mono (fun r h c => ?_) (Cert.Kernel21Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference21Ideal.defs _ _).mono (fun r h c => ?_) (Cert.Reference21Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference21Ideal.Read.val_main_v0_eq _).trans ?_
      rw [a0]
      funext x
      obtain ⟨n, f, rfl⟩ := pair (a := 352) (b := 1024) x
      exact ref_total _ n f
    · refine (Cert.Reference21Ideal.Read.val_main_v24_eq _ _ _ _).trans ?_
      rw [a0, a1, a2, a3]
      funext x
      obtain ⟨n, f, rfl⟩ := pair (a := 352) (b := 1024) x
      refine (ref_delta _ _ _ _ n f).trans ?_
      rw [ref_first, ref_second, ref_total]
      rfl
    · refine (Cert.Reference21Ideal.Read.val_main_v5_eq _ _).trans ?_
      rw [a0, a2]
      funext x
      obtain ⟨n, f, rfl⟩ := pair (a := 352) (b := 1024) x
      refine (ref_first _ _ n f).trans ?_
      rw [ref_total]
      rfl
    · refine (Cert.Reference21Ideal.Read.val_main_v11_eq _ _).trans ?_
      rw [a0, a3]
      funext x
      obtain ⟨n, f, rfl⟩ := pair (a := 352) (b := 1024) x
      refine (ref_second _ _ n f).trans ?_
      rw [ref_total]
      rfl

end Cert.Proof.AdamDown
-- ==== Proof.AdamSmall.lean ====
/-
  The optimiser's step on the packed small weights: the gradient is the sum of its parts, and the step is taken number by number.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel22Ideal Cert.Kernel22Ideal.Gen

namespace Cert.Proof.AdamSmall

section pays
variable (p0 p1 p2 p3 p4 p5 p6 p7 : Vec Ideal S1x8x1024 .f32) (w u v : Vec Ideal S8x1024 .f32) (r : Fin 8) (f : Fin 1024)

theorem sum_at : k0_pay4 (F := Ideal) p0 p1 p2 p3 p4 p5 p6 p7 (ix2 r f) = (((((((p0 (ix3 0 r f) + p1 (ix3 0 r f)) + p2 (ix3 0 r f)) + p3 (ix3 0 r f)) + p4 (ix3 0 r f)) + p5 (ix3 0 r f)) + p6 (ix3 0 r f)) + p7 (ix3 0 r f)) := by
  pointwise [k0_pay4]
theorem first_at : k0_pay1 (F := Ideal) (k0_pay4 (F := Ideal) p0 p1 p2 p3 p4 p5 p6 p7) (k0_pay5 u) (ix2 r f) = moment1 (u (ix2 r f)) (k0_pay4 (F := Ideal) p0 p1 p2 p3 p4 p5 p6 p7 (ix2 r f)) := by
  unfold moment1
  generalize hg : k0_pay4 (F := Ideal) p0 p1 p2 p3 p4 p5 p6 p7 = g
  pointwise [k0_pay1, k0_pay5, hg]
theorem second_at : k0_pay2 (F := Ideal) (k0_pay4 (F := Ideal) p0 p1 p2 p3 p4 p5 p6 p7) v (ix2 r f) = moment2 (v (ix2 r f)) (k0_pay4 (F := Ideal) p0 p1 p2 p3 p4 p5 p6 p7 (ix2 r f)) := by
  unfold moment2
  generalize hg : k0_pay4 (F := Ideal) p0 p1 p2 p3 p4 p5 p6 p7 = g
  pointwise [k0_pay2, hg]
theorem change_at : k0_pay3 (F := Ideal) (k0_pay4 (F := Ideal) p0 p1 p2 p3 p4 p5 p6 p7) w v (k0_pay5 u) (ix2 r f) = change (w (ix2 r f)) (k0_pay1 (F := Ideal) (k0_pay4 (F := Ideal) p0 p1 p2 p3 p4 p5 p6 p7) (k0_pay5 u) (ix2 r f)) (k0_pay2 (F := Ideal) (k0_pay4 (F := Ideal) p0 p1 p2 p3 p4 p5 p6 p7) v (ix2 r f)) := by
  unfold change
  unfold k0_pay3
  generalize ha : k0_pay1 (F := Ideal) (k0_pay4 (F := Ideal) p0 p1 p2 p3 p4 p5 p6 p7) (k0_pay5 u) = a
  generalize hb : k0_pay2 (F := Ideal) (k0_pay4 (F := Ideal) p0 p1 p2 p3 p4 p5 p6 p7) v = b
  pointwise []
end pays

section blocks
variable (x0 : Vec Ideal S8x8x1024 .f32) (x1 x2 x3 : Vec Ideal S8x1024 .f32) (r : Fin 8) (f : Fin 1024)

theorem part_0 : View.ld x0 r0_0 (ix3 0 r f) = x0 (ix3 0 r f) :=
  View.ld_unit_apply_of x0 ![0, 0, 0] S1x8x1024.size _ (ix3 0 r f) (ix3 0 r f) fun a => by
    match a with
    | ⟨0, _⟩ => rfl
    | ⟨1, _⟩ => exact (Nat.zero_add r.val).symm
    | ⟨2, _⟩ => exact (Nat.zero_add f.val).symm
theorem part_1 : View.ld x0 r0_1 (ix3 0 r f) = x0 (ix3 1 r f) :=
  View.ld_unit_apply_of x0 ![1, 0, 0] S1x8x1024.size _ (ix3 0 r f) (ix3 1 r f) fun a => by
    match a with
    | ⟨0, _⟩ => rfl
    | ⟨1, _⟩ => exact (Nat.zero_add r.val).symm
    | ⟨2, _⟩ => exact (Nat.zero_add f.val).symm
theorem part_2 : View.ld x0 r0_2 (ix3 0 r f) = x0 (ix3 2 r f) :=
  View.ld_unit_apply_of x0 ![2, 0, 0] S1x8x1024.size _ (ix3 0 r f) (ix3 2 r f) fun a => by
    match a with
    | ⟨0, _⟩ => rfl
    | ⟨1, _⟩ => exact (Nat.zero_add r.val).symm
    | ⟨2, _⟩ => exact (Nat.zero_add f.val).symm
theorem part_3 : View.ld x0 r0_3 (ix3 0 r f) = x0 (ix3 3 r f) :=
  View.ld_unit_apply_of x0 ![3, 0, 0] S1x8x1024.size _ (ix3 0 r f) (ix3 3 r f) fun a => by
    match a with
    | ⟨0, _⟩ => rfl
    | ⟨1, _⟩ => exact (Nat.zero_add r.val).symm
    | ⟨2, _⟩ => exact (Nat.zero_add f.val).symm
theorem part_4 : View.ld x0 r0_4 (ix3 0 r f) = x0 (ix3 4 r f) :=
  View.ld_unit_apply_of x0 ![4, 0, 0] S1x8x1024.size _ (ix3 0 r f) (ix3 4 r f) fun a => by
    match a with
    | ⟨0, _⟩ => rfl
    | ⟨1, _⟩ => exact (Nat.zero_add r.val).symm
    | ⟨2, _⟩ => exact (Nat.zero_add f.val).symm
theorem part_5 : View.ld x0 r0_5 (ix3 0 r f) = x0 (ix3 5 r f) :=
  View.ld_unit_apply_of x0 ![5, 0, 0] S1x8x1024.size _ (ix3 0 r f) (ix3 5 r f) fun a => by
    match a with
    | ⟨0, _⟩ => rfl
    | ⟨1, _⟩ => exact (Nat.zero_add r.val).symm
    | ⟨2, _⟩ => exact (Nat.zero_add f.val).symm
theorem part_6 : View.ld x0 r0_6 (ix3 0 r f) = x0 (ix3 6 r f) :=
  View.ld_unit_apply_of x0 ![6, 0, 0] S1x8x1024.size _ (ix3 0 r f) (ix3 6 r f) fun a => by
    match a with
    | ⟨0, _⟩ => rfl
    | ⟨1, _⟩ => exact (Nat.zero_add r.val).symm
    | ⟨2, _⟩ => exact (Nat.zero_add f.val).symm
theorem part_7 : View.ld x0 r0_7 (ix3 0 r f) = x0 (ix3 7 r f) :=
  View.ld_unit_apply_of x0 ![7, 0, 0] S1x8x1024.size _ (ix3 0 r f) (ix3 7 r f) fun a => by
    match a with
    | ⟨0, _⟩ => rfl
    | ⟨1, _⟩ => exact (Nat.zero_add r.val).symm
    | ⟨2, _⟩ => exact (Nat.zero_add f.val).symm
theorem total_at : k0_pay4 (F := Ideal) (View.ld x0 r0_0) (View.ld x0 r0_1) (View.ld x0 r0_2) (View.ld x0 r0_3) (View.ld x0 r0_4) (View.ld x0 r0_5) (View.ld x0 r0_6) (View.ld x0 r0_7) (ix2 r f) = ∑ k : Fin 8, x0 (ix3 k r f) := by
  rw [sum_at, part_0, part_1, part_2, part_3, part_4, part_5, part_6, part_7]
  exact (Fin.sum_univ_eight fun k : Fin 8 => x0 (ix3 k r f)).symm
theorem out4_at : out0_4 (F := Ideal) x0 x1 x2 x3 (ix2 r f) = ∑ k : Fin 8, x0 (ix3 k r f) := by
  unfold out0_4 k0_pay6
  rw [View.canon_unit_zero zero2]
  exact total_at x0 r f
theorem out6_at : out0_6 (F := Ideal) x0 x1 x2 x3 (ix2 r f) = moment1 (x2 (ix2 r f)) (∑ k : Fin 8, x0 (ix3 k r f)) := by
  unfold out0_6 k0_pay6 k0_pay7
  rw [View.canon_unit_zero zero2, View.ld_unit_zero (S := S8x1024) zero2]
  exact (first_at (View.ld x0 r0_0) (View.ld x0 r0_1) (View.ld x0 r0_2) (View.ld x0 r0_3) (View.ld x0 r0_4) (View.ld x0 r0_5) (View.ld x0 r0_6) (View.ld x0 r0_7) x2 r f).trans (congrArg (moment1 (x2 (ix2 r f))) (total_at x0 r f))
theorem out7_at : out0_7 (F := Ideal) x0 x1 x2 x3 (ix2 r f) = moment2 (x3 (ix2 r f)) (∑ k : Fin 8, x0 (ix3 k r f)) := by
  unfold out0_7 k0_pay6
  rw [View.canon_unit_zero zero2, View.ld_unit_zero (S := S8x1024) zero2]
  exact (second_at (View.ld x0 r0_0) (View.ld x0 r0_1) (View.ld x0 r0_2) (View.ld x0 r0_3) (View.ld x0 r0_4) (View.ld x0 r0_5) (View.ld x0 r0_6) (View.ld x0 r0_7) x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 8, x0 (ix3 k r f))) (moment2 (x3 (ix2 r f)) (∑ k : Fin 8, x0 (ix3 k r f))) := by
  unfold out0_5 k0_pay6 k0_pay7
  rw [View.canon_unit_zero zero2, View.ld_unit_zero (S := S8x1024) zero2, View.ld_unit_zero (S := S8x1024) zero2, View.ld_unit_zero (S := S8x1024) zero2]
  exact (change_at (View.ld x0 r0_0) (View.ld x0 r0_1) (View.ld x0 r0_2) (View.ld x0 r0_3) (View.ld x0 r0_4) (View.ld x0 r0_5) (View.ld x0 r0_6) (View.ld x0 r0_7) x1 x2 x3 r f).trans (congrArg₂ (change (x1 (ix2 r f)))
    ((first_at (View.ld x0 r0_0) (View.ld x0 r0_1) (View.ld x0 r0_2) (View.ld x0 r0_3) (View.ld x0 r0_4) (View.ld x0 r0_5) (View.ld x0 r0_6) (View.ld x0 r0_7) x2 r f).trans (congrArg (moment1 (x2 (ix2 r f))) (total_at x0 r f)))
    ((second_at (View.ld x0 r0_0) (View.ld x0 r0_1) (View.ld x0 r0_2) (View.ld x0 r0_3) (View.ld x0 r0_4) (View.ld x0 r0_5) (View.ld x0 r0_6) (View.ld x0 r0_7) x3 r f).trans (congrArg (moment2 (x3 (ix2 r f))) (total_at x0 r f))))
end blocks

/-- The one point of the grid. -/
def pointOf (n : Fin 8) : Fin cfg0.N := ⟨0, by have hN : cfg0.N = 1 := N_0; omega⟩

theorem ix_0 : ∀ t : Fin grid0.N, win0_0.index t 0 = 0 ∧ win0_0.index t 1 = 0 ∧ win0_0.index t 2 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 8) (r : Fin 8) (f : Fin 1024) :
    ((cfg0.win 0).blk t).view.read (Elt Ideal) (W (Pipeline.arrRef spec0 0)) (ix3 k r f) = W main_arg0 (ix3 k r f) := by
  rw [View.read_apply]
  refine congrArg (W main_arg0) (funext fun a => Fin.ext ?_)
  match a with
  | ⟨0, _⟩ => show win0_0.index t 0 * 8 + 1 * k.val = k.val; rw [(ix_0 t).1]; omega
  | ⟨1, _⟩ => show win0_0.index t 1 * 8 + 1 * r.val = r.val; rw [(ix_0 t).2.1]; omega
  | ⟨2, _⟩ => show win0_0.index t 2 * 1024 + 1 * f.val = f.val; rw [(ix_0 t).2.2]; omega

/-- A block of an array with one block per grid point; the arrays in and out are all laid out so. -/
theorem block_4 (A : S8x1024.Idx → EReal) (r : Fin 8) (f : Fin 1024) :
    ((cfg0.win 4).blk t).view.read (Elt Ideal) A (ix2 r f) = A (ix2 r f) := by
  rw [View.read_apply]
  refine congrArg A (funext fun a => Fin.ext ?_)
  match a with
  | ⟨0, _⟩ => show win0_4.index t 0 * 8 + 1 * r.val = r.val; rw [(ix_4 t).1]; omega
  | ⟨1, _⟩ => show win0_4.index t 1 * 1024 + 1 * f.val = f.val; rw [(ix_4 t).2]; omega
theorem cover_4 (x : S8x1024.Idx) : ∃ t : Fin cfg0.N, (cfg0.win 4).flush t = true ∧ x ∈ ((View.whole main_v0_0).slice (win0_4.rect t)).set := by
  obtain ⟨n, f, rfl⟩ := pair (a := 8) (b := 1024) x
  refine ⟨pointOf n, flush_4 _, ?_⟩
  rw [View.set_slice_whole, Rect.mem_set_unit]
  have hp : (pointOf n).val = 0 := rfl
  have hn := n.isLt
  have hf := f.isLt
  have e0 := ix_4 (pointOf n)
  intro a
  match a with
  | ⟨0, _⟩ => show win0_4.index (pointOf n) 0 * 8 ≤ n.val ∧ n.val < win0_4.index (pointOf n) 0 * 8 + 8; rw [e0.1]; omega
  | ⟨1, _⟩ => show win0_4.index (pointOf n) 1 * 1024 ≤ f.val ∧ f.val < win0_4.index (pointOf n) 1 * 1024 + 1024; rw [e0.2]; omega

omit t in
theorem final_4 (O : Fin cfg0.N → Vec Ideal S8x1024 .f32) (ho : ∀ t : Fin cfg0.N, (dats m 0 c).after 4 t = O t) (G : Fin 8 → Fin 1024 → EReal)
    (h : ∀ (t : Fin cfg0.N) (r : Fin 8) (f : Fin 1024), O t (ix2 r f) = G r f) : (dats m 0 c).arrAt 4 cfg0.N = fun x : S8x1024.Idx => G (x 0) (x 1) := by
  refine (dats m 0 c).arrAt_eq_of_cover 4 (fun x : S8x1024.Idx => G (x 0) (x 1)) (fun t ht => ?_) (fun x => cover_4 x)
  show (cfg0.win 4).cut (grid0.coords t) ((dats m 0 c).after 4 t) = _
  rw [ho]
  funext y
  obtain ⟨r, f, rfl⟩ := pair (a := 8) (b := 1024) y
  exact (h t r f).trans (block_4 t (fun x : S8x1024.Idx => G (x 0) (x 1)) r f).symm

omit t in
theorem final_5 (O : Fin cfg0.N → Vec Ideal S8x1024 .f32) (ho : ∀ t : Fin cfg0.N, (dats m 0 c).after 5 t = O t) (G : Fin 8 → Fin 1024 → EReal)
    (h : ∀ (t : Fin cfg0.N) (r : Fin 8) (f : Fin 1024), O t (ix2 r f) = G r f) : (dats m 0 c).arrAt 5 cfg0.N = fun x : S8x1024.Idx => G (x 0) (x 1) := by
  refine (dats m 0 c).arrAt_eq_of_cover 5 (fun x : S8x1024.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 8) (b := 1024) y
  exact (h t r f).trans (block_4 t (fun x : S8x1024.Idx => G (x 0) (x 1)) r f).symm

omit t in
theorem final_6 (O : Fin cfg0.N → Vec Ideal S8x1024 .f32) (ho : ∀ t : Fin cfg0.N, (dats m 0 c).after 6 t = O t) (G : Fin 8 → Fin 1024 → EReal)
    (h : ∀ (t : Fin cfg0.N) (r : Fin 8) (f : Fin 1024), O t (ix2 r f) = G r f) : (dats m 0 c).arrAt 6 cfg0.N = fun x : S8x1024.Idx => G (x 0) (x 1) := by
  refine (dats m 0 c).arrAt_eq_of_cover 6 (fun x : S8x1024.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 8) (b := 1024) y
  exact (h t r f).trans (block_4 t (fun x : S8x1024.Idx => G (x 0) (x 1)) r f).symm

omit t in
theorem final_7 (O : Fin cfg0.N → Vec Ideal S8x1024 .f32) (ho : ∀ t : Fin cfg0.N, (dats m 0 c).after 7 t = O t) (G : Fin 8 → Fin 1024 → EReal)
    (h : ∀ (t : Fin cfg0.N) (r : Fin 8) (f : Fin 1024), O t (ix2 r f) = G r f) : (dats m 0 c).arrAt 7 cfg0.N = fun x : S8x1024.Idx => G (x 0) (x 1) := by
  refine (dats m 0 c).arrAt_eq_of_cover 7 (fun x : S8x1024.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 8) (b := 1024) y
  exact (h t r f).trans (block_4 t (fun x : S8x1024.Idx => G (x 0) (x 1)) r f).symm

/-- The gradient's parts, the weights and the two moments. -/
abbrev argP : FVec Ideal S8x8x1024 .f32 := m (c, Proc.tc.devRef main_arg0)
abbrev argW : FVec Ideal S8x1024 .f32 := m (c, Proc.tc.devRef main_arg1)
abbrev argM : FVec Ideal S8x1024 .f32 := m (c, Proc.tc.devRef main_arg2)
abbrev argV : FVec Ideal S8x1024 .f32 := m (c, Proc.tc.devRef main_arg3)

omit t in
theorem in_0 (k : Fin 8) (n : Fin 8) (f : Fin 1024) : V m c main_arg0 (ix3 k n f) = argP m c (ix3 k n f) := rfl

/-- The gradient. -/
def total (n : Fin 8) (f : Fin 1024) : EReal := ∑ k : Fin 8, argP m c (ix3 k n f)
/-- The two moments after the step, and the change. -/
def first (n : Fin 8) (f : Fin 1024) : EReal := moment1 (argM m c (ix2 n f)) (total m c n f)
def second (n : Fin 8) (f : Fin 1024) : EReal := moment2 (argV m c (ix2 n f)) (total m c n f)
def delta (n : Fin 8) (f : Fin 1024) : EReal := change (argW m c (ix2 n f)) (first m c n f) (second m c n f)

/-- A grid point's blocks. -/
abbrev blk0 : Vec Ideal S8x8x1024 .f32 := iblk m c 0 t
abbrev blk1 : Vec Ideal S8x1024 .f32 := iblk m c 1 t
abbrev blk2 : Vec Ideal S8x1024 .f32 := iblk m c 2 t
abbrev blk3 : Vec Ideal S8x1024 .f32 := iblk m c 3 t

theorem total_block (r : Fin 8) (f : Fin 1024) : ∑ k : Fin 8, blk0 m c t (ix3 k r f) = total m c r f :=
  Finset.sum_congr rfl fun k _ => (read_0 c t (V m c) k r f).trans (in_0 m c k _ f)
theorem argW_block (r : Fin 8) (f : Fin 1024) : blk1 m c t (ix2 r f) = argW m c (ix2 r f) := (block_4 t (V m c main_arg1) r f).trans rfl
theorem argM_block (r : Fin 8) (f : Fin 1024) : blk2 m c t (ix2 r f) = argM m c (ix2 r f) := (block_4 t (V m c main_arg2) r f).trans rfl
theorem argV_block (r : Fin 8) (f : Fin 1024) : blk3 m c t (ix2 r f) = argV m c (ix2 r f) := (block_4 t (V m c main_arg3) r f).trans rfl
theorem first_block (r : Fin 8) (f : Fin 1024) : moment1 (blk2 m c t (ix2 r f)) (∑ k : Fin 8, blk0 m c t (ix3 k r f)) = first m c r f :=
  congrArg₂ moment1 (argM_block m c t r f) (total_block m c t r f)
theorem second_block (r : Fin 8) (f : Fin 1024) : moment2 (blk3 m c t (ix2 r f)) (∑ k : Fin 8, blk0 m c t (ix3 k r f)) = second m c r f :=
  congrArg₂ moment2 (argV_block m c t r f) (total_block m c t r f)

omit t in
theorem last_4 : (dats m 0 c).arrAt 4 cfg0.N = fun x : S8x1024.Idx => total m c (x 0) (x 1) :=
  final_4 m c _ (after0_4 m c) (total m c) fun t r f => (out4_at _ _ _ _ r f).trans (total_block m c t r f)
omit t in
theorem last_6 : (dats m 0 c).arrAt 6 cfg0.N = fun x : S8x1024.Idx => first m c (x 0) (x 1) :=
  final_6 m c _ (after0_6 m c) (first m c) fun t r f => (out6_at _ _ _ _ r f).trans (first_block m c t r f)
omit t in
theorem last_7 : (dats m 0 c).arrAt 7 cfg0.N = fun x : S8x1024.Idx => second m c (x 0) (x 1) :=
  final_7 m c _ (after0_7 m c) (second m c) fun t r f => (out7_at _ _ _ _ r f).trans (second_block m c t r f)
omit t in
theorem last_5 : (dats m 0 c).arrAt 5 cfg0.N = fun x : S8x1024.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference22Ideal.Read
variable (x0 : FVec Ideal S8x8x1024 .f32) (x1 x2 x3 : FVec Ideal S8x1024 .f32) (n : Fin 8) (f : Fin 1024)

theorem ref_total : val_main_v0 (F := Ideal) x0 (ix2 n f) = ∑ k : Fin 8, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference22Ideal := fun m ρ _ =>
  (θ_run Cert.Reference22Ideal.defs _ _).mono (fun r h => ⟨fun c => (h c).2.2.2.2,
      Idealize.ShloMosaic.sem_eq_zero_of_no_sems (by decide) r.2⟩)
    (Cert.Reference22Ideal.Value.run m ρ)

theorem value : Cert.algebraic_Kernel22Ideal_Reference22Ideal := by
  intro m g m' g' _ hargs
  refine ⟨fun c => fun x : S8x1024.Idx => total m c (x 0) (x 1), fun c => fun x : S8x1024.Idx => delta m c (x 0) (x 1),
    fun c => fun x : S8x1024.Idx => first m c (x 0) (x 1), fun c => fun x : S8x1024.Idx => second m c (x 0) (x 1), ?_, ?_⟩
  · refine (θ_run Cert.Kernel22Ideal.defs _ _).mono (fun r h c => ?_) (Cert.Kernel22Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference22Ideal.defs _ _).mono (fun r h c => ?_) (Cert.Reference22Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference22Ideal.Read.val_main_v0_eq _).trans ?_
      rw [a0]
      funext x
      obtain ⟨n, f, rfl⟩ := pair (a := 8) (b := 1024) x
      exact ref_total _ n f
    · refine (Cert.Reference22Ideal.Read.val_main_v24_eq _ _ _ _).trans ?_
      rw [a0, a1, a2, a3]
      funext x
      obtain ⟨n, f, rfl⟩ := pair (a := 8) (b := 1024) x
      refine (ref_delta _ _ _ _ n f).trans ?_
      rw [ref_first, ref_second, ref_total]
      rfl
    · refine (Cert.Reference22Ideal.Read.val_main_v5_eq _ _).trans ?_
      rw [a0, a2]
      funext x
      obtain ⟨n, f, rfl⟩ := pair (a := 8) (b := 1024) x
      refine (ref_first _ _ n f).trans ?_
      rw [ref_total]
      rfl
    · refine (Cert.Reference22Ideal.Read.val_main_v11_eq _ _).trans ?_
      rw [a0, a3]
      funext x
      obtain ⟨n, f, rfl⟩ := pair (a := 8) (b := 1024) x
      refine (ref_second _ _ n f).trans ?_
      rw [ref_total]
      rfl

end Cert.Proof.AdamSmall
-- ==== Proof.AdamBounds.lean ====
/-
  The optimiser's step on the logits of the lower bounds: the gradient is the sum of its parts, and the step is taken number by number.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Adam Cert.Proof.Index
open Cert.Kernel23Ideal Cert.Kernel23Ideal.Gen

namespace Cert.Proof.AdamBounds

section pays
variable (p0 : Vec Ideal S1x4x64 .f32) (w u v : Vec Ideal S4x64 .f32) (r : Fin 4) (f : Fin 64)

theorem sum_at : k0_pay1 (F := Ideal) p0 (ix2 r f) = p0 (ix3 0 r f) := by
  pointwise [k0_pay1]
theorem first_at : k0_pay2 (F := Ideal) p0 u (ix2 r f) = moment1 (u (ix2 r f)) (k0_pay1 (F := Ideal) p0 (ix2 r f)) := by
  unfold moment1
  generalize hg : k0_pay1 (F := Ideal) p0 = g
  pointwise [k0_pay2, hg]
theorem second_at : k0_pay3 (F := Ideal) p0 v (ix2 r f) = moment2 (v (ix2 r f)) (k0_pay1 (F := Ideal) p0 (ix2 r f)) := by
  unfold moment2
  generalize hg : k0_pay1 (F := Ideal) p0 = g
  pointwise [k0_pay3, hg]
theorem change_at : k0_pay4 (F := Ideal) p0 w u v (ix2 r f) = change (w (ix2 r f)) (k0_pay2 (F := Ideal) p0 u (ix2 r f)) (k0_pay3 (F := Ideal) p0 v (ix2 r f)) := by
  unfold change
  generalize ha : k0_pay2 (F := Ideal) p0 u = a
  generalize hb : k0_pay3 (F := Ideal) p0 v = b
  pointwise [k0_pay4, ha, hb]
end pays

section blocks
variable (x0 : Vec Ideal S1x4x64 .f32) (x1 x2 x3 : Vec Ideal S4x64 .f32) (r : Fin 4) (f : Fin 64)

theorem total_at : k0_pay1 (F := Ideal) x0 (ix2 r f) = ∑ k : Fin 1, x0 (ix3 k r f) := by
  rw [sum_at]
  exact (Fin.sum_univ_one fun k : Fin 1 => x0 (ix3 k r f)).symm
theorem out4_at : out0_4 (F := Ideal) x0 x1 x2 x3 (ix2 r f) = ∑ k : Fin 1, x0 (ix3 k r f) := by
  unfold out0_4
  rw [View.canon_unit_zero zero2, View.ld_unit_zero (S := S1x4x64) zero3]
  exact total_at x0 r f
theorem out6_at : out0_6 (F := Ideal) x0 x1 x2 x3 (ix2 r f) = moment1 (x2 (ix2 r f)) (∑ k : Fin 1, x0 (ix3 k r f)) := by
  unfold out0_6
  rw [View.canon_unit_zero zero2, View.ld_unit_zero (S := S1x4x64) zero3, View.ld_unit_zero (S := S4x64) zero2]
  exact (first_at x0 x2 r f).trans (congrArg (moment1 (x2 (ix2 r f))) (total_at x0 r f))
theorem out7_at : out0_7 (F := Ideal) x0 x1 x2 x3 (ix2 r f) = moment2 (x3 (ix2 r f)) (∑ k : Fin 1, x0 (ix3 k r f)) := by
  unfold out0_7
  rw [View.canon_unit_zero zero2, View.ld_unit_zero (S := S1x4x64) zero3, View.ld_unit_zero (S := S4x64) zero2]
  exact (second_at x0 x3 r f).trans (congrArg (moment2 (x3 (ix2 r f))) (total_at x0 r f))
theorem out5_at : out0_5 (F := Ideal) x0 x1 x2 x3 (ix2 r f) = change (x1 (ix2 r f)) (moment1 (x2 (ix2 r f)) (∑ k : Fin 1, x0 (ix3 k r f))) (moment2 (x3 (ix2 r f)) (∑ k : Fin 1, x0 (ix3 k r f))) := by
  unfold out0_5
  rw [View.canon_unit_zero zero2, View.ld_unit_zero (S := S1x4x64) zero3, View.ld_unit_zero (S := S4x64) zero2, View.ld_unit_zero (S := S4x64) zero2, View.ld_unit_zero (S := S4x64) zero2]
  exact (change_at x0 x1 x2 x3 r f).trans (congrArg₂ (change (x1 (ix2 r f)))
    ((first_at x0 x2 r f).trans (congrArg (moment1 (x2 (ix2 r f))) (total_at x0 r f)))
    ((second_at x0 x3 r f).trans (congrArg (moment2 (x3 (ix2 r f))) (total_at x0 r f))))
end blocks

/-- The one point of the grid. -/
def pointOf (n : Fin 4) : Fin cfg0.N := ⟨0, by have hN : cfg0.N = 1 := N_0; omega⟩

theorem ix_0 : ∀ t : Fin grid0.N, win0_0.index t 0 = 0 ∧ win0_0.index t 1 = 0 ∧ win0_0.index t 2 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)
theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (k : Fin 1) (r : Fin 4) (f : Fin 64) :
    ((cfg0.win 0).blk t).view.read (Elt Ideal) (W (Pipeline.arrRef spec0 0)) (ix3 k r f) = W main_arg0 (ix3 k r f) := by
  rw [View.read_apply]
  refine congrArg (W main_arg0) (funext fun a => Fin.ext ?_)
  match a with
  | ⟨0, _⟩ => show win0_0.index t 0 * 1 + 1 * k.val = k.val; rw [(ix_0 t).1]; omega
  | ⟨1, _⟩ => show win0_0.index t 1 * 4 + 1 * r.val = r.val; rw [(ix_0 t).2.1]; omega
  | ⟨2, _⟩ => show win0_0.index t 2 * 64 + 1 * f.val = f.val; rw [(ix_0 t).2.2]; omega

/-- A block of an array with one block per grid point; the arrays in and out are all laid out so. -/
theorem block_4 (A : S4x64.Idx → EReal) (r : Fin 4) (f : Fin 64) :
    ((cfg0.win 4).blk t).view.read (Elt Ideal) A (ix2 r f) = A (ix2 r f) := by
  rw [View.read_apply]
  refine congrArg A (funext fun a => Fin.ext ?_)
  match a with
  | ⟨0, _⟩ => show win0_4.index t 0 * 4 + 1 * r.val = r.val; rw [(ix_4 t).1]; omega
  | ⟨1, _⟩ => show win0_4.index t 1 * 64 + 1 * f.val = f.val; rw [(ix_4 t).2]; omega
theorem cover_4 (x : S4x64.Idx) : ∃ t : Fin cfg0.N, (cfg0.win 4).flush t = true ∧ x ∈ ((View.whole main_v0_0).slice (win0_4.rect t)).set := by
  obtain ⟨n, f, rfl⟩ := pair (a := 4) (b := 64) x
  refine ⟨pointOf n, flush_4 _, ?_⟩
  rw [View.set_slice_whole, Rect.mem_set_unit]
  have hp : (pointOf n).val = 0 := rfl
  have hn := n.isLt
  have hf := f.isLt
  have e0 := ix_4 (pointOf n)
  intro a
  match a with
  | ⟨0, _⟩ => show win0_4.index (pointOf n) 0 * 4 ≤ n.val ∧ n.val < win0_4.index (pointOf n) 0 * 4 + 4; rw [e0.1]; omega
  | ⟨1, _⟩ => show win0_4.index (pointOf n) 1 * 64 ≤ f.val ∧ f.val < win0_4.index (pointOf n) 1 * 64 + 64; rw [e0.2]; omega

omit t in
theorem final_4 (O : Fin cfg0.N → Vec Ideal S4x64 .f32) (ho : ∀ t : Fin cfg0.N, (dats m 0 c).after 4 t = O t) (G : Fin 4 → Fin 64 → EReal)
    (h : ∀ (t : Fin cfg0.N) (r : Fin 4) (f : Fin 64), O t (ix2 r f) = G r f) : (dats m 0 c).arrAt 4 cfg0.N = fun x : S4x64.Idx => G (x 0) (x 1) := by
  refine (dats m 0 c).arrAt_eq_of_cover 4 (fun x : S4x64.Idx => G (x 0) (x 1)) (fun t ht => ?_) (fun x => cover_4 x)
  show (cfg0.win 4).cut (grid0.coords t) ((dats m 0 c).after 4 t) = _
  rw [ho]
  funext y
  obtain ⟨r, f, rfl⟩ := pair (a := 4) (b := 64) y
  exact (h t r f).trans (block_4 t (fun x : S4x64.Idx => G (x 0) (x 1)) r f).symm

omit t in
theorem final_5 (O : Fin cfg0.N → Vec Ideal S4x64 .f32) (ho : ∀ t : Fin cfg0.N, (dats m 0 c).after 5 t = O t) (G : Fin 4 → Fin 64 → EReal)
    (h : ∀ (t : Fin cfg0.N) (r : Fin 4) (f : Fin 64), O t (ix2 r f) = G r f) : (dats m 0 c).arrAt 5 cfg0.N = fun x : S4x64.Idx => G (x 0) (x 1) := by
  refine (dats m 0 c).arrAt_eq_of_cover 5 (fun x : S4x64.Idx => G (x 0) (x 1)) (fun t ht => ?_) (fun x => (cover_4 x).imp fun t h => ⟨flush_5 t, h.2⟩)
  show (cfg0.win 5).cut (grid0.coords t) ((dats m 0 c).after 5 t) = _
  rw [ho]
  funext y
  obtain ⟨r, f, rfl⟩ := pair (a := 4) (b := 64) y
  exact (h t r f).trans (block_4 t (fun x : S4x64.Idx => G (x 0) (x 1)) r f).symm

omit t in
theorem final_6 (O : Fin cfg0.N → Vec Ideal S4x64 .f32) (ho : ∀ t : Fin cfg0.N, (dats m 0 c).after 6 t = O t) (G : Fin 4 → Fin 64 → EReal)
    (h : ∀ (t : Fin cfg0.N) (r : Fin 4) (f : Fin 64), O t (ix2 r f) = G r f) : (dats m 0 c).arrAt 6 cfg0.N = fun x : S4x64.Idx => G (x 0) (x 1) := by
  refine (dats m 0 c).arrAt_eq_of_cover 6 (fun x : S4x64.Idx => G (x 0) (x 1)) (fun t ht => ?_) (fun x => (cover_4 x).imp fun t h => ⟨flush_6 t, h.2⟩)
  show (cfg0.win 6).cut (grid0.coords t) ((dats m 0 c).after 6 t) = _
  rw [ho]
  funext y
  obtain ⟨r, f, rfl⟩ := pair (a := 4) (b := 64) y
  exact (h t r f).trans (block_4 t (fun x : S4x64.Idx => G (x 0) (x 1)) r f).symm

omit t in
theorem final_7 (O : Fin cfg0.N → Vec Ideal S4x64 .f32) (ho : ∀ t : Fin cfg0.N, (dats m 0 c).after 7 t = O t) (G : Fin 4 → Fin 64 → EReal)
    (h : ∀ (t : Fin cfg0.N) (r : Fin 4) (f : Fin 64), O t (ix2 r f) = G r f) : (dats m 0 c).arrAt 7 cfg0.N = fun x : S4x64.Idx => G (x 0) (x 1) := by
  refine (dats m 0 c).arrAt_eq_of_cover 7 (fun x : S4x64.Idx => G (x 0) (x 1)) (fun t ht => ?_) (fun x => (cover_4 x).imp fun t h => ⟨flush_7 t, h.2⟩)
  show (cfg0.win 7).cut (grid0.coords t) ((dats m 0 c).after 7 t) = _
  rw [ho]
  funext y
  obtain ⟨r, f, rfl⟩ := pair (a := 4) (b := 64) y
  exact (h t r f).trans (block_4 t (fun x : S4x64.Idx => G (x 0) (x 1)) r f).symm

/-- The gradient's parts, the weights and the two moments. -/
abbrev argP : FVec Ideal S1x4x64 .f32 := m (c, Proc.tc.devRef main_arg0)
abbrev argW : FVec Ideal S4x64 .f32 := m (c, Proc.tc.devRef main_arg1)
abbrev argM : FVec Ideal S4x64 .f32 := m (c, Proc.tc.devRef main_arg2)
abbrev argV : FVec Ideal S4x64 .f32 := m (c, Proc.tc.devRef main_arg3)

omit t in
theorem in_0 (k : Fin 1) (n : Fin 4) (f : Fin 64) : V m c main_arg0 (ix3 k n f) = argP m c (ix3 k n f) := rfl

/-- The gradient. -/
def total (n : Fin 4) (f : Fin 64) : EReal := ∑ k : Fin 1, argP m c (ix3 k n f)
/-- The two moments after the step, and the change. -/
def first (n : Fin 4) (f : Fin 64) : EReal := moment1 (argM m c (ix2 n f)) (total m c n f)
def second (n : Fin 4) (f : Fin 64) : EReal := moment2 (argV m c (ix2 n f)) (total m c n f)
def delta (n : Fin 4) (f : Fin 64) : EReal := change (argW m c (ix2 n f)) (first m c n f) (second m c n f)

/-- A grid point's blocks. -/
abbrev blk0 : Vec Ideal S1x4x64 .f32 := iblk m c 0 t
abbrev blk1 : Vec Ideal S4x64 .f32 := iblk m c 1 t
abbrev blk2 : Vec Ideal S4x64 .f32 := iblk m c 2 t
abbrev blk3 : Vec Ideal S4x64 .f32 := iblk m c 3 t

theorem total_block (r : Fin 4) (f : Fin 64) : ∑ k : Fin 1, blk0 m c t (ix3 k r f) = total m c r f :=
  Finset.sum_congr rfl fun k _ => (read_0 c t (V m c) k r f).trans (in_0 m c k _ f)
theorem argW_block (r : Fin 4) (f : Fin 64) : blk1 m c t (ix2 r f) = argW m c (ix2 r f) := (block_4 t (V m c main_arg1) r f).trans rfl
theorem argM_block (r : Fin 4) (f : Fin 64) : blk2 m c t (ix2 r f) = argM m c (ix2 r f) := (block_4 t (V m c main_arg2) r f).trans rfl
theorem argV_block (r : Fin 4) (f : Fin 64) : blk3 m c t (ix2 r f) = argV m c (ix2 r f) := (block_4 t (V m c main_arg3) r f).trans rfl
theorem first_block (r : Fin 4) (f : Fin 64) : moment1 (blk2 m c t (ix2 r f)) (∑ k : Fin 1, blk0 m c t (ix3 k r f)) = first m c r f :=
  congrArg₂ moment1 (argM_block m c t r f) (total_block m c t r f)
theorem second_block (r : Fin 4) (f : Fin 64) : moment2 (blk3 m c t (ix2 r f)) (∑ k : Fin 1, blk0 m c t (ix3 k r f)) = second m c r f :=
  congrArg₂ moment2 (argV_block m c t r f) (total_block m c t r f)

omit t in
theorem last_4 : (dats m 0 c).arrAt 4 cfg0.N = fun x : S4x64.Idx => total m c (x 0) (x 1) :=
  final_4 m c _ (after0_4 m c) (total m c) fun t r f => (out4_at _ _ _ _ r f).trans (total_block m c t r f)
omit t in
theorem last_6 : (dats m 0 c).arrAt 6 cfg0.N = fun x : S4x64.Idx => first m c (x 0) (x 1) :=
  final_6 m c _ (after0_6 m c) (first m c) fun t r f => (out6_at _ _ _ _ r f).trans (first_block m c t r f)
omit t in
theorem last_7 : (dats m 0 c).arrAt 7 cfg0.N = fun x : S4x64.Idx => second m c (x 0) (x 1) :=
  final_7 m c _ (after0_7 m c) (second m c) fun t r f => (out7_at _ _ _ _ r f).trans (second_block m c t r f)
omit t in
theorem last_5 : (dats m 0 c).arrAt 5 cfg0.N = fun x : S4x64.Idx => delta m c (x 0) (x 1) :=
  final_5 m c _ (after0_5 m c) (delta m c) fun t r f => (out5_at _ _ _ _ r f).trans
    (congr (congrArg₂ change (argW_block m c t r f) (first_block m c t r f)) (second_block m c t r f))
end points

/-! ## The reference -/

section ref
open Cert.Reference23Ideal.Read
variable (x0 : FVec Ideal S1x4x64 .f32) (x1 x2 x3 : FVec Ideal S4x64 .f32) (n : Fin 4) (f : Fin 64)

theorem ref_total : val_main_v0 (F := Ideal) x0 (ix2 n f) = ∑ k : Fin 1, x0 (ix3 k n f) := by
  pointwise [val_main_v0, val_main_cst]
theorem ref_first : val_main_v5 (F := Ideal) x0 x2 (ix2 n f) = moment1 (x2 (ix2 n f)) (val_main_v0 (F := Ideal) x0 (ix2 n f)) := by
  unfold moment1
  generalize hg : val_main_v0 (F := Ideal) x0 = g
  pointwise [val_main_v5, val_main_v4, val_main_v3, val_main_v2, val_main_v1, val_main_cst_0, val_main_cst_1, hg]
theorem ref_second : val_main_v11 (F := Ideal) x0 x3 (ix2 n f) = moment2 (x3 (ix2 n f)) (val_main_v0 (F := Ideal) x0 (ix2 n f)) := by
  unfold moment2
  generalize hg : val_main_v0 (F := Ideal) x0 = g
  pointwise [val_main_v11, val_main_v10, val_main_v9, val_main_v8, val_main_v7, val_main_v6, val_main_cst_2, val_main_cst_3, hg]
theorem ref_delta : val_main_v24 (F := Ideal) x0 x1 x2 x3 (ix2 n f)
    = change (x1 (ix2 n f)) (val_main_v5 (F := Ideal) x0 x2 (ix2 n f)) (val_main_v11 (F := Ideal) x0 x3 (ix2 n f)) := by
  unfold change
  generalize ha : val_main_v5 (F := Ideal) x0 x2 = a
  generalize hb : val_main_v11 (F := Ideal) x0 x3 = b
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, ha, hb]
end ref

/-! ## The claims -/

theorem frame_reference : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run m ρ)

theorem value : Cert.algebraic_Kernel23Ideal_Reference23Ideal := by
  intro m g m' g' _ hargs
  refine ⟨fun c => fun x : S4x64.Idx => total m c (x 0) (x 1), fun c => fun x : S4x64.Idx => delta m c (x 0) (x 1),
    fun c => fun x : S4x64.Idx => first m c (x 0) (x 1), fun c => fun x : S4x64.Idx => second m c (x 0) (x 1), ?_, ?_⟩
  · refine (θ_run Cert.Kernel23Ideal.defs _ _).mono (fun r h c => ?_) (Cert.Kernel23Ideal.Value.run_blocks m g)
    obtain ⟨h4, h5, h6, h7, ha⟩ := h c
    exact ⟨h4.trans (last_4 m c), h5.trans (last_5 m c), h6.trans (last_6 m c), h7.trans (last_7 m c), ha⟩
  · refine (θ_run Cert.Reference23Ideal.defs _ _).mono (fun r h c => ?_) (Cert.Reference23Ideal.Value.run m' g')
    obtain ⟨a0, a1, a2, a3⟩ := hargs c
    obtain ⟨h4, h5, h6, h7, ha⟩ := h c
    refine ⟨h4.trans ?_, h5.trans ?_, h6.trans ?_, h7.trans ?_, ha⟩
    · refine (Cert.Reference23Ideal.Read.val_main_v0_eq _).trans ?_
      rw [a0]
      funext x
      obtain ⟨n, f, rfl⟩ := pair (a := 4) (b := 64) x
      exact ref_total _ n f
    · refine (Cert.Reference23Ideal.Read.val_main_v24_eq _ _ _ _).trans ?_
      rw [a0, a1, a2, a3]
      funext x
      obtain ⟨n, f, rfl⟩ := pair (a := 4) (b := 64) x
      refine (ref_delta _ _ _ _ n f).trans ?_
      rw [ref_first, ref_second, ref_total]
      rfl
    · refine (Cert.Reference23Ideal.Read.val_main_v5_eq _ _).trans ?_
      rw [a0, a2]
      funext x
      obtain ⟨n, f, rfl⟩ := pair (a := 4) (b := 64) x
      refine (ref_first _ _ n f).trans ?_
      rw [ref_total]
      rfl
    · refine (Cert.Reference23Ideal.Read.val_main_v11_eq _ _).trans ?_
      rw [a0, a3]
      funext x
      obtain ⟨n, f, rfl⟩ := pair (a := 4) (b := 64) x
      refine (ref_second _ _ n f).trans ?_
      rw [ref_total]
      rfl

end Cert.Proof.AdamBounds
-- ==== Proof.NormFwd.lean ====
/-
  The first norm of the step: a token's row divided by its root mean square, times the norm's weight, and the row's factor.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Norm
public import proofs.«01_k».proof.Proof.Index
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem Cert.Proof.Index
open Cert.Proof.Norm
open Cert.Kernel24Ideal Cert.Kernel24Ideal.Gen

namespace Cert.Proof.NormFwd

section pays
variable (x : Vec Ideal S512x1024 .f32) (w : Vec Ideal S1x1024 .f32) (r : Fin 512) (d : Fin 1024)

theorem rs_at (z : Fin 1) : k0_pay1 (F := Ideal) x (ix2 r z) = rs (fun d : Fin 1024 => x (ix2 r d)) := by
  unfold rs msq k0_pay1
  pointwise []
theorem norm_at : k0_pay2 (F := Ideal) x w (ix2 r d) = x (ix2 r d) * rs (fun d : Fin 1024 => x (ix2 r d)) * w (ix2 0 d) := by
  rw [← rs_at x r 0]
  unfold k0_pay2
  generalize k0_pay1 (F := Ideal) x = q
  pointwise []

theorem out2_at : out0_2 (F := Ideal) x w (ix2 r d) = x (ix2 r d) * rs (fun d : Fin 1024 => x (ix2 r d)) * w (ix2 0 d) := by
  unfold out0_2
  rw [View.canon_unit_zero zero2, View.ld_unit_zero (S := S512x1024) zero2, View.ld_unit_zero (S := S1x1024) zero2]
  exact norm_at x w r d
theorem out3_at (z : Fin 1) : out0_3 (F := Ideal) x w (ix2 r z) = rs (fun d : Fin 1024 => x (ix2 r d)) := by
  unfold out0_3
  rw [View.canon_unit_zero zero2, View.ld_unit_zero (S := S512x1024) zero2]
  exact rs_at x r z
end pays

/-- Token `r` of a grid point's block, and the point of a token. -/
def rowAt (t : Fin cfg0.N) (r : Fin 512) : Fin 8192 := ⟨t.val * 512 + r.val, by have := t.isLt; have hN : cfg0.N = 16 := N_0; omega⟩
def pointOf (n : Fin 8192) : Fin cfg0.N := ⟨n.val / 512, by have hN : cfg0.N = 16 := N_0; omega⟩

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem flush_2 : ∀ t : Fin cfg0.N, (cfg0.win 2).flush t = true := (by decide +kernel : ∀ t : Fin grid0.N, win0_2.flush t = true)
theorem flush_3 : ∀ t : Fin cfg0.N, (cfg0.win 3).flush t = true := (by decide +kernel : ∀ t : Fin grid0.N, win0_3.flush t = true)

section points
variable (m : (ℓ : Loc nD τ sig) → Buf (Elt Ideal) ℓ) (c : Dev nD) (t : Fin cfg0.N)

theorem read_0 (W : (b : Ref sig .tc) → Buf (Elt Ideal) ((c : Thread nD τ).loc b)) (r : Fin 512) (d : Fin 1024) :
    ((cfg0.win 0).blk t).view.read (Elt Ideal) (W (Pipeline.arrRef spec0 0)) (ix2 r d) = W main_arg0 (ix2 (rowAt t r) d) := by
  rw [View.read_apply]
  refine congrArg (W main_arg0) (funext fun a => Fin.ext ?_)
  match a with
  | ⟨0, _⟩ => show win0_0.index t 0 * 512 + 1 * r.val = t.val * 512 + r.val; rw [(ix_0 t).1]; omega
  | ⟨1, _⟩ => show win0_0.index t 1 * 1024 + 1 * d.val = d.val; rw [(ix_0 t).2]; omega
theorem read_1 (W : (b : Ref sig .tc) → Buf (Elt Ideal) ((c : Thread nD τ).loc b)) (z : Fin 1) (d : Fin 1024) :
    ((cfg0.win 1).blk t).view.read (Elt Ideal) (W (Pipeline.arrRef spec0 1)) (ix2 z d) = W main_v0 (ix2 z d) := by
  rw [View.read_apply]
  refine congrArg (W main_v0) (funext fun a => Fin.ext ?_)
  match a with
  | ⟨0, _⟩ => show win0_1.index t 0 * 1 + 1 * z.val = z.val; rw [(ix_1 t).1]; omega
  | ⟨1, _⟩ => show win0_1.index t 1 * 1024 + 1 * d.val = d.val; rw [(ix_1 t).2]; omega
theorem cover_2 (x : S8192x1024.Idx) : ∃ t : Fin cfg0.N, (cfg0.win 2).flush t = true ∧ x ∈ ((View.whole main_v1_0).slice (win0_2.rect t)).set := by
  obtain ⟨n, d, rfl⟩ := pair (a := 8192) (b := 1024) x
  refine ⟨pointOf n, flush_2 _, ?_⟩
  rw [View.set_slice_whole, Rect.mem_set_unit]
  have hp : (pointOf n).val = n.val / 512 := rfl
  have hn := n.isLt
  have hd := d.isLt
  have e0 := ix_2 (pointOf n)
  intro a
  match a with
  | ⟨0, _⟩ => show win0_2.index (pointOf n) 0 * 512 ≤ n.val ∧ n.val < win0_2.index (pointOf n) 0 * 512 + 512; rw [e0.1]; omega
  | ⟨1, _⟩ => show win0_2.index (pointOf n) 1 * 1024 ≤ d.val ∧ d.val < win0_2.index (pointOf n) 1 * 1024 + 1024; rw [e0.2]; omega
theorem cover_3 (x : S8192x1.Idx) : ∃ t : Fin cfg0.N, (cfg0.win 3).flush t = true ∧ x ∈ ((View.whole main_v1_1).slice (win0_3.rect t)).set := by
  obtain ⟨n, z, rfl⟩ := pair (a := 8192) (b := 1) x
  refine ⟨pointOf n, flush_3 _, ?_⟩
  rw [View.set_slice_whole, Rect.mem_set_unit]
  have hp : (pointOf n).val = n.val / 512 := rfl
  have hn := n.isLt
  have hz := z.isLt
  have e0 := ix_3 (pointOf n)
  intro a
  match a with
  | ⟨0, _⟩ => show win0_3.index (pointOf n) 0 * 512 ≤ n.val ∧ n.val < win0_3.index (pointOf n) 0 * 512 + 512; rw [e0.1]; omega
  | ⟨1, _⟩ => show win0_3.index (pointOf n) 1 * 1 ≤ z.val ∧ z.val < win0_3.index (pointOf n) 1 * 1 + 1; rw [e0.2]; omega

omit t in
theorem final_2 (O : Fin cfg0.N → Vec Ideal S512x1024 .bf16) (ho : ∀ t : Fin cfg0.N, (dats m 0 c).after 2 t = O t) (G : Fin 8192 → Fin 1024 → EReal)
    (h : ∀ (t : Fin cfg0.N) (r : Fin 512) (d : Fin 1024), O t (ix2 r d) = G (rowAt t r) (d)) :
    (dats m 0 c).arrAt 2 cfg0.N = fun x : S8192x1024.Idx => G (x 0) (x 1) := by
  refine (dats m 0 c).arrAt_eq_of_cover 2 (fun x : S8192x1024.Idx => G (x 0) (x 1)) (fun t ht => ?_) (fun x => cover_2 x)
  show (cfg0.win 2).cut (grid0.coords t) ((dats m 0 c).after 2 t) = _
  rw [ho]
  funext y
  rw [View.read_apply]
  obtain ⟨r, d, rfl⟩ := pair (a := 512) (b := 1024) y
  refine (h t r d).trans (congrArg₂ G (Fin.ext ?_) (Fin.ext ?_))
  · show t.val * 512 + r.val = win0_2.index t 0 * 512 + 1 * r.val; rw [(ix_2 t).1]; omega
  · show d.val = win0_2.index t 1 * 1024 + 1 * d.val; rw [(ix_2 t).2]; omega

omit t in
theorem final_3 (O : Fin cfg0.N → Vec Ideal S512x1 .f32) (ho : ∀ t : Fin cfg0.N, (dats m 0 c).after 3 t = O t) (G : Fin 8192 → Fin 1 → EReal)
    (h : ∀ (t : Fin cfg0.N) (r : Fin 512) (z : Fin 1), O t (ix2 r z) = G (rowAt t r) (z)) :
    (dats m 0 c).arrAt 3 cfg0.N = fun x : S8192x1.Idx => G (x 0) (x 1) := by
  refine (dats m 0 c).arrAt_eq_of_cover 3 (fun x : S8192x1.Idx => G (x 0) (x 1)) (fun t ht => ?_) (fun x => cover_3 x)
  show (cfg0.win 3).cut (grid0.coords t) ((dats m 0 c).after 3 t) = _
  rw [ho]
  funext y
  rw [View.read_apply]
  obtain ⟨r, z, rfl⟩ := pair (a := 512) (b := 1) y
  refine (h t r z).trans (congrArg₂ G (Fin.ext ?_) (Fin.ext ?_))
  · show t.val * 512 + r.val = win0_3.index t 0 * 512 + 1 * r.val; rw [(ix_3 t).1]; omega
  · show z.val = win0_3.index t 1 * 1 + 1 * z.val; rw [(ix_3 t).2]; omega

/-- The tokens and the norm's weight. -/
abbrev argX : FVec Ideal S8192x1024 .f32 := m (c, Proc.tc.devRef main_arg0)
abbrev argN : FVec Ideal S1024 .f32 := m (c, Proc.tc.devRef main_arg1)

omit t in
theorem in_0 (n : Fin 8192) (d : Fin 1024) : V m c main_arg0 (ix2 n d) = argX m c (ix2 n d) := by
  unfold V
  after_reads_at
omit t in
theorem in_1 (d : Fin 1024) : V m c main_v0 (ix2 0 d) = argN m c (ix1 d) := by
  unfold V
  after_reads_at

/-- A token's row, and the row after the norm. -/
def tok (n : Fin 8192) : Fin 1024 → EReal := fun d => argX m c (ix2 n d)
def normed (n : Fin 8192) (d : Fin 1024) : EReal := tok m c n d * rs (tok m c n) * argN m c (ix1 d)

/-- A grid point's blocks. -/
abbrev blk0 : Vec Ideal S512x1024 .f32 := iblk m c 0 t
abbrev blk1 : Vec Ideal S1x1024 .f32 := iblk m c 1 t

theorem tok_block (r : Fin 512) : (fun d : Fin 1024 => blk0 m c t (ix2 r d)) = tok m c (rowAt t r) :=
  funext fun d => (read_0 c t (V m c) r d).trans (in_0 m c _ d)
theorem weight_block (d : Fin 1024) : blk1 m c t (ix2 0 d) = argN m c (ix1 d) := (read_1 c t (V m c) 0 d).trans (in_1 m c d)

omit t in
theorem last_2 : (dats m 0 c).arrAt 2 cfg0.N = fun x : S8192x1024.Idx => normed m c (x 0) (x 1) :=
  final_2 m c _ (after0_2 m c) (normed m c) fun t r d => (out2_at (blk0 m c t) (blk1 m c t) r d).trans
    (congrArg₂ (· * ·) (congrArg (fun v : Fin 1024 → EReal => v d * rs v) (tok_block m c t r)) (weight_block m c t d))
omit t in
theorem last_3 : (dats m 0 c).arrAt 3 cfg0.N = fun x : S8192x1.Idx => (fun n _ => rs (tok m c n)) (x 0) (x 1) :=
  final_3 m c _ (after0_3 m c) (fun n _ => rs (tok m c n)) fun t r z => (out3_at (blk0 m c t) (blk1 m c t) r z).trans (congrArg rs (tok_block m c t r))
end points

/-! ## The reference -/

section ref
open Cert.Reference24Ideal.Read
variable (x0 : FVec Ideal S8192x1024 .f32) (x1 : FVec Ideal S1024 .f32) (n : Fin 8192) (d : Fin 1024)

theorem ref_rs (z : Fin 1) : val_main_v7 (F := Ideal) x0 (ix2 n z) = rs (fun d : Fin 1024 => x0 (ix2 n d)) := by
  unfold rs msq val_main_v7 val_main_v6 val_main_v5 val_main_v4 val_main_v3 val_main_v2 val_main_v1 val_main_v0
  pointwise [val_main_cst, val_main_cst_0, val_main_cst_1]
theorem ref_rs2 (z : Fin 1) : val_main_v21 (F := Ideal) x0 (ix2 n z) = rs (fun d : Fin 1024 => x0 (ix2 n d)) := by
  unfold rs msq val_main_v21 val_main_v20 val_main_v19 val_main_v18 val_main_v17 val_main_v16 val_main_v15 val_main_v14
  pointwise [val_main_cst_2, val_main_cst_3, val_main_cst_4]
theorem ref_norm : val_main_v13 (F := Ideal) x0 x1 (ix2 n d) = x0 (ix2 n d) * rs (fun d : Fin 1024 => x0 (ix2 n d)) * x1 (ix1 d) := by
  rw [← ref_rs x0 n 0]
  unfold val_main_v13 val_main_v12 val_main_v11 val_main_v10 val_main_v9 val_main_v8
  generalize val_main_v7 (F := Ideal) x0 = q
  pointwise []
end ref

/-! ## The claims -/

theorem frame_reference : Cert.quiescent_Reference24Ideal := fun m ρ _ =>
  (θ_run Cert.Reference24Ideal.defs _ _).mono (fun r h => ⟨fun c => (h c).2.2,
      Idealize.ShloMosaic.sem_eq_zero_of_no_sems (by decide) r.2⟩)
    (Cert.Reference24Ideal.Value.run m ρ)

theorem value : Cert.algebraic_Kernel24Ideal_Reference24Ideal := by
  intro m g m' g' _ hargs
  refine ⟨fun c => fun x : S8192x1024.Idx => normed m c (x 0) (x 1), fun c => fun x : S8192x1.Idx => rs (tok m c (x 0)), ?_, ?_⟩
  · refine (θ_run Cert.Kernel24Ideal.defs _ _).mono (fun r h c => ?_) (Cert.Kernel24Ideal.Value.run_blocks m g)
    obtain ⟨h2, h3, ha⟩ := h c
    exact ⟨h2.trans (last_2 m c), h3.trans (last_3 m c), ha⟩
  · refine (θ_run Cert.Reference24Ideal.defs _ _).mono (fun r h c => ?_) (Cert.Reference24Ideal.Value.run m' g')
    obtain ⟨a0, a1⟩ := hargs c
    obtain ⟨h2, h3, ha⟩ := h c
    refine ⟨h2.trans ?_, h3.trans ?_, ha⟩
    · refine (Cert.Reference24Ideal.Read.val_main_v13_eq _ _).trans ?_
      rw [a0, a1]
      funext x
      obtain ⟨n, d, rfl⟩ := pair (a := 8192) (b := 1024) x
      exact ref_norm (argX m c) (argN m c) n d
    · refine (Cert.Reference24Ideal.Read.val_main_v21_eq _).trans ?_
      rw [a0]
      funext x
      obtain ⟨n, z, rfl⟩ := pair (a := 8192) (b := 1) x
      exact ref_rs2 (argX m c) n z

end Cert.Proof.NormFwd
-- ==== Proof.LowerBounds.lean ====
/-
  The lower bounds of the gates: for each direction the first entry of the softmax of two logits.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Index
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Index
open Cert.Kernel25Ideal Cert.Kernel25Ideal.Gen

namespace Cert.Proof.LowerBounds

/-- The first entry of the softmax of two numbers. -/
def first (a b : EReal) : EReal := Ideal.div (Ideal.exp (a - max a b)) (Ideal.exp (a - max a b) + Ideal.exp (b - max a b))

section kernel
variable (u v : Vec Ideal S1x512 .f32) (x0 : Vec Ideal S4x512 .f32) (n : Fin 2) (f : Fin 512)

theorem first_at : k0_pay1 (F := Ideal) u v (ix2 0 f) = first (u (ix2 0 f)) (v (ix2 0 f)) := by
  unfold first
  pointwise [k0_pay1]
theorem row_at (r : Fin 4) (inb) : View.ld (S := S4x512) (e' := .f32) (Val := Elt Ideal) x0 (Rect.unit (s := S4x512) ![r.val, 0] S1x512.size inb) (ix2 0 f) = x0 (ix2 r f) :=
  View.ld_unit_apply_of x0 ![r.val, 0] S1x512.size _ (ix2 0 f) (ix2 r f) fun a => by fin_cases a <;> simp [ix2]
theorem out_at : out0_1 (F := Ideal) x0 (ix2 n f) = first (x0 (ix2 ⟨2 * n.val, by omega⟩ f)) (x0 (ix2 ⟨2 * n.val + 1, by omega⟩ f)) := by
  unfold out0_1
  canon_tiles x h using cover0_1 ..
  all_goals
    obtain ⟨z, g, rfl⟩ := pair (a := 1) (b := 512) x
    obtain rfl : z = 0 := Subsingleton.elim _ _
    obtain rfl : f = g := Fin.ext h1
  · obtain rfl : n = 1 := Fin.ext h0
    exact (first_at _ _ f).trans (congrArg₂ first (row_at x0 f 2 _) (row_at x0 f 3 _))
  · obtain rfl : n = 0 := Fin.ext h0
    exact (first_at _ _ f).trans (congrArg₂ first (row_at x0 f 0 _) (row_at x0 f 1 _))
end kernel

/-- The one point of the grid. -/
def point : Fin cfg0.N := ⟨0, by have hN : cfg0.N = 1 := N_0; omega⟩

theorem ix_0 : ∀ t : Fin grid0.N, win0_0.index t 0 = 0 ∧ win0_0.index t 1 = 0 := by decide +kernel
theorem ix_1 : ∀ t : Fin grid0.N, win0_1.index t 0 = 0 ∧ win0_1.index t 1 = 0 := by decide +kernel
theorem flush_1 : ∀ t : Fin cfg0.N, (cfg0.win 1).flush t = true := (by decide +kernel : ∀ t : Fin grid0.N, win0_1.flush t = true)

section points
variable (m : (ℓ : Loc nD τ sig) → Buf (Elt Ideal) ℓ) (c : Dev nD) (t : Fin cfg0.N)

/-- The logits. -/
abbrev argL : FVec Ideal S2x2x512 .f32 := m (c, Proc.tc.devRef main_arg0)

theorem block_at (r : Fin 4) (f : Fin 512) : (iblk m c 0 t : Vec Ideal S4x512 .f32) (ix2 r f) = V m c main_v0 (ix2 r f) := by
  show ((cfg0.win 0).blk t).view.read (Elt Ideal) (V m c (Pipeline.arrRef spec0 0)) (ix2 r f) = _
  rw [View.read_apply]
  refine congrArg (V m c main_v0) (funext fun a => Fin.ext ?_)
  match a with
  | ⟨0, _⟩ => show win0_0.index t 0 * 4 + 1 * r.val = r.val; rw [(ix_0 t).1]; omega
  | ⟨1, _⟩ => show win0_0.index t 1 * 512 + 1 * f.val = f.val; rw [(ix_0 t).2]; omega
theorem block_1 (A : S2x512.Idx → EReal) (n : Fin 2) (f : Fin 512) :
    ((cfg0.win 1).blk t).view.read (Elt Ideal) A (ix2 n f) = A (ix2 n f) := by
  rw [View.read_apply]
  refine congrArg A (funext fun a => Fin.ext ?_)
  match a with
  | ⟨0, _⟩ => show win0_1.index t 0 * 2 + 1 * n.val = n.val; rw [(ix_1 t).1]; omega
  | ⟨1, _⟩ => show win0_1.index t 1 * 512 + 1 * f.val = f.val; rw [(ix_1 t).2]; omega
omit t in
theorem cover_1 (x : S2x512.Idx) : ∃ t : Fin cfg0.N, (cfg0.win 1).flush t = true ∧ x ∈ ((View.whole main_v1).slice (win0_1.rect t)).set := by
  obtain ⟨n, f, rfl⟩ := pair (a := 2) (b := 512) x
  refine ⟨point, flush_1 _, ?_⟩
  rw [View.set_slice_whole, Rect.mem_set_unit]
  have hn := n.isLt
  have hf := f.isLt
  have e0 := ix_1 point
  intro a
  match a with
  | ⟨0, _⟩ => show win0_1.index point 0 * 2 ≤ n.val ∧ n.val < win0_1.index point 0 * 2 + 2; rw [e0.1]; omega
  | ⟨1, _⟩ => show win0_1.index point 1 * 512 ≤ f.val ∧ f.val < win0_1.index point 1 * 512 + 512; rw [e0.2]; omega

omit t in
theorem in_0 (n : Fin 2) (k : Fin 2) (f : Fin 512) : V m c main_v0 (ix2 (⟨2 * n.val + k.val, by omega⟩ : Fin 4) f) = argL m c (ix3 n k f) := by
  unfold V
  after_reads_at

/-- The lower bound of a direction and a feature. -/
def bound (n : Fin 2) (f : Fin 512) : EReal := first (argL m c (ix3 n 0 f)) (argL m c (ix3 n 1 f))

omit t in
theorem last_1 : (dats m 0 c).arrAt 1 cfg0.N = fun x : S2x512.Idx => bound m c (x 0) (x 1) := by
  refine (dats m 0 c).arrAt_eq_of_cover 1 (fun x : S2x512.Idx => bound m c (x 0) (x 1)) (fun t ht => ?_) (fun x => cover_1 x)
  show (cfg0.win 1).cut (grid0.coords t) ((dats m 0 c).after 1 t) = _
  rw [after0_1]
  funext y
  obtain ⟨n, f, rfl⟩ := pair (a := 2) (b := 512) y
  exact ((out_at (iblk m c 0 t) n f).trans (congrArg₂ first ((block_at m c t _ f).trans (in_0 m c n 0 f)) ((block_at m c t _ f).trans (in_0 m c n 1 f)))).trans
    (block_1 t (fun x : S2x512.Idx => bound m c (x 0) (x 1)) n f).symm
end points

/-! ## The reference -/

section ref
open Cert.Reference25Ideal.Read
variable (x0 : FVec Ideal S2x2x512 .f32) (n : Fin 2) (f : Fin 512)

theorem lowest : Ideal.ofBits .f32 0xFF800000#32 = (⊥ : EReal) := by simp [Ideal.ofBits, Ideal.ieee]

theorem ref_max : val_main_v2 (F := Ideal) x0 (ix2 n f) = max (x0 (ix3 n 0 f)) (x0 (ix3 n 1 f)) := by
  have h : val_main_v2 (F := Ideal) x0 (ix2 n f) = max (Ideal.ofBits .f32 0xFF800000#32)
      (Finset.fold max (Ideal.ofBits .f32 0xFF800000#32) (fun k : Fin 2 => x0 (ix3 n k f)) Finset.univ) := by
    pointwise [val_main_v2, val_main_v1, val_main_v0, val_main_cst, val_main_cst_0]
  rw [h, lowest, show (Finset.univ : Finset (Fin 2)) = {0, 1} from rfl, Finset.fold_insert (by decide), Finset.fold_singleton]
  simp
theorem ref_exp (k : Fin 2) : val_main_v6 (F := Ideal) x0 (ix3 n k f) = Ideal.exp (x0 (ix3 n k f) - max (x0 (ix3 n 0 f)) (x0 (ix3 n 1 f))) := by
  rw [← ref_max x0 n f]
  unfold val_main_v6 val_main_v5 val_main_v4 val_main_v3
  generalize val_main_v2 (F := Ideal) x0 = q
  pointwise []
theorem ref_at : val_main_v12 (F := Ideal) x0 (ix2 n f) = first (x0 (ix3 n 0 f)) (x0 (ix3 n 1 f)) := by
  unfold first
  rw [← ref_exp x0 n f 0, ← ref_exp x0 n f 1]
  unfold val_main_v12 val_main_v11 val_main_v10 val_main_v9 val_main_v8 val_main_v7
  generalize val_main_v6 (F := Ideal) x0 = q
  pointwise [val_main_cst_1]
  exact congrArg (Ideal.div _) (Fin.sum_univ_two _)
end ref

/-! ## The claims -/

theorem frame_reference : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run m ρ)

theorem value : Cert.algebraic_Kernel25Ideal_Reference25Ideal := by
  intro m g m' g' _ hargs
  refine ⟨fun c => fun x : S2x512.Idx => bound m c (x 0) (x 1), ?_, ?_⟩
  · refine (θ_run Cert.Kernel25Ideal.defs _ _).mono (fun r h c => ?_) (Cert.Kernel25Ideal.Value.run_blocks m g)
    obtain ⟨h1, ha⟩ := h c
    exact ⟨h1.trans (last_1 m c), ha⟩
  · refine (θ_run Cert.Reference25Ideal.defs _ _).mono (fun r h c => ?_) (Cert.Reference25Ideal.Value.run m' g')
    obtain ⟨h1, ha⟩ := h c
    refine ⟨h1.trans ?_, ha⟩
    refine (Cert.Reference25Ideal.Read.val_main_v12_eq _).trans ?_
    rw [hargs c]
    funext x
    obtain ⟨n, f, rfl⟩ := pair (a := 2) (b := 512) x
    exact ref_at (argL m c) n f

end Cert.Proof.LowerBounds
-- ==== Proof.LbGrad.lean ====
/-
  The gradient of the lower bounds' logits: the first of two softmax entries `p`, `1 - p` has the gradients `p (1 - p)` and
  `- p (1 - p)` in the two logits.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Pre_finite8
public import proofs.«01_k».proof.Proof.Reals
public import proofs.«01_k».proof.Proof.Index
public import Idealize.ShloMosaic.Lib.Pipeline.ValueKit.Tiles
public import Idealize.ShloMosaic.Lib.Pointwise
public import Idealize.ShloMosaic.Lib.StableHlo.ReadAt
public import Idealize.ShloMosaic.Lib.Claim
public import Idealize.ShloMosaic.Lib.Quiescent

@[expose] public section

set_option maxRecDepth 16384

noncomputable section

open Idealize.ShloMosaic Idealize.ShloMosaic.TcCoe Idealize.ShloMosaic.Tactic Idealize.SL.Sem
open Cert.Proof.Reals Cert.Proof.Index

namespace Cert.Proof.LbGrad

/-- The gradient in the first logit; row `r` of the result belongs to the direction `dir r` and to its logit `logit r`. -/
def slope (y b : EReal) : EReal := y * b * (Ideal.ofBits .f32 0x3F800000#32 - b)
def dir (r : Fin 4) : Fin 2 := ⟨r.val / 2, by omega⟩
def logit (r : Fin 4) : Fin 2 := ⟨r.val % 2, by omega⟩
def signed (k : Fin 2) (x : EReal) : EReal := if k = 0 then x else -x

/-! ## The kernel -/

section kernel
open Cert.Kernel26Ideal Cert.Kernel26Ideal.Gen Cert.Kernel26Ideal.Value
variable (y b : Vec Ideal S2x512 .f32) (f : Fin 512)

theorem slope_at (n : Fin 2) : k0_pay1 (F := Ideal) b y (ix2 n f) = slope (y (ix2 n f)) (b (ix2 n f)) := by
  unfold slope
  pointwise [k0_pay1]
theorem up0 : k0_pay2 (F := Ideal) b y (ix2 0 f) = k0_pay1 (F := Ideal) b y (ix2 0 f) := by
  unfold k0_pay2
  generalize k0_pay1 (F := Ideal) b y = q
  pointwise []
theorem down0 : k0_pay3 (F := Ideal) b y (ix2 0 f) = -(k0_pay1 (F := Ideal) b y (ix2 0 f)) := by
  unfold k0_pay3
  generalize k0_pay1 (F := Ideal) b y = q
  pointwise []
  exact (sub_eq_add_neg _ _).trans (zero_add _)
theorem up1 : k0_pay4 (F := Ideal) b y (ix2 0 f) = k0_pay1 (F := Ideal) b y (ix2 1 f) := by
  unfold k0_pay4
  generalize k0_pay1 (F := Ideal) b y = q
  pointwise []
theorem down1 : k0_pay5 (F := Ideal) b y (ix2 0 f) = -(k0_pay1 (F := Ideal) b y (ix2 1 f)) := by
  unfold k0_pay5
  generalize k0_pay1 (F := Ideal) b y = q
  pointwise []
  exact (sub_eq_add_neg _ _).trans (zero_add _)

theorem out_at (r : Fin 4) : G2 (F := Ideal) y b (ix2 r f) = signed (logit r) (slope (y (ix2 (dir r) f)) (b (ix2 (dir r) f))) := by
  unfold G2
  canon_tiles x h using cover0_2 ..
  all_goals
    obtain ⟨z, g, rfl⟩ := pair (a := 1) (b := 512) x
    obtain rfl : z = 0 := Subsingleton.elim _ _
    obtain rfl : f = g := Fin.ext h1
  · obtain rfl : r = 3 := Fin.ext h0
    exact (down1 y b f).trans (congrArg (-·) (slope_at y b f 1))
  · obtain rfl : r = 2 := Fin.ext h0
    exact (up1 y b f).trans (slope_at y b f 1)
  · obtain rfl : r = 1 := Fin.ext h0
    exact (down0 y b f).trans (congrArg (-·) (slope_at y b f 0))
  · obtain rfl : r = 0 := Fin.ext h0
    exact (up0 y b f).trans (slope_at y b f 0)
end kernel

/-! ## The reference -/

section ref
open Cert.Reference26Ideal Cert.Reference26Ideal.Gen Cert.Reference26Ideal.Read
variable (y b : FVec Ideal S2x512 .f32) (n : Fin 2) (f : Fin 512)

theorem stack0 (u v : FVec Ideal S2x1x512 .f32) : concatenate S2x2x512 1 [⟨S2x1x512, u⟩, ⟨S2x1x512, v⟩]
    concatenates_S2x1x512_S2x1x512_S2x2x512_d1 (ix3 n 0 f) = u (ix3 n 0 f) :=
  concatenate_pair_apply_left (t := S2x2x512) 1 u v _ (ix3 n 0 f) rfl (ix3 n 0 f) fun a => match a with
    | ⟨0, _⟩ => rfl
    | ⟨1, _⟩ => rfl
    | ⟨2, _⟩ => rfl
theorem stack1 (u v : FVec Ideal S2x1x512 .f32) : concatenate S2x2x512 1 [⟨S2x1x512, u⟩, ⟨S2x1x512, v⟩]
    concatenates_S2x1x512_S2x1x512_S2x2x512_d1 (ix3 n 1 f) = v (ix3 n 0 f) :=
  concatenate_pair_apply_right (t := S2x2x512) 1 u v _ (ix3 n 1 f) rfl rfl (ix3 n 0 f) (fun a ha => match a with
    | ⟨0, _⟩ => rfl
    | ⟨1, _⟩ => absurd rfl ha
    | ⟨2, _⟩ => rfl) rfl

theorem prob0 : val_main_v4 (F := Ideal) b (ix3 n 0 f) = b (ix2 n f) := by
  unfold val_main_v4
  rw [stack0]
  pointwise [val_main_v2]
theorem prob1 : val_main_v4 (F := Ideal) b (ix3 n 1 f) = Ideal.ofBits .f32 0x3F800000#32 - b (ix2 n f) := by
  unfold val_main_v4
  rw [stack1]
  pointwise [val_main_v3, val_main_v1, val_main_v0, val_main_cst]
theorem given0 : val_main_v8 (F := Ideal) y (ix3 n 0 f) = y (ix2 n f) := by
  unfold val_main_v8
  rw [stack0]
  pointwise [val_main_v6]
theorem given1 : val_main_v8 (F := Ideal) y (ix3 n 1 f) = 0 := by
  unfold val_main_v8
  rw [stack1]
  pointwise [val_main_v5, val_main_v7, val_main_cst_0]
theorem prob_at (k : Fin 2) : val_main_v4 (F := Ideal) b (ix3 n k f) = if k = 0 then b (ix2 n f) else Ideal.ofBits .f32 0x3F800000#32 - b (ix2 n f) := by
  obtain rfl | rfl : k = 0 ∨ k = 1 := by omega
  · exact (prob0 b n f).trans (if_pos rfl).symm
  · exact (prob1 b n f).trans (if_neg (by decide)).symm
theorem given_at (k : Fin 2) : val_main_v8 (F := Ideal) y (ix3 n k f) = if k = 0 then y (ix2 n f) else 0 := by
  obtain rfl | rfl : k = 0 ∨ k = 1 := by omega
  · exact (given0 y n f).trans (if_pos rfl).symm
  · exact (given1 y n f).trans (if_neg (by decide)).symm
theorem inner_at : val_main_v10 (F := Ideal) y b (ix2 n f) = b (ix2 n f) * y (ix2 n f) + (Ideal.ofBits .f32 0x3F800000#32 - b (ix2 n f)) * 0 := by
  rw [← prob1 b n f, ← prob0 b n f, ← given1 y n f, ← given0 y n f]
  unfold val_main_v10 val_main_v9
  generalize val_main_v4 (F := Ideal) b = p0
  generalize val_main_v8 (F := Ideal) y = d0
  pointwise [val_main_cst_1]
  exact Fin.sum_univ_two _
theorem ref_at (r : Fin 4) : val_main_v15 (F := Ideal) y b (ix2 r f)
    = (if logit r = 0 then b (ix2 (dir r) f) else Ideal.ofBits .f32 0x3F800000#32 - b (ix2 (dir r) f))
      * ((if logit r = 0 then y (ix2 (dir r) f) else 0)
        - (b (ix2 (dir r) f) * y (ix2 (dir r) f) + (Ideal.ofBits .f32 0x3F800000#32 - b (ix2 (dir r) f)) * 0)) := by
  rw [val_main_v15_apply, ← prob_at b (dir r) f (logit r), ← given_at y (dir r) f (logit r), ← inner_at y b (dir r) f]
  have hi : idx_main_v15 (ix2 r f) = ix3 (dir r) (logit r) f := by
    have hr := r.isLt
    have hf := f.isLt
    funext a
    refine Fin.ext ?_
    match a with
    | ⟨0, _⟩ => show (r.val * 512 + f.val) / 1024 = r.val / 2; omega
    | ⟨1, _⟩ => show (r.val * 512 + f.val) / 512 % 2 = r.val % 2; omega
    | ⟨2, _⟩ => show (r.val * 512 + f.val) % 512 = f.val; omega
  rw [hi]
  unfold val_main_v14 val_main_v13 val_main_v12 val_main_v11
  generalize val_main_v4 (F := Ideal) b = p0
  generalize val_main_v8 (F := Ideal) y = d0
  generalize val_main_v10 (F := Ideal) y b = s0
  pointwise []
end ref

/-- On real numbers the two forms agree. -/
theorem same (k : Fin 2) (y b : ℝ) : (if k = 0 then (b : EReal) else Ideal.ofBits .f32 0x3F800000#32 - (b : EReal))
      * ((if k = 0 then (y : EReal) else 0) - ((b : EReal) * y + (Ideal.ofBits .f32 0x3F800000#32 - (b : EReal)) * 0))
    = signed k (slope y b) := by
  unfold signed slope
  rw [one_bits, mul_zero, add_zero]
  split_ifs
  · norm_cast
    ring
  · rw [← EReal.coe_zero]
    norm_cast
    ring

/-! ## The precondition -/

section pre
instance : Subsingleton Cert.Pre_finite8.S_.Idx := ⟨fun a b => funext fun i => i.elim0⟩

attribute [local instance] Cert.Pre_finite8.Gen.facts

theorem reals (x0 x1 : FVec Ideal (⟨2, ![2, 512]⟩ : Shape) .f32) (h : Cert.Pre_finite8.fn (F := Ideal) x0 x1 = fun _ => 1#1) :
    ∃ y b : Fin 2 → Fin 512 → ℝ, x0 = mat y ∧ x1 = mat b := by
  have h' := congrFun h ix0
  unfold Cert.Pre_finite8.fn at h'
  dsimp only at h'
  obtain ⟨h0, h1⟩ := IntOp.andi_eq_one.1 h'
  obtain ⟨y, hy⟩ := mat_of x0 fun i => Host.reduce_andi_all _ _ _ _ _ h0 i
  obtain ⟨b, hb⟩ := mat_of x1 fun i => Host.reduce_andi_all _ _ _ _ _ h1 i
  exact ⟨y, b, hy, hb⟩
end pre

/-! ## The claims -/

theorem frame_reference : Cert.quiescent_Reference26Ideal := fun m ρ _ =>
  (θ_run Cert.Reference26Ideal.defs _ _).mono (fun r h => ⟨fun c => (h c).2,
      Idealize.ShloMosaic.sem_eq_zero_of_no_sems (by decide) r.2⟩)
    (Cert.Reference26Ideal.Value.run m ρ)

theorem value : Cert.algebraic_Kernel26Ideal_Reference26Ideal_pre_finite8 := by
  intro m g m' g' hpre hargs
  refine ⟨_, Cert.Kernel26Ideal.Value.run m g, ?_⟩
  refine (θ_run Cert.Reference26Ideal.defs _ _).mono (fun r h c => ?_) (Cert.Reference26Ideal.Value.run m' g')
  obtain ⟨a0, a1⟩ := hargs c
  obtain ⟨h2, ha⟩ := h c
  obtain ⟨yr, br, ey, eb⟩ := reals _ _ (hpre c)
  refine ⟨h2.trans ?_, ha⟩
  refine (Cert.Reference26Ideal.Read.val_main_v15_eq _ _).trans ?_
  rw [a0, a1]
  funext x
  obtain ⟨r, f, rfl⟩ := pair (a := 4) (b := 512) x
  refine (ref_at _ _ f r).trans ?_
  refine Eq.trans ?_ (out_at _ _ f r).symm
  erw [ey, eb]
  exact same _ _ _

end Cert.Proof.LbGrad
-- ==== Proof.lean ====
/- The proof of the certificate's claim: the frames of every program, the idealizations, and the value of every call's
   results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Pre_finite
public import proofs.«01_k».proof.Proof.Gen.Pre_finite3
public import proofs.«01_k».proof.Proof.Gen.Pre_finite4
public import proofs.«01_k».proof.Proof.Gen.Pre_finite6
public import proofs.«01_k».proof.Proof.Gen.Pre_finite5
public import proofs.«01_k».proof.Proof.Gen.Pre_finite7
public import proofs.«01_k».proof.Proof.Gen.Pre_finite8
public import proofs.«01_k».proof.Proof.Gen.On_rows_hg
public import proofs.«01_k».proof.Proof.Gen.On_rows_hg2
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.FlashFinal
public import proofs.«01_k».proof.Proof.FlashFwd
public import proofs.«01_k».proof.Proof.DwDown
public import proofs.«01_k».proof.Proof.FfnUp
public import proofs.«01_k».proof.Proof.FfnActBwd
public import proofs.«01_k».proof.Proof.InProj
public import proofs.«01_k».proof.Proof.OutProjBwd
public import proofs.«01_k».proof.Proof.FfnUpBwd
public import proofs.«01_k».proof.Proof.InProjBwd
public import proofs.«01_k».proof.Proof.DwGate
public import proofs.«01_k».proof.Proof.DwUp
public import proofs.«01_k».proof.Proof.DwIn
public import proofs.«01_k».proof.Proof.DwOut
public import proofs.«01_k».proof.Proof.OutProj
public import proofs.«01_k».proof.Proof.FfnDown
public import proofs.«01_k».proof.Proof.DwInAtt
public import proofs.«01_k».proof.Proof.DwOutAtt
public import proofs.«01_k».proof.Proof.AdamIn
public import proofs.«01_k».proof.Proof.AdamOut
public import proofs.«01_k».proof.Proof.AdamGateUp
public import proofs.«01_k».proof.Proof.AdamDown
public import proofs.«01_k».proof.Proof.AdamSmall
public import proofs.«01_k».proof.Proof.AdamBounds
public import proofs.«01_k».proof.Proof.NormFwd
public import proofs.«01_k».proof.Proof.LowerBounds
public import proofs.«01_k».proof.Proof.LbGrad

@[expose] public section

noncomputable section

-- The claims about Kernel, KernelIdeal, ReferenceIdeal also say that every semaphore counter ends at zero; the proof shows that too.

namespace Cert.Proof

open Idealize.ShloMosaic Idealize.SL.Sem Cert.Kernel

/-- The reference ends with its arguments unchanged and no semaphore held: it declares none. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run m ρ)

/-- The kernel and the reference end with the same three gradients. -/
theorem gradients : Cert.algebraic_KernelIdeal_ReferenceIdeal_pre_finite := by
  intro m g m' g' hpre hargs
  refine ⟨fun c => Flash.arrQ m c, fun c => Flash.arrK m c, fun c => Flash.arrV m c, ?_, ?_⟩
  · refine (θ_run Cert.KernelIdeal.defs _ _).mono (fun r h c => ?_) (Cert.KernelIdeal.Value.run_blocks m g)
    obtain ⟨h6, h7, h8, ha⟩ := h c
    exact ⟨h6.trans (Flash.final_q m c), h7.trans (Flash.final_k m c), h8.trans (Flash.final_v m c), ha⟩
  · refine (θ_run Cert.ReferenceIdeal.defs _ _).mono (fun r h c => ?_) (Cert.ReferenceIdeal.Value.run m' g')
    obtain ⟨hq, hk, hv, ha⟩ := h c
    obtain ⟨q, o, k, v, e0, e1, e2, e3⟩ := FlashFinal.reals _ _ _ _ (hpre c)
    obtain ⟨a0, a1, a2, a3⟩ := hargs c
    have f0 := a0.trans e0
    have f1 := a1.trans e1
    have f2 := a2.trans e2
    have f3 := a3.trans e3
    refine ⟨hq.trans ?_, hk.trans ?_, hv.trans ?_, ha⟩
    · rw [Cert.ReferenceIdeal.Read.val_main_v72_eq, f0, f1, f2, f3]
      exact (FlashFinal.res_q_all m c q o k v e0 e1 e2 e3).symm
    · rw [Cert.ReferenceIdeal.Read.val_main_v69_eq, f0, f1, f2, f3]
      exact (FlashFinal.res_k_all m c q o k v e0 e1 e2 e3).symm
    · refine (Cert.ReferenceIdeal.Read.val_main_v71_eq _ _ _).trans ?_
      rw [f0, f1, f3]
      exact (FlashFinal.res_v_all m c q o k e0 e1 e3).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Kernel24.Gen.facts,
    Cert.Kernel24Ideal.Gen.facts, Cert.Reference24Ideal.Gen.facts, Cert.Kernel25.Gen.facts,
    Cert.Kernel25Ideal.Gen.facts, Cert.Reference25Ideal.Gen.facts, Cert.Kernel26.Gen.facts,
    Cert.Kernel26Ideal.Gen.facts, Cert.Reference26Ideal.Gen.facts, Cert.Pre_finite.Gen.facts,
    Cert.Pre_finite3.Gen.facts, Cert.Pre_finite4.Gen.facts, Cert.Pre_finite6.Gen.facts, Cert.Pre_finite5.Gen.facts,
    Cert.Pre_finite7.Gen.facts, Cert.Pre_finite8.Gen.facts, Cert.On_rows_hg.Gen.facts, Cert.On_rows_hg2.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, FlashFwd.frame_reference,
    fun m ρ _ => FlashFwd.frame_reference m ρ trivial, fun m ρ _ => Cert.Kernel3.Gen.frame m ρ,
    fun m ρ _ => Cert.Kernel3Ideal.Gen.frame m ρ, DwDown.frame_reference, fun m ρ _ => Cert.Kernel4.Gen.frame m ρ,
    fun m ρ _ => Cert.Kernel4Ideal.Gen.frame m ρ, FfnUp.frame_reference, fun m ρ _ => Cert.Kernel5.Gen.frame m ρ,
    fun m ρ _ => Cert.Kernel5Ideal.Gen.frame m ρ, fun m ρ _ => Cert.Kernel5Ideal.Gen.frame m ρ,
    FfnActBwd.frame_reference, fun m ρ _ => FfnActBwd.frame_reference m ρ trivial,
    fun m ρ _ => Cert.Kernel6.Gen.frame m ρ, fun m ρ _ => Cert.Kernel6Ideal.Gen.frame m ρ, InProj.frame_reference,
    fun m ρ _ => Cert.Kernel7.Gen.frame m ρ, fun m ρ _ => Cert.Kernel7Ideal.Gen.frame m ρ,
    OutProjBwd.frame_reference, fun m ρ _ => Cert.Kernel8.Gen.frame m ρ,
    fun m ρ _ => Cert.Kernel8Ideal.Gen.frame m ρ, fun m ρ _ => Cert.Kernel8Ideal.Gen.frame m ρ,
    FfnUpBwd.frame_reference, fun m ρ _ => FfnUpBwd.frame_reference m ρ trivial,
    fun m ρ _ => Cert.Kernel9.Gen.frame m ρ, fun m ρ _ => Cert.Kernel9Ideal.Gen.frame m ρ,
    fun m ρ _ => Cert.Kernel9Ideal.Gen.frame m ρ, InProjBwd.frame_reference,
    fun m ρ _ => InProjBwd.frame_reference m ρ trivial, fun m ρ _ => Cert.Kernel10.Gen.frame m ρ,
    fun m ρ _ => Cert.Kernel10Ideal.Gen.frame m ρ, DwGate.frame_reference,
    fun m ρ _ => Cert.Kernel11.Gen.frame m ρ, fun m ρ _ => Cert.Kernel11Ideal.Gen.frame m ρ, DwUp.frame_reference,
    fun m ρ _ => Cert.Kernel12.Gen.frame m ρ, fun m ρ _ => Cert.Kernel12Ideal.Gen.frame m ρ, DwIn.frame_reference,
    fun m ρ _ => Cert.Kernel13.Gen.frame m ρ, fun m ρ _ => Cert.Kernel13Ideal.Gen.frame m ρ, DwOut.frame_reference,
    fun m ρ _ => Cert.Kernel14.Gen.frame m ρ, fun m ρ _ => Cert.Kernel14Ideal.Gen.frame m ρ,
    OutProj.frame_reference, fun m ρ _ => Cert.Kernel15.Gen.frame m ρ,
    fun m ρ _ => Cert.Kernel15Ideal.Gen.frame m ρ, fun m ρ _ => Cert.Kernel15Ideal.Gen.frame m ρ,
    FfnDown.frame_reference, fun m ρ _ => FfnDown.frame_reference m ρ trivial,
    fun m ρ _ => Cert.Kernel16.Gen.frame m ρ, fun m ρ _ => Cert.Kernel16Ideal.Gen.frame m ρ,
    DwInAtt.frame_reference, fun m ρ _ => Cert.Kernel17.Gen.frame m ρ,
    fun m ρ _ => Cert.Kernel17Ideal.Gen.frame m ρ, DwOutAtt.frame_reference,
    fun m ρ _ => Cert.Kernel18.Gen.frame m ρ, fun m ρ _ => Cert.Kernel18Ideal.Gen.frame m ρ,
    AdamIn.frame_reference, fun m ρ _ => Cert.Kernel19.Gen.frame m ρ,
    fun m ρ _ => Cert.Kernel19Ideal.Gen.frame m ρ, AdamOut.frame_reference,
    fun m ρ _ => Cert.Kernel20.Gen.frame m ρ, fun m ρ _ => Cert.Kernel20Ideal.Gen.frame m ρ,
    AdamGateUp.frame_reference, fun m ρ _ => Cert.Kernel21.Gen.frame m ρ,
    fun m ρ _ => Cert.Kernel21Ideal.Gen.frame m ρ, AdamDown.frame_reference,
    fun m ρ _ => Cert.Kernel22.Gen.frame m ρ, fun m ρ _ => Cert.Kernel22Ideal.Gen.frame m ρ,
    AdamSmall.frame_reference, fun m ρ _ => Cert.Kernel23.Gen.frame m ρ,
    fun m ρ _ => Cert.Kernel23Ideal.Gen.frame m ρ, AdamBounds.frame_reference,
    fun m ρ _ => Cert.Kernel24.Gen.frame m ρ, fun m ρ _ => Cert.Kernel24Ideal.Gen.frame m ρ,
    NormFwd.frame_reference, fun m ρ _ => Cert.Kernel25.Gen.frame m ρ,
    fun m ρ _ => Cert.Kernel25Ideal.Gen.frame m ρ, LowerBounds.frame_reference,
    fun m ρ _ => Cert.Kernel26.Gen.frame m ρ, fun m ρ _ => Cert.Kernel26Ideal.Gen.frame m ρ,
    fun m ρ _ => Cert.Kernel26Ideal.Gen.frame m ρ, LbGrad.frame_reference,
    fun m ρ _ => LbGrad.frame_reference m ρ trivial, trivial, gradients, FlashFwd.preserves, FlashFwd.value,
    trivial, DwDown.value, trivial, FfnUp.value, trivial, FfnActBwd.value, trivial, InProj.value, trivial,
    OutProjBwd.value, trivial, FfnUpBwd.value, trivial, InProjBwd.value, trivial, DwGate.value, trivial,
    DwUp.value, trivial, DwIn.value, trivial, DwOut.value, trivial, OutProj.value, trivial, FfnDown.value, trivial,
    DwInAtt.value, trivial, DwOutAtt.value, trivial, AdamIn.value, trivial, AdamOut.value, trivial,
    AdamGateUp.value, trivial, AdamDown.value, trivial, AdamSmall.value, trivial, AdamBounds.value, trivial,
    NormFwd.value, trivial, LowerBounds.value, trivial, LbGrad.value⟩

end Cert.Proof

end
